-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gates_distinct [hPre_gates_distinct : Cert.Pre_gates_distinct.Facts] (m : (ℓ : Loc Cert.GateIdeal.nD Cert.GateIdeal.τ Cert.GateIdeal.sig) → Buf (Elt Ideal) ℓ) : Prop :=
  ∀ c : Dev Cert.GateIdeal.nD,
    (Cert.Pre_gates_distinct.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gates_distinct [hPre_gates_distinct : Cert.Pre_gates_distinct.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gates_distinct.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer_distinct [hPre_layer_distinct : Cert.Pre_layer_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_layer_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_distinct [hPre_layer_distinct : Cert.Pre_layer_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_gates_distinct [hGateIdeal : Cert.GateIdeal.Facts] [hPre_gates_distinct : Cert.Pre_gates_distinct.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gates_distinct m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateRefIdeal_pre_gates_distinct [hGateRefIdeal : Cert.GateRefIdeal.Facts] [hPre_gates_distinct : Cert.Pre_gates_distinct.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gates_distinct m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_layer_distinct [hKernelIdeal : Cert.KernelIdeal.Facts] [hPre_layer_distinct : Cert.Pre_layer_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_layer_distinct [hReferenceIdeal : Cert.ReferenceIdeal.Facts] [hPre_layer_distinct : Cert.Pre_layer_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Gate_GateIdeal : Prop :=
  True

def algebraic_GateIdeal_GateRefIdeal_pre_gates_distinct [hGateIdeal : Cert.GateIdeal.Facts] [hGateRefIdeal : Cert.GateRefIdeal.Facts] [hPre_gates_distinct : Cert.Pre_gates_distinct.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gates_distinct m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)) (v3 : (c : Dev Cert.GateIdeal.nD) → Buf (Elt Ideal) ((c.tc : Thread Cert.GateIdeal.nD Cert.GateIdeal.τ).loc Cert.GateIdeal.main_v1_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_v1_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v76) = v0 c
          ∧ r.2.mem ((c.tc : Thread Cert.GateRefIdeal.nD Cert.GateRefIdeal.τ).loc Cert.GateRefIdeal.main_v77) = v1 c
          ∧ r.2.mem ((c.tc : Thread Cert.GateRefIdeal.nD Cert.GateRefIdeal.τ).loc Cert.GateRefIdeal.main_v78) = v2 c
          ∧ r.2.mem ((c.tc : Thread Cert.GateRefIdeal.nD Cert.GateRefIdeal.τ).loc Cert.GateRefIdeal.main_v80) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Kernel_KernelIdeal : Prop :=
  True

def algebraic_KernelIdeal_ReferenceIdeal_pre_layer_distinct [hKernelIdeal : Cert.KernelIdeal.Facts] [hReferenceIdeal : Cert.ReferenceIdeal.Facts] [hPre_layer_distinct : Cert.Pre_layer_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hFfn : Cert.Ffn.Facts) (hFfnIdeal : Cert.FfnIdeal.Facts) (hFfnRefIdeal : Cert.FfnRefIdeal.Facts) (hGate : Cert.Gate.Facts) (hGateIdeal : Cert.GateIdeal.Facts) (hGateRefIdeal : Cert.GateRefIdeal.Facts) (hKernel : Cert.Kernel.Facts) (hKernelIdeal : Cert.KernelIdeal.Facts) (hReferenceIdeal : Cert.ReferenceIdeal.Facts) (hPre_gates_distinct : Cert.Pre_gates_distinct.Facts) (hPre_layer_distinct : Cert.Pre_layer_distinct.Facts),
    quiescent_Ffn (hFfn := hFfn)
    ∧ quiescent_FfnIdeal (hFfnIdeal := hFfnIdeal)
    ∧ quiescent_FfnRefIdeal (hFfnRefIdeal := hFfnRefIdeal)
    ∧ quiescent_Gate (hGate := hGate)
    ∧ quiescent_GateIdeal (hGateIdeal := hGateIdeal)
    ∧ quiescent_GateIdeal_pre_gates_distinct (hGateIdeal := hGateIdeal) (hPre_gates_distinct := hPre_gates_distinct)
    ∧ quiescent_GateRefIdeal (hGateRefIdeal := hGateRefIdeal)
    ∧ quiescent_GateRefIdeal_pre_gates_distinct (hGateRefIdeal := hGateRefIdeal) (hPre_gates_distinct := hPre_gates_distinct)
    ∧ quiescent_Kernel (hKernel := hKernel)
    ∧ quiescent_KernelIdeal (hKernelIdeal := hKernelIdeal)
    ∧ quiescent_KernelIdeal_pre_layer_distinct (hKernelIdeal := hKernelIdeal) (hPre_layer_distinct := hPre_layer_distinct)
    ∧ quiescent_ReferenceIdeal (hReferenceIdeal := hReferenceIdeal)
    ∧ quiescent_ReferenceIdeal_pre_layer_distinct (hReferenceIdeal := hReferenceIdeal) (hPre_layer_distinct := hPre_layer_distinct)
    ∧ preserves_Ffn_FfnIdeal
    ∧ algebraic_FfnIdeal_FfnRefIdeal (hFfnIdeal := hFfnIdeal) (hFfnRefIdeal := hFfnRefIdeal)
    ∧ preserves_Gate_GateIdeal
    ∧ algebraic_GateIdeal_GateRefIdeal_pre_gates_distinct (hGateIdeal := hGateIdeal) (hGateRefIdeal := hGateRefIdeal) (hPre_gates_distinct := hPre_gates_distinct)
    ∧ preserves_Kernel_KernelIdeal
    ∧ algebraic_KernelIdeal_ReferenceIdeal_pre_layer_distinct (hKernelIdeal := hKernelIdeal) (hReferenceIdeal := hReferenceIdeal) (hPre_layer_distinct := hPre_layer_distinct)
-- ==== Pre_gates_distinct.lean ====
abbrev S2x2048x1024 : Shape := ⟨3, ![2, 2048, 1024]⟩
abbrev S1024x8 : Shape := ⟨2, ![1024, 8]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S8 : Shape := ⟨1, ![8]⟩
abbrev S2x2048x8x1 : Shape := ⟨4, ![2, 2048, 8, 1]⟩
abbrev S2x2048x1x8 : Shape := ⟨4, ![2, 2048, 1, 8]⟩
abbrev S2x2048x8x8 : Shape := ⟨4, ![2, 2048, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩

class Facts : Prop where
  reducesTo_S2x2048x8_S2x2048_d2 : S2x2048x8.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x8_0_1_2 : S2x2048x1.BroadcastsInDim S2x2048x8 (![0, 1, 2] : Fin 3 → Fin S2x2048x8.rank)
  bcast_S2x2048x8_S2x2048x8x1_0_1_2 : S2x2048x8.BroadcastsInDim S2x2048x8x1 (![0, 1, 2] : Fin 3 → Fin S2x2048x8x1.rank)
  bcast_S2x2048x8_S2x2048x1x8_0_1_3 : S2x2048x8.BroadcastsInDim S2x2048x1x8 (![0, 1, 3] : Fin 3 → Fin S2x2048x1x8.rank)
  bcast_S2x2048x8x1_S2x2048x8x8_0_1_2_3 : S2x2048x8x1.BroadcastsInDim S2x2048x8x8 (![0, 1, 2, 3] : Fin 4 → Fin S2x2048x8x8.rank)
  bcast_S2x2048x1x8_S2x2048x8x8_0_1_2_3 : S2x2048x1x8.BroadcastsInDim S2x2048x8x8 (![0, 1, 2, 3] : Fin 4 → Fin S2x2048x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S2x2048x8x8_0_1_2_3 : S1x1x8x8.BroadcastsInDim S2x2048x8x8 (![0, 1, 2, 3] : Fin 4 → Fin S2x2048x8x8.rank)
  dot_S2x2048x1024_S1024x8_S2x2048x8_2_0_01_1_n_n_wf : DotDims.WF S2x2048x1024 S1024x8 S2x2048x8 [2] [0] [0, 1] [1] [] []

variable [Facts]

def dot_S2x2048x1024_S1024x8_S2x2048x8_2_0_01_1_n_n : DotDims S2x2048x1024 S1024x8 S2x2048x8 where
  lhsContracting := [2]
  rhsContracting := [0]
  lhsNonContracting := [0, 1]
  rhsNonContracting := [1]
  lhsBatch := []
  rhsBatch := []
  wf := dot_S2x2048x1024_S1024x8_S2x2048x8_2_0_01_1_n_n_wf
def fn_part1 {F : FTy → Type} [FloatOps F] (main_v17 : IVec S2x2048x8x8 1) (main_v19 : IVec S1x8 32) (main_v20 : IVec S8x8 32) : IVec S2x2048x8x8 1 :=
  let main_v21 : IVec S8x8 32 := broadcastInDim S8x8 ![0, 1] bcast_S1x8_S8x8_0_1 main_v19
  let main_v22 : IVec S8x8 1 := cmpi .eq main_v20 main_v21
  let main_v23 : IVec S1x1x8x8 1 := broadcastInDim S1x1x8x8 ![2, 3] bcast_S8x8_S1x1x8x8_2_3 main_v22
  let main_v24 : IVec S2x2048x8x8 1 := broadcastInDim S2x2048x8x8 ![0, 1, 2, 3] bcast_S1x1x8x8_S2x2048x8x8_0_1_2_3 main_v23
  let main_v25 : IVec S2x2048x8x8 1 := ori main_v17 main_v24
  main_v25

def fn {F : FTy → Type} [FloatOps F] (main_arg0 : FVec F S2x2048x1024 .f32) (main_arg1 : FVec F S1024x8 .f32) : IVec S2x2048x8x8 1 :=
  let main_v0 : FVec F S2x2048x8 .f32 := (fun l r => Host.dotGeneral dot_S2x2048x1024_S1024x8_S2x2048x8_2_0_01_1_n_n none l r) main_arg0 main_arg1
  let main_cst : FVec F S_ .f32 := constant S_ .f32 0xFF800000#32
  let main_v1 : FVec F S2x2048 .f32 := (fun x v => Host.reduce FloatOps.maximumf x v reducesTo_S2x2048x8_S2x2048_d2 h_S_) main_v0 main_cst
  let main_cst_0 : FVec F S_ .f32 := constant S_ .f32 0xFF800000#32
  let main_v2 : FVec F S2x2048 .f32 := broadcastInDim S2x2048 ![] bcast_S_S2x2048 main_cst_0
  let main_v3 : FVec F S2x2048 .f32 := maximumf main_v2 main_v1
  let main_v4 : FVec F S2x2048x1 .f32 := broadcastInDim S2x2048x1 ![0, 1] bcast_S2x2048_S2x2048x1_0_1 main_v3
  let main_v5 : FVec F S2x2048x8 .f32 := broadcastInDim S2x2048x8 ![0, 1, 2] bcast_S2x2048x1_S2x2048x8_0_1_2 main_v4
  let main_v6 : FVec F S2x2048x8 .f32 := subf main_v0 main_v5
  let main_v7 : FVec F S2x2048x8 .f32 := Host.exp main_v6
  let main_cst_1 : FVec F S_ .f32 := constant S_ .f32 0x00000000#32
  let main_v8 : FVec F S2x2048 .f32 := (fun x v => Host.reduceAdd x v reducesTo_S2x2048x8_S2x2048_d2 h_S_) main_v7 main_cst_1
  let main_v9 : FVec F S2x2048x1 .f32 := broadcastInDim S2x2048x1 ![0, 1] bcast_S2x2048_S2x2048x1_0_1 main_v8
  let main_v10 : FVec F S2x2048x8 .f32 := broadcastInDim S2x2048x8 ![0, 1, 2] bcast_S2x2048x1_S2x2048x8_0_1_2 main_v9
  let main_v11 : FVec F S2x2048x8 .f32 := Host.divf main_v7 main_v10
  let main_v12 : IVec S8 32 := iotaInDim S8 32 0
  let main_v13 : FVec F S2x2048x8x1 .f32 := broadcastInDim S2x2048x8x1 ![0, 1, 2] bcast_S2x2048x8_S2x2048x8x1_0_1_2 main_v11
  let main_v14 : FVec F S2x2048x1x8 .f32 := broadcastInDim S2x2048x1x8 ![0, 1, 3] bcast_S2x2048x8_S2x2048x1x8_0_1_3 main_v11
  let main_v15 : FVec F S2x2048x8x8 .f32 := broadcastInDim S2x2048x8x8 ![0, 1, 2, 3] bcast_S2x2048x8x1_S2x2048x8x8_0_1_2_3 main_v13
  let main_v16 : FVec F S2x2048x8x8 .f32 := broadcastInDim S2x2048x8x8 ![0, 1, 2, 3] bcast_S2x2048x1x8_S2x2048x8x8_0_1_2_3 main_v14
  let main_v17 : IVec S2x2048x8x8 1 := cmpf .une main_v15 main_v16
  let main_v18 : IVec S8x1 32 := broadcastInDim S8x1 ![0] bcast_S8_S8x1_0 main_v12
  let main_v19 : IVec S1x8 32 := broadcastInDim S1x8 ![1] bcast_S8_S1x8_1 main_v12
  let main_v20 : IVec S8x8 32 := broadcastInDim S8x8 ![0, 1] bcast_S8x1_S8x8_0_1 main_v18
  fn_part1 (F := F) main_v17 main_v19 main_v20
-- ==== Pre_layer_distinct.lean ====
abbrev S2x2048x1024 : Shape := ⟨3, ![2, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S8 : Shape := ⟨1, ![8]⟩
abbrev S2x2048x8x1 : Shape := ⟨4, ![2, 2048, 8, 1]⟩
abbrev S2x2048x1x8 : Shape := ⟨4, ![2, 2048, 1, 8]⟩
abbrev S2x2048x8x8 : Shape := ⟨4, ![2, 2048, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩

class Facts : Prop where
  reducesTo_S2x2048x8_S2x2048_d2 : S2x2048x8.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x8_0_1_2 : S2x2048x1.BroadcastsInDim S2x2048x8 (![0, 1, 2] : Fin 3 → Fin S2x2048x8.rank)
  bcast_S2x2048x8_S2x2048x8x1_0_1_2 : S2x2048x8.BroadcastsInDim S2x2048x8x1 (![0, 1, 2] : Fin 3 → Fin S2x2048x8x1.rank)
  bcast_S2x2048x8_S2x2048x1x8_0_1_3 : S2x2048x8.BroadcastsInDim S2x2048x1x8 (![0, 1, 3] : Fin 3 → Fin S2x2048x1x8.rank)
  bcast_S2x2048x8x1_S2x2048x8x8_0_1_2_3 : S2x2048x8x1.BroadcastsInDim S2x2048x8x8 (![0, 1, 2, 3] : Fin 4 → Fin S2x2048x8x8.rank)
  bcast_S2x2048x1x8_S2x2048x8x8_0_1_2_3 : S2x2048x1x8.BroadcastsInDim S2x2048x8x8 (![0, 1, 2, 3] : Fin 4 → Fin S2x2048x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S2x2048x8x8_0_1_2_3 : S1x1x8x8.BroadcastsInDim S2x2048x8x8 (![0, 1, 2, 3] : Fin 4 → Fin S2x2048x8x8.rank)
  dot_S2x2048x1024_S1024x8_S2x2048x8_2_0_01_1_n_n_wf : DotDims.WF S2x2048x1024 S1024x8 S2x2048x8 [2] [0] [0, 1] [1] [] []

variable [Facts]

def dot_S2x2048x1024_S1024x8_S2x2048x8_2_0_01_1_n_n : DotDims S2x2048x1024 S1024x8 S2x2048x8 where
  lhsContracting := [2]
  rhsContracting := [0]
  lhsNonContracting := [0, 1]
  rhsNonContracting := [1]
  lhsBatch := []
  rhsBatch := []
  wf := dot_S2x2048x1024_S1024x8_S2x2048x8_2_0_01_1_n_n_wf
def fn_part1 {F : FTy → Type} [FloatOps F] (main_v17 : IVec S2x2048x8x8 1) (main_v19 : IVec S1x8 32) (main_v20 : IVec S8x8 32) : IVec S2x2048x8x8 1 :=
  let main_v21 : IVec S8x8 32 := broadcastInDim S8x8 ![0, 1] bcast_S1x8_S8x8_0_1 main_v19
  let main_v22 : IVec S8x8 1 := cmpi .eq main_v20 main_v21
  let main_v23 : IVec S1x1x8x8 1 := broadcastInDim S1x1x8x8 ![2, 3] bcast_S8x8_S1x1x8x8_2_3 main_v22
  let main_v24 : IVec S2x2048x8x8 1 := broadcastInDim S2x2048x8x8 ![0, 1, 2, 3] bcast_S1x1x8x8_S2x2048x8x8_0_1_2_3 main_v23
  let main_v25 : IVec S2x2048x8x8 1 := ori main_v17 main_v24
  main_v25

def fn {F : FTy → Type} [FloatOps F] (main_arg0 : FVec F S2x2048x1024 .f32) (main_arg1 : FVec F S1024x8 .f32) (main_arg2 : FVec F S8x1024x4096 .f32) (main_arg3 : FVec F S8x4096x1024 .f32) : IVec S2x2048x8x8 1 :=
  let main_v0 : FVec F S2x2048x8 .f32 := (fun l r => Host.dotGeneral dot_S2x2048x1024_S1024x8_S2x2048x8_2_0_01_1_n_n none l r) main_arg0 main_arg1
  let main_cst : FVec F S_ .f32 := constant S_ .f32 0xFF800000#32
  let main_v1 : FVec F S2x2048 .f32 := (fun x v => Host.reduce FloatOps.maximumf x v reducesTo_S2x2048x8_S2x2048_d2 h_S_) main_v0 main_cst
  let main_cst_0 : FVec F S_ .f32 := constant S_ .f32 0xFF800000#32
  let main_v2 : FVec F S2x2048 .f32 := broadcastInDim S2x2048 ![] bcast_S_S2x2048 main_cst_0
  let main_v3 : FVec F S2x2048 .f32 := maximumf main_v2 main_v1
  let main_v4 : FVec F S2x2048x1 .f32 := broadcastInDim S2x2048x1 ![0, 1] bcast_S2x2048_S2x2048x1_0_1 main_v3
  let main_v5 : FVec F S2x2048x8 .f32 := broadcastInDim S2x2048x8 ![0, 1, 2] bcast_S2x2048x1_S2x2048x8_0_1_2 main_v4
  let main_v6 : FVec F S2x2048x8 .f32 := subf main_v0 main_v5
  let main_v7 : FVec F S2x2048x8 .f32 := Host.exp main_v6
  let main_cst_1 : FVec F S_ .f32 := constant S_ .f32 0x00000000#32
  let main_v8 : FVec F S2x2048 .f32 := (fun x v => Host.reduceAdd x v reducesTo_S2x2048x8_S2x2048_d2 h_S_) main_v7 main_cst_1
  let main_v9 : FVec F S2x2048x1 .f32 := broadcastInDim S2x2048x1 ![0, 1] bcast_S2x2048_S2x2048x1_0_1 main_v8
  let main_v10 : FVec F S2x2048x8 .f32 := broadcastInDim S2x2048x8 ![0, 1, 2] bcast_S2x2048x1_S2x2048x8_0_1_2 main_v9
  let main_v11 : FVec F S2x2048x8 .f32 := Host.divf main_v7 main_v10
  let main_v12 : IVec S8 32 := iotaInDim S8 32 0
  let main_v13 : FVec F S2x2048x8x1 .f32 := broadcastInDim S2x2048x8x1 ![0, 1, 2] bcast_S2x2048x8_S2x2048x8x1_0_1_2 main_v11
  let main_v14 : FVec F S2x2048x1x8 .f32 := broadcastInDim S2x2048x1x8 ![0, 1, 3] bcast_S2x2048x8_S2x2048x1x8_0_1_3 main_v11
  let main_v15 : FVec F S2x2048x8x8 .f32 := broadcastInDim S2x2048x8x8 ![0, 1, 2, 3] bcast_S2x2048x8x1_S2x2048x8x8_0_1_2_3 main_v13
  let main_v16 : FVec F S2x2048x8x8 .f32 := broadcastInDim S2x2048x8x8 ![0, 1, 2, 3] bcast_S2x2048x1x8_S2x2048x8x8_0_1_2_3 main_v14
  let main_v17 : IVec S2x2048x8x8 1 := cmpf .une main_v15 main_v16
  let main_v18 : IVec S8x1 32 := broadcastInDim S8x1 ![0] bcast_S8_S8x1_0 main_v12
  let main_v19 : IVec S1x8 32 := broadcastInDim S1x8 ![1] bcast_S8_S1x8_1 main_v12
  let main_v20 : IVec S8x8 32 := broadcastInDim S8x8 ![0, 1] bcast_S8x1_S8x8_0_1 main_v18
  fn_part1 (F := F) main_v17 main_v19 main_v20
-- ==== Ffn.lean ====
abbrev S2x2048x1024 : Shape := ⟨3, ![2, 2048, 1024]⟩
abbrev S4096x8 : Shape := ⟨2, ![4096, 8]⟩
abbrev S4096x1 : Shape := ⟨2, ![4096, 1]⟩
abbrev S8x1024x4096 : Shape := ⟨3, ![8, 1024, 4096]⟩
abbrev S8x4096x1024 : Shape := ⟨3, ![8, 4096, 1024]⟩
abbrev S2x1x2048 : Shape := ⟨3, ![2, 1, 2048]⟩
abbrev S2x2048x1 : Shape := ⟨3, ![2, 2048, 1]⟩
abbrev S2x2048x8 : Shape := ⟨3, ![2, 2048, 8]⟩
abbrev S2x8x2048 : Shape := ⟨3, ![2, 8, 2048]⟩
abbrev S2x8x1x2048 : Shape := ⟨4, ![2, 8, 1, 2048]⟩
abbrev S2x8x2048x1 : Shape := ⟨4, ![2, 8, 2048, 1]⟩
abbrev S1x2048x1024 : Shape := ⟨3, ![1, 2048, 1024]⟩
abbrev S1x1x2048 : Shape := ⟨3, ![1, 1, 2048]⟩
abbrev S1x2048x1 : Shape := ⟨3, ![1, 2048, 1]⟩
abbrev S1x1x1x2048 : Shape := ⟨4, ![1, 1, 1, 2048]⟩
abbrev S1x1x2048x1 : Shape := ⟨4, ![1, 1, 2048, 1]⟩
abbrev S1x1024x1024 : Shape := ⟨3, ![1, 1024, 1024]⟩
abbrev S512x1024 : Shape := ⟨2, ![512, 1024]⟩
abbrev S1x2048 : Shape := ⟨2, ![1, 2048]⟩
abbrev S512x2048 : Shape := ⟨2, ![512, 2048]⟩
abbrev S2048x1024 : Shape := ⟨2, ![2048, 1024]⟩
abbrev S1024x1024 : Shape := ⟨2, ![1024, 1024]⟩
abbrev S2048x1 : Shape := ⟨2, ![2048, 1]⟩
abbrev S2048x512 : Shape := ⟨2, ![2048, 512]⟩

abbrev nBuf : Space → Nat
  | .hbm => 18
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S4096x8, .f32⟩
  | .hbm, ⟨2, _⟩ => ⟨S4096x8, .f32⟩
  | .hbm, ⟨3, _⟩ => ⟨S4096x1, .f32⟩
  | .hbm, ⟨4, _⟩ => ⟨S8x1024x4096, .f32⟩
  | .hbm, ⟨5, _⟩ => ⟨S8x4096x1024, .f32⟩
  | .hbm, ⟨6, _⟩ => ⟨S2x2048x1024, .bf16⟩
  | .hbm, ⟨7, _⟩ => ⟨S8x1024x4096, .bf16⟩
  | .hbm, ⟨8, _⟩ => ⟨S8x4096x1024, .bf16⟩
  | .hbm, ⟨9, _⟩ => ⟨S2x1x2048, .f32⟩
  | .hbm, ⟨10, _⟩ => ⟨S2x2048x1, .f32⟩
  | .hbm, ⟨11, _⟩ => ⟨S2x2048x8, .f32⟩
  | .hbm, ⟨12, _⟩ => ⟨S2x8x2048, .f32⟩
  | .hbm, ⟨13, _⟩ => ⟨S2x8x1x2048, .f32⟩
  | .hbm, ⟨14, _⟩ => ⟨S2x2048x8, .f32⟩
  | .hbm, ⟨15, _⟩ => ⟨S2x8x2048, .f32⟩
  | .hbm, ⟨16, _⟩ => ⟨S2x8x2048x1, .f32⟩
  | .hbm, ⟨17, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x2048, .f32⟩
  | .local _ .vmem, ⟨3, _⟩ => ⟨S1x1x2048, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x2048x1, .f32⟩
  | .local _ .vmem, ⟨9, _⟩ => ⟨S1x1x2048x1, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x2048x1024, .f32⟩
  | .local _ .vmem, ⟨15, _⟩ => ⟨S1x2048x1024, .f32⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_16 : BitVec 32 := 0#32
  let v28 : BitVec 1 := Scalar.cmpi .ne v27 c0_i32_16
  v28

def k0_cond5 (i : grid0.Coords) : BitVec 1 :=
  let arg1 : BitVec 32 := BitVec.ofNat 32 (i 1).val
  let c0_i32_27 : BitVec 32 := 0#32
  let v45 : BitVec 1 := Scalar.cmpi .eq arg1 c0_i32_27
  let v46 : BitVec 32 := Scalar.extui v45
  let c0_i32_28 : BitVec 32 := 0#32
  let v47 : BitVec 1 := Scalar.cmpi .ne v46 c0_i32_28
  v47

def k0_cond6 (i : grid0.Coords) : BitVec 1 :=
  let arg1 : BitVec 32 := BitVec.ofNat 32 (i 1).val
  let c0_i32_29 : BitVec 32 := 0#32
  let v48 : BitVec 1 := Scalar.cmpi .sgt arg1 c0_i32_29
  let v49 : BitVec 32 := Scalar.extui v48
  let c0_i32_30 : BitVec 32 := 0#32
  let v50 : BitVec 1 := Scalar.cmpi .ne v49 c0_i32_30
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfnRefIdeal.lean ====
abbrev S2x2048x1024 : Shape := ⟨3, ![2, 2048, 1024]⟩
abbrev S4096x8 : Shape := ⟨2, ![4096, 8]⟩
abbrev S4096x1 : Shape := ⟨2, ![4096, 1]⟩
abbrev S8x1024x4096 : Shape := ⟨3, ![8, 1024, 4096]⟩
abbrev S8x4096x1024 : Shape := ⟨3, ![8, 4096, 1024]⟩
abbrev S2x2048x8 : Shape := ⟨3, ![2, 2048, 8]⟩
abbrev S2x2048 : Shape := ⟨2, ![2, 2048]⟩
abbrev S2x2048x1 : Shape := ⟨3, ![2, 2048, 1]⟩
abbrev S1x1x512 : Shape := ⟨3, ![1, 1, 512]⟩
abbrev S2x2048x512 : Shape := ⟨3, ![2, 2048, 512]⟩
abbrev S2x2048x8x1 : Shape := ⟨4, ![2, 2048, 8, 1]⟩
abbrev S2x2048x1x512 : Shape := ⟨4, ![2, 2048, 1, 512]⟩
abbrev S2x2048x8x512 : Shape := ⟨4, ![2, 2048, 8, 512]⟩
abbrev S2x8x512x1024 : Shape := ⟨4, ![2, 8, 512, 1024]⟩
abbrev S8x2x512x1024 : Shape := ⟨4, ![8, 2, 512, 1024]⟩
abbrev S8x1024x1024 : Shape := ⟨3, ![8, 1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x8, .f32⟩
  | .hbm, ⟨2, _⟩ => ⟨S4096x8, .f32⟩
  | .hbm, ⟨3, _⟩ => ⟨S4096x1, .f32⟩
  | .hbm, ⟨4, _⟩ => ⟨S8x1024x4096, .f32⟩
  | .hbm, ⟨5, _⟩ => ⟨S8x4096x1024, .f32⟩
  | .hbm, ⟨6, _⟩ => ⟨S2x2048x8, .f32⟩
  | .hbm, ⟨7, _⟩ => ⟨S2x2048x8, .f32⟩
  | .hbm, ⟨8, _⟩ => ⟨S2x2048, .f32⟩
  | .hbm, ⟨9, _⟩ => ⟨S2x2048, .i32⟩
  | .hbm, ⟨10, _⟩ => ⟨S2x2048x1, .i32⟩
  | .hbm, ⟨11, _⟩ => ⟨S1x1x512, .i32⟩
  | .hbm, ⟨12, _⟩ => ⟨S2x2048x512, .i32⟩
  | .hbm, ⟨13, _⟩ => ⟨S2x2048x512, .i32⟩
  | .hbm, ⟨14, _⟩ => ⟨S2x2048x512, .i1⟩
  | .hbm, ⟨15, _⟩ => ⟨S2x2048x512, .f32⟩
  | .hbm, ⟨16, _⟩ => ⟨S2x2048x8x1, .f32⟩
  | .hbm, ⟨17, _⟩ => ⟨S2x2048x1x512, .f32⟩
  | .hbm, ⟨18, _⟩ => ⟨S2x2048x8x512, .f32⟩
  | .hbm, ⟨19, _⟩ => ⟨S2x2048x8x512, .f32⟩
  | .hbm, ⟨20, _⟩ => ⟨S2x2048x8x512, .f32⟩
  | .hbm, ⟨21, _⟩ => ⟨S2x2048x8x1, .f32⟩
  | .hbm, ⟨22, _⟩ => ⟨S2x2048x1x512, .f32⟩
  | .hbm, ⟨23, _⟩ => ⟨S2x2048x8x512, .f32⟩
  | .hbm, ⟨24, _⟩ => ⟨S2x2048x8x512, .f32⟩
  | .hbm, ⟨25, _⟩ => ⟨S2x2048x8x512, .f32⟩
  | .hbm, ⟨26, _⟩ => ⟨S2x8x512x1024, .f32⟩
  | .hbm, ⟨27, _⟩ => ⟨S8x2x512x1024, .f32⟩
  | .hbm, ⟨28, _⟩ => ⟨S8x1024x1024, .f32⟩
  | .hbm, ⟨29, _⟩ => ⟨S8x1024x4096, .f32⟩
  | .hbm, ⟨30, _⟩ => ⟨S_, .f32⟩
  | .hbm, ⟨31, _⟩ => ⟨S8x1024x4096, .f32⟩
  | .hbm, ⟨32, _⟩ => ⟨S8x1024x4096, .f32⟩
  | .hbm, ⟨33, _⟩ => ⟨S8x1024x4096, .f32⟩
  | .hbm, ⟨34, _⟩ => ⟨S_, .f32⟩
  | .hbm, ⟨35, _⟩ => ⟨S8x1024x4096, .f32⟩
  | .hbm, ⟨36, _⟩ => ⟨S8x1024x4096, .f32⟩
  | .hbm, ⟨37, _⟩ => ⟨S8x1024x4096, .f32⟩
  | .hbm, ⟨38, _⟩ => ⟨S8x1024x4096, .f32⟩
  | .hbm, ⟨39, _⟩ => ⟨S8x1024x1024, .f32⟩
  | .hbm, ⟨40, _⟩ => ⟨S8x2x512x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Gate.lean ====
abbrev S2x2048x1024 : Shape := ⟨3, ![2, 2048, 1024]⟩
abbrev S1024x8 : Shape := ⟨2, ![1024, 8]⟩
abbrev S4096x1024 : Shape := ⟨2, ![4096, 1024]⟩
abbrev S4096x8 : Shape := ⟨2, ![4096, 8]⟩
abbrev S4096x1 : Shape := ⟨2, ![4096, 1]⟩
abbrev S1x1 : Shape := ⟨2, ![1, 1]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S2048x8 : Shape := ⟨2, ![2048, 8]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S8 : Shape := ⟨1, ![8]⟩
abbrev S1x1x8 : Shape := ⟨3, ![1, 1, 8]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S4096x1024, .f32⟩
  | .hbm, ⟨3, _⟩ => ⟨S4096x8, .f32⟩
  | .hbm, ⟨4, _⟩ => ⟨S4096x8, .f32⟩
  | .hbm, ⟨5, _⟩ => ⟨S4096x1, .f32⟩
  | .hbm, ⟨6, _⟩ => ⟨S1x1, .f32⟩
  | .local _ .vmem, ⟨0, _⟩ => ⟨S4096x1024, .f32⟩
  | .local _ .vmem, ⟨1, _⟩ => ⟨S1024x8, .f32⟩
  | .local _ .vmem, ⟨2, _⟩ => ⟨S4096x8, .f32⟩
  | .local _ .vmem, ⟨3, _⟩ => ⟨S4096x8, .f32⟩
  | .local _ .vmem, ⟨4, _⟩ => ⟨S4096x1, .f32⟩
  | .local _ .vmem, ⟨5, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateRefIdeal.lean ====
abbrev S2x2048x1024 : Shape := ⟨3, ![2, 2048, 1024]⟩
abbrev S1024x8 : Shape := ⟨2, ![1024, 8]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x8x1 : Shape := ⟨4, ![2, 2048, 8, 1]⟩
abbrev S1 : Shape := ⟨1, ![1]⟩
abbrev S1x1x1x1 : Shape := ⟨4, ![1, 1, 1, 1]⟩
abbrev S8 : Shape := ⟨1, ![8]⟩
abbrev S1x1x8 : Shape := ⟨3, ![1, 1, 8]⟩
abbrev S2x8 : Shape := ⟨2, ![2, 8]⟩
abbrev S4096x8 : Shape := ⟨2, ![4096, 8]⟩
abbrev S4096x1 : Shape := ⟨2, ![4096, 1]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S2x2048x1024, .f32⟩
  | 1 => ⟨S1024x8, .f32⟩
  | 2 => ⟨S2x2048x8, .f32⟩
  | 3 => ⟨S_, .f32⟩
  | 4 => ⟨S2x2048, .f32⟩
  | 5 => ⟨S_, .f32⟩
  | 6 => ⟨S2x2048, .f32⟩
  | 7 => ⟨S2x2048, .f32⟩
  | 8 => ⟨S2x2048x1, .f32⟩
  | 9 => ⟨S2x2048x8, .f32⟩
  | 10 => ⟨S2x2048x8, .f32⟩
  | 11 => ⟨S2x2048x8, .f32⟩
  | 12 => ⟨S_, .f32⟩
  | 13 => ⟨S2x2048, .f32⟩
  | 14 => ⟨S2x2048x1, .f32⟩
  | 15 => ⟨S2x2048x8, .f32⟩
  | 16 => ⟨S2x2048x8, .f32⟩
  | 17 => ⟨S2x2048x8, .f32⟩
  | 18 => ⟨S2x2048x8, .i32⟩
  | 19 => ⟨S2x2048x8, .f32⟩
  | 20 => ⟨S2x2048x8, .i32⟩
  | 21 => ⟨S_, .i32⟩
  | 22 => ⟨S2x2048x8, .i32⟩
  | 23 => ⟨S2x2048x8, .i1⟩
  | 24 => ⟨S_, .i32⟩
  | 25 => ⟨S2x2048x8, .i32⟩
  | 26 => ⟨S2x2048x8, .i32⟩
  | 27 => ⟨S2x2048x8, .i32⟩
  | 28 => ⟨S2x2048x8x1, .i32⟩
  | 29 => ⟨S1, .i32⟩
  | 30 => ⟨S_, .i32⟩
  | 31 => ⟨S2x2048x8x1, .i32⟩
  | 32 => ⟨S2x2048x8x1, .i1⟩
  | 33 => ⟨S1x1x1x1, .i32⟩
  | 34 => ⟨S2x2048x8x1, .i32⟩
  | 35 => ⟨S2x2048x8x1, .i1⟩
  | 36 => ⟨S2x2048x8x1, .i1⟩
  | 37 => ⟨S_, .i1⟩
  | 38 => ⟨S2x2048x8, .i1⟩
  | 39 => ⟨S2x2048x8, .f32⟩
  | 40 => ⟨S_, .f32⟩
  | 41 => ⟨S2x2048x8, .f32⟩
  | 42 => ⟨S2x2048x8, .f32⟩
  | 43 => ⟨S_, .f32⟩
  | 44 => ⟨S_, .f32⟩
  | 45 => ⟨S2x2048x8, .f32⟩
  | 46 => ⟨S_, .f32⟩
  | 47 => ⟨S2x2048x8, .f32⟩
  | 48 => ⟨S2x2048x8, .i1⟩
  | 49 => ⟨S2x2048x8, .f32⟩
  | 50 => ⟨S2x2048x8, .i32⟩
  | 51 => ⟨S_, .f32⟩
  | 52 => ⟨S_, .i32⟩
  | 53 => ⟨S2x2048, .f32⟩
  | 54 => ⟨S2x2048, .i32⟩
  | 55 => ⟨S_, .i32⟩
  | 56 => ⟨S2x2048, .i32⟩
  | 57 => ⟨S2x2048, .i32⟩
  | 58 => ⟨S_, .i1⟩
  | 59 => ⟨S2x2048, .i1⟩
  | 60 => ⟨S2x2048, .i1⟩
  | 61 => ⟨S_, .i32⟩
  | 62 => ⟨S_, .i32⟩
  | 63 => ⟨S2x2048, .i32⟩
  | 64 => ⟨S2x2048, .i32⟩
  | 65 => ⟨S_, .i32⟩
  | 66 => ⟨S_, .i32⟩
  | 67 => ⟨S_, .i32⟩
  | 68 => ⟨S_, .i32⟩
  | 69 => ⟨S2x2048, .i32⟩
  | 70 => ⟨S2x2048, .i32⟩
  | 71 => ⟨S8, .i32⟩
  | 72 => ⟨S1x1x8, .i32⟩
  | 73 => ⟨S2x2048x1, .i32⟩
  | 74 => ⟨S2x2048x8, .i32⟩
  | 75 => ⟨S2x2048x8, .i32⟩
  | 76 => ⟨S2x2048x8, .i1⟩
  | 77 => ⟨S2x2048x8, .f32⟩
  | 78 => ⟨S2x2048x8, .f32⟩
  | 79 => ⟨S_, .f32⟩
  | 80 => ⟨S2x2048, .f32⟩
  | 81 => ⟨S2x2048x1, .f32⟩
  | 82 => ⟨S2x2048x8, .f32⟩
  | 83 => ⟨S2x2048x8, .f32⟩
  | 84 => ⟨S2x2048x8, .i32⟩
  | 85 => ⟨S2x2048x8, .i32⟩
  | 86 => ⟨S2x2048x8, .i32⟩
  | 87 => ⟨S_, .i32⟩
  | 88 => ⟨S2x2048x8, .i32⟩
  | 89 => ⟨S2x2048x8, .i1⟩
  | 90 => ⟨S_, .i32⟩
  | 91 => ⟨S2x2048x8, .i32⟩
  | 92 => ⟨S2x2048x8, .i32⟩
  | 93 => ⟨S2x2048x8, .i32⟩
  | 94 => ⟨S2x2048x8x1, .i32⟩
  | 95 => ⟨S1, .i32⟩
  | 96 => ⟨S_, .i32⟩
  | 97 => ⟨S2x2048x8x1, .i32⟩
  | 98 => ⟨S2x2048x8x1, .i1⟩
  | 99 => ⟨S1x1x1x1, .i32⟩
  | 100 => ⟨S2x2048x8x1, .i32⟩
  | 101 => ⟨S2x2048x8x1, .i1⟩
  | 102 => ⟨S2x2048x8x1, .i1⟩
  | 103 => ⟨S_, .i1⟩
  | 104 => ⟨S2x2048x8, .i1⟩
  | 105 => ⟨S2x2048x8, .f32⟩
  | 106 => ⟨S_, .f32⟩
  | 107 => ⟨S2x2048x8, .f32⟩
  | 108 => ⟨S2x2048x8, .f32⟩
  | 109 => ⟨S_, .i32⟩
  | 110 => ⟨S2x2048x8, .i32⟩
  | 111 => ⟨S2x2048x8, .i1⟩
  | 112 => ⟨S_, .i32⟩
  | 113 => ⟨S2x2048x8, .i32⟩
  | 114 => ⟨S2x2048x8, .i32⟩
  | 115 => ⟨S2x2048x8, .i32⟩
  | 116 => ⟨S2x2048x8x1, .i32⟩
  | 117 => ⟨S1, .i32⟩
  | 118 => ⟨S_, .i32⟩
  | 119 => ⟨S2x2048x8x1, .i32⟩
  | 120 => ⟨S2x2048x8x1, .i1⟩
  | 121 => ⟨S1x1x1x1, .i32⟩
  | 122 => ⟨S2x2048x8x1, .i32⟩
  | 123 => ⟨S2x2048x8x1, .i1⟩
  | 124 => ⟨S2x2048x8x1, .i1⟩
  | 125 => ⟨S_, .i1⟩
  | 126 => ⟨S2x2048x8, .i1⟩
  | 127 => ⟨S2x2048x8, .f32⟩
  | _ => ⟨S2x2048x1024, .f32⟩

abbrev hbmTy0_1 (i : Nat) : BufTy := match i % 128 with
  | 0 => ⟨S_, .f32⟩
  | 1 => ⟨S2x2048x8, .f32⟩
  | 2 => ⟨S2x2048x8, .f32⟩
  | 3 => ⟨S_, .f32⟩
  | 4 => ⟨S_, .f32⟩
  | 5 => ⟨S2x2048x8, .f32⟩
  | 6 => ⟨S2x2048x8, .f32⟩
  | 7 => ⟨S2x2048x8, .f32⟩
  | 8 => ⟨S_, .f32⟩
  | 9 => ⟨S2x2048x8, .f32⟩
  | 10 => ⟨S2x2048x8, .i1⟩
  | 11 => ⟨S2x2048x8, .f32⟩
  | 12 => ⟨S2x2048x8, .f32⟩
  | 13 => ⟨S2x2048x8, .f32⟩
  | 14 => ⟨S_, .f32⟩
  | 15 => ⟨S2x2048, .f32⟩
  | 16 => ⟨S2x2048, .i32⟩
  | 17 => ⟨S2x2048x1, .i32⟩
  | 18 => ⟨S_, .i32⟩
  | 19 => ⟨S2x2048x1, .i32⟩
  | 20 => ⟨S2x2048x1, .i1⟩
  | 21 => ⟨S2x2048x1, .f32⟩
  | 22 => ⟨S2x2048x8, .f32⟩
  | 23 => ⟨S2x2048x8, .f32⟩
  | 24 => ⟨S_, .f32⟩
  | 25 => ⟨S2x8, .f32⟩
  | 26 => ⟨S_, .f32⟩
  | 27 => ⟨S2x8, .f32⟩
  | 28 => ⟨S2x8, .f32⟩
  | 29 => ⟨S_, .f32⟩
  | 30 => ⟨S2x8, .f32⟩
  | 31 => ⟨S_, .f32⟩
  | 32 => ⟨S2x8, .f32⟩
  | 33 => ⟨S2x8, .f32⟩
  | 34 => ⟨S2x8, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S2x2048, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S2x2048x8, .f32⟩
  | 50 => ⟨S4096x8, .f32⟩
  | 51 => ⟨S4096x8, .f32⟩
  | 52 => ⟨S4096x1, .f32⟩
  | 53 => ⟨S_, .f32⟩
  | 54 => ⟨S_, .f32⟩
  | 55 => ⟨S1x1, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1_0 : Ref sig .tc := ⟨.hbm, 19, rfl⟩
abbrev main_v13 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v14 : Ref sig .tc := ⟨.hbm, 42, rfl⟩
abbrev main_call2_call0_cst : Ref sig .tc := ⟨.hbm, 43, rfl⟩
abbrev main_call2_call0_v0 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call3_v0 : Ref sig .tc := ⟨.hbm, 50, rfl⟩
abbrev main_call3_cst : Ref sig .tc := ⟨.hbm, 51, rfl⟩
abbrev main_call3_c : Ref sig .tc := ⟨.hbm, 52, rfl⟩
abbrev main_call3_v1_0 : Ref sig .tc := ⟨.hbm, 53, rfl⟩
abbrev main_v19 : Ref sig .tc := ⟨.hbm, 54, rfl⟩
abbrev main_c : Ref sig .tc := ⟨.hbm, 55, rfl⟩
abbrev main_v20 : Ref sig .tc := ⟨.hbm, 56, rfl⟩
abbrev main_v21 : Ref sig .tc := ⟨.hbm, 57, rfl⟩
abbrev main_c_3 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_call4_v0 : Ref sig .tc := ⟨.hbm, 62, rfl⟩
abbrev main_call4_v1 : Ref sig .tc := ⟨.hbm, 63, rfl⟩
abbrev main_v24 : Ref sig .tc := ⟨.hbm, 64, rfl⟩
abbrev main_c_5 : Ref sig .tc := ⟨.hbm, 65, rfl⟩
abbrev main_v25 : Ref sig .tc := ⟨.hbm, 66, rfl⟩
abbrev main_c_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_7 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call5_v0 : Ref sig .tc := ⟨.hbm, 84, rfl⟩
abbrev main_call5_v1_0 : Ref sig .tc := ⟨.hbm, 85, rfl⟩
abbrev main_v41 : Ref sig .tc := ⟨.hbm, 86, rfl⟩
abbrev main_call6_c : Ref sig .tc := ⟨.hbm, 87, rfl⟩
abbrev main_call6_v0 : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_c_1 : Ref sig .tc := ⟨.hbm, 95, rfl⟩
abbrev main_call6_c_2 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_3 : Ref sig .tc := ⟨.hbm, 103, rfl⟩
abbrev main_call6_v12 : Ref sig .tc := ⟨.hbm, 104, rfl⟩
abbrev main_call6_v13 : Ref sig .tc := ⟨.hbm, 105, rfl⟩
abbrev main_call6_cst : Ref sig .tc := ⟨.hbm, 106, rfl⟩
abbrev main_call6_v14 : Ref sig .tc := ⟨.hbm, 107, rfl⟩
abbrev main_v42 : Ref sig .tc := ⟨.hbm, 108, rfl⟩
abbrev main_call7_c : Ref sig .tc := ⟨.hbm, 109, rfl⟩
abbrev main_call7_v0 : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_c_1 : Ref sig .tc := ⟨.hbm, 117, rfl⟩
abbrev main_call7_c_2 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_c_3 : Ref sig .tc := ⟨.hbm, 125, rfl⟩
abbrev main_call7_v12 : Ref sig .tc := ⟨.hbm, 126, rfl⟩
abbrev main_call7_v13 : Ref sig .tc := ⟨.hbm, 127, rfl⟩
abbrev main_call7_cst : Ref sig .tc := ⟨.hbm, 128, rfl⟩
abbrev main_call7_v14 : Ref sig .tc := ⟨.hbm, 129, rfl⟩
abbrev main_v43 : Ref sig .tc := ⟨.hbm, 130, rfl⟩
abbrev main_call8_call0_cst : Ref sig .tc := ⟨.hbm, 131, rfl⟩
abbrev main_call8_call0_v0 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_cst_8 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_cst_9 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_c_10 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_cst_11 : Ref sig .tc := ⟨.hbm, 152, rfl⟩
abbrev main_v60 : Ref sig .tc := ⟨.hbm, 153, rfl⟩
abbrev main_cst_12 : Ref sig .tc := ⟨.hbm, 154, rfl⟩
abbrev main_v61 : Ref sig .tc := ⟨.hbm, 155, rfl⟩
abbrev main_v62 : Ref sig .tc := ⟨.hbm, 156, rfl⟩
abbrev main_cst_13 : Ref sig .tc := ⟨.hbm, 157, rfl⟩
abbrev main_v63 : Ref sig .tc := ⟨.hbm, 158, rfl⟩
abbrev main_cst_14 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_cst_15 : Ref sig .tc := ⟨.hbm, 163, rfl⟩
abbrev main_v67 : Ref sig .tc := ⟨.hbm, 164, rfl⟩
abbrev main_cst_16 : Ref sig .tc := ⟨.hbm, 165, rfl⟩
abbrev main_v68 : Ref sig .tc := ⟨.hbm, 166, rfl⟩
abbrev main_cst_17 : Ref sig .tc := ⟨.hbm, 167, rfl⟩
abbrev main_v69 : Ref sig .tc := ⟨.hbm, 168, rfl⟩
abbrev main_v70 : Ref sig .tc := ⟨.hbm, 169, rfl⟩
abbrev main_cst_18 : Ref sig .tc := ⟨.hbm, 170, rfl⟩
abbrev main_v71 : Ref sig .tc := ⟨.hbm, 171, rfl⟩
abbrev main_cst_19 : Ref sig .tc := ⟨.hbm, 172, rfl⟩
abbrev main_v72 : Ref sig .tc := ⟨.hbm, 173, rfl⟩
abbrev main_cst_20 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_cst_21 : Ref sig .tc := ⟨.hbm, 181, rfl⟩
abbrev main_v79 : Ref sig .tc := ⟨.hbm, 182, rfl⟩
abbrev main_v80 : Ref sig .tc := ⟨.hbm, 183, rfl⟩

abbrev nD : Nat := 1
abbrev τ : Topo := Topo.v7x

variable {F : FTy → Type} [FloatOps F]
-- ==== Kernel.lean ====
abbrev S2x2048x1024 : Shape := ⟨3, ![2, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S4096x1024 : Shape := ⟨2, ![4096, 1024]⟩
abbrev S4096x8 : Shape := ⟨2, ![4096, 8]⟩
abbrev S4096x1 : Shape := ⟨2, ![4096, 1]⟩
abbrev S1x1 : Shape := ⟨2, ![1, 1]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S2048x8 : Shape := ⟨2, ![2048, 8]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S8 : Shape := ⟨1, ![8]⟩
abbrev S1x1x8 : Shape := ⟨3, ![1, 1, 8]⟩
abbrev S2x1x2048 : Shape := ⟨3, ![2, 1, 2048]⟩
abbrev S2x2048x1 : Shape := ⟨3, ![2, 2048, 1]⟩
abbrev S2x2048x8 : Shape := ⟨3, ![2, 2048, 8]⟩
abbrev S2x8x2048 : Shape := ⟨3, ![2, 8, 2048]⟩
abbrev S2x8x1x2048 : Shape := ⟨4, ![2, 8, 1, 2048]⟩
abbrev S2x8x2048x1 : Shape := ⟨4, ![2, 8, 2048, 1]⟩
abbrev S1x2048x1024 : Shape := ⟨3, ![1, 2048, 1024]⟩
abbrev S1x1x2048 : Shape := ⟨3, ![1, 1, 2048]⟩
abbrev S1x2048x1 : Shape := ⟨3, ![1, 2048, 1]⟩
abbrev S1x1x1x2048 : Shape := ⟨4, ![1, 1, 1, 2048]⟩
abbrev S1x1x2048x1 : Shape := ⟨4, ![1, 1, 2048, 1]⟩
abbrev S1x1024x1024 : Shape := ⟨3, ![1, 1024, 1024]⟩
abbrev S512x1024 : Shape := ⟨2, ![512, 1024]⟩
abbrev S1x2048 : Shape := ⟨2, ![1, 2048]⟩
abbrev S512x2048 : Shape := ⟨2, ![512, 2048]⟩
abbrev S2048x1024 : Shape := ⟨2, ![2048, 1024]⟩
abbrev S1024x1024 : Shape := ⟨2, ![1024, 1024]⟩
abbrev S2048x1 : Shape := ⟨2, ![2048, 1]⟩
abbrev S2048x512 : Shape := ⟨2, ![2048, 512]⟩
abbrev S_ : Shape := ⟨0, ![]⟩

abbrev nBuf : Space → Nat
  | .hbm => 22
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S4096x1024, .f32⟩
  | .hbm, ⟨5, _⟩ => ⟨S4096x8, .f32⟩
  | .hbm, ⟨6, _⟩ => ⟨S4096x8, .f32⟩
  | .hbm, ⟨7, _⟩ => ⟨S4096x1, .f32⟩
  | .hbm, ⟨8, _⟩ => ⟨S1x1, .f32⟩
  | .hbm, ⟨9, _⟩ => ⟨S2x2048x1024, .bf16⟩
  | .hbm, ⟨10, _⟩ => ⟨S8x1024x4096, .bf16⟩
  | .hbm, ⟨11, _⟩ => ⟨S8x4096x1024, .bf16⟩
  | .hbm, ⟨12, _⟩ => ⟨S2x1x2048, .f32⟩
  | .hbm, ⟨13, _⟩ => ⟨S2x2048x1, .f32⟩
  | .hbm, ⟨14, _⟩ => ⟨S2x2048x8, .f32⟩
  | .hbm, ⟨15, _⟩ => ⟨S2x8x2048, .f32⟩
  | .hbm, ⟨16, _⟩ => ⟨S2x8x1x2048, .f32⟩
  | .hbm, ⟨17, _⟩ => ⟨S2x2048x8, .f32⟩
  | .hbm, ⟨18, _⟩ => ⟨S2x8x2048, .f32⟩
  | .hbm, ⟨19, _⟩ => ⟨S2x8x2048x1, .f32⟩
  | .hbm, ⟨20, _⟩ => ⟨S2x2048x1024, .f32⟩
  | .hbm, ⟨21, _⟩ => ⟨S_, .f32⟩
  | .local _ .vmem, ⟨0, _⟩ => ⟨S4096x1024, .f32⟩
  | .local _ .vmem, ⟨1, _⟩ => ⟨S1024x8, .f32⟩
  | .local _ .vmem, ⟨2, _⟩ => ⟨S4096x8, .f32⟩
  | .local _ .vmem, ⟨3, _⟩ => ⟨S4096x8, .f32⟩
  | .local _ .vmem, ⟨4, _⟩ => ⟨S4096x1, .f32⟩
  | .local _ .vmem, ⟨5, _⟩ => ⟨S1x1, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048x1, .f32⟩
  | .local _ .vmem, ⟨11, _⟩ => ⟨S1x2048x1, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x2048x1, .f32⟩
  | .local _ .vmem, ⟨15, _⟩ => ⟨S1x1x2048x1, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x2048x1024, .f32⟩
  | .local _ .vmem, ⟨21, _⟩ => ⟨S1x2048x1024, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨3, ![2, 8, 4], ![false, false, false]⟩

def k1_cond4 (i : grid1.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_16 : BitVec 32 := 0#32
  let v28 : BitVec 1 := Scalar.cmpi .ne v27 c0_i32_16
  v28

def k1_cond5 (i : grid1.Coords) : BitVec 1 :=
  let arg1 : BitVec 32 := BitVec.ofNat 32 (i 1).val
  let c0_i32_27 : BitVec 32 := 0#32
  let v45 : BitVec 1 := Scalar.cmpi .eq arg1 c0_i32_27
  let v46 : BitVec 32 := Scalar.extui v45
  let c0_i32_28 : BitVec 32 := 0#32
  let v47 : BitVec 1 := Scalar.cmpi .ne v46 c0_i32_28
  v47

def k1_cond6 (i : grid1.Coords) : BitVec 1 :=
  let arg1 : BitVec 32 := BitVec.ofNat 32 (i 1).val
  let c0_i32_29 : BitVec 32 := 0#32
  let v48 : BitVec 1 := Scalar.cmpi .sgt arg1 c0_i32_29
  let v49 : BitVec 32 := Scalar.extui v48
  let c0_i32_30 : BitVec 32 := 0#32
  let v50 : BitVec 1 := Scalar.cmpi .ne v49 c0_i32_30
  v50

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S1x2048x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]
-- ==== ReferenceIdeal.lean ====
abbrev S2x2048x1024 : Shape := ⟨3, ![2, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x8x1 : Shape := ⟨4, ![2, 2048, 8, 1]⟩
abbrev S1 : Shape := ⟨1, ![1]⟩
abbrev S1x1x1x1 : Shape := ⟨4, ![1, 1, 1, 1]⟩
abbrev S8 : Shape := ⟨1, ![8]⟩
abbrev S1x1x8 : Shape := ⟨3, ![1, 1, 8]⟩
abbrev S2x8 : Shape := ⟨2, ![2, 8]⟩
abbrev S4096x8 : Shape := ⟨2, ![4096, 8]⟩
abbrev S4096x1 : Shape := ⟨2, ![4096, 1]⟩
abbrev S1x1 : Shape := ⟨2, ![1, 1]⟩
abbrev S1x1x512 : Shape := ⟨3, ![1, 1, 512]⟩
abbrev S2x2048x512 : Shape := ⟨3, ![2, 2048, 512]⟩
abbrev S2x2048x1x512 : Shape := ⟨4, ![2, 2048, 1, 512]⟩
abbrev S2x2048x8x512 : Shape := ⟨4, ![2, 2048, 8, 512]⟩
abbrev S2x8x512x1024 : Shape := ⟨4, ![2, 8, 512, 1024]⟩
abbrev S8x2x512x1024 : Shape := ⟨4, ![8, 2, 512, 1024]⟩
abbrev S8x1024x1024 : Shape := ⟨3, ![8, 1024, 1024]⟩

abbrev nBuf : Space → Nat
  | .hbm => 223
  | .vmem => 0
  | .smem => 0
  | _ => 0

abbrev hbmTy0_0 (i : Nat) : BufTy := match i % 128 with
  | 0 => ⟨S2x2048x1024, .f32⟩
  | 1 => ⟨S1024x8, .f32⟩
  | 2 => ⟨S8x1024x4096, .f32⟩
  | 3 => ⟨S8x4096x1024, .f32⟩
  | 4 => ⟨S2x2048x8, .f32⟩
  | 5 => ⟨S_, .f32⟩
  | 6 => ⟨S2x2048, .f32⟩
  | 7 => ⟨S_, .f32⟩
  | 8 => ⟨S2x2048, .f32⟩
  | 9 => ⟨S2x2048, .f32⟩
  | 10 => ⟨S2x2048x1, .f32⟩
  | 11 => ⟨S2x2048x8, .f32⟩
  | 12 => ⟨S2x2048x8, .f32⟩
  | 13 => ⟨S2x2048x8, .f32⟩
  | 14 => ⟨S_, .f32⟩
  | 15 => ⟨S2x2048, .f32⟩
  | 16 => ⟨S2x2048x1, .f32⟩
  | 17 => ⟨S2x2048x8, .f32⟩
  | 18 => ⟨S2x2048x8, .f32⟩
  | 19 => ⟨S2x2048x8, .f32⟩
  | 20 => ⟨S2x2048x8, .i32⟩
  | 21 => ⟨S2x2048x8, .f32⟩
  | 22 => ⟨S2x2048x8, .i32⟩
  | 23 => ⟨S_, .i32⟩
  | 24 => ⟨S2x2048x8, .i32⟩
  | 25 => ⟨S2x2048x8, .i1⟩
  | 26 => ⟨S_, .i32⟩
  | 27 => ⟨S2x2048x8, .i32⟩
  | 28 => ⟨S2x2048x8, .i32⟩
  | 29 => ⟨S2x2048x8, .i32⟩
  | 30 => ⟨S2x2048x8x1, .i32⟩
  | 31 => ⟨S1, .i32⟩
  | 32 => ⟨S_, .i32⟩
  | 33 => ⟨S2x2048x8x1, .i32⟩
  | 34 => ⟨S2x2048x8x1, .i1⟩
  | 35 => ⟨S1x1x1x1, .i32⟩
  | 36 => ⟨S2x2048x8x1, .i32⟩
  | 37 => ⟨S2x2048x8x1, .i1⟩
  | 38 => ⟨S2x2048x8x1, .i1⟩
  | 39 => ⟨S_, .i1⟩
  | 40 => ⟨S2x2048x8, .i1⟩
  | 41 => ⟨S2x2048x8, .f32⟩
  | 42 => ⟨S_, .f32⟩
  | 43 => ⟨S2x2048x8, .f32⟩
  | 44 => ⟨S2x2048x8, .f32⟩
  | 45 => ⟨S_, .f32⟩
  | 46 => ⟨S_, .f32⟩
  | 47 => ⟨S2x2048x8, .f32⟩
  | 48 => ⟨S_, .f32⟩
  | 49 => ⟨S2x2048x8, .f32⟩
  | 50 => ⟨S2x2048x8, .i1⟩
  | 51 => ⟨S2x2048x8, .f32⟩
  | 52 => ⟨S2x2048x8, .i32⟩
  | 53 => ⟨S_, .f32⟩
  | 54 => ⟨S_, .i32⟩
  | 55 => ⟨S2x2048, .f32⟩
  | 56 => ⟨S2x2048, .i32⟩
  | 57 => ⟨S_, .i32⟩
  | 58 => ⟨S2x2048, .i32⟩
  | 59 => ⟨S2x2048, .i32⟩
  | 60 => ⟨S_, .i1⟩
  | 61 => ⟨S2x2048, .i1⟩
  | 62 => ⟨S2x2048, .i1⟩
  | 63 => ⟨S_, .i32⟩
  | 64 => ⟨S_, .i32⟩
  | 65 => ⟨S2x2048, .i32⟩
  | 66 => ⟨S2x2048, .i32⟩
  | 67 => ⟨S_, .i32⟩
  | 68 => ⟨S_, .i32⟩
  | 69 => ⟨S_, .i32⟩
  | 70 => ⟨S_, .i32⟩
  | 71 => ⟨S2x2048, .i32⟩
  | 72 => ⟨S2x2048, .i32⟩
  | 73 => ⟨S8, .i32⟩
  | 74 => ⟨S1x1x8, .i32⟩
  | 75 => ⟨S2x2048x1, .i32⟩
  | 76 => ⟨S2x2048x8, .i32⟩
  | 77 => ⟨S2x2048x8, .i32⟩
  | 78 => ⟨S2x2048x8, .i1⟩
  | 79 => ⟨S2x2048x8, .f32⟩
  | 80 => ⟨S2x2048x8, .f32⟩
  | 81 => ⟨S_, .f32⟩
  | 82 => ⟨S2x2048, .f32⟩
  | 83 => ⟨S2x2048x1, .f32⟩
  | 84 => ⟨S2x2048x8, .f32⟩
  | 85 => ⟨S2x2048x8, .f32⟩
  | 86 => ⟨S2x2048x8, .i32⟩
  | 87 => ⟨S2x2048x8, .i32⟩
  | 88 => ⟨S2x2048x8, .i32⟩
  | 89 => ⟨S_, .i32⟩
  | 90 => ⟨S2x2048x8, .i32⟩
  | 91 => ⟨S2x2048x8, .i1⟩
  | 92 => ⟨S_, .i32⟩
  | 93 => ⟨S2x2048x8, .i32⟩
  | 94 => ⟨S2x2048x8, .i32⟩
  | 95 => ⟨S2x2048x8, .i32⟩
  | 96 => ⟨S2x2048x8x1, .i32⟩
  | 97 => ⟨S1, .i32⟩
  | 98 => ⟨S_, .i32⟩
  | 99 => ⟨S2x2048x8x1, .i32⟩
  | 100 => ⟨S2x2048x8x1, .i1⟩
  | 101 => ⟨S1x1x1x1, .i32⟩
  | 102 => ⟨S2x2048x8x1, .i32⟩
  | 103 => ⟨S2x2048x8x1, .i1⟩
  | 104 => ⟨S2x2048x8x1, .i1⟩
  | 105 => ⟨S_, .i1⟩
  | 106 => ⟨S2x2048x8, .i1⟩
  | 107 => ⟨S2x2048x8, .f32⟩
  | 108 => ⟨S_, .f32⟩
  | 109 => ⟨S2x2048x8, .f32⟩
  | 110 => ⟨S2x2048x8, .f32⟩
  | 111 => ⟨S_, .i32⟩
  | 112 => ⟨S2x2048x8, .i32⟩
  | 113 => ⟨S2x2048x8, .i1⟩
  | 114 => ⟨S_, .i32⟩
  | 115 => ⟨S2x2048x8, .i32⟩
  | 116 => ⟨S2x2048x8, .i32⟩
  | 117 => ⟨S2x2048x8, .i32⟩
  | 118 => ⟨S2x2048x8x1, .i32⟩
  | 119 => ⟨S1, .i32⟩
  | 120 => ⟨S_, .i32⟩
  | 121 => ⟨S2x2048x8x1, .i32⟩
  | 122 => ⟨S2x2048x8x1, .i1⟩
  | 123 => ⟨S1x1x1x1, .i32⟩
  | 124 => ⟨S2x2048x8x1, .i32⟩
  | 125 => ⟨S2x2048x8x1, .i1⟩
  | 126 => ⟨S2x2048x8x1, .i1⟩
  | 127 => ⟨S_, .i1⟩
  | _ => ⟨S2x2048x1024, .f32⟩

abbrev hbmTy0_1 (i : Nat) : BufTy := match i % 128 with
  | 0 => ⟨S2x2048x8, .i1⟩
  | 1 => ⟨S2x2048x8, .f32⟩
  | 2 => ⟨S_, .f32⟩
  | 3 => ⟨S2x2048x8, .f32⟩
  | 4 => ⟨S2x2048x8, .f32⟩
  | 5 => ⟨S_, .f32⟩
  | 6 => ⟨S_, .f32⟩
  | 7 => ⟨S2x2048x8, .f32⟩
  | 8 => ⟨S2x2048x8, .f32⟩
  | 9 => ⟨S2x2048x8, .f32⟩
  | 10 => ⟨S_, .f32⟩
  | 11 => ⟨S2x2048x8, .f32⟩
  | 12 => ⟨S2x2048x8, .i1⟩
  | 13 => ⟨S2x2048x8, .f32⟩
  | 14 => ⟨S2x2048x8, .f32⟩
  | 15 => ⟨S2x2048x8, .f32⟩
  | 16 => ⟨S_, .f32⟩
  | 17 => ⟨S2x2048, .f32⟩
  | 18 => ⟨S2x2048, .i32⟩
  | 19 => ⟨S2x2048x1, .i32⟩
  | 20 => ⟨S_, .i32⟩
  | 21 => ⟨S2x2048x1, .i32⟩
  | 22 => ⟨S2x2048x1, .i1⟩
  | 23 => ⟨S2x2048x1, .f32⟩
  | 24 => ⟨S2x2048x8, .f32⟩
  | 25 => ⟨S2x2048x8, .f32⟩
  | 26 => ⟨S_, .f32⟩
  | 27 => ⟨S2x8, .f32⟩
  | 28 => ⟨S_, .f32⟩
  | 29 => ⟨S2x8, .f32⟩
  | 30 => ⟨S2x8, .f32⟩
  | 31 => ⟨S_, .f32⟩
  | 32 => ⟨S2x8, .f32⟩
  | 33 => ⟨S_, .f32⟩
  | 34 => ⟨S2x8, .f32⟩
  | 35 => ⟨S2x8, .f32⟩
  | 36 => ⟨S2x8, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S2x2048, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S2x2048x8, .f32⟩
  | 52 => ⟨S4096x8, .f32⟩
  | 53 => ⟨S4096x8, .f32⟩
  | 54 => ⟨S4096x1, .f32⟩
  | 55 => ⟨S_, .f32⟩
  | 56 => ⟨S_, .f32⟩
  | 57 => ⟨S1x1, .f32⟩
  | 58 => ⟨S2x2048x8, .f32⟩
  | 59 => ⟨S2x2048x8, .f32⟩
  | 60 => ⟨S2x2048, .f32⟩
  | 61 => ⟨S2x2048, .i32⟩
  | 62 => ⟨S2x2048x1, .i32⟩
  | 63 => ⟨S1x1x512, .i32⟩
  | 64 => ⟨S2x2048x512, .i32⟩
  | 65 => ⟨S2x2048x512, .i32⟩
  | 66 => ⟨S2x2048x512, .i1⟩
  | 67 => ⟨S2x2048x512, .f32⟩
  | 68 => ⟨S2x2048x8x1, .f32⟩
  | 69 => ⟨S2x2048x1x512, .f32⟩
  | 70 => ⟨S2x2048x8x512, .f32⟩
  | 71 => ⟨S2x2048x8x512, .f32⟩
  | 72 => ⟨S2x2048x8x512, .f32⟩
  | 73 => ⟨S2x2048x8x1, .f32⟩
  | 74 => ⟨S2x2048x1x512, .f32⟩
  | 75 => ⟨S2x2048x8x512, .f32⟩
  | 76 => ⟨S2x2048x8x512, .f32⟩
  | 77 => ⟨S2x2048x8x512, .f32⟩
  | 78 => ⟨S2x8x512x1024, .f32⟩
  | 79 => ⟨S8x2x512x1024, .f32⟩
  | 80 => ⟨S8x1024x1024, .f32⟩
  | 81 => ⟨S8x1024x4096, .f32⟩
  | 82 => ⟨S_, .f32⟩
  | 83 => ⟨S8x1024x4096, .f32⟩
  | 84 => ⟨S8x1024x4096, .f32⟩
  | 85 => ⟨S8x1024x4096, .f32⟩
  | 86 => ⟨S_, .f32⟩
  | 87 => ⟨S8x1024x4096, .f32⟩
  | 88 => ⟨S8x1024x4096, .f32⟩
  | 89 => ⟨S8x1024x4096, .f32⟩
  | 90 => ⟨S8x1024x4096, .f32⟩
  | 91 => ⟨S8x1024x1024, .f32⟩
  | 92 => ⟨S8x2x512x1024, .f32⟩
  | 93 => ⟨S2x2048x1024, .f32⟩
  | 94 => ⟨S_, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1_0 : Ref sig .tc := ⟨.hbm, 21, rfl⟩
abbrev main_v13 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v14 : Ref sig .tc := ⟨.hbm, 44, rfl⟩
abbrev main_call2_call0_cst : Ref sig .tc := ⟨.hbm, 45, rfl⟩
abbrev main_call2_call0_v0 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call3_v0 : Ref sig .tc := ⟨.hbm, 52, rfl⟩
abbrev main_call3_cst : Ref sig .tc := ⟨.hbm, 53, rfl⟩
abbrev main_call3_c : Ref sig .tc := ⟨.hbm, 54, rfl⟩
abbrev main_call3_v1_0 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_3 : Ref sig .tc := ⟨.hbm, 60, rfl⟩
abbrev main_v22 : Ref sig .tc := ⟨.hbm, 61, rfl⟩
abbrev main_v23 : Ref sig .tc := ⟨.hbm, 62, rfl⟩
abbrev main_c_4 : Ref sig .tc := ⟨.hbm, 63, rfl⟩
abbrev main_call4_v0 : Ref sig .tc := ⟨.hbm, 64, rfl⟩
abbrev main_call4_v1 : Ref sig .tc := ⟨.hbm, 65, rfl⟩
abbrev main_v24 : Ref sig .tc := ⟨.hbm, 66, rfl⟩
abbrev main_c_5 : Ref sig .tc := ⟨.hbm, 67, rfl⟩
abbrev main_v25 : Ref sig .tc := ⟨.hbm, 68, rfl⟩
abbrev main_c_6 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_call5_v0 : Ref sig .tc := ⟨.hbm, 86, rfl⟩
abbrev main_call5_v1_0 : Ref sig .tc := ⟨.hbm, 87, rfl⟩
abbrev main_v41 : Ref sig .tc := ⟨.hbm, 88, rfl⟩
abbrev main_call6_c : Ref sig .tc := ⟨.hbm, 89, rfl⟩
abbrev main_call6_v0 : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_c_1 : Ref sig .tc := ⟨.hbm, 97, rfl⟩
abbrev main_call6_c_2 : Ref sig .tc := ⟨.hbm, 98, rfl⟩
abbrev main_call6_v6 : Ref sig .tc := ⟨.hbm, 99, rfl⟩
abbrev main_call6_v7 : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_c_3 : Ref sig .tc := ⟨.hbm, 105, rfl⟩
abbrev main_call6_v12 : Ref sig .tc := ⟨.hbm, 106, rfl⟩
abbrev main_call6_v13 : Ref sig .tc := ⟨.hbm, 107, rfl⟩
abbrev main_call6_cst : Ref sig .tc := ⟨.hbm, 108, rfl⟩
abbrev main_call6_v14 : Ref sig .tc := ⟨.hbm, 109, rfl⟩
abbrev main_v42 : Ref sig .tc := ⟨.hbm, 110, rfl⟩
abbrev main_call7_c : Ref sig .tc := ⟨.hbm, 111, rfl⟩
abbrev main_call7_v0 : Ref sig .tc := ⟨.hbm, 112, rfl⟩
abbrev main_call7_v1 : Ref sig .tc := ⟨.hbm, 113, rfl⟩
abbrev main_call7_c_0 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_c_1 : Ref sig .tc := ⟨.hbm, 119, rfl⟩
abbrev main_call7_c_2 : Ref sig .tc := ⟨.hbm, 120, rfl⟩
abbrev main_call7_v6 : Ref sig .tc := ⟨.hbm, 121, rfl⟩
abbrev main_call7_v7 : Ref sig .tc := ⟨.hbm, 122, rfl⟩
abbrev main_call7_v8 : Ref sig .tc := ⟨.hbm, 123, rfl⟩
abbrev main_call7_v9 : Ref sig .tc := ⟨.hbm, 124, rfl⟩
abbrev main_call7_v10 : Ref sig .tc := ⟨.hbm, 125, rfl⟩
abbrev main_call7_v11 : Ref sig .tc := ⟨.hbm, 126, rfl⟩
abbrev main_call7_c_3 : Ref sig .tc := ⟨.hbm, 127, rfl⟩
abbrev main_call7_v12 : Ref sig .tc := ⟨.hbm, 128, rfl⟩
abbrev main_call7_v13 : Ref sig .tc := ⟨.hbm, 129, rfl⟩
abbrev main_call7_cst : Ref sig .tc := ⟨.hbm, 130, rfl⟩
abbrev main_call7_v14 : Ref sig .tc := ⟨.hbm, 131, rfl⟩
abbrev main_v43 : Ref sig .tc := ⟨.hbm, 132, rfl⟩
abbrev main_call8_call0_cst : Ref sig .tc := ⟨.hbm, 133, rfl⟩
abbrev main_call8_call0_v0 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_cst_8 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_cst_9 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_c_10 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_cst_11 : Ref sig .tc := ⟨.hbm, 154, rfl⟩
abbrev main_v60 : Ref sig .tc := ⟨.hbm, 155, rfl⟩
abbrev main_cst_12 : Ref sig .tc := ⟨.hbm, 156, rfl⟩
abbrev main_v61 : Ref sig .tc := ⟨.hbm, 157, rfl⟩
abbrev main_v62 : Ref sig .tc := ⟨.hbm, 158, rfl⟩
abbrev main_cst_13 : Ref sig .tc := ⟨.hbm, 159, rfl⟩
abbrev main_v63 : Ref sig .tc := ⟨.hbm, 160, rfl⟩
abbrev main_cst_14 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_cst_15 : Ref sig .tc := ⟨.hbm, 165, rfl⟩
abbrev main_v67 : Ref sig .tc := ⟨.hbm, 166, rfl⟩
abbrev main_cst_16 : Ref sig .tc := ⟨.hbm, 167, rfl⟩
abbrev main_v68 : Ref sig .tc := ⟨.hbm, 168, rfl⟩
abbrev main_cst_17 : Ref sig .tc := ⟨.hbm, 169, rfl⟩
abbrev main_v69 : Ref sig .tc := ⟨.hbm, 170, rfl⟩
abbrev main_v70 : Ref sig .tc := ⟨.hbm, 171, rfl⟩
abbrev main_cst_18 : Ref sig .tc := ⟨.hbm, 172, rfl⟩
abbrev main_v71 : Ref sig .tc := ⟨.hbm, 173, rfl⟩
abbrev main_cst_19 : Ref sig .tc := ⟨.hbm, 174, rfl⟩
abbrev main_v72 : Ref sig .tc := ⟨.hbm, 175, rfl⟩
abbrev main_cst_20 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_cst_21 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_cst_22 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_cst_23 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩

abbrev nD : Nat := 1
abbrev τ : Topo := Topo.v7x

variable {F : FTy → Type} [FloatOps F]
-- ==== Proof.Math.lean ====
/- The mathematics of the expert layers, over plain functions of coordinates: what one token slot of one expert
   receives, what the expert makes of it, and what a token gets back. -/
module

public import Idealize.ShloMosaic.Lib.Pointwise

@[expose] public section

noncomputable section

namespace Cert.Moe

open Idealize.ShloMosaic

/-- The 0/1 weight of slot `s` for a token whose position is `p`: one exactly when `p`, read as an integer, is `s`. -/
def hot (s : ℕ) (p : EReal) : EReal := if BitVec.ofNat 32 s = Ideal.fptosi 32 p then 1 else 0

/-- The exact GELU with the program's two constants, `0.5` and `1/√2` as rounded. -/
def gelu (h : EReal) : EReal :=
  Ideal.ofBits .f32 1056964608#32 * h * (1 + Ideal.erf (h * Ideal.ofBits .f32 1060439283#32))

/-- The kernel's one-hot entry: a comparison widened to a word and read as a signed number is 0 or 1. -/
theorem sitofp_eq (a b : BitVec 32) :
    (FloatOps.sitofp FTy.f32 (BitVec.setWidth 32 (IntOp.cmpi CmpIPredicate.eq a b)) : Ideal .f32) = if a = b then 1 else 0 := by
  show (((BitVec.setWidth 32 (IntOp.cmpi CmpIPredicate.eq a b)).toInt : ℝ) : EReal) = _
  by_cases h : a = b
  · simp [h, IntOp.cmpi]
  · have e : (a == b) = false := by simpa using h
    simp [h, e, IntOp.cmpi]

/-- The reference's one-hot entry: a comparison read as an unsigned number is 0 or 1. -/
theorem uitofp_eq (a b : BitVec 32) :
    (FloatOps.uitofp FTy.f32 (IntOp.cmpi CmpIPredicate.eq a b) : Ideal .f32) = if a = b then 1 else 0 := by
  show (((IntOp.cmpi CmpIPredicate.eq a b).toNat : ℝ) : EReal) = _
  by_cases h : a = b
  · simp [h, IntOp.cmpi]
  · have e : (a == b) = false := by simpa using h
    simp [h, e, IntOp.cmpi]

/-- The reference's GELU, through the complementary error function of the negated argument, is `gelu`. -/
theorem gelu_erfc (h : EReal) :
    Ideal.ofBits .f32 1056964608#32 * h * Ideal.erfc (-h * Ideal.ofBits .f32 1060439283#32) = gelu h := by
  rw [gelu, neg_mul, Ideal.erfc_neg]

/-- Token `n` of batch `i` in the list of all tokens. -/
def tok (i : Fin 2) (n : Fin 2048) : Fin 4096 := ⟨i.val * 2048 + n.val, by omega⟩

/-- Slot `s` of batch `i` in an expert's list of slots. -/
def cell (i : Fin 2) (s : Fin 512) : Fin 1024 := ⟨i.val * 512 + s.val, by omega⟩

section Layer

variable (x : Fin 2 → Fin 2048 → Fin 1024 → EReal) (p : Fin 2 → Fin 2048 → EReal)
  (v w : Fin 2 → Fin 2048 → Fin 8 → EReal)
  (w1 : Fin 8 → Fin 1024 → Fin 4096 → EReal) (w2 : Fin 8 → Fin 4096 → Fin 1024 → EReal)

/-- What slot `s` of expert `j` receives in batch `i`: the tokens placed there, weighted by their validity. -/
def slot (i : Fin 2) (j : Fin 8) (s : Fin 512) (d : Fin 1024) : EReal :=
  ∑ n : Fin 2048, hot s (p i n) * v i n j * x i n d

/-- The hidden activation `h` of expert `j` at slot `s`. -/
def act (i : Fin 2) (j : Fin 8) (s : Fin 512) (h : Fin 4096) : EReal :=
  gelu (∑ d : Fin 1024, slot x p v i j s d * w1 j d h)

/-- Entry `q` of the `k`-th block of 1024 hidden activations. -/
def hid (k : ℕ) (q : Fin 1024) : Fin 4096 := ⟨(q.val + 1024 * k) % 4096, Nat.mod_lt _ (by decide)⟩

/-- The share of the `k`-th block of hidden activations in an expert's output. -/
def part (i : Fin 2) (j : Fin 8) (k : ℕ) (s : Fin 512) (l : Fin 1024) : EReal :=
  ∑ q : Fin 1024, act x p v w1 i j s (hid k q) * w2 j (hid k q) l

/-- What expert `j` returns for slot `s`. -/
def expert (i : Fin 2) (j : Fin 8) (s : Fin 512) (l : Fin 1024) : EReal :=
  ∑ h : Fin 4096, act x p v w1 i j s h * w2 j h l

/-- What token `n` gets back from expert `j`. -/
def contrib (i : Fin 2) (j : Fin 8) (n : Fin 2048) (l : Fin 1024) : EReal :=
  ∑ s : Fin 512, hot s (p i n) * w i n j * expert x p v w1 w2 i j s l

/-- The layer's result for token `n`: the sum over the experts. -/
def layer (i : Fin 2) (n : Fin 2048) (l : Fin 1024) : EReal := ∑ j : Fin 8, contrib x p v w w1 w2 i j n l

/-- The hidden activations, block by block: a sum over 4096 is the sum of its four blocks of 1024. -/
theorem sum_hid (f : Fin 4096 → EReal) : ∑ k ∈ Finset.range 4, ∑ q : Fin 1024, f (hid k q) = ∑ h : Fin 4096, f h := by
  rw [Finset.sum_range, ← Fintype.sum_prod_type' (f := fun (k : Fin 4) (q : Fin 1024) => f (hid k q)),
    ← (finProdFinEquiv (m := 4) (n := 1024)).sum_comp f]
  refine Finset.sum_congr rfl fun kq _ => congrArg f (Fin.ext ?_)
  obtain ⟨k, q⟩ := kq
  show (q.val + 1024 * k.val) % 4096 = q.val + 1024 * k.val
  have := k.isLt; have := q.isLt
  omega

/-- The four parts add up to the expert's output. -/
theorem sum_part (i : Fin 2) (j : Fin 8) (s : Fin 512) (l : Fin 1024) :
    ∑ k ∈ Finset.range 4, part x p v w1 w2 i j k s l = expert x p v w1 w2 i j s l :=
  sum_hid fun h => act x p v w1 i j s h * w2 j h l

end Layer

end Cert.Moe

end
-- ==== Proof.FfnBlock.lean ====
/- What the expert kernel's body computes at one grid point, read at an index: the dispatched block, one share of the
   expert's output, and the combined rows. -/
module

public import proofs.«01_k».proof.Proof.Gen.FfnIdeal.Skeleton
public import proofs.«01_k».proof.Proof.Math

@[expose] public section

set_option maxRecDepth 16384

noncomputable section

namespace Cert.FfnIdeal.Block

open Cert.FfnIdeal Cert.FfnIdeal.Gen Idealize.ShloMosaic Cert.Moe

/-- The dispatched block: slot `r` sums the tokens placed there, weighted by their validity. -/
theorem pay1_apply (v29 : Vec Ideal S1x1x2048 .f32) (v32 : Vec Ideal S1x1x1x2048 .f32) (v42 : Vec Ideal S1x2048x1024 .bf16)
    (r : Fin 512) (l : Fin 1024) : Gen.k0_pay1 v29 v32 v42 (ix2 r l)
      = ∑ n : Fin 2048, hot r (v29 (ix3 0 0 n)) * v32 (ix4 0 0 0 n) * v42 (ix3 0 n l) := by
  pointwise [Gen.k0_pay1, sitofp_eq]
  rfl

/-- One share of the expert's output: the product with the second weight block of the activated product with the first. -/
theorem pay2_apply (v3 : Vec Ideal S512x1024 .f32) (v5 : Vec Ideal S1x1024x1024 .bf16) (v17 : Vec Ideal S1x1024x1024 .bf16)
    (r : Fin 512) (l : Fin 1024) : Gen.k0_pay2 v3 v5 v17 (ix2 r l)
      = ∑ q : Fin 1024, gelu (∑ d : Fin 1024, v3 (ix2 r d) * v5 (ix3 0 d q)) * v17 (ix3 0 q l) := by
  pointwise [Gen.k0_pay2]
  rfl

/-- The first share, as stored. -/
theorem pay3_apply (v3 : Vec Ideal S512x1024 .f32) (v5 : Vec Ideal S1x1024x1024 .bf16) (v17 : Vec Ideal S1x1024x1024 .bf16)
    (r : Fin 512) (l : Fin 1024) : Gen.k0_pay3 v3 v5 v17 (ix2 r l)
      = ∑ q : Fin 1024, gelu (∑ d : Fin 1024, v3 (ix2 r d) * v5 (ix3 0 d q)) * v17 (ix3 0 q l) := by
  rw [← pay2_apply]
  pointwise [Gen.k0_pay3]

/-- A later share, added to what the accumulator held. -/
theorem pay4_apply (v3 : Vec Ideal S512x1024 .f32) (v5 : Vec Ideal S1x1024x1024 .bf16) (v17 : Vec Ideal S1x1024x1024 .bf16)
    (v29 : Vec Ideal S512x1024 .f32) (r : Fin 512) (l : Fin 1024) : Gen.k0_pay4 v3 v5 v17 v29 (ix2 r l)
      = v29 (ix2 r l) + ∑ q : Fin 1024, gelu (∑ d : Fin 1024, v3 (ix2 r d) * v5 (ix3 0 d q)) * v17 (ix3 0 q l) := by
  rw [← pay2_apply]
  pointwise [Gen.k0_pay4]

/-- The combined rows: each token picks its slot's output, weighted by its gate. -/
theorem pay5_apply (v29 : Vec Ideal S1x2048x1 .f32) (v32 : Vec Ideal S1x1x2048x1 .f32) (v42 : Vec Ideal S512x1024 .f32)
    (r : Fin 2048) (l : Fin 1024) : Gen.k0_pay5 v29 v32 v42 (ix2 r l)
      = ∑ s : Fin 512, hot s (v29 (ix3 0 r 0)) * v32 (ix4 0 0 r 0) * v42 (ix2 s l) := by
  pointwise [Gen.k0_pay5, sitofp_eq]
  rfl

/-- The combined rows of the first expert, as stored. -/
theorem pay6_apply (v29 : Vec Ideal S1x2048x1 .f32) (v32 : Vec Ideal S1x1x2048x1 .f32) (v42 : Vec Ideal S512x1024 .f32)
    (r : Fin 2048) (l : Fin 1024) : Gen.k0_pay6 v29 v32 v42 (ix3 0 r l)
      = ∑ s : Fin 512, hot s (v29 (ix3 0 r 0)) * v32 (ix4 0 0 r 0) * v42 (ix2 s l) := by
  rw [← pay5_apply]
  pointwise [Gen.k0_pay6]

/-- The combined rows of a later expert, added to what the output block held. -/
theorem pay7_apply (v29 : Vec Ideal S1x2048x1 .f32) (v32 : Vec Ideal S1x1x2048x1 .f32) (v42 : Vec Ideal S512x1024 .f32)
    (v51 : Vec Ideal S1x2048x1024 .f32) (r : Fin 2048) (l : Fin 1024) : Gen.k0_pay7 v29 v32 v42 v51 (ix3 0 r l)
      = v51 (ix3 0 r l) + ∑ s : Fin 512, hot s (v29 (ix3 0 r 0)) * v32 (ix4 0 0 r 0) * v42 (ix2 s l) := by
  rw [← pay5_apply]
  pointwise [Gen.k0_pay7]

end Cert.FfnIdeal.Block

end
-- ==== Proof.FfnInv.lean ====
/- What the expert kernel has computed after each grid point, as a statement about its output block and its two carried
   buffers, and that each kind of grid point takes that statement from one point to the next. -/
module

public import proofs.«01_k».proof.Proof.FfnBlock

@[expose] public section

set_option maxRecDepth 16384

noncomputable section

namespace Cert.FfnIdeal.Block

open Cert.FfnIdeal Cert.FfnIdeal.Gen Idealize.ShloMosaic Cert.Moe

/-- The batch grid point `t` works on, -/
def bi (t : ℕ) : Fin 2 := ⟨t / 32 % 2, Nat.mod_lt _ (by decide)⟩
/-- an expert by its number, -/
def ej (j : ℕ) : Fin 8 := ⟨j % 8, Nat.mod_lt _ (by decide)⟩
/-- the expert of grid point `t`, -/
abbrev bj (t : ℕ) : Fin 8 := ej (t / 4)
/-- and how many experts are in the output block after it. -/
def done (t : ℕ) : ℕ := t / 4 % 8 + t % 4 / 3

variable (x : Fin 2 → Fin 2048 → Fin 1024 → EReal) (p : Fin 2 → Fin 2048 → EReal)
  (v w : Fin 2 → Fin 2048 → Fin 8 → EReal)
  (w1 : Fin 8 → Fin 1024 → Fin 4096 → EReal) (w2 : Fin 8 → Fin 4096 → Fin 1024 → EReal)

/-- What the seven input blocks hold at grid point `t`. -/
structure Blocks (t : ℕ) (x0 : Vec Ideal S1x2048x1024 .bf16) (x1 : Vec Ideal S1x1x2048 .f32) (x2 : Vec Ideal S1x2048x1 .f32)
    (x3 : Vec Ideal S1x1x1x2048 .f32) (x4 : Vec Ideal S1x1x2048x1 .f32) (x5 x6 : Vec Ideal S1x1024x1024 .bf16) : Prop where
  /-- the batch's tokens, -/
  tokens : ∀ n d, x0 (ix3 0 n d) = x (bi t) n d
  /-- their positions, as a row -/
  row : ∀ n, x1 (ix3 0 0 n) = p (bi t) n
  /-- and as a column, -/
  col : ∀ n, x2 (ix3 0 n 0) = p (bi t) n
  /-- the expert's validities, -/
  valid : ∀ n, x3 (ix4 0 0 0 n) = v (bi t) n (bj t)
  /-- its gates, -/
  gates : ∀ n, x4 (ix4 0 0 n 0) = w (bi t) n (bj t)
  /-- a block of columns of its first weight -/
  first : ∀ d q, x5 (ix3 0 d q) = w1 (bj t) d (hid (t % 4) q)
  /-- and of rows of its second. -/
  second : ∀ q l, x6 (ix3 0 q l) = w2 (bj t) (hid (t % 4) q) l

/-- After grid point `t`: the dispatched block is its expert's slots, the accumulator the shares so far, and the output
    block the experts done so far, once there is one. -/
structure Inv (t : ℕ) (st : Vec Ideal S1x2048x1024 .f32 × Vec Ideal S512x1024 .f32 × Vec Ideal S512x1024 .f32) : Prop where
  /-- the dispatched block -/
  slots : ∀ s d, st.2.1 (ix2 s d) = slot x p v (bi t) (bj t) s d
  /-- the accumulator -/
  shares : ∀ s l, st.2.2 (ix2 s l) = ∑ k ∈ Finset.range (t % 4 + 1), part x p v w1 w2 (bi t) (bj t) k s l
  /-- the output block -/
  out : 0 < done t → ∀ n l, st.1 (ix3 0 n l) = ∑ j ∈ Finset.range (done t), contrib x p v w w1 w2 (bi t) (ej j) n l

variable {x p v w w1 w2} {t : ℕ} {x0 : Vec Ideal S1x2048x1024 .bf16} {x1 : Vec Ideal S1x1x2048 .f32}
  {x2 : Vec Ideal S1x2048x1 .f32} {x3 : Vec Ideal S1x1x1x2048 .f32} {x4 : Vec Ideal S1x1x2048x1 .f32}
  {x5 x6 : Vec Ideal S1x1024x1024 .bf16}

/-- The dispatched block is the expert's slots. -/
theorem Blocks.slot_eq (h : Blocks x p v w w1 w2 t x0 x1 x2 x3 x4 x5 x6) (s : Fin 512) (d : Fin 1024) :
    k0_pay1 x1 x3 x0 (ix2 s d) = slot x p v (bi t) (bj t) s d := by
  rw [pay1_apply, slot]
  exact Finset.sum_congr rfl fun n _ => by rw [h.row, h.valid, h.tokens]

/-- The share computed at a point, from a dispatched block holding the slots. -/
theorem Blocks.part_eq (h : Blocks x p v w w1 w2 t x0 x1 x2 x3 x4 x5 x6) {e : Vec Ideal S512x1024 .f32}
    (he : ∀ s d, e (ix2 s d) = slot x p v (bi t) (bj t) s d) (s : Fin 512) (l : Fin 1024) :
    ∑ q : Fin 1024, gelu (∑ d : Fin 1024, e (ix2 s d) * x5 (ix3 0 d q)) * x6 (ix3 0 q l)
      = part x p v w1 w2 (bi t) (bj t) (t % 4) s l := by
  unfold part act
  exact Finset.sum_congr rfl fun q _ => by
    rw [h.second, Finset.sum_congr rfl fun d _ => by rw [he, h.first]]

/-- The rows combined from a full accumulator. -/
theorem Blocks.contrib_eq (h : Blocks x p v w w1 w2 t x0 x1 x2 x3 x4 x5 x6) (h3 : t % 4 = 3) {a : Vec Ideal S512x1024 .f32}
    (ha : ∀ s l, a (ix2 s l) = ∑ k ∈ Finset.range (t % 4 + 1), part x p v w1 w2 (bi t) (bj t) k s l)
    (n : Fin 2048) (l : Fin 1024) :
    ∑ s : Fin 512, hot s (x2 (ix3 0 n 0)) * x4 (ix4 0 0 n 0) * a (ix2 s l) = contrib x p v w w1 w2 (bi t) (bj t) n l := by
  unfold contrib
  exact Finset.sum_congr rfl fun s _ => by rw [h.col, h.gates, ha, h3, sum_part]

/-- At the first block of an expert: the slots, the first share, and the output block as it was. -/
theorem Blocks.step_A (h : Blocks x p v w w1 w2 t x0 x1 x2 x3 x4 x5 x6) (h0 : t % 4 = 0)
    {st : Vec Ideal S1x2048x1024 .f32 × Vec Ideal S512x1024 .f32 × Vec Ideal S512x1024 .f32}
    (hp : 0 < done t → Inv x p v w w1 w2 (t - 1) st) :
    Inv x p v w w1 w2 t (st.1, k0_pay1 x1 x3 x0, k0_pay3 (k0_pay1 x1 x3 x0) x5 x6) where
  slots := h.slot_eq
  shares s l := by
    show k0_pay3 (k0_pay1 x1 x3 x0) x5 x6 (ix2 s l) = _
    rw [pay3_apply, h.part_eq h.slot_eq, h0, Finset.sum_range_one]
  out hd n l := by
    have e1 : done (t - 1) = done t := by unfold done at *; omega
    have e2 : bi (t - 1) = bi t := Fin.ext (by simp only [bi]; unfold done at *; omega)
    have := (hp hd).out (e1 ▸ hd) n l
    rw [e1, e2] at this
    exact this

/-- At a later block but the last: one more share. -/
theorem Blocks.step_B (h : Blocks x p v w w1 w2 t x0 x1 x2 x3 x4 x5 x6) (h0 : t % 4 ≠ 0) (h3 : t % 4 ≠ 3)
    {st : Vec Ideal S1x2048x1024 .f32 × Vec Ideal S512x1024 .f32 × Vec Ideal S512x1024 .f32}
    (hp : Inv x p v w w1 w2 (t - 1) st) :
    Inv x p v w w1 w2 t (st.1, st.2.1, k0_pay4 st.2.1 x5 x6 st.2.2) := by
  have e1 : done (t - 1) = done t := by unfold done at *; omega
  have e2 : bi (t - 1) = bi t := Fin.ext (by simp only [bi]; omega)
  have e3 : bj (t - 1) = bj t := Fin.ext (by simp only [ej]; omega)
  have e4 : (t - 1) % 4 + 1 = t % 4 := by omega
  obtain ⟨hs, ha, ho⟩ := hp
  rw [e1, e2] at ho
  rw [e2, e3] at hs
  rw [e2, e3, e4] at ha
  refine ⟨hs, fun s l => ?_, ho⟩
  show k0_pay4 st.2.1 x5 x6 st.2.2 (ix2 s l) = _
  rw [pay4_apply, ha, h.part_eq hs, Finset.sum_range_succ]

/-- At the last block of the first expert: the last share, and the expert's rows stored. -/
theorem Blocks.step_C (h : Blocks x p v w w1 w2 t x0 x1 x2 x3 x4 x5 x6) (h3 : t % 4 = 3) (h4 : t / 4 % 8 = 0)
    {st : Vec Ideal S1x2048x1024 .f32 × Vec Ideal S512x1024 .f32 × Vec Ideal S512x1024 .f32}
    (hp : Inv x p v w w1 w2 (t - 1) st) :
    Inv x p v w w1 w2 t (k0_pay6 x2 x4 (k0_pay4 st.2.1 x5 x6 st.2.2), st.2.1, k0_pay4 st.2.1 x5 x6 st.2.2) := by
  have e2 : bi (t - 1) = bi t := Fin.ext (by simp only [bi]; omega)
  have e3 : bj (t - 1) = bj t := Fin.ext (by simp only [ej]; omega)
  have e4 : (t - 1) % 4 + 1 = t % 4 := by omega
  have e5 : done t = 1 := by unfold done; omega
  obtain ⟨hs, ha, -⟩ := hp
  rw [e2, e3] at hs
  rw [e2, e3, e4] at ha
  have ha' : ∀ s l, k0_pay4 st.2.1 x5 x6 st.2.2 (ix2 s l) = ∑ k ∈ Finset.range (t % 4 + 1), part x p v w1 w2 (bi t) (bj t) k s l :=
    fun s l => by rw [pay4_apply, ha, h.part_eq hs, Finset.sum_range_succ]
  refine ⟨hs, ha', fun _ n l => ?_⟩
  show k0_pay6 x2 x4 (k0_pay4 st.2.1 x5 x6 st.2.2) (ix3 0 n l) = _
  rw [pay6_apply, h.contrib_eq h3 ha', e5, Finset.sum_range_one]
  rw [show bj t = ej 0 from Fin.ext (by simp only [ej]; omega)]

/-- At the last block of a later expert: the last share, and the expert's rows added. -/
theorem Blocks.step_D (h : Blocks x p v w w1 w2 t x0 x1 x2 x3 x4 x5 x6) (h3 : t % 4 = 3) (h4 : t / 4 % 8 ≠ 0)
    {st : Vec Ideal S1x2048x1024 .f32 × Vec Ideal S512x1024 .f32 × Vec Ideal S512x1024 .f32}
    (hp : Inv x p v w w1 w2 (t - 1) st) :
    Inv x p v w w1 w2 t (k0_pay7 x2 x4 (k0_pay4 st.2.1 x5 x6 st.2.2) st.1, st.2.1, k0_pay4 st.2.1 x5 x6 st.2.2) := by
  have e2 : bi (t - 1) = bi t := Fin.ext (by simp only [bi]; omega)
  have e3 : bj (t - 1) = bj t := Fin.ext (by simp only [ej]; omega)
  have e4 : (t - 1) % 4 + 1 = t % 4 := by omega
  have e5 : done t = t / 4 % 8 + 1 := by unfold done; omega
  have e6 : done (t - 1) = t / 4 % 8 := by unfold done; omega
  obtain ⟨hs, ha, ho⟩ := hp
  rw [e2, e3] at hs
  rw [e2, e3, e4] at ha
  rw [e2, e6] at ho
  have ha' : ∀ s l, k0_pay4 st.2.1 x5 x6 st.2.2 (ix2 s l) = ∑ k ∈ Finset.range (t % 4 + 1), part x p v w1 w2 (bi t) (bj t) k s l :=
    fun s l => by rw [pay4_apply, ha, h.part_eq hs, Finset.sum_range_succ]
  refine ⟨hs, ha', fun _ n l => ?_⟩
  show k0_pay7 x2 x4 (k0_pay4 st.2.1 x5 x6 st.2.2) st.1 (ix3 0 n l) = _
  rw [pay7_apply, h.contrib_eq h3 ha', e5, Finset.sum_range_succ, ho (Nat.pos_of_ne_zero h4)]
  rw [show bj t = ej (t / 4 % 8) from Fin.ext (by simp only [ej]; omega)]

/-- Once the last expert of a batch is done the output block is the layer. -/
theorem Inv.layer_eq {st : Vec Ideal S1x2048x1024 .f32 × Vec Ideal S512x1024 .f32 × Vec Ideal S512x1024 .f32}
    (h : Inv x p v w w1 w2 t st) (ht : t % 32 = 31) (n : Fin 2048) (l : Fin 1024) :
    st.1 (ix3 0 n l) = layer x p v w w1 w2 (bi t) n l := by
  have e : done t = 8 := by unfold done; omega
  rw [h.out (by omega), e, layer, Finset.sum_range]
  exact Finset.sum_congr rfl fun j _ => by rw [show ej j = j from Fin.ext (Nat.mod_eq_of_lt j.isLt)]

end Cert.FfnIdeal.Block

end
-- ==== Proof.FfnBlocks.lean ====
/- What the expert kernel's seven input blocks hold at a grid point, in terms of the program's arguments: the arrays the host
   hands the kernel, read through the block each grid point fetches. -/
module

public import proofs.«01_k».proof.Proof.FfnInv
public import Idealize.ShloMosaic.Lib.Claim
public import proofs.«01_k».proof.Proof.Gen.FfnIdeal.Frame

@[expose] public section

set_option maxRecDepth 16384

noncomputable section

namespace Cert.FfnIdeal.Block

open Cert.FfnIdeal Cert.FfnIdeal.Gen Idealize.ShloMosaic Idealize.ShloMosaic.TcCoe Idealize.SL.Sem Cert.Moe

variable (m : (ℓ : Loc nD τ sig) → Buf (Elt Ideal) ℓ)

/-- The tokens, -/
abbrev xs (c : Dev nD) : Fin 2 → Fin 2048 → Fin 1024 → EReal :=
  fun i n d => (m ((c : Thread nD τ).loc main_arg0) : Vec Ideal S2x2048x1024 .f32) (ix3 i n d)
/-- the gates, -/
abbrev ws (c : Dev nD) : Fin 2 → Fin 2048 → Fin 8 → EReal :=
  fun i n j => (m ((c : Thread nD τ).loc main_arg1) : Vec Ideal S4096x8 .f32) (ix2 (tok i n) j)
/-- the validities, -/
abbrev vs (c : Dev nD) : Fin 2 → Fin 2048 → Fin 8 → EReal :=
  fun i n j => (m ((c : Thread nD τ).loc main_arg2) : Vec Ideal S4096x8 .f32) (ix2 (tok i n) j)
/-- the positions, -/
abbrev ps (c : Dev nD) : Fin 2 → Fin 2048 → EReal :=
  fun i n => (m ((c : Thread nD τ).loc main_arg3) : Vec Ideal S4096x1 .f32) (ix2 (tok i n) 0)
/-- the first weights -/
abbrev m1 (c : Dev nD) : Fin 8 → Fin 1024 → Fin 4096 → EReal :=
  fun j d h => (m ((c : Thread nD τ).loc main_arg4) : Vec Ideal S8x1024x4096 .f32) (ix3 j d h)
/-- and the second, as functions of coordinates. -/
abbrev m2 (c : Dev nD) : Fin 8 → Fin 4096 → Fin 1024 → EReal :=
  fun j h l => (m ((c : Thread nD τ).loc main_arg5) : Vec Ideal S8x4096x1024 .f32) (ix3 j h l)

/-- The block each window reads, decided over the grid. -/
theorem idx_facts : ∀ t : Fin cfg0.N,
    (win0_0.index t 0 = t.val / 32 ∧ win0_0.index t 1 = 0 ∧ win0_0.index t 2 = 0)
    ∧ (win0_1.index t 0 = t.val / 32 ∧ win0_1.index t 1 = 0 ∧ win0_1.index t 2 = 0)
    ∧ (win0_2.index t 0 = t.val / 32 ∧ win0_2.index t 1 = 0 ∧ win0_2.index t 2 = 0)
    ∧ (win0_3.index t 0 = t.val / 32 ∧ win0_3.index t 1 = t.val / 4 % 8 ∧ win0_3.index t 2 = 0 ∧ win0_3.index t 3 = 0)
    ∧ (win0_4.index t 0 = t.val / 32 ∧ win0_4.index t 1 = t.val / 4 % 8 ∧ win0_4.index t 2 = 0 ∧ win0_4.index t 3 = 0)
    ∧ (win0_5.index t 0 = t.val / 4 % 8 ∧ win0_5.index t 1 = 0 ∧ win0_5.index t 2 = t.val % 4)
    ∧ (win0_6.index t 0 = t.val / 4 % 8 ∧ win0_6.index t 1 = t.val % 4 ∧ win0_6.index t 2 = 0) :=
  (by decide +kernel : ∀ t : Fin grid0.N, _)

/-! ## The arrays the kernel finds -/

/-- Window 0's array: the tokens. -/
theorem arr0 (c : Dev nD) (i : Fin 2) (n : Fin 2048) (d : Fin 1024) : (Gen.V m c main_v0 : Vec Ideal S2x2048x1024 .bf16) (ix3 i n d) = xs m c i n d := by
  entry_read
  pointwise
  try rfl

/-- Window 1's array: the positions, as a row. -/
theorem arr1 (c : Dev nD) (i : Fin 2) (n : Fin 2048) : (Gen.V m c main_v3 : Vec Ideal S2x1x2048 .f32) (ix3 i 0 n) = ps m c i n := by
  entry_read
  pointwise
  try rfl

/-- Window 2's array: the positions, as a column. -/
theorem arr2 (c : Dev nD) (i : Fin 2) (n : Fin 2048) : (Gen.V m c main_v4 : Vec Ideal S2x2048x1 .f32) (ix3 i n 0) = ps m c i n := by
  entry_read
  pointwise
  try rfl

/-- Window 3's array: the validities, expert by expert. -/
theorem arr3 (c : Dev nD) (i : Fin 2) (j : Fin 8) (n : Fin 2048) : (Gen.V m c main_v7 : Vec Ideal S2x8x1x2048 .f32) (ix4 i j 0 n) = vs m c i n j := by
  entry_read
  pointwise
  try rfl

/-- Window 4's array: the gates, expert by expert. -/
theorem arr4 (c : Dev nD) (i : Fin 2) (j : Fin 8) (n : Fin 2048) : (Gen.V m c main_v10 : Vec Ideal S2x8x2048x1 .f32) (ix4 i j n 0) = ws m c i n j := by
  entry_read
  pointwise
  try rfl

/-- Window 5's array: the first weights. -/
theorem arr5 (c : Dev nD) (j : Fin 8) (d : Fin 1024) (h : Fin 4096) : (Gen.V m c main_v1 : Vec Ideal S8x1024x4096 .bf16) (ix3 j d h) = m1 m c j d h := by
  entry_read
  pointwise
  try rfl

/-- Window 6's array: the second weights. -/
theorem arr6 (c : Dev nD) (j : Fin 8) (h : Fin 4096) (l : Fin 1024) : (Gen.V m c main_v2 : Vec Ideal S8x4096x1024 .bf16) (ix3 j h l) = m2 m c j h l := by
  entry_read
  pointwise
  try rfl

/-! ## The blocks it reads -/

/-- Window 0's block. -/
theorem blk0 (c : Dev nD) (t : Fin cfg0.N) (n : Fin 2048) (d : Fin 1024) : (Gen.iblk m c 0 t : Vec Ideal S1x2048x1024 .bf16) (ix3 0 n d) = xs m c (bi t) n d := by
  rw [← arr0 m c]
  obtain ⟨h0, h1, h2, h3, h4, h5, h6⟩ := idx_facts t
  have hN : t.val < 64 := lt_of_lt_of_eq t.isLt (show cfg0.N = 64 from N_0)
  unfold iblk
  rw [View.read_apply]
  show V m c main_v0 _ = _
  refine congrArg (V m c main_v0 : Vec Ideal S2x2048x1024 .bf16) (funext fun a => Fin.ext ?_)
  match a with
  | ⟨0, _⟩ => show win0_0.index t 0 * 1 + 1 * 0 = t.val / 32 % 2; omega
  | ⟨1, _⟩ => show win0_0.index t 1 * 2048 + 1 * n.val = n.val; omega
  | ⟨2, _⟩ => show win0_0.index t 2 * 1024 + 1 * d.val = d.val; omega

/-- Window 1's block. -/
theorem blk1 (c : Dev nD) (t : Fin cfg0.N) (n : Fin 2048) : (Gen.iblk m c 1 t : Vec Ideal S1x1x2048 .f32) (ix3 0 0 n) = ps m c (bi t) n := by
  rw [← arr1 m c]
  obtain ⟨h0, h1, h2, h3, h4, h5, h6⟩ := idx_facts t
  have hN : t.val < 64 := lt_of_lt_of_eq t.isLt (show cfg0.N = 64 from N_0)
  unfold iblk
  rw [View.read_apply]
  show V m c main_v3 _ = _
  refine congrArg (V m c main_v3 : Vec Ideal S2x1x2048 .f32) (funext fun a => Fin.ext ?_)
  match a with
  | ⟨0, _⟩ => show win0_1.index t 0 * 1 + 1 * 0 = t.val / 32 % 2; omega
  | ⟨1, _⟩ => show win0_1.index t 1 * 1 + 1 * 0 = 0; omega
  | ⟨2, _⟩ => show win0_1.index t 2 * 2048 + 1 * n.val = n.val; omega

/-- Window 2's block. -/
theorem blk2 (c : Dev nD) (t : Fin cfg0.N) (n : Fin 2048) : (Gen.iblk m c 2 t : Vec Ideal S1x2048x1 .f32) (ix3 0 n 0) = ps m c (bi t) n := by
  rw [← arr2 m c]
  obtain ⟨h0, h1, h2, h3, h4, h5, h6⟩ := idx_facts t
  have hN : t.val < 64 := lt_of_lt_of_eq t.isLt (show cfg0.N = 64 from N_0)
  unfold iblk
  rw [View.read_apply]
  show V m c main_v4 _ = _
  refine congrArg (V m c main_v4 : Vec Ideal S2x2048x1 .f32) (funext fun a => Fin.ext ?_)
  match a with
  | ⟨0, _⟩ => show win0_2.index t 0 * 1 + 1 * 0 = t.val / 32 % 2; omega
  | ⟨1, _⟩ => show win0_2.index t 1 * 2048 + 1 * n.val = n.val; omega
  | ⟨2, _⟩ => show win0_2.index t 2 * 1 + 1 * 0 = 0; omega

/-- Window 3's block. -/
theorem blk3 (c : Dev nD) (t : Fin cfg0.N) (n : Fin 2048) : (Gen.iblk m c 3 t : Vec Ideal S1x1x1x2048 .f32) (ix4 0 0 0 n) = vs m c (bi t) n (bj t) := by
  rw [← arr3 m c]
  obtain ⟨h0, h1, h2, h3, h4, h5, h6⟩ := idx_facts t
  have hN : t.val < 64 := lt_of_lt_of_eq t.isLt (show cfg0.N = 64 from N_0)
  unfold iblk
  rw [View.read_apply]
  show V m c main_v7 _ = _
  refine congrArg (V m c main_v7 : Vec Ideal S2x8x1x2048 .f32) (funext fun a => Fin.ext ?_)
  match a with
  | ⟨0, _⟩ => show win0_3.index t 0 * 1 + 1 * 0 = t.val / 32 % 2; omega
  | ⟨1, _⟩ => show win0_3.index t 1 * 1 + 1 * 0 = t.val / 4 % 8; omega
  | ⟨2, _⟩ => show win0_3.index t 2 * 1 + 1 * 0 = 0; omega
  | ⟨3, _⟩ => show win0_3.index t 3 * 2048 + 1 * n.val = n.val; omega

/-- Window 4's block. -/
theorem blk4 (c : Dev nD) (t : Fin cfg0.N) (n : Fin 2048) : (Gen.iblk m c 4 t : Vec Ideal S1x1x2048x1 .f32) (ix4 0 0 n 0) = ws m c (bi t) n (bj t) := by
  rw [← arr4 m c]
  obtain ⟨h0, h1, h2, h3, h4, h5, h6⟩ := idx_facts t
  have hN : t.val < 64 := lt_of_lt_of_eq t.isLt (show cfg0.N = 64 from N_0)
  unfold iblk
  rw [View.read_apply]
  show V m c main_v10 _ = _
  refine congrArg (V m c main_v10 : Vec Ideal S2x8x2048x1 .f32) (funext fun a => Fin.ext ?_)
  match a with
  | ⟨0, _⟩ => show win0_4.index t 0 * 1 + 1 * 0 = t.val / 32 % 2; omega
  | ⟨1, _⟩ => show win0_4.index t 1 * 1 + 1 * 0 = t.val / 4 % 8; omega
  | ⟨2, _⟩ => show win0_4.index t 2 * 2048 + 1 * n.val = n.val; omega
  | ⟨3, _⟩ => show win0_4.index t 3 * 1 + 1 * 0 = 0; omega

/-- Window 5's block. -/
theorem blk5 (c : Dev nD) (t : Fin cfg0.N) (d : Fin 1024) (q : Fin 1024) : (Gen.iblk m c 5 t : Vec Ideal S1x1024x1024 .bf16) (ix3 0 d q) = m1 m c (bj t) d (hid (t.val % 4) q) := by
  rw [← arr5 m c]
  obtain ⟨h0, h1, h2, h3, h4, h5, h6⟩ := idx_facts t
  have hN : t.val < 64 := lt_of_lt_of_eq t.isLt (show cfg0.N = 64 from N_0)
  unfold iblk
  rw [View.read_apply]
  show V m c main_v1 _ = _
  refine congrArg (V m c main_v1 : Vec Ideal S8x1024x4096 .bf16) (funext fun a => Fin.ext ?_)
  match a with
  | ⟨0, _⟩ => show win0_5.index t 0 * 1 + 1 * 0 = t.val / 4 % 8; omega
  | ⟨1, _⟩ => show win0_5.index t 1 * 1024 + 1 * d.val = d.val; omega
  | ⟨2, _⟩ => show win0_5.index t 2 * 1024 + 1 * q.val = (q.val + 1024 * (t.val % 4)) % 4096; omega

/-- Window 6's block. -/
theorem blk6 (c : Dev nD) (t : Fin cfg0.N) (q : Fin 1024) (l : Fin 1024) : (Gen.iblk m c 6 t : Vec Ideal S1x1024x1024 .bf16) (ix3 0 q l) = m2 m c (bj t) (hid (t.val % 4) q) l := by
  rw [← arr6 m c]
  obtain ⟨h0, h1, h2, h3, h4, h5, h6⟩ := idx_facts t
  have hN : t.val < 64 := lt_of_lt_of_eq t.isLt (show cfg0.N = 64 from N_0)
  unfold iblk
  rw [View.read_apply]
  show V m c main_v2 _ = _
  refine congrArg (V m c main_v2 : Vec Ideal S8x4096x1024 .bf16) (funext fun a => Fin.ext ?_)
  match a with
  | ⟨0, _⟩ => show win0_6.index t 0 * 1 + 1 * 0 = t.val / 4 % 8; omega
  | ⟨1, _⟩ => show win0_6.index t 1 * 1024 + 1 * q.val = (q.val + 1024 * (t.val % 4)) % 4096; omega
  | ⟨2, _⟩ => show win0_6.index t 2 * 1024 + 1 * l.val = l.val; omega

/-- All seven. -/
theorem blocks (c : Dev nD) (t : Fin cfg0.N) : Blocks (xs m c) (ps m c) (vs m c) (ws m c) (m1 m c) (m2 m c) t.val
    (Gen.iblk m c 0 t) (Gen.iblk m c 1 t) (Gen.iblk m c 2 t) (Gen.iblk m c 3 t) (Gen.iblk m c 4 t) (Gen.iblk m c 5 t) (Gen.iblk m c 6 t) where
  tokens := blk0 m c t
  row := blk1 m c t
  col := blk2 m c t
  valid := blk3 m c t
  gates := blk4 m c t
  first := blk5 m c t
  second := blk6 m c t

end Cert.FfnIdeal.Block

end
-- ==== Proof.FfnCase.lean ====
/- What the expert kernel's body leaves in its output block and its two carried buffers, per kind of grid point, as the
   values of Proof/FfnBlock.lean: one covering store each, whose loads read whole buffers. -/
module

public import proofs.«01_k».proof.Proof.Gen.FfnIdeal.Frame
public import Idealize.ShloMosaic.Lib.Pipeline.Value

@[expose] public section

set_option maxRecDepth 16384

noncomputable section

namespace Cert.FfnIdeal.Block

open Cert.FfnIdeal Cert.FfnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords) (arg3 : Memref sig .tc .vmem S1x2048x1024 .bf16) (harg3 : arg3.IsWhole)
  (arg4 : Memref sig .tc .vmem S1x1x2048 .f32) (harg4 : arg4.IsWhole) (arg5 : Memref sig .tc .vmem S1x2048x1 .f32) (harg5 : arg5.IsWhole)
  (arg6 : Memref sig .tc .vmem S1x1x1x2048 .f32) (harg6 : arg6.IsWhole) (arg7 : Memref sig .tc .vmem S1x1x2048x1 .f32) (harg7 : arg7.IsWhole)
  (arg8 : Memref sig .tc .vmem S1x1024x1024 .bf16) (harg8 : arg8.IsWhole) (arg9 : Memref sig .tc .vmem S1x1024x1024 .bf16) (harg9 : arg9.IsWhole)
  (arg10 : Memref sig .tc .vmem S1x2048x1024 .f32) (harg10 : arg10.IsWhole) (arg11 : Memref sig .tc .vmem S512x1024 .f32) (harg11 : arg11.IsWhole)
  (arg12 : Memref sig .tc .vmem S512x1024 .f32) (harg12 : arg12.IsWhole)
  (x0 : Vec F S1x2048x1024 .bf16) (x1 : Vec F S1x1x2048 .f32) (x2 : Vec F S1x2048x1 .f32) (x3 : Vec F S1x1x1x2048 .f32)
  (x4 : Vec F S1x1x2048x1 .f32) (x5 : Vec F S1x1024x1024 .bf16) (x6 : Vec F S1x1024x1024 .bf16)
  (xs0 : Vec F S512x1024 .f32) (xs1 : Vec F S512x1024 .f32) (xo7 : Vec F S1x2048x1024 .f32)

/-- At the first block of an expert the dispatched block is computed. -/
theorem sout_A_0 (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 arg10 harg10 arg11 harg11 arg12 harg12 hc0 hc1 hc2 hc3 x0 x1 x2 x3 x4 x5 x6
      = k0_pay1 x1 x3 x0 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_unit_zero hz2]
  simp only [View.readAt_eq_ld, harg3.read_unread, harg4.read_unread, harg6.read_unread,
    View.ld_unit_zero (S := S1x1x2048) hz3, View.ld_unit_zero (S := S1x1x1x2048) hz4, View.ld_unit_zero (S := S1x2048x1024) hz3]

/-- At the first block of an expert the accumulator holds the first share. -/
theorem sout_A_1 (hc0 : cond0_0 i) (hc1 : cond0_1 i) (hc2 : ¬cond0_2 i) (hc3 : ¬cond0_3 i) :
    sout0_A_1 c i arg3 harg3 arg4 harg4 arg5 harg5 arg6 harg6 arg7 harg7 arg8 harg8 arg9 harg9 arg10 harg10 arg11 harg11 arg12 harg12 hc0 hc1 hc2 hc3 x0 x1 x2 x3 x4 x5 x6
      = k0_pay3 (k0_pay1 x1 x3 x0) x5 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_unit_zero hz2]
  simp only [View.readAt_eq_ld, harg3.read_unread, harg4.read_unread, harg6.read_unread, harg8.read_unread, harg9.read_unread,
    View.readCov_unit_zero (S := S512x1024) _ hz2,
    View.ld_unit_zero (S := S1x1x2048) hz3, View.ld_unit_zero (S := S1x1x1x2048) hz4, View.ld_unit_zero (S := S1x2048x1024) hz3,
    View.ld_unit_zero (S := S1x1024x1024) hz3]

/-- At a middle block of an expert the accumulator gains a share. -/
theorem sout_B_1 (hc0 : ¬cond0_0 i) (hc1 : ¬cond0_1 i) (hc2 : cond0_2 i) (hc3 : ¬cond0_3 i) :
    sout0_B_1 c i arg3 harg3 arg4 harg4 arg5 harg5 arg6 harg6 arg7 harg7 arg8 harg8 arg9 harg9 arg10 harg10 arg11 harg11 arg12 harg12 hc0 hc1 hc2 hc3 x0 x1 x2 x3 x4 x5 x6 xs0 xs1
      = k0_pay4 xs0 x5 x6 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_B
  dsimp only
  sl_unfold_words
  rw [View.canon_unit_zero hz2]
  simp only [View.readAt_eq_ld, harg8.read_unread, harg9.read_unread, harg11.read_unread, harg12.read_unread,
    View.ld_unit_zero (S := S512x1024) hz2, View.ld_unit_zero (S := S1x1024x1024) hz3]

/-- At the last block of the first expert the accumulator gains a share. -/
theorem sout_C_1 (hc0 : ¬cond0_0 i) (hc1 : ¬cond0_1 i) (hc2 : cond0_2 i) (hc3 : cond0_3 i) (hc4 : cond0_4 i) (hc5 : ¬cond0_5 i) :
    sout0_C_1 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xs0 xs1
      = k0_pay4 xs0 x5 x6 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xs0 xs1)]
  unfold kernelRun0_C
  dsimp only
  sl_unfold_words
  rw [View.canon_unit_zero hz2]
  simp only [View.readAt_eq_ld, harg8.read_unread, harg9.read_unread, harg11.read_unread, harg12.read_unread,
    View.ld_unit_zero (S := S512x1024) hz2, View.ld_unit_zero (S := S1x1024x1024) hz3]

/-- At the last block of the first expert the output block is that expert's combined rows. -/
theorem out_C_7 (hc0 : ¬cond0_0 i) (hc1 : ¬cond0_1 i) (hc2 : cond0_2 i) (hc3 : cond0_3 i) (hc4 : cond0_4 i) (hc5 : ¬cond0_5 i) :
    out0_C_7 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xs0 xs1
      = k0_pay6 x2 x4 (k0_pay4 xs0 x5 x6 xs1) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xs0 xs1)]
  unfold kernelRun0_C
  dsimp only
  sl_unfold_words
  rw [View.canon_unit_zero hz3]
  simp only [View.readAt_eq_ld, harg5.read_unread, harg7.read_unread, harg8.read_unread, harg9.read_unread, harg11.read_unread, harg12.read_unread,
    View.readCov_unit_zero (S := S512x1024) _ hz2,
    View.ld_unit_zero (S := S512x1024) hz2, View.ld_unit_zero (S := S1x1024x1024) hz3,
    View.ld_unit_zero (S := S1x2048x1) hz3, View.ld_unit_zero (S := S1x1x2048x1) hz4]

/-- At the last block of a later expert the accumulator gains a share. -/
theorem sout_D_1 (hc0 : ¬cond0_0 i) (hc1 : ¬cond0_1 i) (hc2 : cond0_2 i) (hc3 : cond0_3 i) (hc4 : ¬cond0_4 i) (hc5 : cond0_5 i) :
    sout0_D_1 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xo7 xs0 xs1
      = k0_pay4 xs0 x5 x6 xs1 := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xo7 xs0 xs1)]
  unfold kernelRun0_D
  dsimp only
  sl_unfold_words
  rw [View.canon_unit_zero hz2]
  simp only [View.readAt_eq_ld, harg8.read_unread, harg9.read_unread, harg11.read_unread, harg12.read_unread,
    View.ld_unit_zero (S := S512x1024) hz2, View.ld_unit_zero (S := S1x1024x1024) hz3]

/-- At the last block of a later expert the output block gains that expert's combined rows. -/
theorem out_D_7 (hc0 : ¬cond0_0 i) (hc1 : ¬cond0_1 i) (hc2 : cond0_2 i) (hc3 : cond0_3 i) (hc4 : ¬cond0_4 i) (hc5 : cond0_5 i) :
    out0_D_7 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xo7 xs0 xs1
      = k0_pay7 x2 x4 (k0_pay4 xs0 x5 x6 xs1) xo7 := by
  unfold out0_D_7
  rw [View.read_writes_eq_canon _ _ _ (cover0_D_7 c i arg3 harg3 arg4 harg4 arg5 harg5 arg6 harg6 arg7 harg7 arg8 harg8 arg9 harg9 arg10 harg10 arg11 harg11 arg12 harg12 hc0 hc1 hc2 hc3 hc4 hc5 x0 x1 x2 x3 x4 x5 x6 xo7 xs0 xs1)]
  unfold kernelRun0_D
  dsimp only
  sl_unfold_words
  rw [View.canon_unit_zero hz3]
  simp only [View.readAt_eq_ld, harg5.read_unread, harg7.read_unread, harg8.read_unread, harg9.read_unread, harg10.read_unread, harg11.read_unread, harg12.read_unread,
    View.readCov_unit_zero (S := S512x1024) _ hz2,
    View.ld_unit_zero (S := S512x1024) hz2, View.ld_unit_zero (S := S1x1024x1024) hz3,
    View.ld_unit_zero (S := S1x2048x1) hz3, View.ld_unit_zero (S := S1x1x2048x1) hz4, View.ld_unit_zero (S := S1x2048x1024) hz3]

end Cert.FfnIdeal.Block

end
-- ==== Proof.FfnArray.lean ====
/- What the expert kernel's output array holds when it is done: the layer. The statement of Proof/FfnInv.lean holds after
   every grid point, by induction over the points, and the array is read at the last point of each batch. -/
module

public import proofs.«01_k».proof.Proof.FfnBlocks
public import proofs.«01_k».proof.Proof.FfnCase
public import proofs.«01_k».proof.Proof.Gen.FfnIdeal.Value

@[expose] public section

set_option maxRecDepth 16384

noncomputable section

namespace Cert.FfnIdeal.Block

open Cert.FfnIdeal Cert.FfnIdeal.Gen Idealize.ShloMosaic Idealize.ShloMosaic.TcCoe Idealize.SL.Sem Cert.Moe

variable (m : (ℓ : Loc nD τ sig) → Buf (Elt Ideal) ℓ)

/-- After every grid point the output block and the carried buffers hold what `Inv` says, whatever the carried buffers
    held before the first. -/
theorem inv_acc (c : Dev nD) : ∀ (n : ℕ) (hn : n < cfg0.N),
    Inv (xs m c) (ps m c) (vs m c) (ws m c) (m1 m c) (m2 m c) n (outsAt0 m c n hn) := by
  have step : ∀ (t : Fin cfg0.N) (st : Vec Ideal S1x2048x1024 .f32 × Vec Ideal S512x1024 .f32 × Vec Ideal S512x1024 .f32),
      (t.val ≠ 0 → Inv (xs m c) (ps m c) (vs m c) (ws m c) (m1 m c) (m2 m c) (t.val - 1) st) →
      Inv (xs m c) (ps m c) (vs m c) (ws m c) (m1 m c) (m2 m c) t.val (Value.stAt0 m c t.val t.isLt st) := by
    intro t st hp
    have hb := blocks m c t
    by_cases h0 : t.val % 4 = 0
    · rw [Value.stAt0_A m c t st h0 h0 (by omega) (by omega), sout_A_0, sout_A_1]
      exact hb.step_A h0 fun hd => hp (by unfold done at hd; omega)
    · by_cases h3 : t.val % 4 = 3
      · by_cases h4 : t.val / 4 % 8 = 0
        · rw [Value.stAt0_C m c t st h0 h0 (by omega) h3 h4 (by omega), out_C_7, sout_C_1]
          exact hb.step_C h3 h4 (hp (by omega))
        · rw [Value.stAt0_D m c t st h0 h0 (by omega) h3 h4 (by omega), out_D_7, sout_D_1]
          exact hb.step_D h3 h4 (hp (by omega))
      · rw [Value.stAt0_B m c t st h0 h0 (by omega) h3, sout_B_1]
        exact hb.step_B h0 h3 (hp (by omega))
  intro n
  induction n with
  | zero => intro hn; rw [Value.outsAt0_zero]; exact step ⟨0, hn⟩ _ fun h => absurd rfl h
  | succ n ih => intro hn; rw [Value.outsAt0_succ]; exact step ⟨n + 1, hn⟩ _ fun _ => ih _

/-- The output array holds the layer. -/
theorem array_eq (c : Dev nD) (i : Fin 2) (n : Fin 2048) (l : Fin 1024) :
    (Value.G7 m c : Vec Ideal S2x2048x1024 .f32) (ix3 i n l)
      = layer (xs m c) (ps m c) (vs m c) (ws m c) (m1 m c) (m2 m c) i n l := by
  have hp : Value.pt7Of (ix3 i n l) = 32 * i.val + 31 := by
    show 32 * (1 * (i.val / 1 - 0) + 1 * (n.val / 2048 - 0) + 1 * (l.val / 1024 - 0)) + 31 = _
    omega
  have hl : Value.loc7Of (ix3 i n l) = ix3 0 n l := funext fun a => Fin.ext (by
    match a with
    | ⟨0, _⟩ => show i.val % 1 = 0; omega
    | ⟨1, _⟩ => show n.val % 2048 = n.val; omega
    | ⟨2, _⟩ => show l.val % 1024 = l.val; omega)
  have hN : Value.pt7Of (ix3 i n l) < cfg0.N := by rw [hp, show cfg0.N = 64 from N_0]; omega
  have h := (inv_acc m c _ hN).layer_eq (by rw [hp]; omega) n l
  rw [Value.outsAt0_sweep] at h
  unfold Value.G7
  rw [dif_pos hN, hl, h]
  congr 1
  exact Fin.ext (by simp only [bi, hp]; omega)

end Cert.FfnIdeal.Block

end
-- ==== Proof.FfnRef.lean ====
/- The reference's expert layers, read at an index: each operation of the host program in turn, ending in
   `Cert.Moe.layer` of its arguments. -/
module

public import proofs.«01_k».proof.Proof.Gen.FfnRefIdeal.Read
public import proofs.«01_k».proof.Proof.Math

@[expose] public section

set_option maxRecDepth 16384

noncomputable section

namespace Cert.FfnRefIdeal.Value

open Cert.FfnRefIdeal Cert.FfnRefIdeal.Gen Cert.FfnRefIdeal.Read Idealize.ShloMosaic Cert.Moe

variable (x0 : Vec Ideal S2x2048x1024 .f32) (x1 x2 : Vec Ideal S4096x8 .f32) (x3 : Vec Ideal S4096x1 .f32)
  (x4 : Vec Ideal S8x1024x4096 .f32) (x5 : Vec Ideal S8x4096x1024 .f32)

/-- The reference's arguments, as functions of coordinates: tokens, -/
abbrev xs : Fin 2 → Fin 2048 → Fin 1024 → EReal := fun i n d => x0 (ix3 i n d)
/-- positions, -/
abbrev ps : Fin 2 → Fin 2048 → EReal := fun i n => x3 (ix2 (tok i n) 0)
/-- a per-token, per-expert table, -/
abbrev tb : Fin 2 → Fin 2048 → Fin 8 → EReal := fun i n j => x1 (ix2 (tok i n) j)
/-- and the two weights. -/
abbrev m1 : Fin 8 → Fin 1024 → Fin 4096 → EReal := fun j d h => x4 (ix3 j d h)
abbrev m2 : Fin 8 → Fin 4096 → Fin 1024 → EReal := fun j h l => x5 (ix3 j h l)

/-- The one-hot of the positions. -/
theorem v4_apply (i : Fin 2) (n : Fin 2048) (s : Fin 512) :
    val_main_v4 (F := Ideal) x3 (ix3 i n s) = hot s (ps x3 i n) := by
  pointwise [val_main_v4, val_main_call0_v4, val_main_call0_v2, val_main_call0_v3, val_main_call0_v0, val_main_call0_v1, val_main_v3, val_main_v2, uitofp_eq]
  exact if_congr eq_comm rfl rfl

/-- The dispatch weights: the one-hot, times the validity. -/
theorem v9_apply (i : Fin 2) (n : Fin 2048) (j : Fin 8) (s : Fin 512) :
    val_main_v9 (F := Ideal) x2 x3 (ix4 i n j s) = hot s (ps x3 i n) * tb x2 i n j := by
  pointwise [val_main_v9, val_main_v7, val_main_v8, val_main_v5, val_main_v6, val_main_v1]
  rw [v4_apply, mul_comm]
  rfl

/-- The combine weights: the one-hot, times the gate. -/
theorem v14_apply (i : Fin 2) (n : Fin 2048) (j : Fin 8) (s : Fin 512) :
    val_main_v14 (F := Ideal) x1 x3 (ix4 i n j s) = hot s (ps x3 i n) * tb x1 i n j := by
  pointwise [val_main_v14, val_main_v12, val_main_v13, val_main_v10, val_main_v11, val_main_v0]
  rw [show val_main_v4 (F := Ideal) x3 (ix3 i n s) = _ from v4_apply x3 i n s, mul_comm]
  rfl

/-- What each expert receives. -/
theorem v17_apply (i : Fin 2) (j : Fin 8) (s : Fin 512) (d : Fin 1024) :
    val_main_v17 (F := Ideal) x0 x2 x3 (ix3 j (cell i s) d) = slot (xs x0) (ps x3) (tb x2) i j s d := by
  pointwise [val_main_v17, val_main_v16, val_main_v15]
  have e1 : (⟨(cell i s).val / 512, by have := (cell i s).isLt; omega⟩ : Fin 2) = i := Fin.ext (by simp only [cell]; omega)
  have e2 : (⟨(cell i s).val % 512, Nat.mod_lt _ (by decide)⟩ : Fin 512) = s := Fin.ext (by simp only [cell]; omega)
  rw [e1, e2]
  exact Finset.sum_congr rfl fun n _ => by rw [v9_apply]

/-- The activated first product. -/
theorem v25_apply (i : Fin 2) (j : Fin 8) (s : Fin 512) (h : Fin 4096) :
    val_main_v25 (F := Ideal) x0 x2 x3 x4 (ix3 j (cell i s) h) = act (xs x0) (ps x3) (tb x2) (m1 x4) i j s h := by
  pointwise [val_main_v25, val_main_v24, val_main_v23, val_main_v22, val_main_v21, val_main_v20, val_main_v19, val_main_v18, val_main_cst, val_main_cst_0]
  rw [gelu_erfc]
  exact congrArg gelu (Finset.sum_congr rfl fun d _ => by rw [v17_apply])

/-- The reference's result is the layer. -/
theorem v28_apply (i : Fin 2) (n : Fin 2048) (l : Fin 1024) :
    val_main_v28 (F := Ideal) x0 x1 x2 x3 x4 x5 (ix3 i n l)
      = layer (xs x0) (ps x3) (tb x2) (tb x1) (m1 x4) (m2 x5) i n l := by
  pointwise [val_main_v28, val_main_v27, val_main_v26]
  unfold layer contrib expert
  rw [Finset.sum_comm]
  refine Finset.sum_congr rfl fun j _ => Finset.sum_congr rfl fun s _ => ?_
  rw [v14_apply]
  refine congrArg _ (Finset.sum_congr rfl fun h _ => ?_)
  rw [show (⟨i.val * 512 + s.val, by omega⟩ : Fin 1024) = cell i s from rfl, v25_apply]

end Cert.FfnRefIdeal.Value

end
-- ==== Proof.GateRow.lean ====
/- One token's row of eight gate probabilities: how many of them, taken from the largest down, are needed to reach the
   threshold; which experts those are; and their renormalised weights. All over plain functions of the expert. -/
module

public import proofs.«01_k».proof.Proof.Math
public import Idealize.ShloMosaic.Lib.SortNet.Basic

@[expose] public section

noncomputable section

namespace Cert.Moe

open Idealize.ShloMosaic Idealize.ShloMosaic.SortNet

/-! ## Flags -/

/-- The number 1 or 0 that says whether a proposition holds. -/
def flag (q : Prop) [Decidable q] : EReal := if q then 1 else 0

/-- A comparison's bit, widened to a word and read as a signed number, is the comparison's flag. -/
theorem sitofp_flag (q : Prop) [Decidable q] :
    (FloatOps.sitofp FTy.f32 (BitVec.setWidth 32 (BitVec.ofBool (decide q))) : Ideal .f32) = flag q := by
  show (((BitVec.setWidth 32 (BitVec.ofBool (decide q))).toInt : ℝ) : EReal) = _
  by_cases h : q <;> simp [h, flag]

/-- A comparison's bit, read as an unsigned number, is the comparison's flag. -/
theorem uitofp_flag (q : Prop) [Decidable q] :
    (FloatOps.uitofp FTy.f32 (BitVec.ofBool (decide q)) : Ideal .f32) = flag q := by
  show (((BitVec.ofBool (decide q)).toNat : ℝ) : EReal) = _
  by_cases h : q <;> simp [h, flag]

/-- A flag is not negative. -/
theorem flag_nonneg (q : Prop) [Decidable q] : 0 ≤ flag q := by
  unfold flag; split <;> simp

/-- Equivalent propositions have the same flag. -/
theorem flag_congr {q r : Prop} [Decidable q] [Decidable r] (h : q ↔ r) : flag q = flag r := by
  unfold flag; simp [h]

/-! ## The count -/

/-- The threshold 0.8, as rounded. -/
def thr : EReal := Ideal.ofBits .f32 1061997773#32

/-- The sum of the first `r + 1` entries. -/
def cum (s : Fin 8 → EReal) (r : Fin 8) : EReal := ∑ e : Fin 8, if e ≤ r then s e else 0

/-- How many entries from the front are kept: one more than the number of the first seven running sums below the
    threshold. -/
def cnt (s : Fin 8 → EReal) : ℕ := 1 + ∑ r : Fin 7, if cum s r.castSucc < thr then 1 else 0

/-- At least one entry is kept. -/
theorem one_le_cnt (s : Fin 8 → EReal) : 1 ≤ cnt s := Nat.le_add_right 1 _

/-- At most eight entries are kept. -/
theorem cnt_le (s : Fin 8 → EReal) : cnt s ≤ 8 := by
  have h : (∑ r : Fin 7, if cum s r.castSucc < thr then 1 else 0) ≤ ∑ r : Fin 7, 1 :=
    Finset.sum_le_sum fun r _ => by split <;> simp
  simp only [Finset.sum_const, Finset.card_univ, Fintype.card_fin, smul_eq_mul] at h
  unfold cnt; omega

/-- The running sums of entries that are not negative grow. -/
theorem cum_mono (s : Fin 8 → EReal) (hs : ∀ e, 0 ≤ s e) {a b : Fin 8} (h : a ≤ b) : cum s a ≤ cum s b := by
  unfold cum
  refine Finset.sum_le_sum fun e _ => ?_
  by_cases h1 : e ≤ a
  · rw [if_pos h1, if_pos (h1.trans h)]
  · rw [if_neg h1]; split
    · exact hs e
    · exact le_refl _

/-- If the running sums are below the threshold exactly before position `r`, then `r + 1` entries are kept. -/
theorem cnt_of_first (s : Fin 8 → EReal) (r : Fin 8) (h : ∀ e, cum s e < thr ↔ e < r) : cnt s = r.val + 1 := by
  unfold cnt
  simp only [h]
  clear h
  revert r; decide

/-- If no running sum reaches the threshold, all eight entries are kept. -/
theorem cnt_of_all (s : Fin 8 → EReal) (h : ∀ e, cum s e < thr) : cnt s = 8 := by
  unfold cnt; simp [h]

/-! ## The kept experts and their weights -/

/-- Whether expert `j` is kept, `σ` listing the experts from the most probable down. -/
def keep (p : Fin 8 → EReal) (σ : Equiv.Perm (Fin 8)) (j : Fin 8) : EReal := flag ((σ.symm j).val < cnt (p ∘ σ))

/-- The kept experts' probabilities, scaled to sum to one. -/
def norm (p : Fin 8 → EReal) (σ : Equiv.Perm (Fin 8)) (j : Fin 8) : EReal :=
  Ideal.div (p j * keep p σ j) (∑ e : Fin 8, p e * keep p σ e)

/-- An expert is kept exactly when its probability is at least that of the last kept position. -/
theorem le_iff_keep (p : Fin 8 → EReal) (σ : Equiv.Perm (Fin 8)) (hσ : StrictAnti (p ∘ σ)) (k : Fin 8) (j : Fin 8) :
    (p ∘ σ) k ≤ p j ↔ (σ.symm j).val < k.val + 1 := by
  have e : p j = (p ∘ σ) (σ.symm j) := by simp
  rw [e, hσ.le_iff_ge, Nat.lt_succ_iff, Fin.le_def]

/-- The entry at the last kept position, picked out by comparing the count with 1, …, 8. -/
theorem pick (s : Fin 8 → EReal) (c : ℕ) (h1 : 1 ≤ c) (h8 : c ≤ 8) (k : Fin 8) (hk : k.val + 1 = c) :
    (∑ e : Fin 8, s e * flag (c = e.val + 1)) = s k := by
  rw [Finset.sum_eq_single k]
  · rw [flag, if_pos hk.symm, mul_one]
  · intro e _ he
    rw [flag, if_neg (fun h => he (Fin.ext (by omega))), mul_zero]
  · intro h; exact absurd (Finset.mem_univ _) h

/-! ## The probabilities -/

/-- Quotients by the total of entries that are not negative are not negative, provided they are not all the same. -/
theorem quot_nonneg (E : Fin 8 → EReal) (hE : ∀ j, 0 ≤ E j)
    (hd : Function.Injective fun j => Ideal.div (E j) (∑ e, E e)) (j : Fin 8) : 0 ≤ Ideal.div (E j) (∑ e, E e) := by
  by_cases h0 : (∑ e, E e) = 0
  · have hz := (Finset.sum_eq_zero_iff_of_nonneg fun e _ => hE e).1 h0
    have h01 : (0 : Fin 8) = 1 := hd (by
      show Ideal.div (E 0) _ = Ideal.div (E 1) _
      rw [hz 0 (Finset.mem_univ _), hz 1 (Finset.mem_univ _)])
    exact absurd h01 (by decide)
  · rw [Ideal.div, if_neg h0]
    exact mul_nonneg (hE j) (EReal.inv_nonneg_of_nonneg (Finset.sum_nonneg fun e _ => hE e))

/-- The exponential is not negative. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- The softmax of one row of scores. -/
def soft (b : EReal) (z : Fin 8 → EReal) (j : Fin 8) : EReal :=
  Ideal.div (Ideal.exp (z j - Finset.fold max b z Finset.univ))
    (∑ e : Fin 8, Ideal.exp (z e - Finset.fold max b z Finset.univ))

/-- Distinct probabilities are not negative. -/
theorem soft_nonneg (b : EReal) (z : Fin 8 → EReal) (hd : Function.Injective (soft b z)) (j : Fin 8) :
    0 ≤ soft b z j :=
  quot_nonneg (fun j => Ideal.exp (z j - Finset.fold max b z Finset.univ)) (fun _ => exp_nonneg _) hd j

/-- Taking the greater of a maximum and its own starting value changes nothing. -/
theorem max_fold {n : ℕ} (b : EReal) (z : Fin n → EReal) :
    max b (Finset.fold max b z Finset.univ) = Finset.fold max b z Finset.univ :=
  max_eq_right ((Finset.le_fold_max _).2 (Or.inl (le_refl _)))

/-! ## The sorting network -/

/-- The exchange of positions `a` and `b`. -/
def cx (a b : Fin 8) (h : a ≠ b := by decide) : Cmpx 8 := ⟨a, b, h⟩

/-- The nineteen exchanges that sort eight entries. -/
def net : Network 8 :=
  [cx 0 1, cx 2 3, cx 4 5, cx 6 7, cx 0 2, cx 1 3, cx 4 6, cx 5 7, cx 1 2, cx 5 6, cx 0 4, cx 1 5, cx 2 6, cx 3 7,
    cx 2 4, cx 3 5, cx 1 2, cx 3 4, cx 5 6]

/-- The network sorts every row of eight bits. -/
theorem net_bits : ∀ a b c d e f g h : Bool, ∀ i : Fin 7,
    Network.apply net ![a, b, c, d, e, f, g, h] i.castSucc ≤ Network.apply net ![a, b, c, d, e, f, g, h] i.succ := by
  decide +kernel

/-- The network sorts every row. -/
theorem net_sorts (p : Fin 8 → EReal) : Monotone (Network.apply net p) := by
  refine Network.zero_one net (fun b => ?_) p
  have e : b = ![b 0, b 1, b 2, b 3, b 4, b 5, b 6, b 7] := by funext k; fin_cases k <;> rfl
  rw [e]
  exact Fin.monotone_iff_le_succ.2 (net_bits _ _ _ _ _ _ _ _)

/-- The network's output, read backwards, is the row from its largest entry down. -/
theorem net_eq (p : Fin 8 → EReal) (σ : Equiv.Perm (Fin 8)) (hσ : StrictAnti (p ∘ σ)) :
    Network.apply net p = fun k => p (σ k.rev) := by
  obtain ⟨τ, hτ⟩ := Network.exists_perm net p
  have hinj : Function.Injective p := by
    have h := hσ.injective.comp σ.symm.injective
    have e : (p ∘ σ) ∘ σ.symm = p := by funext j; simp
    rwa [e] at h
  have h1 : StrictMono (Network.apply net p) :=
    (net_sorts p).strictMono_of_injective (by rw [hτ]; exact hinj.comp τ.injective)
  have h2 : StrictMono fun k : Fin 8 => p (σ k.rev) := fun a b hab => hσ (Fin.rev_lt_rev.2 hab)
  refine (StrictMono.range_inj h1 h2).1 ?_
  rw [hτ, EquivLike.range_comp p τ]
  exact (EquivLike.range_comp p (Fin.revPerm.trans σ)).symm

end Cert.Moe
-- ==== Proof.GateNet.lean ====
/- The sorting network written out exchange by exchange, and the seven running sums tested against the threshold: what
   the kernel computes for one token, over plain functions of the expert. -/
module

public import proofs.«01_k».proof.Proof.GateRow

@[expose] public section

noncomputable section

namespace Cert.Moe

open Idealize.ShloMosaic Idealize.ShloMosaic.SortNet

/-! ## The entries between the exchanges; `wire K` is the value of the kernel's `K`-th step -/

def wire3 (p : Fin 8 → EReal) : EReal := p 0
def wire4 (p : Fin 8 → EReal) : EReal := p 1
def wire5 (p : Fin 8 → EReal) : EReal := p 2
def wire6 (p : Fin 8 → EReal) : EReal := p 3
def wire7 (p : Fin 8 → EReal) : EReal := p 4
def wire8 (p : Fin 8 → EReal) : EReal := p 5
def wire9 (p : Fin 8 → EReal) : EReal := p 6
def wire10 (p : Fin 8 → EReal) : EReal := p 7
def wire11 (p : Fin 8 → EReal) : EReal := min (wire3 p) (wire4 p)
def wire12 (p : Fin 8 → EReal) : EReal := max (wire3 p) (wire4 p)
def wire13 (p : Fin 8 → EReal) : EReal := min (wire5 p) (wire6 p)
def wire14 (p : Fin 8 → EReal) : EReal := max (wire5 p) (wire6 p)
def wire15 (p : Fin 8 → EReal) : EReal := min (wire7 p) (wire8 p)
def wire16 (p : Fin 8 → EReal) : EReal := max (wire7 p) (wire8 p)
def wire17 (p : Fin 8 → EReal) : EReal := min (wire9 p) (wire10 p)
def wire18 (p : Fin 8 → EReal) : EReal := max (wire9 p) (wire10 p)
def wire19 (p : Fin 8 → EReal) : EReal := min (wire11 p) (wire13 p)
def wire20 (p : Fin 8 → EReal) : EReal := max (wire11 p) (wire13 p)
def wire21 (p : Fin 8 → EReal) : EReal := min (wire12 p) (wire14 p)
def wire22 (p : Fin 8 → EReal) : EReal := max (wire12 p) (wire14 p)
def wire23 (p : Fin 8 → EReal) : EReal := min (wire15 p) (wire17 p)
def wire24 (p : Fin 8 → EReal) : EReal := max (wire15 p) (wire17 p)
def wire25 (p : Fin 8 → EReal) : EReal := min (wire16 p) (wire18 p)
def wire26 (p : Fin 8 → EReal) : EReal := max (wire16 p) (wire18 p)
def wire27 (p : Fin 8 → EReal) : EReal := min (wire21 p) (wire20 p)
def wire28 (p : Fin 8 → EReal) : EReal := max (wire21 p) (wire20 p)
def wire29 (p : Fin 8 → EReal) : EReal := min (wire25 p) (wire24 p)
def wire30 (p : Fin 8 → EReal) : EReal := max (wire25 p) (wire24 p)
def wire31 (p : Fin 8 → EReal) : EReal := min (wire19 p) (wire23 p)
def wire32 (p : Fin 8 → EReal) : EReal := max (wire19 p) (wire23 p)
def wire33 (p : Fin 8 → EReal) : EReal := min (wire27 p) (wire29 p)
def wire34 (p : Fin 8 → EReal) : EReal := max (wire27 p) (wire29 p)
def wire35 (p : Fin 8 → EReal) : EReal := min (wire28 p) (wire30 p)
def wire36 (p : Fin 8 → EReal) : EReal := max (wire28 p) (wire30 p)
def wire37 (p : Fin 8 → EReal) : EReal := min (wire22 p) (wire26 p)
def wire38 (p : Fin 8 → EReal) : EReal := max (wire22 p) (wire26 p)
def wire39 (p : Fin 8 → EReal) : EReal := min (wire35 p) (wire32 p)
def wire40 (p : Fin 8 → EReal) : EReal := max (wire35 p) (wire32 p)
def wire41 (p : Fin 8 → EReal) : EReal := min (wire37 p) (wire34 p)
def wire42 (p : Fin 8 → EReal) : EReal := max (wire37 p) (wire34 p)
def wire43 (p : Fin 8 → EReal) : EReal := min (wire33 p) (wire39 p)
def wire44 (p : Fin 8 → EReal) : EReal := max (wire33 p) (wire39 p)
def wire45 (p : Fin 8 → EReal) : EReal := min (wire41 p) (wire40 p)
def wire46 (p : Fin 8 → EReal) : EReal := max (wire41 p) (wire40 p)
def wire47 (p : Fin 8 → EReal) : EReal := min (wire42 p) (wire36 p)
def wire48 (p : Fin 8 → EReal) : EReal := max (wire42 p) (wire36 p)

/-! ## One exchange on a row of eight entries -/

theorem cx_0_1 (a b c d e f g h : EReal) :
    (cx 0 1).apply ![a, b, c, d, e, f, g, h] = ![min a b, max a b, c, d, e, f, g, h] := by
  funext k; fin_cases k <;> rfl

theorem cx_2_3 (a b c d e f g h : EReal) :
    (cx 2 3).apply ![a, b, c, d, e, f, g, h] = ![a, b, min c d, max c d, e, f, g, h] := by
  funext k; fin_cases k <;> rfl

theorem cx_4_5 (a b c d e f g h : EReal) :
    (cx 4 5).apply ![a, b, c, d, e, f, g, h] = ![a, b, c, d, min e f, max e f, g, h] := by
  funext k; fin_cases k <;> rfl

theorem cx_6_7 (a b c d e f g h : EReal) :
    (cx 6 7).apply ![a, b, c, d, e, f, g, h] = ![a, b, c, d, e, f, min g h, max g h] := by
  funext k; fin_cases k <;> rfl

theorem cx_0_2 (a b c d e f g h : EReal) :
    (cx 0 2).apply ![a, b, c, d, e, f, g, h] = ![min a c, b, max a c, d, e, f, g, h] := by
  funext k; fin_cases k <;> rfl

theorem cx_1_3 (a b c d e f g h : EReal) :
    (cx 1 3).apply ![a, b, c, d, e, f, g, h] = ![a, min b d, c, max b d, e, f, g, h] := by
  funext k; fin_cases k <;> rfl

theorem cx_4_6 (a b c d e f g h : EReal) :
    (cx 4 6).apply ![a, b, c, d, e, f, g, h] = ![a, b, c, d, min e g, f, max e g, h] := by
  funext k; fin_cases k <;> rfl

theorem cx_5_7 (a b c d e f g h : EReal) :
    (cx 5 7).apply ![a, b, c, d, e, f, g, h] = ![a, b, c, d, e, min f h, g, max f h] := by
  funext k; fin_cases k <;> rfl

theorem cx_1_2 (a b c d e f g h : EReal) :
    (cx 1 2).apply ![a, b, c, d, e, f, g, h] = ![a, min b c, max b c, d, e, f, g, h] := by
  funext k; fin_cases k <;> rfl

theorem cx_5_6 (a b c d e f g h : EReal) :
    (cx 5 6).apply ![a, b, c, d, e, f, g, h] = ![a, b, c, d, e, min f g, max f g, h] := by
  funext k; fin_cases k <;> rfl

theorem cx_0_4 (a b c d e f g h : EReal) :
    (cx 0 4).apply ![a, b, c, d, e, f, g, h] = ![min a e, b, c, d, max a e, f, g, h] := by
  funext k; fin_cases k <;> rfl

theorem cx_1_5 (a b c d e f g h : EReal) :
    (cx 1 5).apply ![a, b, c, d, e, f, g, h] = ![a, min b f, c, d, e, max b f, g, h] := by
  funext k; fin_cases k <;> rfl

theorem cx_2_6 (a b c d e f g h : EReal) :
    (cx 2 6).apply ![a, b, c, d, e, f, g, h] = ![a, b, min c g, d, e, f, max c g, h] := by
  funext k; fin_cases k <;> rfl

theorem cx_3_7 (a b c d e f g h : EReal) :
    (cx 3 7).apply ![a, b, c, d, e, f, g, h] = ![a, b, c, min d h, e, f, g, max d h] := by
  funext k; fin_cases k <;> rfl

theorem cx_2_4 (a b c d e f g h : EReal) :
    (cx 2 4).apply ![a, b, c, d, e, f, g, h] = ![a, b, min c e, d, max c e, f, g, h] := by
  funext k; fin_cases k <;> rfl

theorem cx_3_5 (a b c d e f g h : EReal) :
    (cx 3 5).apply ![a, b, c, d, e, f, g, h] = ![a, b, c, min d f, e, max d f, g, h] := by
  funext k; fin_cases k <;> rfl

theorem cx_3_4 (a b c d e f g h : EReal) :
    (cx 3 4).apply ![a, b, c, d, e, f, g, h] = ![a, b, c, min d e, max d e, f, g, h] := by
  funext k; fin_cases k <;> rfl

/-- The network's output in terms of the written-out exchanges. -/
theorem net_wires (p : Fin 8 → EReal) :
    Network.apply net p = ![wire31 p, wire43 p, wire44 p, wire45 p, wire46 p, wire47 p, wire48 p, wire38 p] := by
  have e : p = ![wire3 p, wire4 p, wire5 p, wire6 p, wire7 p, wire8 p, wire9 p, wire10 p] := by funext k; fin_cases k <;> rfl
  conv_lhs => rw [e, net]
  rw [Network.apply_cons, show (cx 0 1).apply ![wire3 p, wire4 p, wire5 p, wire6 p, wire7 p, wire8 p, wire9 p, wire10 p] =
    ![wire11 p, wire12 p, wire5 p, wire6 p, wire7 p, wire8 p, wire9 p, wire10 p] from cx_0_1 _ _ _ _ _ _ _ _]
  rw [Network.apply_cons, show (cx 2 3).apply ![wire11 p, wire12 p, wire5 p, wire6 p, wire7 p, wire8 p, wire9 p, wire10 p] =
    ![wire11 p, wire12 p, wire13 p, wire14 p, wire7 p, wire8 p, wire9 p, wire10 p] from cx_2_3 _ _ _ _ _ _ _ _]
  rw [Network.apply_cons, show (cx 4 5).apply ![wire11 p, wire12 p, wire13 p, wire14 p, wire7 p, wire8 p, wire9 p, wire10 p] =
    ![wire11 p, wire12 p, wire13 p, wire14 p, wire15 p, wire16 p, wire9 p, wire10 p] from cx_4_5 _ _ _ _ _ _ _ _]
  rw [Network.apply_cons, show (cx 6 7).apply ![wire11 p, wire12 p, wire13 p, wire14 p, wire15 p, wire16 p, wire9 p, wire10 p] =
    ![wire11 p, wire12 p, wire13 p, wire14 p, wire15 p, wire16 p, wire17 p, wire18 p] from cx_6_7 _ _ _ _ _ _ _ _]
  rw [Network.apply_cons, show (cx 0 2).apply ![wire11 p, wire12 p, wire13 p, wire14 p, wire15 p, wire16 p, wire17 p, wire18 p] =
    ![wire19 p, wire12 p, wire20 p, wire14 p, wire15 p, wire16 p, wire17 p, wire18 p] from cx_0_2 _ _ _ _ _ _ _ _]
  rw [Network.apply_cons, show (cx 1 3).apply ![wire19 p, wire12 p, wire20 p, wire14 p, wire15 p, wire16 p, wire17 p, wire18 p] =
    ![wire19 p, wire21 p, wire20 p, wire22 p, wire15 p, wire16 p, wire17 p, wire18 p] from cx_1_3 _ _ _ _ _ _ _ _]
  rw [Network.apply_cons, show (cx 4 6).apply ![wire19 p, wire21 p, wire20 p, wire22 p, wire15 p, wire16 p, wire17 p, wire18 p] =
    ![wire19 p, wire21 p, wire20 p, wire22 p, wire23 p, wire16 p, wire24 p, wire18 p] from cx_4_6 _ _ _ _ _ _ _ _]
  rw [Network.apply_cons, show (cx 5 7).apply ![wire19 p, wire21 p, wire20 p, wire22 p, wire23 p, wire16 p, wire24 p, wire18 p] =
    ![wire19 p, wire21 p, wire20 p, wire22 p, wire23 p, wire25 p, wire24 p, wire26 p] from cx_5_7 _ _ _ _ _ _ _ _]
  rw [Network.apply_cons, show (cx 1 2).apply ![wire19 p, wire21 p, wire20 p, wire22 p, wire23 p, wire25 p, wire24 p, wire26 p] =
    ![wire19 p, wire27 p, wire28 p, wire22 p, wire23 p, wire25 p, wire24 p, wire26 p] from cx_1_2 _ _ _ _ _ _ _ _]
  rw [Network.apply_cons, show (cx 5 6).apply ![wire19 p, wire27 p, wire28 p, wire22 p, wire23 p, wire25 p, wire24 p, wire26 p] =
    ![wire19 p, wire27 p, wire28 p, wire22 p, wire23 p, wire29 p, wire30 p, wire26 p] from cx_5_6 _ _ _ _ _ _ _ _]
  rw [Network.apply_cons, show (cx 0 4).apply ![wire19 p, wire27 p, wire28 p, wire22 p, wire23 p, wire29 p, wire30 p, wire26 p] =
    ![wire31 p, wire27 p, wire28 p, wire22 p, wire32 p, wire29 p, wire30 p, wire26 p] from cx_0_4 _ _ _ _ _ _ _ _]
  rw [Network.apply_cons, show (cx 1 5).apply ![wire31 p, wire27 p, wire28 p, wire22 p, wire32 p, wire29 p, wire30 p, wire26 p] =
    ![wire31 p, wire33 p, wire28 p, wire22 p, wire32 p, wire34 p, wire30 p, wire26 p] from cx_1_5 _ _ _ _ _ _ _ _]
  rw [Network.apply_cons, show (cx 2 6).apply ![wire31 p, wire33 p, wire28 p, wire22 p, wire32 p, wire34 p, wire30 p, wire26 p] =
    ![wire31 p, wire33 p, wire35 p, wire22 p, wire32 p, wire34 p, wire36 p, wire26 p] from cx_2_6 _ _ _ _ _ _ _ _]
  rw [Network.apply_cons, show (cx 3 7).apply ![wire31 p, wire33 p, wire35 p, wire22 p, wire32 p, wire34 p, wire36 p, wire26 p] =
    ![wire31 p, wire33 p, wire35 p, wire37 p, wire32 p, wire34 p, wire36 p, wire38 p] from cx_3_7 _ _ _ _ _ _ _ _]
  rw [Network.apply_cons, show (cx 2 4).apply ![wire31 p, wire33 p, wire35 p, wire37 p, wire32 p, wire34 p, wire36 p, wire38 p] =
    ![wire31 p, wire33 p, wire39 p, wire37 p, wire40 p, wire34 p, wire36 p, wire38 p] from cx_2_4 _ _ _ _ _ _ _ _]
  rw [Network.apply_cons, show (cx 3 5).apply ![wire31 p, wire33 p, wire39 p, wire37 p, wire40 p, wire34 p, wire36 p, wire38 p] =
    ![wire31 p, wire33 p, wire39 p, wire41 p, wire40 p, wire42 p, wire36 p, wire38 p] from cx_3_5 _ _ _ _ _ _ _ _]
  rw [Network.apply_cons, show (cx 1 2).apply ![wire31 p, wire33 p, wire39 p, wire41 p, wire40 p, wire42 p, wire36 p, wire38 p] =
    ![wire31 p, wire43 p, wire44 p, wire41 p, wire40 p, wire42 p, wire36 p, wire38 p] from cx_1_2 _ _ _ _ _ _ _ _]
  rw [Network.apply_cons, show (cx 3 4).apply ![wire31 p, wire43 p, wire44 p, wire41 p, wire40 p, wire42 p, wire36 p, wire38 p] =
    ![wire31 p, wire43 p, wire44 p, wire45 p, wire46 p, wire42 p, wire36 p, wire38 p] from cx_3_4 _ _ _ _ _ _ _ _]
  rw [Network.apply_cons, show (cx 5 6).apply ![wire31 p, wire43 p, wire44 p, wire45 p, wire46 p, wire42 p, wire36 p, wire38 p] =
    ![wire31 p, wire43 p, wire44 p, wire45 p, wire46 p, wire47 p, wire48 p, wire38 p] from cx_5_6 _ _ _ _ _ _ _ _]
  rw [Network.apply_nil]

section Sorted

variable (p : Fin 8 → EReal) (σ : Equiv.Perm (Fin 8)) (hσ : StrictAnti (p ∘ σ))
include hσ

/-! ## The written-out exchanges leave the row sorted -/

theorem wire31_eq : wire31 p = (p ∘ σ) 7 := by
  have h := congrFun ((net_wires p).symm.trans (net_eq p σ hσ)) 0
  exact h

theorem wire43_eq : wire43 p = (p ∘ σ) 6 := by
  have h := congrFun ((net_wires p).symm.trans (net_eq p σ hσ)) 1
  exact h

theorem wire44_eq : wire44 p = (p ∘ σ) 5 := by
  have h := congrFun ((net_wires p).symm.trans (net_eq p σ hσ)) 2
  exact h

theorem wire45_eq : wire45 p = (p ∘ σ) 4 := by
  have h := congrFun ((net_wires p).symm.trans (net_eq p σ hσ)) 3
  exact h

theorem wire46_eq : wire46 p = (p ∘ σ) 3 := by
  have h := congrFun ((net_wires p).symm.trans (net_eq p σ hσ)) 4
  exact h

theorem wire47_eq : wire47 p = (p ∘ σ) 2 := by
  have h := congrFun ((net_wires p).symm.trans (net_eq p σ hσ)) 5
  exact h

theorem wire48_eq : wire48 p = (p ∘ σ) 1 := by
  have h := congrFun ((net_wires p).symm.trans (net_eq p σ hσ)) 6
  exact h

theorem wire38_eq : wire38 p = (p ∘ σ) 0 := by
  have h := congrFun ((net_wires p).symm.trans (net_eq p σ hσ)) 7
  exact h

end Sorted

/-- One plus the seven flags of the running sums is the count of the kept entries. -/
theorem count_flags (s : Fin 8 → EReal) :
    1 + flag (s 0 < thr) + flag (s 0 + s 1 < thr) + flag (s 0 + s 1 + s 2 < thr) + flag (s 0 + s 1 + s 2 + s 3 < thr) +
        flag (s 0 + s 1 + s 2 + s 3 + s 4 < thr) + flag (s 0 + s 1 + s 2 + s 3 + s 4 + s 5 < thr) +
        flag (s 0 + s 1 + s 2 + s 3 + s 4 + s 5 + s 6 < thr) = ((cnt s : ℕ) : EReal) := by
  have e : ∀ r : Fin 7, ((if cum s r.castSucc < thr then 1 else 0 : ℕ) : EReal) = flag (cum s r.castSucc < thr) := fun r => by
    unfold flag; split <;> simp
  rw [cnt, Nat.cast_add, Nat.cast_one, Nat.cast_sum, Finset.sum_congr rfl fun r _ => e r]
  simp only [Fin.sum_univ_seven, cum, Fin.sum_univ_eight]
  simp [← add_assoc, Fin.le_def]

end Cert.Moe
-- ==== Proof.GateKernel.lean ====
/- The gate kernel's values for one token: the sorted probabilities, how many are kept, the last kept one, the kept
   experts and their weights. -/
module

public import proofs.«01_k».proof.Proof.Gen.GateIdeal.Skeleton
public import proofs.«01_k».proof.Proof.GateNet

@[expose] public section

set_option maxRecDepth 16384

noncomputable section

namespace Cert.GateIdeal.Gate

open Cert.GateIdeal Cert.GateIdeal.Gen Idealize.ShloMosaic Cert.Moe

/-- The probabilities the kernel computes for token `t`. -/
def probs (x : Vec Ideal S4096x1024 .f32) (w : Vec Ideal S1024x8 .f32) (t : Fin 4096) (j : Fin 8) : EReal :=
  (k0_pay2 x w : FVec Ideal S4096x8 .f32) (ix2 t j)

/-- The probabilities are the softmax of the token's scores. -/
theorem probs_eq (x : Vec Ideal S4096x1024 .f32) (w : Vec Ideal S1024x8 .f32) (t : Fin 4096) :
    probs x w t = soft (Ideal.ofBits .f32 4286578688#32)
      (fun j => ∑ k : Fin 1024, (x : FVec Ideal S4096x1024 .f32) (ix2 t k) * (w : FVec Ideal S1024x8 .f32) (ix2 k j)) := by
  funext j
  unfold probs
  pointwise [k0_pay2]
  rfl

section Row

variable (x : Vec Ideal S4096x1024 .f32) (w : Vec Ideal S1024x8 .f32) (t : Fin 4096)

/-! ## The exchanges -/

theorem pay3_apply : k0_pay3 x w (ix2 t 0) = wire3 (probs x w t) := by
  pointwise [k0_pay3]
  rfl

theorem pay4_apply : k0_pay4 x w (ix2 t 0) = wire4 (probs x w t) := by
  pointwise [k0_pay4]
  rfl

theorem pay5_apply : k0_pay5 x w (ix2 t 0) = wire5 (probs x w t) := by
  pointwise [k0_pay5]
  rfl

theorem pay6_apply : k0_pay6 x w (ix2 t 0) = wire6 (probs x w t) := by
  pointwise [k0_pay6]
  rfl

theorem pay7_apply : k0_pay7 x w (ix2 t 0) = wire7 (probs x w t) := by
  pointwise [k0_pay7]
  rfl

theorem pay8_apply : k0_pay8 x w (ix2 t 0) = wire8 (probs x w t) := by
  pointwise [k0_pay8]
  rfl

theorem pay9_apply : k0_pay9 x w (ix2 t 0) = wire9 (probs x w t) := by
  pointwise [k0_pay9]
  rfl

theorem pay10_apply : k0_pay10 x w (ix2 t 0) = wire10 (probs x w t) := by
  pointwise [k0_pay10]
  rfl

theorem pay11_apply : k0_pay11 x w (ix2 t 0) = wire11 (probs x w t) :=
  (show k0_pay11 x w (ix2 t 0) = min (k0_pay3 x w (ix2 t 0) : EReal) (k0_pay4 x w (ix2 t 0)) from rfl).trans
    (congrArg₂ min (pay3_apply x w t) (pay4_apply x w t))

theorem pay12_apply : k0_pay12 x w (ix2 t 0) = wire12 (probs x w t) :=
  (show k0_pay12 x w (ix2 t 0) = max (k0_pay3 x w (ix2 t 0) : EReal) (k0_pay4 x w (ix2 t 0)) from rfl).trans
    (congrArg₂ max (pay3_apply x w t) (pay4_apply x w t))

theorem pay13_apply : k0_pay13 x w (ix2 t 0) = wire13 (probs x w t) :=
  (show k0_pay13 x w (ix2 t 0) = min (k0_pay5 x w (ix2 t 0) : EReal) (k0_pay6 x w (ix2 t 0)) from rfl).trans
    (congrArg₂ min (pay5_apply x w t) (pay6_apply x w t))

theorem pay14_apply : k0_pay14 x w (ix2 t 0) = wire14 (probs x w t) :=
  (show k0_pay14 x w (ix2 t 0) = max (k0_pay5 x w (ix2 t 0) : EReal) (k0_pay6 x w (ix2 t 0)) from rfl).trans
    (congrArg₂ max (pay5_apply x w t) (pay6_apply x w t))

theorem pay15_apply : k0_pay15 x w (ix2 t 0) = wire15 (probs x w t) :=
  (show k0_pay15 x w (ix2 t 0) = min (k0_pay7 x w (ix2 t 0) : EReal) (k0_pay8 x w (ix2 t 0)) from rfl).trans
    (congrArg₂ min (pay7_apply x w t) (pay8_apply x w t))

theorem pay16_apply : k0_pay16 x w (ix2 t 0) = wire16 (probs x w t) :=
  (show k0_pay16 x w (ix2 t 0) = max (k0_pay7 x w (ix2 t 0) : EReal) (k0_pay8 x w (ix2 t 0)) from rfl).trans
    (congrArg₂ max (pay7_apply x w t) (pay8_apply x w t))

theorem pay17_apply : k0_pay17 x w (ix2 t 0) = wire17 (probs x w t) :=
  (show k0_pay17 x w (ix2 t 0) = min (k0_pay9 x w (ix2 t 0) : EReal) (k0_pay10 x w (ix2 t 0)) from rfl).trans
    (congrArg₂ min (pay9_apply x w t) (pay10_apply x w t))

theorem pay18_apply : k0_pay18 x w (ix2 t 0) = wire18 (probs x w t) :=
  (show k0_pay18 x w (ix2 t 0) = max (k0_pay9 x w (ix2 t 0) : EReal) (k0_pay10 x w (ix2 t 0)) from rfl).trans
    (congrArg₂ max (pay9_apply x w t) (pay10_apply x w t))

theorem pay19_apply : k0_pay19 x w (ix2 t 0) = wire19 (probs x w t) :=
  (show k0_pay19 x w (ix2 t 0) = min (k0_pay11 x w (ix2 t 0) : EReal) (k0_pay13 x w (ix2 t 0)) from rfl).trans
    (congrArg₂ min (pay11_apply x w t) (pay13_apply x w t))

theorem pay20_apply : k0_pay20 x w (ix2 t 0) = wire20 (probs x w t) :=
  (show k0_pay20 x w (ix2 t 0) = max (k0_pay11 x w (ix2 t 0) : EReal) (k0_pay13 x w (ix2 t 0)) from rfl).trans
    (congrArg₂ max (pay11_apply x w t) (pay13_apply x w t))

theorem pay21_apply : k0_pay21 x w (ix2 t 0) = wire21 (probs x w t) :=
  (show k0_pay21 x w (ix2 t 0) = min (k0_pay12 x w (ix2 t 0) : EReal) (k0_pay14 x w (ix2 t 0)) from rfl).trans
    (congrArg₂ min (pay12_apply x w t) (pay14_apply x w t))

theorem pay22_apply : k0_pay22 x w (ix2 t 0) = wire22 (probs x w t) :=
  (show k0_pay22 x w (ix2 t 0) = max (k0_pay12 x w (ix2 t 0) : EReal) (k0_pay14 x w (ix2 t 0)) from rfl).trans
    (congrArg₂ max (pay12_apply x w t) (pay14_apply x w t))

theorem pay23_apply : k0_pay23 x w (ix2 t 0) = wire23 (probs x w t) :=
  (show k0_pay23 x w (ix2 t 0) = min (k0_pay15 x w (ix2 t 0) : EReal) (k0_pay17 x w (ix2 t 0)) from rfl).trans
    (congrArg₂ min (pay15_apply x w t) (pay17_apply x w t))

theorem pay24_apply : k0_pay24 x w (ix2 t 0) = wire24 (probs x w t) :=
  (show k0_pay24 x w (ix2 t 0) = max (k0_pay15 x w (ix2 t 0) : EReal) (k0_pay17 x w (ix2 t 0)) from rfl).trans
    (congrArg₂ max (pay15_apply x w t) (pay17_apply x w t))

theorem pay25_apply : k0_pay25 x w (ix2 t 0) = wire25 (probs x w t) :=
  (show k0_pay25 x w (ix2 t 0) = min (k0_pay16 x w (ix2 t 0) : EReal) (k0_pay18 x w (ix2 t 0)) from rfl).trans
    (congrArg₂ min (pay16_apply x w t) (pay18_apply x w t))

theorem pay26_apply : k0_pay26 x w (ix2 t 0) = wire26 (probs x w t) :=
  (show k0_pay26 x w (ix2 t 0) = max (k0_pay16 x w (ix2 t 0) : EReal) (k0_pay18 x w (ix2 t 0)) from rfl).trans
    (congrArg₂ max (pay16_apply x w t) (pay18_apply x w t))

theorem pay27_apply : k0_pay27 x w (ix2 t 0) = wire27 (probs x w t) :=
  (show k0_pay27 x w (ix2 t 0) = min (k0_pay21 x w (ix2 t 0) : EReal) (k0_pay20 x w (ix2 t 0)) from rfl).trans
    (congrArg₂ min (pay21_apply x w t) (pay20_apply x w t))

theorem pay28_apply : k0_pay28 x w (ix2 t 0) = wire28 (probs x w t) :=
  (show k0_pay28 x w (ix2 t 0) = max (k0_pay21 x w (ix2 t 0) : EReal) (k0_pay20 x w (ix2 t 0)) from rfl).trans
    (congrArg₂ max (pay21_apply x w t) (pay20_apply x w t))

theorem pay29_apply : k0_pay29 x w (ix2 t 0) = wire29 (probs x w t) :=
  (show k0_pay29 x w (ix2 t 0) = min (k0_pay25 x w (ix2 t 0) : EReal) (k0_pay24 x w (ix2 t 0)) from rfl).trans
    (congrArg₂ min (pay25_apply x w t) (pay24_apply x w t))

theorem pay30_apply : k0_pay30 x w (ix2 t 0) = wire30 (probs x w t) :=
  (show k0_pay30 x w (ix2 t 0) = max (k0_pay25 x w (ix2 t 0) : EReal) (k0_pay24 x w (ix2 t 0)) from rfl).trans
    (congrArg₂ max (pay25_apply x w t) (pay24_apply x w t))

theorem pay31_apply : k0_pay31 x w (ix2 t 0) = wire31 (probs x w t) :=
  (show k0_pay31 x w (ix2 t 0) = min (k0_pay19 x w (ix2 t 0) : EReal) (k0_pay23 x w (ix2 t 0)) from rfl).trans
    (congrArg₂ min (pay19_apply x w t) (pay23_apply x w t))

theorem pay32_apply : k0_pay32 x w (ix2 t 0) = wire32 (probs x w t) :=
  (show k0_pay32 x w (ix2 t 0) = max (k0_pay19 x w (ix2 t 0) : EReal) (k0_pay23 x w (ix2 t 0)) from rfl).trans
    (congrArg₂ max (pay19_apply x w t) (pay23_apply x w t))

theorem pay33_apply : k0_pay33 x w (ix2 t 0) = wire33 (probs x w t) :=
  (show k0_pay33 x w (ix2 t 0) = min (k0_pay27 x w (ix2 t 0) : EReal) (k0_pay29 x w (ix2 t 0)) from rfl).trans
    (congrArg₂ min (pay27_apply x w t) (pay29_apply x w t))

theorem pay34_apply : k0_pay34 x w (ix2 t 0) = wire34 (probs x w t) :=
  (show k0_pay34 x w (ix2 t 0) = max (k0_pay27 x w (ix2 t 0) : EReal) (k0_pay29 x w (ix2 t 0)) from rfl).trans
    (congrArg₂ max (pay27_apply x w t) (pay29_apply x w t))

theorem pay35_apply : k0_pay35 x w (ix2 t 0) = wire35 (probs x w t) :=
  (show k0_pay35 x w (ix2 t 0) = min (k0_pay28 x w (ix2 t 0) : EReal) (k0_pay30 x w (ix2 t 0)) from rfl).trans
    (congrArg₂ min (pay28_apply x w t) (pay30_apply x w t))

theorem pay36_apply : k0_pay36 x w (ix2 t 0) = wire36 (probs x w t) :=
  (show k0_pay36 x w (ix2 t 0) = max (k0_pay28 x w (ix2 t 0) : EReal) (k0_pay30 x w (ix2 t 0)) from rfl).trans
    (congrArg₂ max (pay28_apply x w t) (pay30_apply x w t))

theorem pay37_apply : k0_pay37 x w (ix2 t 0) = wire37 (probs x w t) :=
  (show k0_pay37 x w (ix2 t 0) = min (k0_pay22 x w (ix2 t 0) : EReal) (k0_pay26 x w (ix2 t 0)) from rfl).trans
    (congrArg₂ min (pay22_apply x w t) (pay26_apply x w t))

theorem pay38_apply : k0_pay38 x w (ix2 t 0) = wire38 (probs x w t) :=
  (show k0_pay38 x w (ix2 t 0) = max (k0_pay22 x w (ix2 t 0) : EReal) (k0_pay26 x w (ix2 t 0)) from rfl).trans
    (congrArg₂ max (pay22_apply x w t) (pay26_apply x w t))

theorem pay39_apply : k0_pay39 x w (ix2 t 0) = wire39 (probs x w t) :=
  (show k0_pay39 x w (ix2 t 0) = min (k0_pay35 x w (ix2 t 0) : EReal) (k0_pay32 x w (ix2 t 0)) from rfl).trans
    (congrArg₂ min (pay35_apply x w t) (pay32_apply x w t))

theorem pay40_apply : k0_pay40 x w (ix2 t 0) = wire40 (probs x w t) :=
  (show k0_pay40 x w (ix2 t 0) = max (k0_pay35 x w (ix2 t 0) : EReal) (k0_pay32 x w (ix2 t 0)) from rfl).trans
    (congrArg₂ max (pay35_apply x w t) (pay32_apply x w t))

theorem pay41_apply : k0_pay41 x w (ix2 t 0) = wire41 (probs x w t) :=
  (show k0_pay41 x w (ix2 t 0) = min (k0_pay37 x w (ix2 t 0) : EReal) (k0_pay34 x w (ix2 t 0)) from rfl).trans
    (congrArg₂ min (pay37_apply x w t) (pay34_apply x w t))

theorem pay42_apply : k0_pay42 x w (ix2 t 0) = wire42 (probs x w t) :=
  (show k0_pay42 x w (ix2 t 0) = max (k0_pay37 x w (ix2 t 0) : EReal) (k0_pay34 x w (ix2 t 0)) from rfl).trans
    (congrArg₂ max (pay37_apply x w t) (pay34_apply x w t))

theorem pay43_apply : k0_pay43 (k0_pay33 x w) (k0_pay39 x w) (ix2 t 0) = wire43 (probs x w t) :=
  (show k0_pay43 (k0_pay33 x w) (k0_pay39 x w) (ix2 t 0) =
    min (k0_pay33 x w (ix2 t 0) : EReal) (k0_pay39 x w (ix2 t 0)) from rfl).trans
    (congrArg₂ min (pay33_apply x w t) (pay39_apply x w t))

theorem pay44_apply : k0_pay44 (k0_pay33 x w) (k0_pay39 x w) (ix2 t 0) = wire44 (probs x w t) :=
  (show k0_pay44 (k0_pay33 x w) (k0_pay39 x w) (ix2 t 0) =
    max (k0_pay33 x w (ix2 t 0) : EReal) (k0_pay39 x w (ix2 t 0)) from rfl).trans
    (congrArg₂ max (pay33_apply x w t) (pay39_apply x w t))

theorem pay45_apply : k0_pay45 (k0_pay40 x w) (k0_pay41 x w) (ix2 t 0) = wire45 (probs x w t) :=
  (show k0_pay45 (k0_pay40 x w) (k0_pay41 x w) (ix2 t 0) =
    min (k0_pay41 x w (ix2 t 0) : EReal) (k0_pay40 x w (ix2 t 0)) from rfl).trans
    (congrArg₂ min (pay41_apply x w t) (pay40_apply x w t))

theorem pay46_apply : k0_pay46 (k0_pay40 x w) (k0_pay41 x w) (ix2 t 0) = wire46 (probs x w t) :=
  (show k0_pay46 (k0_pay40 x w) (k0_pay41 x w) (ix2 t 0) =
    max (k0_pay41 x w (ix2 t 0) : EReal) (k0_pay40 x w (ix2 t 0)) from rfl).trans
    (congrArg₂ max (pay41_apply x w t) (pay40_apply x w t))

theorem pay47_apply : k0_pay47 (k0_pay36 x w) (k0_pay42 x w) (ix2 t 0) = wire47 (probs x w t) :=
  (show k0_pay47 (k0_pay36 x w) (k0_pay42 x w) (ix2 t 0) =
    min (k0_pay42 x w (ix2 t 0) : EReal) (k0_pay36 x w (ix2 t 0)) from rfl).trans
    (congrArg₂ min (pay42_apply x w t) (pay36_apply x w t))

theorem pay48_apply : k0_pay48 (k0_pay36 x w) (k0_pay42 x w) (ix2 t 0) = wire48 (probs x w t) :=
  (show k0_pay48 (k0_pay36 x w) (k0_pay42 x w) (ix2 t 0) =
    max (k0_pay42 x w (ix2 t 0) : EReal) (k0_pay36 x w (ix2 t 0)) from rfl).trans
    (congrArg₂ max (pay42_apply x w t) (pay36_apply x w t))

end Row

/-! ## The count -/

/-- One plus the flags of the running sums, for any eight entries. -/
theorem pay49_apply (v43 v46 v48 v49 v50 v51 v52 : FVec Ideal S4096x1 .f32) (t : Fin 4096) (s : Fin 8 → EReal)
    (h0 : v48 (ix2 t 0) = s 0) (h1 : k0_pay48 v46 v52 (ix2 t 0) = s 1) (h2 : k0_pay47 v46 v52 (ix2 t 0) = s 2)
    (h3 : k0_pay46 v50 v51 (ix2 t 0) = s 3) (h4 : k0_pay45 v50 v51 (ix2 t 0) = s 4)
    (h5 : k0_pay44 v43 v49 (ix2 t 0) = s 5) (h6 : k0_pay43 v43 v49 (ix2 t 0) = s 6) :
    k0_pay49 v43 v46 v48 v49 v50 v51 v52 (ix2 t 0) = ((cnt s : ℕ) : EReal) := by
  rw [← count_flags]
  pointwise [k0_pay49]
  simp only [h0, h1, h2, h3, h4, h5, h6, sitofp_flag]
  rfl

/-- The greatest count over all tokens is at least every token's count, so capping by it changes nothing. -/
theorem pay51_apply (v43 v46 v48 v49 v50 v51 v52 : FVec Ideal S4096x1 .f32) (t : Fin 4096) :
    k0_pay51 (k0_pay49 v43 v46 v48 v49 v50 v51 v52) (k0_pay50 v43 v46 v48 v49 v50 v51 v52) (ix2 t 0) =
      k0_pay49 v43 v46 v48 v49 v50 v51 v52 (ix2 t 0) := by
  have h : (k0_pay49 v43 v46 v48 v49 v50 v51 v52 (ix2 t 0) : EReal) ≤
      k0_pay50 v43 v46 v48 v49 v50 v51 v52 (ix3 0 0 0) := by
    pointwise [k0_pay50]
    refine (Finset.le_fold_max _).2 (Or.inr ?_)
    exact ⟨(t, 0), by simp only [Finset.mem_univ], by simp only [le_refl]⟩
  refine Eq.trans ?_ (min_eq_left h)
  pointwise [k0_pay51]

/-! The constants 2 to 8 -/

theorem two_eq : Ideal.ofBits .f32 1073741824#32 = ((2 : ℕ) : EReal) := by
  rw [← EReal.coe_coe_eq_natCast]
  simp [Ideal.ofBits, Ideal.ieee, -EReal.coe_mul]; norm_num

theorem three_eq : Ideal.ofBits .f32 1077936128#32 = ((3 : ℕ) : EReal) := by
  rw [← EReal.coe_coe_eq_natCast]
  simp [Ideal.ofBits, Ideal.ieee, -EReal.coe_mul]; norm_num

theorem four_eq : Ideal.ofBits .f32 1082130432#32 = ((4 : ℕ) : EReal) := by
  rw [← EReal.coe_coe_eq_natCast]
  simp [Ideal.ofBits, Ideal.ieee, -EReal.coe_mul]; norm_num

theorem five_eq : Ideal.ofBits .f32 1084227584#32 = ((5 : ℕ) : EReal) := by
  rw [← EReal.coe_coe_eq_natCast]
  simp [Ideal.ofBits, Ideal.ieee, -EReal.coe_mul]; norm_num

theorem six_eq : Ideal.ofBits .f32 1086324736#32 = ((6 : ℕ) : EReal) := by
  rw [← EReal.coe_coe_eq_natCast]
  simp [Ideal.ofBits, Ideal.ieee, -EReal.coe_mul]; norm_num

theorem seven_eq : Ideal.ofBits .f32 1088421888#32 = ((7 : ℕ) : EReal) := by
  rw [← EReal.coe_coe_eq_natCast]
  simp [Ideal.ofBits, Ideal.ieee, -EReal.coe_mul]; norm_num

theorem eight_eq : Ideal.ofBits .f32 1090519040#32 = ((8 : ℕ) : EReal) := by
  rw [← EReal.coe_coe_eq_natCast]
  simp [Ideal.ofBits, Ideal.ieee, -EReal.coe_mul]; norm_num

/-- Comparing a natural number's cast is comparing the number. -/
theorem flag_cast (c d : ℕ) : flag ((c : EReal) = ((d : ℕ) : EReal)) = flag (c = d) := flag_congr Nat.cast_inj

/-- The same for one. -/
theorem flag_cast_one (c : ℕ) : flag ((c : EReal) = 1) = flag (c = 1) := flag_congr Nat.cast_eq_one

/-- The kept entry picked by the count. -/
theorem pay52_apply (v48 v53 v54 v55 v56 v57 v58 v41 v100 : FVec Ideal S4096x1 .f32) (v103 : FVec Ideal S1x1x1 .f32)
    (t : Fin 4096) (s : Fin 8 → EReal) (c : ℕ) (k : Fin 8) (h1 : 1 ≤ c) (h8 : c ≤ 8) (hk : k.val + 1 = c)
    (hc : k0_pay51 v100 v103 (ix2 t 0) = (c : EReal))
    (e0 : v48 (ix2 t 0) = s 0) (e1 : v58 (ix2 t 0) = s 1) (e2 : v57 (ix2 t 0) = s 2) (e3 : v56 (ix2 t 0) = s 3)
    (e4 : v55 (ix2 t 0) = s 4) (e5 : v54 (ix2 t 0) = s 5) (e6 : v53 (ix2 t 0) = s 6) (e7 : v41 (ix2 t 0) = s 7) :
    (k0_pay52 v48 v53 v54 v55 v56 v57 v58 v100 v103 (ix2 t 0) : EReal) + k0_pay53 v41 v100 v103 (ix2 t 0) = s k := by
  rw [← pick s c h1 h8 k hk, Fin.sum_univ_eight]
  pointwise [k0_pay52, k0_pay53]
  simp only [e0, e1, e2, e3, e4, e5, e6, e7, hc]
  simp only [sitofp_flag, two_eq, three_eq, four_eq, five_eq, six_eq, seven_eq, eight_eq]
  simp only [flag_cast c, flag_cast_one c]

end Cert.GateIdeal.Gate
-- ==== Proof.GateScan.lean ====
/- Running counts over the tokens of a batch, and what follows from them: the place each kept token takes at its expert,
   which tokens find one of the 512 places, and the balance loss. All over plain functions of coordinates. -/
module

public import proofs.«01_k».proof.Proof.GateRow

@[expose] public section

noncomputable section

namespace Cert.Moe

open Idealize.ShloMosaic

/-! ## Sums over a sliding window -/

/-- The sum of the `K` entries ending at entry `n`. -/
def win (K : ℕ) (f : Fin 2048 → EReal) (n : Fin 2048) : EReal :=
  ∑ m : Fin 2048, if m.val ≤ n.val ∧ n.val < m.val + K then f m else 0

/-- The sum of all entries up to entry `n`. -/
def upto (f : Fin 2048 → EReal) (n : Fin 2048) : EReal := ∑ m : Fin 2048, if m ≤ n then f m else 0

/-- A window of one entry. -/
theorem win_one (f : Fin 2048 → EReal) : win 1 f = f := by
  funext n
  unfold win
  rw [Finset.sum_eq_single n]
  · rw [if_pos (by omega)]
  · intro m _ hm
    rw [if_neg (fun h => hm (Fin.ext (by omega)))]
  · intro h; exact absurd (Finset.mem_univ _) h

/-- Adding the entry `K` rows earlier doubles the window. -/
theorem win_step (K : ℕ) (f : Fin 2048 → EReal) (n : Fin 2048) (hK : 0 < K) :
    win K f n + (if h : n.val < K then 0 else win K f ⟨n.val - K, by omega⟩) = win (K + K) f n := by
  unfold win
  split
  · rename_i h
    rw [add_zero]
    refine Finset.sum_congr rfl fun m _ => ?_
    by_cases hm : m.val ≤ n.val
    · rw [if_pos (by omega), if_pos (by omega)]
    · rw [if_neg (by omega), if_neg (by omega)]
  · rename_i h
    rw [← Finset.sum_add_distrib]
    refine Finset.sum_congr rfl fun m _ => ?_
    by_cases h1 : m.val ≤ n.val ∧ n.val < m.val + K
    · rw [if_pos h1, if_neg (by show ¬(m.val ≤ n.val - K ∧ n.val - K < m.val + K); omega), add_zero, if_pos (by omega)]
    · rw [if_neg h1, zero_add]
      by_cases h2 : m.val ≤ n.val - K ∧ n.val - K < m.val + K
      · rw [if_pos h2, if_pos (by omega)]
      · rw [if_neg h2, if_neg (by omega)]

/-- A window of 2048 entries reaches back to the first. -/
theorem win_all (f : Fin 2048 → EReal) : win 2048 f = upto f := by
  funext n
  unfold win upto
  refine Finset.sum_congr rfl fun m _ => ?_
  by_cases h : m ≤ n
  · rw [if_pos h, if_pos ⟨h, by omega⟩]
  · rw [if_neg h, if_neg (fun h' => h h'.1)]

/-! ## The routing of the tokens -/

section Route

variable (p : Fin 2 → Fin 2048 → Fin 8 → EReal) (σ : Fin 2 → Fin 2048 → Equiv.Perm (Fin 8))

/-- Whether token `n` keeps expert `j`. -/
def kept (i : Fin 2) (n : Fin 2048) (j : Fin 8) : EReal := keep (p i n) (σ i n) j

/-- How many earlier tokens of the batch keep expert `j`, for a token that keeps it; else 0. -/
def ahead (i : Fin 2) (n : Fin 2048) (j : Fin 8) : EReal :=
  (upto (fun m => kept p σ i m j) n - kept p σ i n j) * kept p σ i n j

/-- Whether token `n` keeps expert `j` and fewer than 512 tokens are ahead of it there. -/
def fits (i : Fin 2) (n : Fin 2048) (j : Fin 8) : EReal :=
  kept p σ i n j * flag (ahead p σ i n j < Ideal.ofBits .f32 1140850688#32)

/-- The token's position: the tokens ahead of it, summed over the experts where it fits. -/
def place (i : Fin 2) (n : Fin 2048) : EReal := ∑ j : Fin 8, ahead p σ i n j * fits p σ i n j

/-- Whether token `n` is sent to expert `j`. -/
def sent (i : Fin 2) (n : Fin 2048) (j : Fin 8) : EReal :=
  fits p σ i n j * flag (place p σ i n < Ideal.ofBits .f32 1140850688#32)

/-- The weight with which token `n` takes expert `j`'s output back. -/
def weight (i : Fin 2) (n : Fin 2048) (j : Fin 8) : EReal := norm (p i n) (σ i n) j * sent p σ i n j

/-- The balance loss. -/
def balance : EReal :=
  Ideal.div (∑ i : Fin 2, ∑ j : Fin 8,
      Ideal.div (∑ n : Fin 2048, fits p σ i n j) (Ideal.ofBits .f32 1157627904#32) *
        Ideal.div (∑ n : Fin 2048, p i n j) (Ideal.ofBits .f32 1157627904#32))
    (Ideal.ofBits .f32 1098907648#32) * Ideal.ofBits .f32 1115684864#32 * Ideal.ofBits .f32 1008981770#32

end Route

/-! ## Positions are small natural numbers -/

/-- A number is one of the naturals up to `N`. -/
def isNat (N : ℕ) (x : EReal) : Prop := ∃ k : ℕ, k ≤ N ∧ x = k

theorem isNat_flag (q : Prop) [Decidable q] : isNat 1 (flag q) := by
  unfold flag; split
  · exact ⟨1, le_refl _, by simp⟩
  · exact ⟨0, by omega, by simp⟩

theorem isNat_sum {N n : ℕ} (f : Fin n → EReal) (h : ∀ m, isNat N (f m)) : isNat (n * N) (∑ m, f m) := by
  choose k hk e using h
  refine ⟨∑ m, k m, ?_, ?_⟩
  · calc ∑ m, k m ≤ ∑ _m : Fin n, N := Finset.sum_le_sum fun m _ => hk m
      _ = n * N := by simp
  · rw [Nat.cast_sum]; exact Finset.sum_congr rfl fun m _ => e m

theorem isNat_mul {M N : ℕ} {x y : EReal} (hx : isNat M x) (hy : isNat N y) : isNat (M * N) (x * y) := by
  obtain ⟨a, ha, rfl⟩ := hx
  obtain ⟨b, hb, rfl⟩ := hy
  exact ⟨a * b, Nat.mul_le_mul ha hb, by
    simp only [← EReal.coe_coe_eq_natCast, ← EReal.coe_mul, Nat.cast_mul]⟩

/-- The count of the tokens ahead is a natural number up to 2048. -/
theorem isNat_ahead (p : Fin 2 → Fin 2048 → Fin 8 → EReal) (σ : Fin 2 → Fin 2048 → Equiv.Perm (Fin 8)) (i : Fin 2)
    (n : Fin 2048) (j : Fin 8) : isNat 2048 (ahead p σ i n j) := by
  have h1 : ∀ m, isNat 1 (if m ≤ n ∧ m ≠ n then kept p σ i m j else 0) := fun m => by
    split
    · exact isNat_flag _
    · exact ⟨0, by omega, by simp⟩
  obtain ⟨a, ha, ea⟩ := isNat_sum _ h1
  obtain ⟨b, hb, eb⟩ : isNat 1 (kept p σ i n j) := isNat_flag _
  have e : upto (fun m => kept p σ i m j) n = (a : EReal) + (b : EReal) := by
    rw [← ea, ← eb, upto, ← Finset.add_sum_erase _ _ (Finset.mem_univ n),
      ← Finset.add_sum_erase (s := Finset.univ) (f := fun m => if m ≤ n ∧ m ≠ n then kept p σ i m j else 0) (a := n)
        (Finset.mem_univ n)]
    rw [if_pos (le_refl _), if_neg (by simp), zero_add, add_comm]
    refine congrArg (· + _) (Finset.sum_congr rfl fun m hm => ?_)
    have hne := Finset.ne_of_mem_erase hm
    simp [hne]
  refine ⟨a * b, by nlinarith, ?_⟩
  rw [ahead, e, eb]
  simp only [← EReal.coe_coe_eq_natCast, ← EReal.coe_add, ← EReal.coe_sub, ← EReal.coe_mul]
  congr 1
  push_cast
  ring

/-- The position is a natural number below 2 to the 16th. -/
theorem isNat_place (p : Fin 2 → Fin 2048 → Fin 8 → EReal) (σ : Fin 2 → Fin 2048 → Equiv.Perm (Fin 8)) (i : Fin 2)
    (n : Fin 2048) : isNat 16384 (place p σ i n) := by
  have h := isNat_sum (fun j => ahead p σ i n j * fits p σ i n j) fun j =>
    isNat_mul (isNat_ahead p σ i n j) (isNat_mul (M := 1) (N := 1) (isNat_flag _) (isNat_flag _))
  exact h

/-- For a small natural number, reading it as a word and comparing with 512 is comparing the number with 512. -/
theorem lt_places {x : EReal} (h : isNat 16384 x) :
    (FloatOps.uitofp FTy.f32 (IntOp.cmpi CmpIPredicate.slt (Ideal.fptosi 32 x) 512#32) : Ideal .f32) =
      flag (x < Ideal.ofBits .f32 1140850688#32) := by
  obtain ⟨k, hk, rfl⟩ := h
  have e5 : Ideal.ofBits .f32 1140850688#32 = ((512 : ℝ) : EReal) := by
    simp [Ideal.ofBits, Ideal.ieee, -EReal.coe_mul]; norm_num
  have ei : Ideal.fptosi 32 (k : EReal) = BitVec.ofNat 32 k := by
    rw [← EReal.coe_coe_eq_natCast]
    show BitVec.ofInt 32 (max _ (min _ (if (0 : ℝ) ≤ (k : ℝ) then ⌊(k : ℝ)⌋ else ⌈(k : ℝ)⌉))) = _
    rw [if_pos (Nat.cast_nonneg k), Int.floor_natCast, min_eq_right (by norm_num; omega), max_eq_right (by norm_num),
      BitVec.ofInt_natCast]
  have ec : IntOp.cmpi CmpIPredicate.slt (BitVec.ofNat 32 k) 512#32 = BitVec.ofBool (decide (k < 512)) := by
    show BitVec.ofBool ((BitVec.ofNat 32 k).slt 512#32) = _
    congr 1
    have e1 : (BitVec.ofNat 32 k).toNat = k := by rw [BitVec.toNat_ofNat]; omega
    rw [BitVec.slt_eq_decide, BitVec.toInt_eq_toNat_of_lt (by omega), e1]
    exact decide_eq_decide.2 (by rw [show (512#32).toInt = 512 from by decide]; omega)
  rw [ei, ec, uitofp_flag]
  refine flag_congr ?_
  rw [e5, ← EReal.coe_coe_eq_natCast, EReal.coe_lt_coe_iff]
  exact_mod_cast Iff.rfl

end Cert.Moe
-- ==== Proof.GateSteps.lean ====
/- The gate kernel's running counts and its four results for one pass over all tokens. -/
module

public import proofs.«01_k».proof.Proof.Gen.GateIdeal.Frame
public import proofs.«01_k».proof.Proof.GateKernel
public import proofs.«01_k».proof.Proof.GateScan

@[expose] public section

set_option maxRecDepth 16384

noncomputable section

namespace Cert.GateIdeal.Gate

open Cert.GateIdeal Cert.GateIdeal.Gen Idealize.ShloMosaic Cert.Moe

/-! ## One step of the running count: add the entry `K` rows earlier -/

/-- Adding the entries 1 rows earlier. -/
def step1 (v : FVec Ideal S2048x8 .f32) : FVec Ideal S2048x8 .f32 :=
  addf v (concatenate S2048x8 0 [⟨S1x8, broadcast S1x8 (Scalar.ofBits .f32 0x00000000#32)⟩,
    ⟨S2047x8, extractStridedSlice S2047x8 ![0, 0] v slices_S2048x8_o0_0_S2047x8⟩] concatenates_S1x8_S2047x8_S2048x8_d0)

theorem step1_win (v : FVec Ideal S2048x8 .f32) (f : Fin 2048 → EReal) (j : Fin 8)
    (h : ∀ n : Fin 2048, v (ix2 n j) = win 1 f n) (n : Fin 2048) : step1 v (ix2 n j) = win 2 f n := by
  rw [← win_step 1 f n (by decide)]
  pointwise [step1]
  simp only [h]

/-- Adding the entries 2 rows earlier. -/
def step2 (v : FVec Ideal S2048x8 .f32) : FVec Ideal S2048x8 .f32 :=
  addf v (concatenate S2048x8 0 [⟨S2x8, broadcast S2x8 (Scalar.ofBits .f32 0x00000000#32)⟩,
    ⟨S2046x8, extractStridedSlice S2046x8 ![0, 0] v slices_S2048x8_o0_0_S2046x8⟩] concatenates_S2x8_S2046x8_S2048x8_d0)

theorem step2_win (v : FVec Ideal S2048x8 .f32) (f : Fin 2048 → EReal) (j : Fin 8)
    (h : ∀ n : Fin 2048, v (ix2 n j) = win 2 f n) (n : Fin 2048) : step2 v (ix2 n j) = win 4 f n := by
  rw [← win_step 2 f n (by decide)]
  pointwise [step2]
  simp only [h]

/-- Adding the entries 4 rows earlier. -/
def step4 (v : FVec Ideal S2048x8 .f32) : FVec Ideal S2048x8 .f32 :=
  addf v (concatenate S2048x8 0 [⟨S4x8, broadcast S4x8 (Scalar.ofBits .f32 0x00000000#32)⟩,
    ⟨S2044x8, extractStridedSlice S2044x8 ![0, 0] v slices_S2048x8_o0_0_S2044x8⟩] concatenates_S4x8_S2044x8_S2048x8_d0)

theorem step4_win (v : FVec Ideal S2048x8 .f32) (f : Fin 2048 → EReal) (j : Fin 8)
    (h : ∀ n : Fin 2048, v (ix2 n j) = win 4 f n) (n : Fin 2048) : step4 v (ix2 n j) = win 8 f n := by
  rw [← win_step 4 f n (by decide)]
  pointwise [step4]
  simp only [h]

/-- Adding the entries 8 rows earlier. -/
def step8 (v : FVec Ideal S2048x8 .f32) : FVec Ideal S2048x8 .f32 :=
  addf v (concatenate S2048x8 0 [⟨S8x8, broadcast S8x8 (Scalar.ofBits .f32 0x00000000#32)⟩,
    ⟨S2040x8, extractStridedSlice S2040x8 ![0, 0] v slices_S2048x8_o0_0_S2040x8⟩] concatenates_S8x8_S2040x8_S2048x8_d0)

theorem step8_win (v : FVec Ideal S2048x8 .f32) (f : Fin 2048 → EReal) (j : Fin 8)
    (h : ∀ n : Fin 2048, v (ix2 n j) = win 8 f n) (n : Fin 2048) : step8 v (ix2 n j) = win 16 f n := by
  rw [← win_step 8 f n (by decide)]
  pointwise [step8]
  simp only [h]

/-- Adding the entries 16 rows earlier. -/
def step16 (v : FVec Ideal S2048x8 .f32) : FVec Ideal S2048x8 .f32 :=
  addf v (concatenate S2048x8 0 [⟨S16x8, broadcast S16x8 (Scalar.ofBits .f32 0x00000000#32)⟩,
    ⟨S2032x8, extractStridedSlice S2032x8 ![0, 0] v slices_S2048x8_o0_0_S2032x8⟩] concatenates_S16x8_S2032x8_S2048x8_d0)

theorem step16_win (v : FVec Ideal S2048x8 .f32) (f : Fin 2048 → EReal) (j : Fin 8)
    (h : ∀ n : Fin 2048, v (ix2 n j) = win 16 f n) (n : Fin 2048) : step16 v (ix2 n j) = win 32 f n := by
  rw [← win_step 16 f n (by decide)]
  pointwise [step16]
  simp only [h]

/-- Adding the entries 32 rows earlier. -/
def step32 (v : FVec Ideal S2048x8 .f32) : FVec Ideal S2048x8 .f32 :=
  addf v (concatenate S2048x8 0 [⟨S32x8, broadcast S32x8 (Scalar.ofBits .f32 0x00000000#32)⟩,
    ⟨S2016x8, extractStridedSlice S2016x8 ![0, 0] v slices_S2048x8_o0_0_S2016x8⟩] concatenates_S32x8_S2016x8_S2048x8_d0)

theorem step32_win (v : FVec Ideal S2048x8 .f32) (f : Fin 2048 → EReal) (j : Fin 8)
    (h : ∀ n : Fin 2048, v (ix2 n j) = win 32 f n) (n : Fin 2048) : step32 v (ix2 n j) = win 64 f n := by
  rw [← win_step 32 f n (by decide)]
  pointwise [step32]
  simp only [h]

/-- Adding the entries 64 rows earlier. -/
def step64 (v : FVec Ideal S2048x8 .f32) : FVec Ideal S2048x8 .f32 :=
  addf v (concatenate S2048x8 0 [⟨S64x8, broadcast S64x8 (Scalar.ofBits .f32 0x00000000#32)⟩,
    ⟨S1984x8, extractStridedSlice S1984x8 ![0, 0] v slices_S2048x8_o0_0_S1984x8⟩] concatenates_S64x8_S1984x8_S2048x8_d0)

theorem step64_win (v : FVec Ideal S2048x8 .f32) (f : Fin 2048 → EReal) (j : Fin 8)
    (h : ∀ n : Fin 2048, v (ix2 n j) = win 64 f n) (n : Fin 2048) : step64 v (ix2 n j) = win 128 f n := by
  rw [← win_step 64 f n (by decide)]
  pointwise [step64]
  simp only [h]

/-- Adding the entries 128 rows earlier. -/
def step128 (v : FVec Ideal S2048x8 .f32) : FVec Ideal S2048x8 .f32 :=
  addf v (concatenate S2048x8 0 [⟨S128x8, broadcast S128x8 (Scalar.ofBits .f32 0x00000000#32)⟩,
    ⟨S1920x8, extractStridedSlice S1920x8 ![0, 0] v slices_S2048x8_o0_0_S1920x8⟩] concatenates_S128x8_S1920x8_S2048x8_d0)

theorem step128_win (v : FVec Ideal S2048x8 .f32) (f : Fin 2048 → EReal) (j : Fin 8)
    (h : ∀ n : Fin 2048, v (ix2 n j) = win 128 f n) (n : Fin 2048) : step128 v (ix2 n j) = win 256 f n := by
  rw [← win_step 128 f n (by decide)]
  pointwise [step128]
  simp only [h]

/-- Adding the entries 256 rows earlier. -/
def step256 (v : FVec Ideal S2048x8 .f32) : FVec Ideal S2048x8 .f32 :=
  addf v (concatenate S2048x8 0 [⟨S256x8, broadcast S256x8 (Scalar.ofBits .f32 0x00000000#32)⟩,
    ⟨S1792x8, extractStridedSlice S1792x8 ![0, 0] v slices_S2048x8_o0_0_S1792x8⟩] concatenates_S256x8_S1792x8_S2048x8_d0)

theorem step256_win (v : FVec Ideal S2048x8 .f32) (f : Fin 2048 → EReal) (j : Fin 8)
    (h : ∀ n : Fin 2048, v (ix2 n j) = win 256 f n) (n : Fin 2048) : step256 v (ix2 n j) = win 512 f n := by
  rw [← win_step 256 f n (by decide)]
  pointwise [step256]
  simp only [h]

/-- Adding the entries 512 rows earlier. -/
def step512 (v : FVec Ideal S2048x8 .f32) : FVec Ideal S2048x8 .f32 :=
  addf v (concatenate S2048x8 0 [⟨S512x8, broadcast S512x8 (Scalar.ofBits .f32 0x00000000#32)⟩,
    ⟨S1536x8, extractStridedSlice S1536x8 ![0, 0] v slices_S2048x8_o0_0_S1536x8⟩] concatenates_S512x8_S1536x8_S2048x8_d0)

theorem step512_win (v : FVec Ideal S2048x8 .f32) (f : Fin 2048 → EReal) (j : Fin 8)
    (h : ∀ n : Fin 2048, v (ix2 n j) = win 512 f n) (n : Fin 2048) : step512 v (ix2 n j) = win 1024 f n := by
  rw [← win_step 512 f n (by decide)]
  pointwise [step512]
  simp only [h]

/-- Adding the entries 1024 rows earlier. -/
def step1024 (v : FVec Ideal S2048x8 .f32) : FVec Ideal S2048x8 .f32 :=
  addf v (concatenate S2048x8 0 [⟨S1024x8, broadcast S1024x8 (Scalar.ofBits .f32 0x00000000#32)⟩,
    ⟨S1024x8, extractStridedSlice S1024x8 ![0, 0] v slices_S2048x8_o0_0_S1024x8⟩] concatenates_S1024x8_S1024x8_S2048x8_d0)

theorem step1024_win (v : FVec Ideal S2048x8 .f32) (f : Fin 2048 → EReal) (j : Fin 8)
    (h : ∀ n : Fin 2048, v (ix2 n j) = win 1024 f n) (n : Fin 2048) : step1024 v (ix2 n j) = win 2048 f n := by
  rw [← win_step 1024 f n (by decide)]
  pointwise [step1024]
  simp only [h]

/-- The eleven steps. -/
def scan (v : FVec Ideal S2048x8 .f32) : FVec Ideal S2048x8 .f32 :=
  step1024 (step512 (step256 (step128 (step64 (step32 (step16 (step8 (step4 (step2 (step1 v))))))))))

/-- The eleven steps leave the sum of all entries up to each. -/
theorem scan_eq (v : FVec Ideal S2048x8 .f32) (n : Fin 2048) (j : Fin 8) :
    scan v (ix2 n j) = upto (fun m => v (ix2 m j)) n := by
  rw [← win_all]
  exact step1024_win _ _ j (step512_win _ _ j (step256_win _ _ j (step128_win _ _ j (step64_win _ _ j (step32_win _ _ j
    (step16_win _ _ j (step8_win _ _ j (step4_win _ _ j (step2_win _ _ j (step1_win v _ j
      (fun n => by rw [win_one]))))))))))) n

end Cert.GateIdeal.Gate
-- ==== Proof.GateOut.lean ====
/- The gate kernel's four results, entry by entry, for any listing `σ` of each token's experts from the most probable
   down. -/
module

public import proofs.«01_k».proof.Proof.GateSteps

@[expose] public section

set_option maxRecDepth 16384

noncomputable section

namespace Cert.GateIdeal.Gate

open Cert.GateIdeal Cert.GateIdeal.Gen Idealize.ShloMosaic Cert.Moe

theorem hz2 : (![0, 0] : Fin 2 → Nat) = fun _ => 0 := funext fun a => by fin_cases a <;> rfl

section Out

variable (x : Vec Ideal S4096x1024 .f32) (w : Vec Ideal S1024x8 .f32)

/-- The probabilities by batch and token. -/
def prob (i : Fin 2) (n : Fin 2048) : Fin 8 → EReal := probs x w (tok i n)

/-! ## The named values of the body over whole arrays -/

theorem pay68_eq : k0_pay68 x w = k0_pay2 x w := by
  unfold k0_pay68; rw [View.ld_unit_zero hz2, View.ld_unit_zero hz2]

theorem pay69_eq : k0_pay69 x w = k0_pay33 x w := by
  unfold k0_pay69; rw [View.ld_unit_zero hz2, View.ld_unit_zero hz2]

theorem pay70_eq : k0_pay70 x w = k0_pay36 x w := by
  unfold k0_pay70; rw [View.ld_unit_zero hz2, View.ld_unit_zero hz2]

theorem pay71_eq : k0_pay71 x w = k0_pay38 x w := by
  unfold k0_pay71; rw [View.ld_unit_zero hz2, View.ld_unit_zero hz2]

theorem pay72_eq : k0_pay72 x w = k0_pay39 x w := by
  unfold k0_pay72; rw [View.ld_unit_zero hz2, View.ld_unit_zero hz2]

theorem pay73_eq : k0_pay73 x w = k0_pay40 x w := by
  unfold k0_pay73; rw [View.ld_unit_zero hz2, View.ld_unit_zero hz2]

theorem pay74_eq : k0_pay74 x w = k0_pay41 x w := by
  unfold k0_pay74; rw [View.ld_unit_zero hz2, View.ld_unit_zero hz2]

theorem pay75_eq : k0_pay75 x w = k0_pay42 x w := by
  unfold k0_pay75; rw [View.ld_unit_zero hz2, View.ld_unit_zero hz2]

theorem pay68_apply (t : Fin 4096) (j : Fin 8) : k0_pay68 x w (ix2 t j) = probs x w t j := by
  rw [pay68_eq]; rfl

variable (σ : Fin 2 → Fin 2048 → Equiv.Perm (Fin 8)) (hσ : ∀ i n, StrictAnti (prob x w i n ∘ σ i n))
include hσ

/-- The kernel's count. -/
theorem count_apply (i : Fin 2) (n : Fin 2048) :
    k0_pay76 x w (ix2 (tok i n) 0) = ((cnt (prob x w i n ∘ σ i n) : ℕ) : EReal) := by
  have h := hσ i n
  unfold k0_pay76
  rw [pay69_eq, pay70_eq, pay71_eq, pay72_eq, pay73_eq, pay74_eq, pay75_eq]
  exact pay49_apply _ _ _ _ _ _ _ _ _
    ((pay38_apply x w _).trans (wire38_eq _ _ h)) ((pay48_apply x w _).trans (wire48_eq _ _ h))
    ((pay47_apply x w _).trans (wire47_eq _ _ h)) ((pay46_apply x w _).trans (wire46_eq _ _ h))
    ((pay45_apply x w _).trans (wire45_eq _ _ h)) ((pay44_apply x w _).trans (wire44_eq _ _ h))
    ((pay43_apply x w _).trans (wire43_eq _ _ h))

/-- The last kept probability. -/
theorem last_apply (i : Fin 2) (n : Fin 2048) (k : Fin 8) (hk : k.val + 1 = cnt (prob x w i n ∘ σ i n)) :
    (k0_pay78 x w (ix2 (tok i n) 0) : EReal) + k0_pay79 x w (ix2 (tok i n) 0) = (prob x w i n ∘ σ i n) k := by
  have h := hσ i n
  have hc : k0_pay51 (k0_pay76 x w) (k0_pay77 x w) (ix2 (tok i n) 0) = ((cnt (prob x w i n ∘ σ i n) : ℕ) : EReal) := by
    refine Eq.trans ?_ (count_apply x w σ hσ i n)
    unfold k0_pay77 k0_pay76
    exact pay51_apply _ _ _ _ _ _ _ _
  unfold k0_pay78 k0_pay79
  rw [pay69_eq, pay70_eq, pay71_eq, pay72_eq, pay73_eq, pay74_eq, pay75_eq, View.ld_unit_zero hz2, View.ld_unit_zero hz2]
  exact pay52_apply _ _ _ _ _ _ _ _ _ _ _ _ _ k (one_le_cnt _) (cnt_le _) hk hc
    ((pay38_apply x w _).trans (wire38_eq _ _ h)) ((pay48_apply x w _).trans (wire48_eq _ _ h))
    ((pay47_apply x w _).trans (wire47_eq _ _ h)) ((pay46_apply x w _).trans (wire46_eq _ _ h))
    ((pay45_apply x w _).trans (wire45_eq _ _ h)) ((pay44_apply x w _).trans (wire44_eq _ _ h))
    ((pay43_apply x w _).trans (wire43_eq _ _ h)) ((pay31_apply x w _).trans (wire31_eq _ _ h))

/-- The kernel's mask of kept experts. -/
theorem mask_apply (i : Fin 2) (n : Fin 2048) (j : Fin 8) :
    k0_pay80 x w (ix2 (tok i n) j) = kept (prob x w) σ i n j := by
  have h1 := one_le_cnt (prob x w i n ∘ σ i n)
  have h8 := cnt_le (prob x w i n ∘ σ i n)
  have hl := last_apply x w σ hσ i n ⟨cnt (prob x w i n ∘ σ i n) - 1, by omega⟩ (by show _ - 1 + 1 = _; omega)
  unfold k0_pay80
  pointwise [k0_pay54]
  rw [sitofp_flag]
  refine flag_congr ?_
  rw [pay68_apply]
  show (k0_pay78 x w (ix2 (tok i n) 0) : EReal) + k0_pay79 x w (ix2 (tok i n) 0) ≤ prob x w i n j ↔ _
  rw [hl, le_iff_keep _ _ (hσ i n)]
  show _ < _ - 1 + 1 ↔ _
  rw [Nat.sub_add_cancel h1]

/-- The kernel's renormalised weights. -/
theorem norm_apply (i : Fin 2) (n : Fin 2048) (j : Fin 8) :
    k0_pay55 (k0_pay68 x w) (k0_pay78 x w) (k0_pay79 x w) (ix2 (tok i n) j) = norm (prob x w i n) (σ i n) j := by
  have hm : ∀ e : Fin 8, k0_pay54 (k0_pay68 x w) (k0_pay78 x w) (k0_pay79 x w) (ix2 (tok i n) e) =
      keep (prob x w i n) (σ i n) e := fun e => mask_apply x w σ hσ i n e
  have hp : ∀ e : Fin 8, k0_pay68 x w (ix2 (tok i n) e) = prob x w i n e := fun e => pay68_apply x w _ e
  pointwise [k0_pay55]
  simp only [hm, hp]
  rfl

/-! ## The running counts -/

omit hσ in
theorem pay81_eq : k0_pay81 x w = scan (extractStridedSlice S2048x8 ![0, 0] (k0_pay80 x w) slices_S4096x8_o0_0_S2048x8) := rfl

omit hσ in
theorem pay82_eq : step1024 (k0_pay82 x w) =
    scan (extractStridedSlice S2048x8 ![2048, 0] (k0_pay80 x w) slices_S4096x8_o2048_0_S2048x8) := rfl

omit hσ in
theorem pay62_eq (v159 : FVec Ideal S4096x8 .f32) (v209 v250 : FVec Ideal S2048x8 .f32) :
    k0_pay62 v159 v209 v250 (k0_pay61 (F := Ideal)) =
      mulf (subf (concatenate S4096x8 0 [⟨S2048x8, v209⟩, ⟨S2048x8, step1024 v250⟩]
        concatenates_S2048x8_S2048x8_S4096x8_d0) v159) v159 := rfl

/-- The tokens ahead. -/
theorem ahead_apply (i : Fin 2) (n : Fin 2048) (j : Fin 8) :
    k0_pay62 (k0_pay80 x w) (k0_pay81 x w) (k0_pay82 x w) (k0_pay83 x w) (ix2 (tok i n) j) =
      ahead (prob x w) σ i n j := by
  have ha : ∀ m : Fin 2048, (extractStridedSlice S2048x8 ![0, 0] (k0_pay80 x w) slices_S4096x8_o0_0_S2048x8 :
      FVec Ideal S2048x8 .f32) (ix2 m j) = kept (prob x w) σ 0 m j := fun m => by
    rw [← mask_apply x w σ hσ 0 m j]
    pointwise []
    congr 2
    exact Fin.ext (by show m.val = 0 * 2048 + m.val; omega)
  have hb : ∀ m : Fin 2048, (extractStridedSlice S2048x8 ![2048, 0] (k0_pay80 x w) slices_S4096x8_o2048_0_S2048x8 :
      FVec Ideal S2048x8 .f32) (ix2 m j) = kept (prob x w) σ 1 m j := fun m => by
    rw [← mask_apply x w σ hσ 1 m j]
    pointwise []
    congr 2
  unfold k0_pay83
  rw [pay62_eq, pay81_eq, pay82_eq]
  unfold ahead
  pointwise []
  rw [mask_apply x w σ hσ i n j]
  have hs0 : ∀ a : Fin 2048, a = n → scan (extractStridedSlice S2048x8 ![0, 0] (k0_pay80 x w) slices_S4096x8_o0_0_S2048x8)
      (ix2 a j) = upto (fun m => kept (prob x w) σ 0 m j) n := by
    rintro _ rfl
    rw [scan_eq]
    simp only [ha]
  have hs1 : ∀ a : Fin 2048, a = n → scan (extractStridedSlice S2048x8 ![2048, 0] (k0_pay80 x w)
      slices_S4096x8_o2048_0_S2048x8) (ix2 a j) = upto (fun m => kept (prob x w) σ 1 m j) n := by
    rintro _ rfl
    rw [scan_eq]
    simp only [hb]
  congr 2
  obtain rfl | rfl : i = 0 ∨ i = 1 := by omega
  · have hlt : (tok 0 n).val < 2048 := by show 0 * 2048 + n.val < 2048; omega
    exact (dif_pos hlt).trans (hs0 _ (Fin.ext (by show 0 * 2048 + n.val = n.val; omega)))
  · have hlt : ¬(tok 1 n).val < 2048 := by show ¬1 * 2048 + n.val < 2048; omega
    exact (dif_neg hlt).trans (hs1 _ (Fin.ext (by show 1 * 2048 + n.val - 2048 = n.val; omega)))

/-- Which kept experts have a place. -/
theorem fits_apply (i : Fin 2) (n : Fin 2048) (j : Fin 8) :
    k0_pay63 (k0_pay80 x w) (k0_pay81 x w) (k0_pay82 x w) (k0_pay83 x w) (ix2 (tok i n) j) =
      fits (prob x w) σ i n j := by
  have h1 := mask_apply x w σ hσ i n j
  have h2 := ahead_apply x w σ hσ i n j
  pointwise [k0_pay63]
  rw [h1, h2, sitofp_flag]
  rfl

/-! ## The results -/

/-- The positions. -/
theorem place_apply (i : Fin 2) (n : Fin 2048) :
    k0_pay64 (k0_pay80 x w) (k0_pay81 x w) (k0_pay82 x w) (k0_pay83 x w) (ix2 (tok i n) 0) = place (prob x w) σ i n := by
  have h1 := fits_apply x w σ hσ i n
  have h2 := ahead_apply x w σ hσ i n
  pointwise [k0_pay64]
  simp only [h1, h2]
  rfl

/-- Which experts a token is sent to. -/
theorem sent_apply (i : Fin 2) (n : Fin 2048) (j : Fin 8) :
    k0_pay65 (k0_pay80 x w) (k0_pay81 x w) (k0_pay82 x w) (k0_pay83 x w) (ix2 (tok i n) j) =
      sent (prob x w) σ i n j := by
  have h1 := fits_apply x w σ hσ i n j
  have h2 := place_apply x w σ hσ i n
  pointwise [k0_pay65]
  rw [h1, h2, sitofp_flag]
  rfl

/-- The weights. -/
theorem weight_apply (i : Fin 2) (n : Fin 2048) (j : Fin 8) :
    k0_pay66 (k0_pay80 x w) (k0_pay55 (k0_pay68 x w) (k0_pay78 x w) (k0_pay79 x w)) (k0_pay81 x w) (k0_pay82 x w)
      (k0_pay83 x w) (ix2 (tok i n) j) = weight (prob x w) σ i n j := by
  have h1 := sent_apply x w σ hσ i n j
  have h2 := norm_apply x w σ hσ i n j
  pointwise [k0_pay66]
  rw [h1, h2]
  rfl

/-- The loss. -/
theorem balance_apply :
    k0_pay1 (k0_pay67 (k0_pay68 x w) (k0_pay80 x w) (k0_pay81 x w) (k0_pay82 x w) (k0_pay83 x w)) (ix2 0 0) =
      balance (prob x w) σ := by
  have h : ∀ j : Fin 8, k0_pay67 (k0_pay68 x w) (k0_pay80 x w) (k0_pay81 x w) (k0_pay82 x w) (k0_pay83 x w) (ix3 0 0 j) =
      ∑ i : Fin 2, Ideal.div (∑ n : Fin 2048, fits (prob x w) σ i n j) (Ideal.ofBits .f32 1157627904#32) *
        Ideal.div (∑ n : Fin 2048, prob x w i n j) (Ideal.ofBits .f32 1157627904#32) := fun j => by
    have t0 : ∀ (n : Fin 2048) (h : n.val < 4096), (⟨n.val, h⟩ : Fin 4096) = tok 0 n := fun n h =>
      Fin.ext (by show n.val = 0 * 2048 + n.val; omega)
    have t1 : ∀ (n : Fin 2048) (h : 2048 + n.val < 4096), (⟨2048 + n.val, h⟩ : Fin 4096) = tok 1 n := fun n h =>
      Fin.ext (by show 2048 + n.val = 1 * 2048 + n.val; omega)
    have hf := fits_apply x w σ hσ
    have hp : ∀ i n, k0_pay68 x w (ix2 (tok i n) j) = prob x w i n j := fun i n => pay68_apply x w _ j
    rw [Fin.sum_univ_two]
    pointwise [k0_pay67]
    simp only [t0, t1, hf, hp]
  rw [balance, Finset.sum_comm]
  simp only [← h]
  generalize k0_pay67 (k0_pay68 x w) (k0_pay80 x w) (k0_pay81 x w) (k0_pay82 x w) (k0_pay83 x w) = q
  pointwise [k0_pay1]
  congr 3
  exact Fin.sum_univ_one _

end Out

end Cert.GateIdeal.Gate
-- ==== Proof.GateArray.lean ====
/- The gate kernel's run: its four output arrays hold the routing of the launch's tokens. -/
module

public import proofs.«01_k».proof.Proof.GateOut
public import Idealize.ShloMosaic.Lib.Claim
public import Idealize.ShloMosaic.Lib.Pipeline.Value

@[expose] public section

set_option maxRecDepth 16384

noncomputable section

namespace Cert.GateIdeal.Gate

open Cert.GateIdeal Cert.GateIdeal.Gen Idealize.ShloMosaic Idealize.ShloMosaic.TcCoe Idealize.SL.Sem Cert.Moe

variable (m : (ℓ : Loc nD τ sig) → Buf (Elt Ideal) ℓ)

/-- The launch's tokens, as one list. -/
abbrev toks (c : Dev nD) : Vec Ideal S4096x1024 .f32 := Gen.V m c main_v0

/-- The launch's gate weights. -/
abbrev gate (c : Dev nD) : Vec Ideal S1024x8 .f32 := m ((c : Thread nD τ).loc main_arg1)

/-- The list of tokens is the batches one after the other. -/
theorem toks_apply (c : Dev nD) (i : Fin 2) (n : Fin 2048) (d : Fin 1024) :
    (toks m c : FVec Ideal S4096x1024 .f32) (ix2 (tok i n) d) =
      (m ((c : Thread nD τ).loc main_arg0) : Vec Ideal S2x2048x1024 .f32) (ix3 i n d) := by
  unfold toks
  entry_read
  pointwise
  exact congrArg₂ (fun a b => (m ((c : Thread nD τ).loc main_arg0) : Vec Ideal S2x2048x1024 .f32) (ix3 a b d))
    (Fin.ext (by show (i.val * 2048 + n.val) / 2048 = i.val; omega))
    (Fin.ext (by show (i.val * 2048 + n.val) % 2048 = n.val; omega))

/-- The first window's block is its array. -/
theorem iblk0_eq (c : Dev nD) (t : Fin cfg0.N) : iblk m c 0 t = toks m c := by
  funext (y : S4096x1024.Idx)
  unfold iblk
  rw [View.read_apply]
  show V m c main_v0 _ = V m c main_v0 y
  refine congrArg (V m c main_v0 : Vec Ideal S4096x1024 .f32) (funext fun a => Fin.ext ?_)
  match a with
  | ⟨0, _⟩ => show 0 * 4096 + 1 * (y 0).val = (y 0).val; omega
  | ⟨1, _⟩ => show 0 * 1024 + 1 * (y 1).val = (y 1).val; omega

/-- The second window's block is its array. -/
theorem iblk1_eq (c : Dev nD) (t : Fin cfg0.N) : iblk m c 1 t = gate m c := by
  refine Eq.trans ?_ (V_main_arg1 m c)
  funext (y : S1024x8.Idx)
  unfold iblk
  rw [View.read_apply]
  show V m c main_arg1 _ = V m c main_arg1 y
  refine congrArg (V m c main_arg1 : Vec Ideal S1024x8 .f32) (funext fun a => Fin.ext ?_)
  match a with
  | ⟨0, _⟩ => show 0 * 1024 + 1 * (y 0).val = (y 0).val; omega
  | ⟨1, _⟩ => show 0 * 8 + 1 * (y 1).val = (y 1).val; omega

/-- Output window 2's array after the run. -/
theorem final2 (c : Dev nD) : (dats m 0 c).arrAt 2 cfg0.N = out0_2 (toks m c) (gate m c) := by
  refine (dats m 0 c).arrAt_eq_of_cover 2 _ (fun t hf => ?_) (fun i => ⟨t0_0, rfl, ?_⟩)
  · show (cfg0.win 2).cut (grid0.coords t) ((dats m 0 c).after 2 t) = _
    rw [after0_2, iblk0_eq, iblk1_eq]
    generalize out0_2 (toks m c) (gate m c) = f
    funext (y : S4096x8.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 8 + 1 * (y 1).val; omega
  · show i ∈ ((View.whole main_v1_0).slice (win0_2.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 3's array after the run. -/
theorem final3 (c : Dev nD) : (dats m 0 c).arrAt 3 cfg0.N = out0_3 (toks m c) (gate m c) := by
  refine (dats m 0 c).arrAt_eq_of_cover 3 _ (fun t hf => ?_) (fun i => ⟨t0_0, rfl, ?_⟩)
  · show (cfg0.win 3).cut (grid0.coords t) ((dats m 0 c).after 3 t) = _
    rw [after0_3, iblk0_eq, iblk1_eq]
    generalize out0_3 (toks m c) (gate m c) = f
    funext (y : S4096x8.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 8 + 1 * (y 1).val; omega
  · show i ∈ ((View.whole main_v1_1).slice (win0_3.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 4's array after the run. -/
theorem final4 (c : Dev nD) : (dats m 0 c).arrAt 4 cfg0.N = out0_4 (toks m c) (gate m c) := by
  refine (dats m 0 c).arrAt_eq_of_cover 4 _ (fun t hf => ?_) (fun i => ⟨t0_0, rfl, ?_⟩)
  · show (cfg0.win 4).cut (grid0.coords t) ((dats m 0 c).after 4 t) = _
    rw [after0_4, iblk0_eq, iblk1_eq]
    generalize out0_4 (toks m c) (gate m c) = f
    funext (y : S4096x1.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 1 + 1 * (y 1).val; omega
  · show i ∈ ((View.whole main_v1_2).slice (win0_4.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 5's array after the run. -/
theorem final5 (c : Dev nD) : (dats m 0 c).arrAt 5 cfg0.N = out0_5 (toks m c) (gate m c) := by
  refine (dats m 0 c).arrAt_eq_of_cover 5 _ (fun t hf => ?_) (fun i => ⟨t0_0, rfl, ?_⟩)
  · show (cfg0.win 5).cut (grid0.coords t) ((dats m 0 c).after 5 t) = _
    rw [after0_5, iblk0_eq, iblk1_eq]
    generalize out0_5 (toks m c) (gate m c) = f
    funext (y : S1x1.Idx)
    rw [View.read_apply]
    show f _ = f _
    refine congrArg f (funext fun a => Fin.ext ?_)
    match a with
    | ⟨0, _⟩ => show (y 0).val = 0 * 1 + 1 * (y 0).val; omega
    | ⟨1, _⟩ => show (y 1).val = 0 * 1 + 1 * (y 1).val; omega
  · show i ∈ ((View.whole main_v1_3).slice (win0_5.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-! ## The four arrays entry by entry -/

section Values

variable (x : Vec Ideal S4096x1024 .f32) (w : Vec Ideal S1024x8 .f32)
  (σ : Fin 2 → Fin 2048 → Equiv.Perm (Fin 8)) (hσ : ∀ i n, StrictAnti (prob x w i n ∘ σ i n))
include hσ

theorem out2_apply (i : Fin 2) (n : Fin 2048) (j : Fin 8) :
    (out0_2 x w : FVec Ideal S4096x8 .f32) (ix2 (tok i n) j) = weight (prob x w) σ i n j := by
  unfold out0_2
  rw [View.canon_unit_zero hz2]
  exact weight_apply x w σ hσ i n j

theorem out3_apply (i : Fin 2) (n : Fin 2048) (j : Fin 8) :
    (out0_3 x w : FVec Ideal S4096x8 .f32) (ix2 (tok i n) j) = sent (prob x w) σ i n j := by
  unfold out0_3
  rw [View.canon_unit_zero hz2]
  exact sent_apply x w σ hσ i n j

theorem out4_apply (i : Fin 2) (n : Fin 2048) :
    (out0_4 x w : FVec Ideal S4096x1 .f32) (ix2 (tok i n) 0) = place (prob x w) σ i n := by
  unfold out0_4
  rw [View.canon_unit_zero hz2]
  exact place_apply x w σ hσ i n

theorem out5_apply : (out0_5 x w : FVec Ideal S1x1 .f32) (ix2 0 0) = balance (prob x w) σ := by
  unfold out0_5
  rw [View.canon_unit_zero hz2]
  exact balance_apply x w σ hσ

end Values

/-- The launch's tokens, as extended reals. -/
abbrev xs (c : Dev nD) (i : Fin 2) (n : Fin 2048) (k : Fin 1024) : EReal :=
  (m ((c : Thread nD τ).loc main_arg0) : FVec Ideal S2x2048x1024 .f32) (ix3 i n k)

/-- The launch's gating weights, as extended reals. -/
abbrev ws (c : Dev nD) (k : Fin 1024) (j : Fin 8) : EReal :=
  (m ((c : Thread nD τ).loc main_arg1) : FVec Ideal S1024x8 .f32) (ix2 k j)

/-- The launch's probabilities: the softmax of each token's scores. -/
theorem prob_eq (c : Dev nD) (i : Fin 2) (n : Fin 2048) :
    prob (toks m c) (gate m c) i n = soft (Ideal.ofBits .f32 4286578688#32) (fun j => ∑ k : Fin 1024,
      xs m c i n k * ws m c k j) := by
  unfold prob
  rw [probs_eq]
  exact congrArg (soft _) (funext fun j => Finset.sum_congr rfl fun k _ =>
    congrArg₂ (fun a b : EReal => a * b) (toks_apply m c i n k) rfl)

variable (ρ : Dev nD → PrngReg)

/-- The run: the four outputs, and the arguments as launched. -/
theorem run : θ_run defs (onTc (τ := τ) (main (F := Ideal))) ⟨m, fun _ => 0, ρ⟩ fun r => ∀ c : Dev nD,
      r.2.mem ((c : Thread nD τ).loc main_v1_0) = out0_2 (toks m c) (gate m c)
      ∧ r.2.mem ((c : Thread nD τ).loc main_v1_1) = out0_3 (toks m c) (gate m c)
      ∧ r.2.mem ((c : Thread nD τ).loc main_v1_2) = out0_4 (toks m c) (gate m c)
      ∧ r.2.mem ((c : Thread nD τ).loc main_v1_3) = out0_5 (toks m c) (gate m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
      ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.GateIdeal.Gate
-- ==== Proof.GateOps.lean ====
/- The gating reference's host operations, in thirteen groups: each group's results as functions of the buffers it reads,
   and the program's results as those functions composed. -/
module

public import proofs.«01_k».proof.Proof.Gen.GateRefIdeal
public import Idealize.ShloMosaic.Lib.StableHlo.RunHlo

@[expose] public section

set_option maxRecDepth 65536

noncomputable section

namespace Cert.GateRefIdeal.Value

open Cert.GateRefIdeal Cert.GateRefIdeal.Gen Idealize.ShloMosaic Idealize.ShloMosaic.TcCoe Idealize.SL.Sem Idealize.ShloMosaic.StableHlo

variable {F : FTy → Type} [FloatOps F]

/-- Operations 1 to 16: the softmax and its negation. -/
def softmaxOps : List (HloOp τ sig (Elt F)) :=
  [ binary main_arg0 main_arg1 main_v0 ((fun l r => Host.dotGeneral dot_S2x2048x1024_S1024x8_S2x2048x8_2_0_01_1_n_n none l r) : (⟨S2x2048x1024, .f32⟩ : BufTy).Contents (Elt F) → (⟨S1024x8, .f32⟩ : BufTy).Contents (Elt F) → (⟨S2x2048x8, .f32⟩ : BufTy).Contents (Elt F)),
    nullary main_cst (constant S_ .f32 0xFF800000#32),
    binary main_v0 main_cst main_v1 ((fun x v => Host.reduce FloatOps.maximumf x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    nullary main_cst_0 (constant S_ .f32 0xFF800000#32),
    unary main_cst_0 main_v2 (broadcastInDim S2x2048 ![] bcast_S_S2x2048 : (⟨S_, .f32⟩ : BufTy).Contents (Elt F) → (⟨S2x2048, .f32⟩ : BufTy).Contents (Elt F)),
    binary main_v2 main_v1 main_v3 (maximumf : (⟨S2x2048, .f32⟩ : BufTy).Contents (Elt F) → (⟨S2x2048, .f32⟩ : BufTy).Contents (Elt F) → (⟨S2x2048, .f32⟩ : BufTy).Contents (Elt F)),
    unary main_v3 main_v4 (broadcastInDim S2x2048x1 ![0, 1] bcast_S2x2048_S2x2048x1_0_1 : (⟨S2x2048, .f32⟩ : BufTy).Contents (Elt F) → (⟨S2x2048x1, .f32⟩ : BufTy).Contents (Elt F)),
    unary main_v4 main_v5 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v0 main_v5 main_v6 (subf : (⟨S2x2048x8, .f32⟩ : BufTy).Contents (Elt F) → (⟨S2x2048x8, .f32⟩ : BufTy).Contents (Elt F) → (⟨S2x2048x8, .f32⟩ : BufTy).Contents (Elt F)),
    unary main_v6 main_v7 (Host.exp : (⟨S2x2048x8, .f32⟩ : BufTy).Contents (Elt F) → (⟨S2x2048x8, .f32⟩ : BufTy).Contents (Elt F)),
    nullary main_cst_1 (constant S_ .f32 0x00000000#32),
    binary main_v7 main_cst_1 main_v8 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v8 main_v9 (broadcastInDim S2x2048x1 ![0, 1] bcast_S2x2048_S2x2048x1_0_1 : (⟨S2x2048, .f32⟩ : BufTy).Contents (Elt F) → (⟨S2x2048x1, .f32⟩ : BufTy).Contents (Elt F)),
    unary main_v9 main_v10 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v7 main_v10 main_v11 (Host.divf : (⟨S2x2048x8, .f32⟩ : BufTy).Contents (Elt F) → (⟨S2x2048x8, .f32⟩ : BufTy).Contents (Elt F) → (⟨S2x2048x8, .f32⟩ : BufTy).Contents (Elt F)),
    unary main_v11 main_v12 (Host.negf : (⟨S2x2048x8, .f32⟩ : BufTy).Contents (Elt F) → (⟨S2x2048x8, .f32⟩ : BufTy).Contents (Elt F)) ]

/-- `%11` as a function of what the group reads. -/
def softmax_v11 (arg0 : (⟨S2x2048x1024, .f32⟩ : BufTy).Contents (Elt F)) (arg1 : (⟨S1024x8, .f32⟩ : BufTy).Contents (Elt F)) : (⟨S2x2048x8, .f32⟩ : BufTy).Contents (Elt F) :=
  let v0 : (⟨S2x2048x8, .f32⟩ : BufTy).Contents (Elt F) := ((fun l r => Host.dotGeneral dot_S2x2048x1024_S1024x8_S2x2048x8_2_0_01_1_n_n none l r) : (⟨S2x2048x1024, .f32⟩ : BufTy).Contents (Elt F) → (⟨S1024x8, .f32⟩ : BufTy).Contents (Elt F) → (⟨S2x2048x8, .f32⟩ : BufTy).Contents (Elt F)) arg0 arg1
  let cst : (⟨S_, .f32⟩ : BufTy).Contents (Elt F) := constant S_ .f32 0xFF800000#32
  let v1 : (⟨S2x2048, .f32⟩ : BufTy).Contents (Elt F) := ((fun x v => Host.reduce FloatOps.maximumf x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v0 cst
  let cst_0 : (⟨S_, .f32⟩ : BufTy).Contents (Elt F) := constant S_ .f32 0xFF800000#32
  let v2 : (⟨S2x2048, .f32⟩ : BufTy).Contents (Elt F) := (broadcastInDim S2x2048 ![] bcast_S_S2x2048 : (⟨S_, .f32⟩ : BufTy).Contents (Elt F) → (⟨S2x2048, .f32⟩ : BufTy).Contents (Elt F)) cst_0
  let v3 : (⟨S2x2048, .f32⟩ : BufTy).Contents (Elt F) := (maximumf : (⟨S2x2048, .f32⟩ : BufTy).Contents (Elt F) → (⟨S2x2048, .f32⟩ : BufTy).Contents (Elt F) → (⟨S2x2048, .f32⟩ : BufTy).Contents (Elt F)) v2 v1
  let v4 : (⟨S2x2048x1, .f32⟩ : BufTy).Contents (Elt F) := (broadcastInDim S2x2048x1 ![0, 1] bcast_S2x2048_S2x2048x1_0_1 : (⟨S2x2048, .f32⟩ : BufTy).Contents (Elt F) → (⟨S2x2048x1, .f32⟩ : BufTy).Contents (Elt F)) v3
  let v5 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v4
  let v6 : (⟨S2x2048x8, .f32⟩ : BufTy).Contents (Elt F) := (subf : (⟨S2x2048x8, .f32⟩ : BufTy).Contents (Elt F) → (⟨S2x2048x8, .f32⟩ : BufTy).Contents (Elt F) → (⟨S2x2048x8, .f32⟩ : BufTy).Contents (Elt F)) v0 v5
  let v7 : (⟨S2x2048x8, .f32⟩ : BufTy).Contents (Elt F) := (Host.exp : (⟨S2x2048x8, .f32⟩ : BufTy).Contents (Elt F) → (⟨S2x2048x8, .f32⟩ : BufTy).Contents (Elt F)) v6
  let cst_1 : (⟨S_, .f32⟩ : BufTy).Contents (Elt F) := constant S_ .f32 0x00000000#32
  let v8 : (⟨S2x2048, .f32⟩ : BufTy).Contents (Elt F) := ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v7 cst_1
  let v9 : (⟨S2x2048x1, .f32⟩ : BufTy).Contents (Elt F) := (broadcastInDim S2x2048x1 ![0, 1] bcast_S2x2048_S2x2048x1_0_1 : (⟨S2x2048, .f32⟩ : BufTy).Contents (Elt F) → (⟨S2x2048x1, .f32⟩ : BufTy).Contents (Elt F)) v8
  let v10 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v9
  let v11 : (⟨S2x2048x8, .f32⟩ : BufTy).Contents (Elt F) := (Host.divf : (⟨S2x2048x8, .f32⟩ : BufTy).Contents (Elt F) → (⟨S2x2048x8, .f32⟩ : BufTy).Contents (Elt F) → (⟨S2x2048x8, .f32⟩ : BufTy).Contents (Elt F)) v7 v10
  v11

set_option maxHeartbeats 4000000 in
theorem softmax_v11_after (M : Valuation τ sig (Elt F)) :
    after softmaxOps M (Proc.devRef .tc main_v11) = softmax_v11 (M (Proc.devRef .tc main_arg0)) (M (Proc.devRef .tc main_arg1)) := by
  simp only [softmaxOps, TRef.binary, TRef.nullary, TRef.unary, TRef.ternary, TRef.quaternary, TRef.reshape, TRef.toBuf, TRef.ofBuf, cast_eq]; after_results_simp <;> rfl

/-- `%12` as a function of what the group reads. -/
def softmax_v12 (arg0 : (⟨S2x2048x1024, .f32⟩ : BufTy).Contents (Elt F)) (arg1 : (⟨S1024x8, .f32⟩ : BufTy).Contents (Elt F)) : (⟨S2x2048x8, .f32⟩ : BufTy).Contents (Elt F) :=
  let v0 : (⟨S2x2048x8, .f32⟩ : BufTy).Contents (Elt F) := ((fun l r => Host.dotGeneral dot_S2x2048x1024_S1024x8_S2x2048x8_2_0_01_1_n_n none l r) : (⟨S2x2048x1024, .f32⟩ : BufTy).Contents (Elt F) → (⟨S1024x8, .f32⟩ : BufTy).Contents (Elt F) → (⟨S2x2048x8, .f32⟩ : BufTy).Contents (Elt F)) arg0 arg1
  let cst : (⟨S_, .f32⟩ : BufTy).Contents (Elt F) := constant S_ .f32 0xFF800000#32
  let v1 : (⟨S2x2048, .f32⟩ : BufTy).Contents (Elt F) := ((fun x v => Host.reduce FloatOps.maximumf x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v0 cst
  let cst_0 : (⟨S_, .f32⟩ : BufTy).Contents (Elt F) := constant S_ .f32 0xFF800000#32
  let v2 : (⟨S2x2048, .f32⟩ : BufTy).Contents (Elt F) := (broadcastInDim S2x2048 ![] bcast_S_S2x2048 : (⟨S_, .f32⟩ : BufTy).Contents (Elt F) → (⟨S2x2048, .f32⟩ : BufTy).Contents (Elt F)) cst_0
  let v3 : (⟨S2x2048, .f32⟩ : BufTy).Contents (Elt F) := (maximumf : (⟨S2x2048, .f32⟩ : BufTy).Contents (Elt F) → (⟨S2x2048, .f32⟩ : BufTy).Contents (Elt F) → (⟨S2x2048, .f32⟩ : BufTy).Contents (Elt F)) v2 v1
  let v4 : (⟨S2x2048x1, .f32⟩ : BufTy).Contents (Elt F) := (broadcastInDim S2x2048x1 ![0, 1] bcast_S2x2048_S2x2048x1_0_1 : (⟨S2x2048, .f32⟩ : BufTy).Contents (Elt F) → (⟨S2x2048x1, .f32⟩ : BufTy).Contents (Elt F)) v3
  let v5 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v4
  let v6 : (⟨S2x2048x8, .f32⟩ : BufTy).Contents (Elt F) := (subf : (⟨S2x2048x8, .f32⟩ : BufTy).Contents (Elt F) → (⟨S2x2048x8, .f32⟩ : BufTy).Contents (Elt F) → (⟨S2x2048x8, .f32⟩ : BufTy).Contents (Elt F)) v0 v5
  let v7 : (⟨S2x2048x8, .f32⟩ : BufTy).Contents (Elt F) := (Host.exp : (⟨S2x2048x8, .f32⟩ : BufTy).Contents (Elt F) → (⟨S2x2048x8, .f32⟩ : BufTy).Contents (Elt F)) v6
  let cst_1 : (⟨S_, .f32⟩ : BufTy).Contents (Elt F) := constant S_ .f32 0x00000000#32
  let v8 : (⟨S2x2048, .f32⟩ : BufTy).Contents (Elt F) := ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v7 cst_1
  let v9 : (⟨S2x2048x1, .f32⟩ : BufTy).Contents (Elt F) := (broadcastInDim S2x2048x1 ![0, 1] bcast_S2x2048_S2x2048x1_0_1 : (⟨S2x2048, .f32⟩ : BufTy).Contents (Elt F) → (⟨S2x2048x1, .f32⟩ : BufTy).Contents (Elt F)) v8
  let v10 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v9
  let v11 : (⟨S2x2048x8, .f32⟩ : BufTy).Contents (Elt F) := (Host.divf : (⟨S2x2048x8, .f32⟩ : BufTy).Contents (Elt F) → (⟨S2x2048x8, .f32⟩ : BufTy).Contents (Elt F) → (⟨S2x2048x8, .f32⟩ : BufTy).Contents (Elt F)) v7 v10
  let v12 : (⟨S2x2048x8, .f32⟩ : BufTy).Contents (Elt F) := (Host.negf : (⟨S2x2048x8, .f32⟩ : BufTy).Contents (Elt F) → (⟨S2x2048x8, .f32⟩ : BufTy).Contents (Elt F)) v11
  v12

set_option maxHeartbeats 4000000 in
theorem softmax_v12_after (M : Valuation τ sig (Elt F)) :
    after softmaxOps M (Proc.devRef .tc main_v12) = softmax_v12 (M (Proc.devRef .tc main_arg0)) (M (Proc.devRef .tc main_arg1)) := by
  simp only [softmaxOps, TRef.binary, TRef.nullary, TRef.unary, TRef.ternary, TRef.quaternary, TRef.reshape, TRef.toBuf, TRef.ofBuf, cast_eq]; after_results_simp <;> rfl

/-- Operations 17 to 19: the order of a row's probabilities, greatest first. -/
def orderOps : List (HloOp τ sig (Elt F)) :=
  [ TRef.nullary (TRef.of (T := ⟨S2x2048x8, .i32⟩) main_call0_v0) (iotaInDim S2x2048x8 32 2),
    TRef.binary (TRef.of (T := ⟨S2x2048x8, .f32⟩) main_v12) (TRef.of (T := ⟨S2x2048x8, .i32⟩) main_call0_v0) (TRef.of (T := ⟨S2x2048x8, .f32⟩) main_call0_v1_0) (fun x y => (Host.sort2 S2x2048x8 2 comparator_f32_i32_d2 x y).1),
    TRef.binary (TRef.of (T := ⟨S2x2048x8, .f32⟩) main_v12) (TRef.of (T := ⟨S2x2048x8, .i32⟩) main_call0_v0) (TRef.of (T := ⟨S2x2048x8, .i32⟩) main_v13) (fun x y => (Host.sort2 S2x2048x8 2 comparator_f32_i32_d2 x y).2) ]

/-- `%13` as a function of what the group reads. -/
def order_v13 (v12 : (⟨S2x2048x8, .f32⟩ : BufTy).Contents (Elt F)) : (⟨S2x2048x8, .i32⟩ : BufTy).Contents (Elt F) :=
  let call0_v0 : (⟨S2x2048x8, .i32⟩ : BufTy).Contents (Elt F) := iotaInDim S2x2048x8 32 2
  let v13 : (⟨S2x2048x8, .i32⟩ : BufTy).Contents (Elt F) := (fun x y => (Host.sort2 S2x2048x8 2 comparator_f32_i32_d2 x y).2) v12 call0_v0
  v13

set_option maxHeartbeats 4000000 in
theorem order_v13_after (M : Valuation τ sig (Elt F)) :
    after orderOps M (Proc.devRef .tc main_v13) = order_v13 (M (Proc.devRef .tc main_v12)) := by
  simp only [orderOps, TRef.binary, TRef.nullary, TRef.unary, TRef.ternary, TRef.quaternary, TRef.reshape, TRef.toBuf, TRef.ofBuf, cast_eq]; after_results_simp <;> rfl

/-- Operations 20 to 41: the probabilities in that order. -/
def sortedOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2x2048x8, .i32⟩) main_call1_v0) (broadcastInDim S2x2048x8 ![] bcast_S_S2x2048x8),
    TRef.binary (TRef.of (T := ⟨S2x2048x8, .i32⟩) main_v13) (TRef.of (T := ⟨S2x2048x8, .i32⟩) main_call1_v0) (TRef.of (T := ⟨S2x2048x8, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S2x2048x8, .i32⟩) main_call1_v2) (broadcastInDim S2x2048x8 ![] bcast_S_S2x2048x8),
    TRef.binary (TRef.of (T := ⟨S2x2048x8, .i32⟩) main_v13) (TRef.of (T := ⟨S2x2048x8, .i32⟩) main_call1_v2) (TRef.of (T := ⟨S2x2048x8, .i32⟩) main_call1_v3) addi,
    TRef.ternary (TRef.of (T := ⟨S2x2048x8, .i1⟩) main_call1_v1) (TRef.of (T := ⟨S2x2048x8, .i32⟩) main_call1_v3) (TRef.of (T := ⟨S2x2048x8, .i32⟩) main_v13) (TRef.of (T := ⟨S2x2048x8, .i32⟩) main_call1_v4) select,
    TRef.reshape (TRef.of (T := ⟨S2x2048x8, .i32⟩) main_call1_v4) (TRef.of (T := ⟨S2x2048x8x1, .i32⟩) main_call1_v5) (rfl : (.i32 : EltTy) = .i32) shapeCasts_S2x2048x8_S2x2048x8x1,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S2x2048x8x1, .i32⟩) main_call1_v6) (broadcastInDim S2x2048x8x1 ![] bcast_S_S2x2048x8x1),
    TRef.binary (TRef.of (T := ⟨S2x2048x8x1, .i32⟩) main_call1_v5) (TRef.of (T := ⟨S2x2048x8x1, .i32⟩) main_call1_v6) (TRef.of (T := ⟨S2x2048x8x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S2x2048x8x1, .i32⟩) main_call1_v9) (broadcastInDim S2x2048x8x1 ![0, 1, 2, 3] bcast_S1x1x1x1_S2x2048x8x1_0_1_2_3),
    TRef.binary (TRef.of (T := ⟨S2x2048x8x1, .i32⟩) main_call1_v5) (TRef.of (T := ⟨S2x2048x8x1, .i32⟩) main_call1_v9) (TRef.of (T := ⟨S2x2048x8x1, .i1⟩) main_call1_v10) (cmpi .sle),
    TRef.binary (TRef.of (T := ⟨S2x2048x8x1, .i1⟩) main_call1_v7) (TRef.of (T := ⟨S2x2048x8x1, .i1⟩) main_call1_v10) (TRef.of (T := ⟨S2x2048x8x1, .i1⟩) main_call1_v11) andi,
    TRef.nullary (TRef.of (T := ⟨S_, .i1⟩) main_call1_c_3) (constantI S_ 1 1#1),
    TRef.binary (TRef.of (T := ⟨S2x2048x8x1, .i1⟩) main_call1_v11) (TRef.of (T := ⟨S_, .i1⟩) main_call1_c_3) (TRef.of (T := ⟨S2x2048x8, .i1⟩) main_call1_v12) (fun x v => Host.reduce IntOp.andi x v reducesTo_S2x2048x8x1_S2x2048x8_d3 h_S_),
    TRef.binary (TRef.of (T := ⟨S2x2048x8, .f32⟩) main_v11) (TRef.of (T := ⟨S2x2048x8x1, .i32⟩) main_call1_v5) (TRef.of (T := ⟨S2x2048x8, .f32⟩) main_call1_v13) (fun x i => Host.gather gather_S2x2048x8_S2x2048x8x1_S2x2048x8_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S2x2048x8, .f32⟩) main_call1_v14) (broadcastInDim S2x2048x8 ![] bcast_S_S2x2048x8),
    TRef.ternary (TRef.of (T := ⟨S2x2048x8, .i1⟩) main_call1_v12) (TRef.of (T := ⟨S2x2048x8, .f32⟩) main_call1_v13) (TRef.of (T := ⟨S2x2048x8, .f32⟩) main_call1_v14) (TRef.of (T := ⟨S2x2048x8, .f32⟩) main_v14) select ]

/-- `%14` as a function of what the group reads. -/
def sorted_v14 (v13 : (⟨S2x2048x8, .i32⟩ : BufTy).Contents (Elt F)) (v11 : (⟨S2x2048x8, .f32⟩ : BufTy).Contents (Elt F)) : (⟨S2x2048x8, .f32⟩ : BufTy).Contents (Elt F) :=
  let call1_c : (⟨S_, .i32⟩ : BufTy).Contents (Elt F) := constantI S_ 32 0#32
  let call1_v0 : (⟨S2x2048x8, .i32⟩ : BufTy).Contents (Elt F) := (broadcastInDim S2x2048x8 ![] bcast_S_S2x2048x8) call1_c
  let call1_v1 : (⟨S2x2048x8, .i1⟩ : BufTy).Contents (Elt F) := (cmpi .slt) v13 call1_v0
  let call1_c_0 : (⟨S_, .i32⟩ : BufTy).Contents (Elt F) := constantI S_ 32 8#32
  let call1_v2 : (⟨S2x2048x8, .i32⟩ : BufTy).Contents (Elt F) := (broadcastInDim S2x2048x8 ![] bcast_S_S2x2048x8) call1_c_0
  let call1_v3 : (⟨S2x2048x8, .i32⟩ : BufTy).Contents (Elt F) := addi v13 call1_v2
  let call1_v4 : (⟨S2x2048x8, .i32⟩ : BufTy).Contents (Elt F) := select call1_v1 call1_v3 v13
  let call1_v5 : (⟨S2x2048x8x1, .i32⟩ : BufTy).Contents (Elt F) := shapeCast S2x2048x8x1 call1_v4 shapeCasts_S2x2048x8_S2x2048x8x1
  let call1_c_1 : (⟨S1, .i32⟩ : BufTy).Contents (Elt F) := constantI S1 32 7#32
  let call1_c_2 : (⟨S_, .i32⟩ : BufTy).Contents (Elt F) := constantI S_ 32 0#32
  let call1_v6 : (⟨S2x2048x8x1, .i32⟩ : BufTy).Contents (Elt F) := (broadcastInDim S2x2048x8x1 ![] bcast_S_S2x2048x8x1) call1_c_2
  let call1_v7 : (⟨S2x2048x8x1, .i1⟩ : BufTy).Contents (Elt F) := (cmpi .sge) call1_v5 call1_v6
  let call1_v8 : (⟨S1x1x1x1, .i32⟩ : BufTy).Contents (Elt F) := (broadcastInDim S1x1x1x1 ![3] bcast_S1_S1x1x1x1_3) call1_c_1
  let call1_v9 : (⟨S2x2048x8x1, .i32⟩ : BufTy).Contents (Elt F) := (broadcastInDim S2x2048x8x1 ![0, 1, 2, 3] bcast_S1x1x1x1_S2x2048x8x1_0_1_2_3) call1_v8
  let call1_v10 : (⟨S2x2048x8x1, .i1⟩ : BufTy).Contents (Elt F) := (cmpi .sle) call1_v5 call1_v9
  let call1_v11 : (⟨S2x2048x8x1, .i1⟩ : BufTy).Contents (Elt F) := andi call1_v7 call1_v10
  let call1_c_3 : (⟨S_, .i1⟩ : BufTy).Contents (Elt F) := constantI S_ 1 1#1
  let call1_v12 : (⟨S2x2048x8, .i1⟩ : BufTy).Contents (Elt F) := (fun x v => Host.reduce IntOp.andi x v reducesTo_S2x2048x8x1_S2x2048x8_d3 h_S_) call1_v11 call1_c_3
  let call1_v13 : (⟨S2x2048x8, .f32⟩ : BufTy).Contents (Elt F) := (fun x i => Host.gather gather_S2x2048x8_S2x2048x8x1_S2x2048x8_n_2_01_01_2_3_111 x i) v11 call1_v5
  let call1_cst : (⟨S_, .f32⟩ : BufTy).Contents (Elt F) := constant S_ .f32 0x7FC00000#32
  let call1_v14 : (⟨S2x2048x8, .f32⟩ : BufTy).Contents (Elt F) := (broadcastInDim S2x2048x8 ![] bcast_S_S2x2048x8) call1_cst
  let v14 : (⟨S2x2048x8, .f32⟩ : BufTy).Contents (Elt F) := select call1_v12 call1_v13 call1_v14
  v14

set_option maxHeartbeats 4000000 in
theorem sorted_v14_after (M : Valuation τ sig (Elt F)) :
    after sortedOps M (Proc.devRef .tc main_v14) = sorted_v14 (M (Proc.devRef .tc main_v13)) (M (Proc.devRef .tc main_v11)) := by
  simp only [sortedOps, TRef.binary, TRef.nullary, TRef.unary, TRef.ternary, TRef.quaternary, TRef.reshape, TRef.toBuf, TRef.ofBuf, cast_eq]; after_results_simp <;> rfl

/-- Operations 42 to 44: their running sums. -/
def cumOps : List (HloOp τ sig (Elt F)) :=
  [ TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S2x2048x8, .f32⟩) main_v14) (TRef.of (T := ⟨S_, .f32⟩) main_call2_call0_v0) (TRef.of (T := ⟨S2x2048x8, .f32⟩) main_v15) (fun x v => Host.reduceWindowAdd ![1, 1, 8] ![1, 1, 1] ![0, 0, 7] ![0, 0, 0] x v reduceWindows_S2x2048x8_S2x2048x8_w1s1p0_0_w1s1p0_0_w8s1p7_0 h_S_) ]

/-- `%15` as a function of what the group reads. -/
def cum_v15 (v14 : (⟨S2x2048x8, .f32⟩ : BufTy).Contents (Elt F)) : (⟨S2x2048x8, .f32⟩ : BufTy).Contents (Elt F) :=
  let call2_call0_cst : (⟨S_, .f32⟩ : BufTy).Contents (Elt F) := constant S_ .f32 0x00000000#32
  let call2_call0_v0 : (⟨S_, .f32⟩ : BufTy).Contents (Elt F) := (broadcastInDim S_ ![] bcast_S_S_) call2_call0_cst
  let v15 : (⟨S2x2048x8, .f32⟩ : BufTy).Contents (Elt F) := (fun x v => Host.reduceWindowAdd ![1, 1, 8] ![1, 1, 1] ![0, 0, 7] ![0, 0, 0] x v reduceWindows_S2x2048x8_S2x2048x8_w1s1p0_0_w1s1p0_0_w8s1p7_0 h_S_) v14 call2_call0_v0
  v15

set_option maxHeartbeats 4000000 in
theorem cum_v15_after (M : Valuation τ sig (Elt F)) :
    after cumOps M (Proc.devRef .tc main_v15) = cum_v15 (M (Proc.devRef .tc main_v14)) := by
  simp only [cumOps, TRef.binary, TRef.nullary, TRef.unary, TRef.ternary, TRef.quaternary, TRef.reshape, TRef.toBuf, TRef.ofBuf, cast_eq]; after_results_simp <;> rfl

/-- Operations 45 to 63: how many experts a token takes. -/
def countOps : List (HloOp τ sig (Elt F)) :=
  [ nullary main_cst_2 (constant S_ .f32 0x3F4CCCCD#32),
    unary main_cst_2 main_v16 (broadcastInDim S2x2048x8 ![] bcast_S_S2x2048x8 : (⟨S_, .f32⟩ : BufTy).Contents (Elt F) → (⟨S2x2048x8, .f32⟩ : BufTy).Contents (Elt F)),
    binary main_v15 main_v16 main_v17 (cmpf .oge : (⟨S2x2048x8, .f32⟩ : BufTy).Contents (Elt F) → (⟨S2x2048x8, .f32⟩ : BufTy).Contents (Elt F) → (⟨S2x2048x8, .i1⟩ : BufTy).Contents (Elt F)),
    unary main_v17 main_v18 (uitofp .f32 : (⟨S2x2048x8, .i1⟩ : BufTy).Contents (Elt F) → (⟨S2x2048x8, .f32⟩ : BufTy).Contents (Elt F)),
    TRef.nullary (TRef.of (T := ⟨S2x2048x8, .i32⟩) main_call3_v0) (iotaInDim S2x2048x8 32 2),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S2x2048x8, .f32⟩) main_v18) (TRef.of (T := ⟨S2x2048x8, .i32⟩) main_call3_v0) (TRef.of (T := ⟨S_, .f32⟩) main_call3_cst) (TRef.of (T := ⟨S_, .i32⟩) main_call3_c) (TRef.of (T := ⟨S2x2048, .f32⟩) main_call3_v1_0) (fun x y u v j => (Host.argReduce reducer_argmax_f32_i32 x y u v reducesTo_S2x2048x8_S2x2048_d2 h_S_ j).1),
    TRef.quaternary (TRef.of (T := ⟨S2x2048x8, .f32⟩) main_v18) (TRef.of (T := ⟨S2x2048x8, .i32⟩) main_call3_v0) (TRef.of (T := ⟨S_, .f32⟩) main_call3_cst) (TRef.of (T := ⟨S_, .i32⟩) main_call3_c) (TRef.of (T := ⟨S2x2048, .i32⟩) main_v19) (fun x y u v j => (Host.argReduce reducer_argmax_f32_i32 x y u v reducesTo_S2x2048x8_S2x2048_d2 h_S_ j).2),
    nullary main_c (constantI S_ 32 1#32),
    unary main_c main_v20 (broadcastInDim S2x2048 ![] bcast_S_S2x2048 : (⟨S_, .i32⟩ : BufTy).Contents (Elt F) → (⟨S2x2048, .i32⟩ : BufTy).Contents (Elt F)),
    binary main_v19 main_v20 main_v21 (addi : (⟨S2x2048, .i32⟩ : BufTy).Contents (Elt F) → (⟨S2x2048, .i32⟩ : BufTy).Contents (Elt F) → (⟨S2x2048, .i32⟩ : BufTy).Contents (Elt F)),
    nullary main_c_3 (constantI S_ 1 0#1),
    binary main_v17 main_c_3 main_v22 ((fun x v => Host.reduce IntOp.ori x v reducesTo_S2x2048x8_S2x2048_d2 h_S_) : (⟨S2x2048x8, .i1⟩ : BufTy).Contents (Elt F) → (⟨S_, .i1⟩ : BufTy).Contents (Elt F) → (⟨S2x2048, .i1⟩ : BufTy).Contents (Elt F)),
    unary main_v22 main_v23 (noti : (⟨S2x2048, .i1⟩ : BufTy).Contents (Elt F) → (⟨S2x2048, .i1⟩ : BufTy).Contents (Elt F)),
    nullary main_c_4 (constantI S_ 32 8#32),
    TRef.unary (TRef.of (T := ⟨S_, .i32⟩) main_c_4) (TRef.of (T := ⟨S_, .i32⟩) main_call4_v0) id,
    TRef.unary (TRef.of (T := ⟨S_, .i32⟩) main_call4_v0) (TRef.of (T := ⟨S2x2048, .i32⟩) main_call4_v1) (broadcastInDim S2x2048 ![] bcast_S_S2x2048),
    TRef.ternary (TRef.of (T := ⟨S2x2048, .i1⟩) main_v23) (TRef.of (T := ⟨S2x2048, .i32⟩) main_call4_v1) (TRef.of (T := ⟨S2x2048, .i32⟩) main_v21) (TRef.of (T := ⟨S2x2048, .i32⟩) main_v24) select ]

/-- `%24` as a function of what the group reads. -/
def count_v24 (v15 : (⟨S2x2048x8, .f32⟩ : BufTy).Contents (Elt F)) : (⟨S2x2048, .i32⟩ : BufTy).Contents (Elt F) :=
  let cst_2 : (⟨S_, .f32⟩ : BufTy).Contents (Elt F) := constant S_ .f32 0x3F4CCCCD#32
  let v16 : (⟨S2x2048x8, .f32⟩ : BufTy).Contents (Elt F) := (broadcastInDim S2x2048x8 ![] bcast_S_S2x2048x8 : (⟨S_, .f32⟩ : BufTy).Contents (Elt F) → (⟨S2x2048x8, .f32⟩ : BufTy).Contents (Elt F)) cst_2
  let v17 : (⟨S2x2048x8, .i1⟩ : BufTy).Contents (Elt F) := (cmpf .oge : (⟨S2x2048x8, .f32⟩ : BufTy).Contents (Elt F) → (⟨S2x2048x8, .f32⟩ : BufTy).Contents (Elt F) → (⟨S2x2048x8, .i1⟩ : BufTy).Contents (Elt F)) v15 v16
  let v18 : (⟨S2x2048x8, .f32⟩ : BufTy).Contents (Elt F) := (uitofp .f32 : (⟨S2x2048x8, .i1⟩ : BufTy).Contents (Elt F) → (⟨S2x2048x8, .f32⟩ : BufTy).Contents (Elt F)) v17
  let call3_v0 : (⟨S2x2048x8, .i32⟩ : BufTy).Contents (Elt F) := iotaInDim S2x2048x8 32 2
  let call3_cst : (⟨S_, .f32⟩ : BufTy).Contents (Elt F) := constant S_ .f32 0xFF800000#32
  let call3_c : (⟨S_, .i32⟩ : BufTy).Contents (Elt F) := constantI S_ 32 0#32
  let v19 : (⟨S2x2048, .i32⟩ : BufTy).Contents (Elt F) := (fun x y u v j => (Host.argReduce reducer_argmax_f32_i32 x y u v reducesTo_S2x2048x8_S2x2048_d2 h_S_ j).2) v18 call3_v0 call3_cst call3_c
  let c : (⟨S_, .i32⟩ : BufTy).Contents (Elt F) := constantI S_ 32 1#32
  let v20 : (⟨S2x2048, .i32⟩ : BufTy).Contents (Elt F) := (broadcastInDim S2x2048 ![] bcast_S_S2x2048 : (⟨S_, .i32⟩ : BufTy).Contents (Elt F) → (⟨S2x2048, .i32⟩ : BufTy).Contents (Elt F)) c
  let v21 : (⟨S2x2048, .i32⟩ : BufTy).Contents (Elt F) := (addi : (⟨S2x2048, .i32⟩ : BufTy).Contents (Elt F) → (⟨S2x2048, .i32⟩ : BufTy).Contents (Elt F) → (⟨S2x2048, .i32⟩ : BufTy).Contents (Elt F)) v19 v20
  let c_3 : (⟨S_, .i1⟩ : BufTy).Contents (Elt F) := constantI S_ 1 0#1
  let v22 : (⟨S2x2048, .i1⟩ : BufTy).Contents (Elt F) := ((fun x v => Host.reduce IntOp.ori x v reducesTo_S2x2048x8_S2x2048_d2 h_S_) : (⟨S2x2048x8, .i1⟩ : BufTy).Contents (Elt F) → (⟨S_, .i1⟩ : BufTy).Contents (Elt F) → (⟨S2x2048, .i1⟩ : BufTy).Contents (Elt F)) v17 c_3
  let v23 : (⟨S2x2048, .i1⟩ : BufTy).Contents (Elt F) := (noti : (⟨S2x2048, .i1⟩ : BufTy).Contents (Elt F) → (⟨S2x2048, .i1⟩ : BufTy).Contents (Elt F)) v22
  let c_4 : (⟨S_, .i32⟩ : BufTy).Contents (Elt F) := constantI S_ 32 8#32
  let call4_v0 : (⟨S_, .i32⟩ : BufTy).Contents (Elt F) := id c_4
  let call4_v1 : (⟨S2x2048, .i32⟩ : BufTy).Contents (Elt F) := (broadcastInDim S2x2048 ![] bcast_S_S2x2048) call4_v0
  let v24 : (⟨S2x2048, .i32⟩ : BufTy).Contents (Elt F) := select v23 call4_v1 v21
  v24

set_option maxHeartbeats 4000000 in
theorem count_v24_after (M : Valuation τ sig (Elt F)) :
    after countOps M (Proc.devRef .tc main_v24) = count_v24 (M (Proc.devRef .tc main_v15)) := by
  simp only [countOps, TRef.binary, TRef.nullary, TRef.unary, TRef.ternary, TRef.quaternary, TRef.reshape, TRef.toBuf, TRef.ofBuf, cast_eq]; after_results_simp <;> rfl

/-- Operations 64 to 69: that number against the greatest of all tokens. -/
def capOps : List (HloOp τ sig (Elt F)) :=
  [ nullary main_c_5 (constantI S_ 32 2147483648#32),
    binary main_v24 main_c_5 main_v25 ((fun x v => Host.reduce IntOp.maxsi x v reducesTo_S2x2048_S_d0_1 h_S_) : (⟨S2x2048, .i32⟩ : BufTy).Contents (Elt F) → (⟨S_, .i32⟩ : BufTy).Contents (Elt F) → (⟨S_, .i32⟩ : BufTy).Contents (Elt F)),
    nullary main_c_6 (constantI S_ 32 8#32),
    binary main_v25 main_c_6 main_v26 (minsi : (⟨S_, .i32⟩ : BufTy).Contents (Elt F) → (⟨S_, .i32⟩ : BufTy).Contents (Elt F) → (⟨S_, .i32⟩ : BufTy).Contents (Elt F)),
    unary main_v26 main_v27 (broadcastInDim S2x2048 ![] bcast_S_S2x2048 : (⟨S_, .i32⟩ : BufTy).Contents (Elt F) → (⟨S2x2048, .i32⟩ : BufTy).Contents (Elt F)),
    binary main_v24 main_v27 main_v28 (minsi : (⟨S2x2048, .i32⟩ : BufTy).Contents (Elt F) → (⟨S2x2048, .i32⟩ : BufTy).Contents (Elt F) → (⟨S2x2048, .i32⟩ : BufTy).Contents (Elt F)) ]

/-- `%28` as a function of what the group reads. -/
def cap_v28 (v24 : (⟨S2x2048, .i32⟩ : BufTy).Contents (Elt F)) : (⟨S2x2048, .i32⟩ : BufTy).Contents (Elt F) :=
  let c_5 : (⟨S_, .i32⟩ : BufTy).Contents (Elt F) := constantI S_ 32 2147483648#32
  let v25 : (⟨S_, .i32⟩ : BufTy).Contents (Elt F) := ((fun x v => Host.reduce IntOp.maxsi x v reducesTo_S2x2048_S_d0_1 h_S_) : (⟨S2x2048, .i32⟩ : BufTy).Contents (Elt F) → (⟨S_, .i32⟩ : BufTy).Contents (Elt F) → (⟨S_, .i32⟩ : BufTy).Contents (Elt F)) v24 c_5
  let c_6 : (⟨S_, .i32⟩ : BufTy).Contents (Elt F) := constantI S_ 32 8#32
  let v26 : (⟨S_, .i32⟩ : BufTy).Contents (Elt F) := (minsi : (⟨S_, .i32⟩ : BufTy).Contents (Elt F) → (⟨S_, .i32⟩ : BufTy).Contents (Elt F) → (⟨S_, .i32⟩ : BufTy).Contents (Elt F)) v25 c_6
  let v27 : (⟨S2x2048, .i32⟩ : BufTy).Contents (Elt F) := (broadcastInDim S2x2048 ![] bcast_S_S2x2048 : (⟨S_, .i32⟩ : BufTy).Contents (Elt F) → (⟨S2x2048, .i32⟩ : BufTy).Contents (Elt F)) v26
  let v28 : (⟨S2x2048, .i32⟩ : BufTy).Contents (Elt F) := (minsi : (⟨S2x2048, .i32⟩ : BufTy).Contents (Elt F) → (⟨S2x2048, .i32⟩ : BufTy).Contents (Elt F) → (⟨S2x2048, .i32⟩ : BufTy).Contents (Elt F)) v24 v27
  v28

set_option maxHeartbeats 4000000 in
theorem cap_v28_after (M : Valuation τ sig (Elt F)) :
    after capOps M (Proc.devRef .tc main_v28) = cap_v28 (M (Proc.devRef .tc main_v24)) := by
  simp only [capOps, TRef.binary, TRef.nullary, TRef.unary, TRef.ternary, TRef.quaternary, TRef.reshape, TRef.toBuf, TRef.ofBuf, cast_eq]; after_results_simp <;> rfl

/-- Operations 70 to 82: the ranks taken and their normalized probabilities. -/
def chosenOps : List (HloOp τ sig (Elt F)) :=
  [ nullary main_v29 (iotaInDim S8 32 0),
    unary main_v29 main_v30 (broadcastInDim S1x1x8 ![2] bcast_S8_S1x1x8_2 : (⟨S8, .i32⟩ : BufTy).Contents (Elt F) → (⟨S1x1x8, .i32⟩ : BufTy).Contents (Elt F)),
    unary main_v28 main_v31 (broadcastInDim S2x2048x1 ![0, 1] bcast_S2x2048_S2x2048x1_0_1 : (⟨S2x2048, .i32⟩ : BufTy).Contents (Elt F) → (⟨S2x2048x1, .i32⟩ : BufTy).Contents (Elt F)),
    unary main_v30 main_v32 (broadcastInDim S2x2048x8 ![0, 1, 2] bcast_S1x1x8_S2x2048x8_0_1_2 : (⟨S1x1x8, .i32⟩ : BufTy).Contents (Elt F) → (⟨S2x2048x8, .i32⟩ : BufTy).Contents (Elt F)),
    unary main_v31 main_v33 (broadcastInDim S2x2048x8 ![0, 1, 2] bcast_S2x2048x1_S2x2048x8_0_1_2 : (⟨S2x2048x1, .i32⟩ : BufTy).Contents (Elt F) → (⟨S2x2048x8, .i32⟩ : BufTy).Contents (Elt F)),
    binary main_v32 main_v33 main_v34 (cmpi .slt : (⟨S2x2048x8, .i32⟩ : BufTy).Contents (Elt F) → (⟨S2x2048x8, .i32⟩ : BufTy).Contents (Elt F) → (⟨S2x2048x8, .i1⟩ : BufTy).Contents (Elt F)),
    unary main_v34 main_v35 (uitofp .f32 : (⟨S2x2048x8, .i1⟩ : BufTy).Contents (Elt F) → (⟨S2x2048x8, .f32⟩ : BufTy).Contents (Elt F)),
    binary main_v14 main_v35 main_v36 (mulf : (⟨S2x2048x8, .f32⟩ : BufTy).Contents (Elt F) → (⟨S2x2048x8, .f32⟩ : BufTy).Contents (Elt F) → (⟨S2x2048x8, .f32⟩ : BufTy).Contents (Elt F)),
    nullary main_cst_7 (constant S_ .f32 0x00000000#32),
    binary main_v36 main_cst_7 main_v37 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v37 main_v38 (broadcastInDim S2x2048x1 ![0, 1] bcast_S2x2048_S2x2048x1_0_1 : (⟨S2x2048, .f32⟩ : BufTy).Contents (Elt F) → (⟨S2x2048x1, .f32⟩ : BufTy).Contents (Elt F)),
    unary main_v38 main_v39 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v36 main_v39 main_v40 (Host.divf : (⟨S2x2048x8, .f32⟩ : BufTy).Contents (Elt F) → (⟨S2x2048x8, .f32⟩ : BufTy).Contents (Elt F) → (⟨S2x2048x8, .f32⟩ : BufTy).Contents (Elt F)) ]

/-- `%35` as a function of what the group reads. -/
def chosen_v35 (v28 : (⟨S2x2048, .i32⟩ : BufTy).Contents (Elt F)) : (⟨S2x2048x8, .f32⟩ : BufTy).Contents (Elt F) :=
  let v29 : (⟨S8, .i32⟩ : BufTy).Contents (Elt F) := iotaInDim S8 32 0
  let v30 : (⟨S1x1x8, .i32⟩ : BufTy).Contents (Elt F) := (broadcastInDim S1x1x8 ![2] bcast_S8_S1x1x8_2 : (⟨S8, .i32⟩ : BufTy).Contents (Elt F) → (⟨S1x1x8, .i32⟩ : BufTy).Contents (Elt F)) v29
  let v31 : (⟨S2x2048x1, .i32⟩ : BufTy).Contents (Elt F) := (broadcastInDim S2x2048x1 ![0, 1] bcast_S2x2048_S2x2048x1_0_1 : (⟨S2x2048, .i32⟩ : BufTy).Contents (Elt F) → (⟨S2x2048x1, .i32⟩ : BufTy).Contents (Elt F)) v28
  let v32 : (⟨S2x2048x8, .i32⟩ : BufTy).Contents (Elt F) := (broadcastInDim S2x2048x8 ![0, 1, 2] bcast_S1x1x8_S2x2048x8_0_1_2 : (⟨S1x1x8, .i32⟩ : BufTy).Contents (Elt F) → (⟨S2x2048x8, .i32⟩ : BufTy).Contents (Elt F)) v30
  let v33 : (⟨S2x2048x8, .i32⟩ : BufTy).Contents (Elt F) := (broadcastInDim S2x2048x8 ![0, 1, 2] bcast_S2x2048x1_S2x2048x8_0_1_2 : (⟨S2x2048x1, .i32⟩ : BufTy).Contents (Elt F) → (⟨S2x2048x8, .i32⟩ : BufTy).Contents (Elt F)) v31
  let v34 : (⟨S2x2048x8, .i1⟩ : BufTy).Contents (Elt F) := (cmpi .slt : (⟨S2x2048x8, .i32⟩ : BufTy).Contents (Elt F) → (⟨S2x2048x8, .i32⟩ : BufTy).Contents (Elt F) → (⟨S2x2048x8, .i1⟩ : BufTy).Contents (Elt F)) v32 v33
  let v35 : (⟨S2x2048x8, .f32⟩ : BufTy).Contents (Elt F) := (uitofp .f32 : (⟨S2x2048x8, .i1⟩ : BufTy).Contents (Elt F) → (⟨S2x2048x8, .f32⟩ : BufTy).Contents (Elt F)) v34
  v35

set_option maxHeartbeats 4000000 in
theorem chosen_v35_after (M : Valuation τ sig (Elt F)) :
    after chosenOps M (Proc.devRef .tc main_v35) = chosen_v35 (M (Proc.devRef .tc main_v28)) := by
  simp only [chosenOps, TRef.binary, TRef.nullary, TRef.unary, TRef.ternary, TRef.quaternary, TRef.reshape, TRef.toBuf, TRef.ofBuf, cast_eq]; after_results_simp <;> rfl

/-- `%40` as a function of what the group reads. -/
def chosen_v40 (v28 : (⟨S2x2048, .i32⟩ : BufTy).Contents (Elt F)) (v14 : (⟨S2x2048x8, .f32⟩ : BufTy).Contents (Elt F)) : (⟨S2x2048x8, .f32⟩ : BufTy).Contents (Elt F) :=
  let v29 : (⟨S8, .i32⟩ : BufTy).Contents (Elt F) := iotaInDim S8 32 0
  let v30 : (⟨S1x1x8, .i32⟩ : BufTy).Contents (Elt F) := (broadcastInDim S1x1x8 ![2] bcast_S8_S1x1x8_2 : (⟨S8, .i32⟩ : BufTy).Contents (Elt F) → (⟨S1x1x8, .i32⟩ : BufTy).Contents (Elt F)) v29
  let v31 : (⟨S2x2048x1, .i32⟩ : BufTy).Contents (Elt F) := (broadcastInDim S2x2048x1 ![0, 1] bcast_S2x2048_S2x2048x1_0_1 : (⟨S2x2048, .i32⟩ : BufTy).Contents (Elt F) → (⟨S2x2048x1, .i32⟩ : BufTy).Contents (Elt F)) v28
  let v32 : (⟨S2x2048x8, .i32⟩ : BufTy).Contents (Elt F) := (broadcastInDim S2x2048x8 ![0, 1, 2] bcast_S1x1x8_S2x2048x8_0_1_2 : (⟨S1x1x8, .i32⟩ : BufTy).Contents (Elt F) → (⟨S2x2048x8, .i32⟩ : BufTy).Contents (Elt F)) v30
  let v33 : (⟨S2x2048x8, .i32⟩ : BufTy).Contents (Elt F) := (broadcastInDim S2x2048x8 ![0, 1, 2] bcast_S2x2048x1_S2x2048x8_0_1_2 : (⟨S2x2048x1, .i32⟩ : BufTy).Contents (Elt F) → (⟨S2x2048x8, .i32⟩ : BufTy).Contents (Elt F)) v31
  let v34 : (⟨S2x2048x8, .i1⟩ : BufTy).Contents (Elt F) := (cmpi .slt : (⟨S2x2048x8, .i32⟩ : BufTy).Contents (Elt F) → (⟨S2x2048x8, .i32⟩ : BufTy).Contents (Elt F) → (⟨S2x2048x8, .i1⟩ : BufTy).Contents (Elt F)) v32 v33
  let v35 : (⟨S2x2048x8, .f32⟩ : BufTy).Contents (Elt F) := (uitofp .f32 : (⟨S2x2048x8, .i1⟩ : BufTy).Contents (Elt F) → (⟨S2x2048x8, .f32⟩ : BufTy).Contents (Elt F)) v34
  let v36 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v14 v35
  let cst_7 : (⟨S_, .f32⟩ : BufTy).Contents (Elt F) := constant S_ .f32 0x00000000#32
  let v37 : (⟨S2x2048, .f32⟩ : BufTy).Contents (Elt F) := ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v36 cst_7
  let v38 : (⟨S2x2048x1, .f32⟩ : BufTy).Contents (Elt F) := (broadcastInDim S2x2048x1 ![0, 1] bcast_S2x2048_S2x2048x1_0_1 : (⟨S2x2048, .f32⟩ : BufTy).Contents (Elt F) → (⟨S2x2048x1, .f32⟩ : BufTy).Contents (Elt F)) v37
  let v39 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v38
  let v40 : (⟨S2x2048x8, .f32⟩ : BufTy).Contents (Elt F) := (Host.divf : (⟨S2x2048x8, .f32⟩ : BufTy).Contents (Elt F) → (⟨S2x2048x8, .f32⟩ : BufTy).Contents (Elt F) → (⟨S2x2048x8, .f32⟩ : BufTy).Contents (Elt F)) v36 v39
  v40

set_option maxHeartbeats 4000000 in
theorem chosen_v40_after (M : Valuation τ sig (Elt F)) :
    after chosenOps M (Proc.devRef .tc main_v40) = chosen_v40 (M (Proc.devRef .tc main_v28)) (M (Proc.devRef .tc main_v14)) := by
  simp only [chosenOps, TRef.binary, TRef.nullary, TRef.unary, TRef.ternary, TRef.quaternary, TRef.reshape, TRef.toBuf, TRef.ofBuf, cast_eq]; after_results_simp <;> rfl

/-- Operations 83 to 85: each expert's rank. -/
def rankOps : List (HloOp τ sig (Elt F)) :=
  [ TRef.nullary (TRef.of (T := ⟨S2x2048x8, .i32⟩) main_call5_v0) (iotaInDim S2x2048x8 32 2),
    TRef.binary (TRef.of (T := ⟨S2x2048x8, .i32⟩) main_v13) (TRef.of (T := ⟨S2x2048x8, .i32⟩) main_call5_v0) (TRef.of (T := ⟨S2x2048x8, .i32⟩) main_call5_v1_0) (fun x y => (Host.sort2 S2x2048x8 2 comparator_i32_i32_d2 x y).1),
    TRef.binary (TRef.of (T := ⟨S2x2048x8, .i32⟩) main_v13) (TRef.of (T := ⟨S2x2048x8, .i32⟩) main_call5_v0) (TRef.of (T := ⟨S2x2048x8, .i32⟩) main_v41) (fun x y => (Host.sort2 S2x2048x8 2 comparator_i32_i32_d2 x y).2) ]

/-- `%41` as a function of what the group reads. -/
def rank_v41 (v13 : (⟨S2x2048x8, .i32⟩ : BufTy).Contents (Elt F)) : (⟨S2x2048x8, .i32⟩ : BufTy).Contents (Elt F) :=
  let call5_v0 : (⟨S2x2048x8, .i32⟩ : BufTy).Contents (Elt F) := iotaInDim S2x2048x8 32 2
  let v41 : (⟨S2x2048x8, .i32⟩ : BufTy).Contents (Elt F) := (fun x y => (Host.sort2 S2x2048x8 2 comparator_i32_i32_d2 x y).2) v13 call5_v0
  v41

set_option maxHeartbeats 4000000 in
theorem rank_v41_after (M : Valuation τ sig (Elt F)) :
    after rankOps M (Proc.devRef .tc main_v41) = rank_v41 (M (Proc.devRef .tc main_v13)) := by
  simp only [rankOps, TRef.binary, TRef.nullary, TRef.unary, TRef.ternary, TRef.quaternary, TRef.reshape, TRef.toBuf, TRef.ofBuf, cast_eq]; after_results_simp <;> rfl

/-- Operations 86 to 107: the normalized probabilities by expert. -/
def normOps : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S2x2048x8, .i32⟩) main_call6_v0) (broadcastInDim S2x2048x8 ![] bcast_S_S2x2048x8),
    TRef.binary (TRef.of (T := ⟨S2x2048x8, .i32⟩) main_v41) (TRef.of (T := ⟨S2x2048x8, .i32⟩) main_call6_v0) (TRef.of (T := ⟨S2x2048x8, .i1⟩) main_call6_v1) (cmpi .slt),
    TRef.nullary (TRef.of (T := ⟨S_, .i32⟩) main_call6_c_0) (constantI S_ 32 8#32),
    TRef.unary (TRef.of (T := ⟨S_, .i32⟩) main_call6_c_0) (TRef.of (T := ⟨S2x2048x8, .i32⟩) main_call6_v2) (broadcastInDim S2x2048x8 ![] bcast_S_S2x2048x8),
    TRef.binary (TRef.of (T := ⟨S2x2048x8, .i32⟩) main_v41) (TRef.of (T := ⟨S2x2048x8, .i32⟩) main_call6_v2) (TRef.of (T := ⟨S2x2048x8, .i32⟩) main_call6_v3) addi,
    TRef.ternary (TRef.of (T := ⟨S2x2048x8, .i1⟩) main_call6_v1) (TRef.of (T := ⟨S2x2048x8, .i32⟩) main_call6_v3) (TRef.of (T := ⟨S2x2048x8, .i32⟩) main_v41) (TRef.of (T := ⟨S2x2048x8, .i32⟩) main_call6_v4) select,
    TRef.reshape (TRef.of (T := ⟨S2x2048x8, .i32⟩) main_call6_v4) (TRef.of (T := ⟨S2x2048x8x1, .i32⟩) main_call6_v5) (rfl : (.i32 : EltTy) = .i32) shapeCasts_S2x2048x8_S2x2048x8x1,
    TRef.nullary (TRef.of (T := ⟨S1, .i32⟩) main_call6_c_1) (constantI S1 32 7#32),
    TRef.nullary (TRef.of (T := ⟨S_, .i32⟩) main_call6_c_2) (constantI S_ 32 0#32),
    TRef.unary (TRef.of (T := ⟨S_, .i32⟩) main_call6_c_2) (TRef.of (T := ⟨S2x2048x8x1, .i32⟩) main_call6_v6) (broadcastInDim S2x2048x8x1 ![] bcast_S_S2x2048x8x1),
    TRef.binary (TRef.of (T := ⟨S2x2048x8x1, .i32⟩) main_call6_v5) (TRef.of (T := ⟨S2x2048x8x1, .i32⟩) main_call6_v6) (TRef.of (T := ⟨S2x2048x8x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S2x2048x8x1, .i32⟩) main_call6_v9) (broadcastInDim S2x2048x8x1 ![0, 1, 2, 3] bcast_S1x1x1x1_S2x2048x8x1_0_1_2_3),
    TRef.binary (TRef.of (T := ⟨S2x2048x8x1, .i32⟩) main_call6_v5) (TRef.of (T := ⟨S2x2048x8x1, .i32⟩) main_call6_v9) (TRef.of (T := ⟨S2x2048x8x1, .i1⟩) main_call6_v10) (cmpi .sle),
    TRef.binary (TRef.of (T := ⟨S2x2048x8x1, .i1⟩) main_call6_v7) (TRef.of (T := ⟨S2x2048x8x1, .i1⟩) main_call6_v10) (TRef.of (T := ⟨S2x2048x8x1, .i1⟩) main_call6_v11) andi,
    TRef.nullary (TRef.of (T := ⟨S_, .i1⟩) main_call6_c_3) (constantI S_ 1 1#1),
    TRef.binary (TRef.of (T := ⟨S2x2048x8x1, .i1⟩) main_call6_v11) (TRef.of (T := ⟨S_, .i1⟩) main_call6_c_3) (TRef.of (T := ⟨S2x2048x8, .i1⟩) main_call6_v12) (fun x v => Host.reduce IntOp.andi x v reducesTo_S2x2048x8x1_S2x2048x8_d3 h_S_),
    TRef.binary (TRef.of (T := ⟨S2x2048x8, .f32⟩) main_v40) (TRef.of (T := ⟨S2x2048x8x1, .i32⟩) main_call6_v5) (TRef.of (T := ⟨S2x2048x8, .f32⟩) main_call6_v13) (fun x i => Host.gather gather_S2x2048x8_S2x2048x8x1_S2x2048x8_n_2_01_01_2_3_111 x i),
    TRef.nullary (TRef.of (T := ⟨S_, .f32⟩) main_call6_cst) (constant S_ .f32 0x7FC00000#32),
    TRef.unary (TRef.of (T := ⟨S_, .f32⟩) main_call6_cst) (TRef.of (T := ⟨S2x2048x8, .f32⟩) main_call6_v14) (broadcastInDim S2x2048x8 ![] bcast_S_S2x2048x8),
    TRef.ternary (TRef.of (T := ⟨S2x2048x8, .i1⟩) main_call6_v12) (TRef.of (T := ⟨S2x2048x8, .f32⟩) main_call6_v13) (TRef.of (T := ⟨S2x2048x8, .f32⟩) main_call6_v14) (TRef.of (T := ⟨S2x2048x8, .f32⟩) main_v42) select ]

/-- `%42` as a function of what the group reads. -/
def norm_v42 (v41 : (⟨S2x2048x8, .i32⟩ : BufTy).Contents (Elt F)) (v40 : (⟨S2x2048x8, .f32⟩ : BufTy).Contents (Elt F)) : (⟨S2x2048x8, .f32⟩ : BufTy).Contents (Elt F) :=
  let call6_c : (⟨S_, .i32⟩ : BufTy).Contents (Elt F) := constantI S_ 32 0#32
  let call6_v0 : (⟨S2x2048x8, .i32⟩ : BufTy).Contents (Elt F) := (broadcastInDim S2x2048x8 ![] bcast_S_S2x2048x8) call6_c
  let call6_v1 : (⟨S2x2048x8, .i1⟩ : BufTy).Contents (Elt F) := (cmpi .slt) v41 call6_v0
  let call6_c_0 : (⟨S_, .i32⟩ : BufTy).Contents (Elt F) := constantI S_ 32 8#32
  let call6_v2 : (⟨S2x2048x8, .i32⟩ : BufTy).Contents (Elt F) := (broadcastInDim S2x2048x8 ![] bcast_S_S2x2048x8) call6_c_0
  let call6_v3 : (⟨S2x2048x8, .i32⟩ : BufTy).Contents (Elt F) := addi v41 call6_v2
  let call6_v4 : (⟨S2x2048x8, .i32⟩ : BufTy).Contents (Elt F) := select call6_v1 call6_v3 v41
  let call6_v5 : (⟨S2x2048x8x1, .i32⟩ : BufTy).Contents (Elt F) := shapeCast S2x2048x8x1 call6_v4 shapeCasts_S2x2048x8_S2x2048x8x1
  let call6_c_1 : (⟨S1, .i32⟩ : BufTy).Contents (Elt F) := constantI S1 32 7#32
  let call6_c_2 : (⟨S_, .i32⟩ : BufTy).Contents (Elt F) := constantI S_ 32 0#32
  let call6_v6 : (⟨S2x2048x8x1, .i32⟩ : BufTy).Contents (Elt F) := (broadcastInDim S2x2048x8x1 ![] bcast_S_S2x2048x8x1) call6_c_2
  let call6_v7 : (⟨S2x2048x8x1, .i1⟩ : BufTy).Contents (Elt F) := (cmpi .sge) call6_v5 call6_v6
  let call6_v8 : (⟨S1x1x1x1, .i32⟩ : BufTy).Contents (Elt F) := (broadcastInDim S1x1x1x1 ![3] bcast_S1_S1x1x1x1_3) call6_c_1
  let call6_v9 : (⟨S2x2048x8x1, .i32⟩ : BufTy).Contents (Elt F) := (broadcastInDim S2x2048x8x1 ![0, 1, 2, 3] bcast_S1x1x1x1_S2x2048x8x1_0_1_2_3) call6_v8
  let call6_v10 : (⟨S2x2048x8x1, .i1⟩ : BufTy).Contents (Elt F) := (cmpi .sle) call6_v5 call6_v9
  let call6_v11 : (⟨S2x2048x8x1, .i1⟩ : BufTy).Contents (Elt F) := andi call6_v7 call6_v10
  let call6_c_3 : (⟨S_, .i1⟩ : BufTy).Contents (Elt F) := constantI S_ 1 1#1
  let call6_v12 : (⟨S2x2048x8, .i1⟩ : BufTy).Contents (Elt F) := (fun x v => Host.reduce IntOp.andi x v reducesTo_S2x2048x8x1_S2x2048x8_d3 h_S_) call6_v11 call6_c_3
  let call6_v13 : (⟨S2x2048x8, .f32⟩ : BufTy).Contents (Elt F) := (fun x i => Host.gather gather_S2x2048x8_S2x2048x8x1_S2x2048x8_n_2_01_01_2_3_111 x i) v40 call6_v5
  let call6_cst : (⟨S_, .f32⟩ : BufTy).Contents (Elt F) := constant S_ .f32 0x7FC00000#32
  let call6_v14 : (⟨S2x2048x8, .f32⟩ : BufTy).Contents (Elt F) := (broadcastInDim S2x2048x8 ![] bcast_S_S2x2048x8) call6_cst
  let v42 : (⟨S2x2048x8, .f32⟩ : BufTy).Contents (Elt F) := select call6_v12 call6_v13 call6_v14
  v42

set_option maxHeartbeats 4000000 in
theorem norm_v42_after (M : Valuation τ sig (Elt F)) :
    after normOps M (Proc.devRef .tc main_v42) = norm_v42 (M (Proc.devRef .tc main_v41)) (M (Proc.devRef .tc main_v40)) := by
  simp only [normOps, TRef.binary, TRef.nullary, TRef.unary, TRef.ternary, TRef.quaternary, TRef.reshape, TRef.toBuf, TRef.ofBuf, cast_eq]; after_results_simp <;> rfl

/-- Operations 108 to 129: the experts taken. -/
def maskOps : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S2x2048x8, .i32⟩) main_call7_v0) (broadcastInDim S2x2048x8 ![] bcast_S_S2x2048x8),
    TRef.binary (TRef.of (T := ⟨S2x2048x8, .i32⟩) main_v41) (TRef.of (T := ⟨S2x2048x8, .i32⟩) main_call7_v0) (TRef.of (T := ⟨S2x2048x8, .i1⟩) main_call7_v1) (cmpi .slt),
    TRef.nullary (TRef.of (T := ⟨S_, .i32⟩) main_call7_c_0) (constantI S_ 32 8#32),
    TRef.unary (TRef.of (T := ⟨S_, .i32⟩) main_call7_c_0) (TRef.of (T := ⟨S2x2048x8, .i32⟩) main_call7_v2) (broadcastInDim S2x2048x8 ![] bcast_S_S2x2048x8),
    TRef.binary (TRef.of (T := ⟨S2x2048x8, .i32⟩) main_v41) (TRef.of (T := ⟨S2x2048x8, .i32⟩) main_call7_v2) (TRef.of (T := ⟨S2x2048x8, .i32⟩) main_call7_v3) addi,
    TRef.ternary (TRef.of (T := ⟨S2x2048x8, .i1⟩) main_call7_v1) (TRef.of (T := ⟨S2x2048x8, .i32⟩) main_call7_v3) (TRef.of (T := ⟨S2x2048x8, .i32⟩) main_v41) (TRef.of (T := ⟨S2x2048x8, .i32⟩) main_call7_v4) select,
    TRef.reshape (TRef.of (T := ⟨S2x2048x8, .i32⟩) main_call7_v4) (TRef.of (T := ⟨S2x2048x8x1, .i32⟩) main_call7_v5) (rfl : (.i32 : EltTy) = .i32) shapeCasts_S2x2048x8_S2x2048x8x1,
    TRef.nullary (TRef.of (T := ⟨S1, .i32⟩) main_call7_c_1) (constantI S1 32 7#32),
    TRef.nullary (TRef.of (T := ⟨S_, .i32⟩) main_call7_c_2) (constantI S_ 32 0#32),
    TRef.unary (TRef.of (T := ⟨S_, .i32⟩) main_call7_c_2) (TRef.of (T := ⟨S2x2048x8x1, .i32⟩) main_call7_v6) (broadcastInDim S2x2048x8x1 ![] bcast_S_S2x2048x8x1),
    TRef.binary (TRef.of (T := ⟨S2x2048x8x1, .i32⟩) main_call7_v5) (TRef.of (T := ⟨S2x2048x8x1, .i32⟩) main_call7_v6) (TRef.of (T := ⟨S2x2048x8x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S2x2048x8x1, .i32⟩) main_call7_v9) (broadcastInDim S2x2048x8x1 ![0, 1, 2, 3] bcast_S1x1x1x1_S2x2048x8x1_0_1_2_3),
    TRef.binary (TRef.of (T := ⟨S2x2048x8x1, .i32⟩) main_call7_v5) (TRef.of (T := ⟨S2x2048x8x1, .i32⟩) main_call7_v9) (TRef.of (T := ⟨S2x2048x8x1, .i1⟩) main_call7_v10) (cmpi .sle),
    TRef.binary (TRef.of (T := ⟨S2x2048x8x1, .i1⟩) main_call7_v7) (TRef.of (T := ⟨S2x2048x8x1, .i1⟩) main_call7_v10) (TRef.of (T := ⟨S2x2048x8x1, .i1⟩) main_call7_v11) andi,
    TRef.nullary (TRef.of (T := ⟨S_, .i1⟩) main_call7_c_3) (constantI S_ 1 1#1),
    TRef.binary (TRef.of (T := ⟨S2x2048x8x1, .i1⟩) main_call7_v11) (TRef.of (T := ⟨S_, .i1⟩) main_call7_c_3) (TRef.of (T := ⟨S2x2048x8, .i1⟩) main_call7_v12) (fun x v => Host.reduce IntOp.andi x v reducesTo_S2x2048x8x1_S2x2048x8_d3 h_S_),
    TRef.binary (TRef.of (T := ⟨S2x2048x8, .f32⟩) main_v35) (TRef.of (T := ⟨S2x2048x8x1, .i32⟩) main_call7_v5) (TRef.of (T := ⟨S2x2048x8, .f32⟩) main_call7_v13) (fun x i => Host.gather gather_S2x2048x8_S2x2048x8x1_S2x2048x8_n_2_01_01_2_3_111 x i),
    TRef.nullary (TRef.of (T := ⟨S_, .f32⟩) main_call7_cst) (constant S_ .f32 0x7FC00000#32),
    TRef.unary (TRef.of (T := ⟨S_, .f32⟩) main_call7_cst) (TRef.of (T := ⟨S2x2048x8, .f32⟩) main_call7_v14) (broadcastInDim S2x2048x8 ![] bcast_S_S2x2048x8),
    TRef.ternary (TRef.of (T := ⟨S2x2048x8, .i1⟩) main_call7_v12) (TRef.of (T := ⟨S2x2048x8, .f32⟩) main_call7_v13) (TRef.of (T := ⟨S2x2048x8, .f32⟩) main_call7_v14) (TRef.of (T := ⟨S2x2048x8, .f32⟩) main_v43) select ]

/-- `%43` as a function of what the group reads. -/
def mask_v43 (v41 : (⟨S2x2048x8, .i32⟩ : BufTy).Contents (Elt F)) (v35 : (⟨S2x2048x8, .f32⟩ : BufTy).Contents (Elt F)) : (⟨S2x2048x8, .f32⟩ : BufTy).Contents (Elt F) :=
  let call7_c : (⟨S_, .i32⟩ : BufTy).Contents (Elt F) := constantI S_ 32 0#32
  let call7_v0 : (⟨S2x2048x8, .i32⟩ : BufTy).Contents (Elt F) := (broadcastInDim S2x2048x8 ![] bcast_S_S2x2048x8) call7_c
  let call7_v1 : (⟨S2x2048x8, .i1⟩ : BufTy).Contents (Elt F) := (cmpi .slt) v41 call7_v0
  let call7_c_0 : (⟨S_, .i32⟩ : BufTy).Contents (Elt F) := constantI S_ 32 8#32
  let call7_v2 : (⟨S2x2048x8, .i32⟩ : BufTy).Contents (Elt F) := (broadcastInDim S2x2048x8 ![] bcast_S_S2x2048x8) call7_c_0
  let call7_v3 : (⟨S2x2048x8, .i32⟩ : BufTy).Contents (Elt F) := addi v41 call7_v2
  let call7_v4 : (⟨S2x2048x8, .i32⟩ : BufTy).Contents (Elt F) := select call7_v1 call7_v3 v41
  let call7_v5 : (⟨S2x2048x8x1, .i32⟩ : BufTy).Contents (Elt F) := shapeCast S2x2048x8x1 call7_v4 shapeCasts_S2x2048x8_S2x2048x8x1
  let call7_c_1 : (⟨S1, .i32⟩ : BufTy).Contents (Elt F) := constantI S1 32 7#32
  let call7_c_2 : (⟨S_, .i32⟩ : BufTy).Contents (Elt F) := constantI S_ 32 0#32
  let call7_v6 : (⟨S2x2048x8x1, .i32⟩ : BufTy).Contents (Elt F) := (broadcastInDim S2x2048x8x1 ![] bcast_S_S2x2048x8x1) call7_c_2
  let call7_v7 : (⟨S2x2048x8x1, .i1⟩ : BufTy).Contents (Elt F) := (cmpi .sge) call7_v5 call7_v6
  let call7_v8 : (⟨S1x1x1x1, .i32⟩ : BufTy).Contents (Elt F) := (broadcastInDim S1x1x1x1 ![3] bcast_S1_S1x1x1x1_3) call7_c_1
  let call7_v9 : (⟨S2x2048x8x1, .i32⟩ : BufTy).Contents (Elt F) := (broadcastInDim S2x2048x8x1 ![0, 1, 2, 3] bcast_S1x1x1x1_S2x2048x8x1_0_1_2_3) call7_v8
  let call7_v10 : (⟨S2x2048x8x1, .i1⟩ : BufTy).Contents (Elt F) := (cmpi .sle) call7_v5 call7_v9
  let call7_v11 : (⟨S2x2048x8x1, .i1⟩ : BufTy).Contents (Elt F) := andi call7_v7 call7_v10
  let call7_c_3 : (⟨S_, .i1⟩ : BufTy).Contents (Elt F) := constantI S_ 1 1#1
  let call7_v12 : (⟨S2x2048x8, .i1⟩ : BufTy).Contents (Elt F) := (fun x v => Host.reduce IntOp.andi x v reducesTo_S2x2048x8x1_S2x2048x8_d3 h_S_) call7_v11 call7_c_3
  let call7_v13 : (⟨S2x2048x8, .f32⟩ : BufTy).Contents (Elt F) := (fun x i => Host.gather gather_S2x2048x8_S2x2048x8x1_S2x2048x8_n_2_01_01_2_3_111 x i) v35 call7_v5
  let call7_cst : (⟨S_, .f32⟩ : BufTy).Contents (Elt F) := constant S_ .f32 0x7FC00000#32
  let call7_v14 : (⟨S2x2048x8, .f32⟩ : BufTy).Contents (Elt F) := (broadcastInDim S2x2048x8 ![] bcast_S_S2x2048x8) call7_cst
  let v43 : (⟨S2x2048x8, .f32⟩ : BufTy).Contents (Elt F) := select call7_v12 call7_v13 call7_v14
  v43

set_option maxHeartbeats 4000000 in
theorem mask_v43_after (M : Valuation τ sig (Elt F)) :
    after maskOps M (Proc.devRef .tc main_v43) = mask_v43 (M (Proc.devRef .tc main_v41)) (M (Proc.devRef .tc main_v35)) := by
  simp only [maskOps, TRef.binary, TRef.nullary, TRef.unary, TRef.ternary, TRef.quaternary, TRef.reshape, TRef.toBuf, TRef.ofBuf, cast_eq]; after_results_simp <;> rfl

/-- Operations 130 to 132: how many tokens have taken an expert so far. -/
def tallyOps : List (HloOp τ sig (Elt F)) :=
  [ TRef.nullary (TRef.of (T := ⟨S_, .f32⟩) main_call8_call0_cst) (constant S_ .f32 0x00000000#32),
    TRef.unary (TRef.of (T := ⟨S_, .f32⟩) main_call8_call0_cst) (TRef.of (T := ⟨S_, .f32⟩) main_call8_call0_v0) (broadcastInDim S_ ![] bcast_S_S_),
    TRef.binary (TRef.of (T := ⟨S2x2048x8, .f32⟩) main_v43) (TRef.of (T := ⟨S_, .f32⟩) main_call8_call0_v0) (TRef.of (T := ⟨S2x2048x8, .f32⟩) main_v44) (fun x v => Host.reduceWindowAdd ![1, 2048, 1] ![1, 1, 1] ![0, 2047, 0] ![0, 0, 0] x v reduceWindows_S2x2048x8_S2x2048x8_w1s1p0_0_w2048s1p2047_0_w1s1p0_0 h_S_) ]

/-- `%44` as a function of what the group reads. -/
def tally_v44 (v43 : (⟨S2x2048x8, .f32⟩ : BufTy).Contents (Elt F)) : (⟨S2x2048x8, .f32⟩ : BufTy).Contents (Elt F) :=
  let call8_call0_cst : (⟨S_, .f32⟩ : BufTy).Contents (Elt F) := constant S_ .f32 0x00000000#32
  let call8_call0_v0 : (⟨S_, .f32⟩ : BufTy).Contents (Elt F) := (broadcastInDim S_ ![] bcast_S_S_) call8_call0_cst
  let v44 : (⟨S2x2048x8, .f32⟩ : BufTy).Contents (Elt F) := (fun x v => Host.reduceWindowAdd ![1, 2048, 1] ![1, 1, 1] ![0, 2047, 0] ![0, 0, 0] x v reduceWindows_S2x2048x8_S2x2048x8_w1s1p0_0_w2048s1p2047_0_w1s1p0_0 h_S_) v43 call8_call0_v0
  v44

set_option maxHeartbeats 4000000 in
theorem tally_v44_after (M : Valuation τ sig (Elt F)) :
    after tallyOps M (Proc.devRef .tc main_v44) = tally_v44 (M (Proc.devRef .tc main_v43)) := by
  simp only [tallyOps, TRef.binary, TRef.nullary, TRef.unary, TRef.ternary, TRef.quaternary, TRef.reshape, TRef.toBuf, TRef.ofBuf, cast_eq]; after_results_simp <;> rfl

/-- Operations 133 to 150: what the capacity leaves: density mask, position, validity. -/
def slotsOps : List (HloOp τ sig (Elt F)) :=
  [ binary main_v44 main_v43 main_v45 (subf : (⟨S2x2048x8, .f32⟩ : BufTy).Contents (Elt F) → (⟨S2x2048x8, .f32⟩ : BufTy).Contents (Elt F) → (⟨S2x2048x8, .f32⟩ : BufTy).Contents (Elt F)),
    binary main_v45 main_v43 main_v46 (mulf : (⟨S2x2048x8, .f32⟩ : BufTy).Contents (Elt F) → (⟨S2x2048x8, .f32⟩ : BufTy).Contents (Elt F) → (⟨S2x2048x8, .f32⟩ : BufTy).Contents (Elt F)),
    nullary main_cst_8 (constant S_ .f32 0x44000000#32),
    unary main_cst_8 main_v47 (broadcastInDim S2x2048x8 ![] bcast_S_S2x2048x8 : (⟨S_, .f32⟩ : BufTy).Contents (Elt F) → (⟨S2x2048x8, .f32⟩ : BufTy).Contents (Elt F)),
    binary main_v46 main_v47 main_v48 (cmpf .olt : (⟨S2x2048x8, .f32⟩ : BufTy).Contents (Elt F) → (⟨S2x2048x8, .f32⟩ : BufTy).Contents (Elt F) → (⟨S2x2048x8, .i1⟩ : BufTy).Contents (Elt F)),
    unary main_v48 main_v49 (uitofp .f32 : (⟨S2x2048x8, .i1⟩ : BufTy).Contents (Elt F) → (⟨S2x2048x8, .f32⟩ : BufTy).Contents (Elt F)),
    binary main_v43 main_v49 main_v50 (mulf : (⟨S2x2048x8, .f32⟩ : BufTy).Contents (Elt F) → (⟨S2x2048x8, .f32⟩ : BufTy).Contents (Elt F) → (⟨S2x2048x8, .f32⟩ : BufTy).Contents (Elt F)),
    binary main_v46 main_v50 main_v51 (mulf : (⟨S2x2048x8, .f32⟩ : BufTy).Contents (Elt F) → (⟨S2x2048x8, .f32⟩ : BufTy).Contents (Elt F) → (⟨S2x2048x8, .f32⟩ : BufTy).Contents (Elt F)),
    nullary main_cst_9 (constant S_ .f32 0x00000000#32),
    binary main_v51 main_cst_9 main_v52 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v52 main_v53 (fptosi 32 : (⟨S2x2048, .f32⟩ : BufTy).Contents (Elt F) → (⟨S2x2048, .i32⟩ : BufTy).Contents (Elt F)),
    unary main_v53 main_v54 (broadcastInDim S2x2048x1 ![0, 1] bcast_S2x2048_S2x2048x1_0_1 : (⟨S2x2048, .i32⟩ : BufTy).Contents (Elt F) → (⟨S2x2048x1, .i32⟩ : BufTy).Contents (Elt F)),
    nullary main_c_10 (constantI S_ 32 512#32),
    unary main_c_10 main_v55 (broadcastInDim S2x2048x1 ![] bcast_S_S2x2048x1 : (⟨S_, .i32⟩ : BufTy).Contents (Elt F) → (⟨S2x2048x1, .i32⟩ : BufTy).Contents (Elt F)),
    binary main_v54 main_v55 main_v56 (cmpi .slt : (⟨S2x2048x1, .i32⟩ : BufTy).Contents (Elt F) → (⟨S2x2048x1, .i32⟩ : BufTy).Contents (Elt F) → (⟨S2x2048x1, .i1⟩ : BufTy).Contents (Elt F)),
    unary main_v56 main_v57 (uitofp .f32 : (⟨S2x2048x1, .i1⟩ : BufTy).Contents (Elt F) → (⟨S2x2048x1, .f32⟩ : BufTy).Contents (Elt F)),
    unary main_v57 main_v58 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v50 main_v58 main_v59 (mulf : (⟨S2x2048x8, .f32⟩ : BufTy).Contents (Elt F) → (⟨S2x2048x8, .f32⟩ : BufTy).Contents (Elt F) → (⟨S2x2048x8, .f32⟩ : BufTy).Contents (Elt F)) ]

/-- `%50` as a function of what the group reads. -/
def slots_v50 (v44 : (⟨S2x2048x8, .f32⟩ : BufTy).Contents (Elt F)) (v43 : (⟨S2x2048x8, .f32⟩ : BufTy).Contents (Elt F)) : (⟨S2x2048x8, .f32⟩ : BufTy).Contents (Elt F) :=
  let v45 : (⟨S2x2048x8, .f32⟩ : BufTy).Contents (Elt F) := (subf : (⟨S2x2048x8, .f32⟩ : BufTy).Contents (Elt F) → (⟨S2x2048x8, .f32⟩ : BufTy).Contents (Elt F) → (⟨S2x2048x8, .f32⟩ : BufTy).Contents (Elt F)) v44 v43
  let v46 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v45 v43
  let cst_8 : (⟨S_, .f32⟩ : BufTy).Contents (Elt F) := constant S_ .f32 0x44000000#32
  let v47 : (⟨S2x2048x8, .f32⟩ : BufTy).Contents (Elt F) := (broadcastInDim S2x2048x8 ![] bcast_S_S2x2048x8 : (⟨S_, .f32⟩ : BufTy).Contents (Elt F) → (⟨S2x2048x8, .f32⟩ : BufTy).Contents (Elt F)) cst_8
  let v48 : (⟨S2x2048x8, .i1⟩ : BufTy).Contents (Elt F) := (cmpf .olt : (⟨S2x2048x8, .f32⟩ : BufTy).Contents (Elt F) → (⟨S2x2048x8, .f32⟩ : BufTy).Contents (Elt F) → (⟨S2x2048x8, .i1⟩ : BufTy).Contents (Elt F)) v46 v47
  let v49 : (⟨S2x2048x8, .f32⟩ : BufTy).Contents (Elt F) := (uitofp .f32 : (⟨S2x2048x8, .i1⟩ : BufTy).Contents (Elt F) → (⟨S2x2048x8, .f32⟩ : BufTy).Contents (Elt F)) v48
  let v50 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v43 v49
  v50

set_option maxHeartbeats 4000000 in
theorem slots_v50_after (M : Valuation τ sig (Elt F)) :
    after slotsOps M (Proc.devRef .tc main_v50) = slots_v50 (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

/-- `%52` as a function of what the group reads. -/
def slots_v52 (v44 : (⟨S2x2048x8, .f32⟩ : BufTy).Contents (Elt F)) (v43 : (⟨S2x2048x8, .f32⟩ : BufTy).Contents (Elt F)) : (⟨S2x2048, .f32⟩ : BufTy).Contents (Elt F) :=
  let v45 : (⟨S2x2048x8, .f32⟩ : BufTy).Contents (Elt F) := (subf : (⟨S2x2048x8, .f32⟩ : BufTy).Contents (Elt F) → (⟨S2x2048x8, .f32⟩ : BufTy).Contents (Elt F) → (⟨S2x2048x8, .f32⟩ : BufTy).Contents (Elt F)) v44 v43
  let v46 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v45 v43
  let cst_8 : (⟨S_, .f32⟩ : BufTy).Contents (Elt F) := constant S_ .f32 0x44000000#32
  let v47 : (⟨S2x2048x8, .f32⟩ : BufTy).Contents (Elt F) := (broadcastInDim S2x2048x8 ![] bcast_S_S2x2048x8 : (⟨S_, .f32⟩ : BufTy).Contents (Elt F) → (⟨S2x2048x8, .f32⟩ : BufTy).Contents (Elt F)) cst_8
  let v48 : (⟨S2x2048x8, .i1⟩ : BufTy).Contents (Elt F) := (cmpf .olt : (⟨S2x2048x8, .f32⟩ : BufTy).Contents (Elt F) → (⟨S2x2048x8, .f32⟩ : BufTy).Contents (Elt F) → (⟨S2x2048x8, .i1⟩ : BufTy).Contents (Elt F)) v46 v47
  let v49 : (⟨S2x2048x8, .f32⟩ : BufTy).Contents (Elt F) := (uitofp .f32 : (⟨S2x2048x8, .i1⟩ : BufTy).Contents (Elt F) → (⟨S2x2048x8, .f32⟩ : BufTy).Contents (Elt F)) v48
  let v50 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v43 v49
  let v51 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v46 v50
  let cst_9 : (⟨S_, .f32⟩ : BufTy).Contents (Elt F) := constant S_ .f32 0x00000000#32
  let v52 : (⟨S2x2048, .f32⟩ : BufTy).Contents (Elt F) := ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v51 cst_9
  v52

set_option maxHeartbeats 4000000 in
theorem slots_v52_after (M : Valuation τ sig (Elt F)) :
    after slotsOps M (Proc.devRef .tc main_v52) = slots_v52 (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

/-- `%59` as a function of what the group reads. -/
def slots_v59 (v44 : (⟨S2x2048x8, .f32⟩ : BufTy).Contents (Elt F)) (v43 : (⟨S2x2048x8, .f32⟩ : BufTy).Contents (Elt F)) : (⟨S2x2048x8, .f32⟩ : BufTy).Contents (Elt F) :=
  let v45 : (⟨S2x2048x8, .f32⟩ : BufTy).Contents (Elt F) := (subf : (⟨S2x2048x8, .f32⟩ : BufTy).Contents (Elt F) → (⟨S2x2048x8, .f32⟩ : BufTy).Contents (Elt F) → (⟨S2x2048x8, .f32⟩ : BufTy).Contents (Elt F)) v44 v43
  let v46 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v45 v43
  let cst_8 : (⟨S_, .f32⟩ : BufTy).Contents (Elt F) := constant S_ .f32 0x44000000#32
  let v47 : (⟨S2x2048x8, .f32⟩ : BufTy).Contents (Elt F) := (broadcastInDim S2x2048x8 ![] bcast_S_S2x2048x8 : (⟨S_, .f32⟩ : BufTy).Contents (Elt F) → (⟨S2x2048x8, .f32⟩ : BufTy).Contents (Elt F)) cst_8
  let v48 : (⟨S2x2048x8, .i1⟩ : BufTy).Contents (Elt F) := (cmpf .olt : (⟨S2x2048x8, .f32⟩ : BufTy).Contents (Elt F) → (⟨S2x2048x8, .f32⟩ : BufTy).Contents (Elt F) → (⟨S2x2048x8, .i1⟩ : BufTy).Contents (Elt F)) v46 v47
  let v49 : (⟨S2x2048x8, .f32⟩ : BufTy).Contents (Elt F) := (uitofp .f32 : (⟨S2x2048x8, .i1⟩ : BufTy).Contents (Elt F) → (⟨S2x2048x8, .f32⟩ : BufTy).Contents (Elt F)) v48
  let v50 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v43 v49
  let v51 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v46 v50
  let cst_9 : (⟨S_, .f32⟩ : BufTy).Contents (Elt F) := constant S_ .f32 0x00000000#32
  let v52 : (⟨S2x2048, .f32⟩ : BufTy).Contents (Elt F) := ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)) v51 cst_9
  let v53 : (⟨S2x2048, .i32⟩ : BufTy).Contents (Elt F) := (fptosi 32 : (⟨S2x2048, .f32⟩ : BufTy).Contents (Elt F) → (⟨S2x2048, .i32⟩ : BufTy).Contents (Elt F)) v52
  let v54 : (⟨S2x2048x1, .i32⟩ : BufTy).Contents (Elt F) := (broadcastInDim S2x2048x1 ![0, 1] bcast_S2x2048_S2x2048x1_0_1 : (⟨S2x2048, .i32⟩ : BufTy).Contents (Elt F) → (⟨S2x2048x1, .i32⟩ : BufTy).Contents (Elt F)) v53
  let c_10 : (⟨S_, .i32⟩ : BufTy).Contents (Elt F) := constantI S_ 32 512#32
  let v55 : (⟨S2x2048x1, .i32⟩ : BufTy).Contents (Elt F) := (broadcastInDim S2x2048x1 ![] bcast_S_S2x2048x1 : (⟨S_, .i32⟩ : BufTy).Contents (Elt F) → (⟨S2x2048x1, .i32⟩ : BufTy).Contents (Elt F)) c_10
  let v56 : (⟨S2x2048x1, .i1⟩ : BufTy).Contents (Elt F) := (cmpi .slt : (⟨S2x2048x1, .i32⟩ : BufTy).Contents (Elt F) → (⟨S2x2048x1, .i32⟩ : BufTy).Contents (Elt F) → (⟨S2x2048x1, .i1⟩ : BufTy).Contents (Elt F)) v54 v55
  let v57 : (⟨S2x2048x1, .f32⟩ : BufTy).Contents (Elt F) := (uitofp .f32 : (⟨S2x2048x1, .i1⟩ : BufTy).Contents (Elt F) → (⟨S2x2048x1, .f32⟩ : BufTy).Contents (Elt F)) v56
  let v58 : (⟨S2x2048x8, .f32⟩ : BufTy).Contents (Elt F) := (broadcastInDim S2x2048x8 ![0, 1, 2] bcast_S2x2048x1_S2x2048x8_0_1_2 : (⟨S2x2048x1, .f32⟩ : BufTy).Contents (Elt F) → (⟨S2x2048x8, .f32⟩ : BufTy).Contents (Elt F)) v57
  let v59 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v50 v58
  v59

set_option maxHeartbeats 4000000 in
theorem slots_v59_after (M : Valuation τ sig (Elt F)) :
    after slotsOps M (Proc.devRef .tc main_v59) = slots_v59 (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

/-- Operations 151 to 182: the four results. -/
def lossOps : List (HloOp τ sig (Elt F)) :=
  [ nullary main_cst_11 (constant S_ .f32 0x00000000#32),
    binary main_v50 main_cst_11 main_v60 ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)),
    nullary main_cst_12 (constant S_ .f32 0x45000000#32),
    unary main_cst_12 main_v61 (broadcastInDim S2x8 ![] bcast_S_S2x8 : (⟨S_, .f32⟩ : BufTy).Contents (Elt F) → (⟨S2x8, .f32⟩ : BufTy).Contents (Elt F)),
    binary main_v60 main_v61 main_v62 (Host.divf : (⟨S2x8, .f32⟩ : BufTy).Contents (Elt F) → (⟨S2x8, .f32⟩ : BufTy).Contents (Elt F) → (⟨S2x8, .f32⟩ : BufTy).Contents (Elt F)),
    nullary main_cst_13 (constant S_ .f32 0x00000000#32),
    binary main_v11 main_cst_13 main_v63 ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)),
    nullary main_cst_14 (constant S_ .f32 0x45000000#32),
    unary main_cst_14 main_v64 (broadcastInDim S2x8 ![] bcast_S_S2x8 : (⟨S_, .f32⟩ : BufTy).Contents (Elt F) → (⟨S2x8, .f32⟩ : BufTy).Contents (Elt F)),
    binary main_v63 main_v64 main_v65 (Host.divf : (⟨S2x8, .f32⟩ : BufTy).Contents (Elt F) → (⟨S2x8, .f32⟩ : BufTy).Contents (Elt F) → (⟨S2x8, .f32⟩ : BufTy).Contents (Elt F)),
    binary main_v65 main_v62 main_v66 (mulf : (⟨S2x8, .f32⟩ : BufTy).Contents (Elt F) → (⟨S2x8, .f32⟩ : BufTy).Contents (Elt F) → (⟨S2x8, .f32⟩ : BufTy).Contents (Elt F)),
    nullary main_cst_15 (constant S_ .f32 0x00000000#32),
    binary main_v66 main_cst_15 main_v67 ((fun x v => Host.reduceAdd x v reducesTo_S2x8_S_d0_1 h_S_) : (⟨S2x8, .f32⟩ : BufTy).Contents (Elt F) → (⟨S_, .f32⟩ : BufTy).Contents (Elt F) → (⟨S_, .f32⟩ : BufTy).Contents (Elt F)),
    nullary main_cst_16 (constant S_ .f32 0x41800000#32),
    binary main_v67 main_cst_16 main_v68 (Host.divf : (⟨S_, .f32⟩ : BufTy).Contents (Elt F) → (⟨S_, .f32⟩ : BufTy).Contents (Elt F) → (⟨S_, .f32⟩ : BufTy).Contents (Elt F)),
    nullary main_cst_17 (constant S_ .f32 0x42800000#32),
    binary main_v68 main_cst_17 main_v69 (mulf : (⟨S_, .f32⟩ : BufTy).Contents (Elt F) → (⟨S_, .f32⟩ : BufTy).Contents (Elt F) → (⟨S_, .f32⟩ : BufTy).Contents (Elt F)),
    unary main_v24 main_v70 (sitofp .f32 : (⟨S2x2048, .i32⟩ : BufTy).Contents (Elt F) → (⟨S2x2048, .f32⟩ : BufTy).Contents (Elt F)),
    nullary main_cst_18 (constant S_ .f32 0x00000000#32),
    binary main_v70 main_cst_18 main_v71 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)),
    nullary main_cst_19 (constant S_ .f32 0x45800000#32),
    binary main_v71 main_cst_19 main_v72 (Host.divf : (⟨S_, .f32⟩ : BufTy).Contents (Elt F) → (⟨S_, .f32⟩ : BufTy).Contents (Elt F) → (⟨S_, .f32⟩ : BufTy).Contents (Elt F)),
    nullary main_cst_20 (constant S_ .f32 0x00000000#32),
    binary main_cst_20 main_v72 main_v73 (mulf : (⟨S_, .f32⟩ : BufTy).Contents (Elt F) → (⟨S_, .f32⟩ : BufTy).Contents (Elt F) → (⟨S_, .f32⟩ : BufTy).Contents (Elt F)),
    binary main_v69 main_v73 main_v74 (addf : (⟨S_, .f32⟩ : BufTy).Contents (Elt F) → (⟨S_, .f32⟩ : BufTy).Contents (Elt F) → (⟨S_, .f32⟩ : BufTy).Contents (Elt F)),
    binary main_v42 main_v59 main_v75 (mulf : (⟨S2x2048x8, .f32⟩ : BufTy).Contents (Elt F) → (⟨S2x2048x8, .f32⟩ : BufTy).Contents (Elt F) → (⟨S2x2048x8, .f32⟩ : BufTy).Contents (Elt F)),
    reshape main_v75 main_v76 (rfl : (.f32 : EltTy) = .f32) shapeCasts_S2x2048x8_S4096x8,
    reshape main_v59 main_v77 (rfl : (.f32 : EltTy) = .f32) shapeCasts_S2x2048x8_S4096x8,
    reshape main_v52 main_v78 (rfl : (.f32 : EltTy) = .f32) shapeCasts_S2x2048_S4096x1,
    nullary main_cst_21 (constant S_ .f32 0x3C23D70A#32),
    binary main_v74 main_cst_21 main_v79 (mulf : (⟨S_, .f32⟩ : BufTy).Contents (Elt F) → (⟨S_, .f32⟩ : BufTy).Contents (Elt F) → (⟨S_, .f32⟩ : BufTy).Contents (Elt F)),
    reshape main_v79 main_v80 (rfl : (.f32 : EltTy) = .f32) shapeCasts_S_S1x1 ]

/-- `%76` as a function of what the group reads. -/
def loss_v76 (v42 : (⟨S2x2048x8, .f32⟩ : BufTy).Contents (Elt F)) (v59 : (⟨S2x2048x8, .f32⟩ : BufTy).Contents (Elt F)) : (⟨S4096x8, .f32⟩ : BufTy).Contents (Elt F) :=
  let v75 : (⟨S2x2048x8, .f32⟩ : BufTy).Contents (Elt F) := (mulf : (⟨S2x2048x8, .f32⟩ : BufTy).Contents (Elt F) → (⟨S2x2048x8, .f32⟩ : BufTy).Contents (Elt F) → (⟨S2x2048x8, .f32⟩ : BufTy).Contents (Elt F)) v42 v59
  let v76 : (⟨S4096x8, .f32⟩ : BufTy).Contents (Elt F) := shapeCast S4096x8 v75 shapeCasts_S2x2048x8_S4096x8
  v76

set_option maxHeartbeats 4000000 in
theorem loss_v76_after (M : Valuation τ sig (Elt F)) :
    after lossOps M (Proc.devRef .tc main_v76) = loss_v76 (M (Proc.devRef .tc main_v42)) (M (Proc.devRef .tc main_v59)) := by
  simp only [lossOps, TRef.binary, TRef.nullary, TRef.unary, TRef.ternary, TRef.quaternary, TRef.reshape, TRef.toBuf, TRef.ofBuf, cast_eq]; after_results_simp <;> rfl

/-- `%77` as a function of what the group reads. -/
def loss_v77 (v59 : (⟨S2x2048x8, .f32⟩ : BufTy).Contents (Elt F)) : (⟨S4096x8, .f32⟩ : BufTy).Contents (Elt F) :=
  let v77 : (⟨S4096x8, .f32⟩ : BufTy).Contents (Elt F) := shapeCast S4096x8 v59 shapeCasts_S2x2048x8_S4096x8
  v77

set_option maxHeartbeats 4000000 in
theorem loss_v77_after (M : Valuation τ sig (Elt F)) :
    after lossOps M (Proc.devRef .tc main_v77) = loss_v77 (M (Proc.devRef .tc main_v59)) := by
  simp only [lossOps, TRef.binary, TRef.nullary, TRef.unary, TRef.ternary, TRef.quaternary, TRef.reshape, TRef.toBuf, TRef.ofBuf, cast_eq]; after_results_simp <;> rfl

/-- `%78` as a function of what the group reads. -/
def loss_v78 (v52 : (⟨S2x2048, .f32⟩ : BufTy).Contents (Elt F)) : (⟨S4096x1, .f32⟩ : BufTy).Contents (Elt F) :=
  let v78 : (⟨S4096x1, .f32⟩ : BufTy).Contents (Elt F) := shapeCast S4096x1 v52 shapeCasts_S2x2048_S4096x1
  v78

set_option maxHeartbeats 4000000 in
theorem loss_v78_after (M : Valuation τ sig (Elt F)) :
    after lossOps M (Proc.devRef .tc main_v78) = loss_v78 (M (Proc.devRef .tc main_v52)) := by
  simp only [lossOps, TRef.binary, TRef.nullary, TRef.unary, TRef.ternary, TRef.quaternary, TRef.reshape, TRef.toBuf, TRef.ofBuf, cast_eq]; after_results_simp <;> rfl

/-- `%80` as a function of what the group reads. -/
def loss_v80 (v50 : (⟨S2x2048x8, .f32⟩ : BufTy).Contents (Elt F)) (v11 : (⟨S2x2048x8, .f32⟩ : BufTy).Contents (Elt F)) (v24 : (⟨S2x2048, .i32⟩ : BufTy).Contents (Elt F)) : (⟨S1x1, .f32⟩ : BufTy).Contents (Elt F) :=
  let cst_11 : (⟨S_, .f32⟩ : BufTy).Contents (Elt F) := constant S_ .f32 0x00000000#32
  let v60 : (⟨S2x8, .f32⟩ : BufTy).Contents (Elt F) := ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)) v50 cst_11
  let cst_12 : (⟨S_, .f32⟩ : BufTy).Contents (Elt F) := constant S_ .f32 0x45000000#32
  let v61 : (⟨S2x8, .f32⟩ : BufTy).Contents (Elt F) := (broadcastInDim S2x8 ![] bcast_S_S2x8 : (⟨S_, .f32⟩ : BufTy).Contents (Elt F) → (⟨S2x8, .f32⟩ : BufTy).Contents (Elt F)) cst_12
  let v62 : (⟨S2x8, .f32⟩ : BufTy).Contents (Elt F) := (Host.divf : (⟨S2x8, .f32⟩ : BufTy).Contents (Elt F) → (⟨S2x8, .f32⟩ : BufTy).Contents (Elt F) → (⟨S2x8, .f32⟩ : BufTy).Contents (Elt F)) v60 v61
  let cst_13 : (⟨S_, .f32⟩ : BufTy).Contents (Elt F) := constant S_ .f32 0x00000000#32
  let v63 : (⟨S2x8, .f32⟩ : BufTy).Contents (Elt F) := ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)) v11 cst_13
  let cst_14 : (⟨S_, .f32⟩ : BufTy).Contents (Elt F) := constant S_ .f32 0x45000000#32
  let v64 : (⟨S2x8, .f32⟩ : BufTy).Contents (Elt F) := (broadcastInDim S2x8 ![] bcast_S_S2x8 : (⟨S_, .f32⟩ : BufTy).Contents (Elt F) → (⟨S2x8, .f32⟩ : BufTy).Contents (Elt F)) cst_14
  let v65 : (⟨S2x8, .f32⟩ : BufTy).Contents (Elt F) := (Host.divf : (⟨S2x8, .f32⟩ : BufTy).Contents (Elt F) → (⟨S2x8, .f32⟩ : BufTy).Contents (Elt F) → (⟨S2x8, .f32⟩ : BufTy).Contents (Elt F)) v63 v64
  let v66 : (⟨S2x8, .f32⟩ : BufTy).Contents (Elt F) := (mulf : (⟨S2x8, .f32⟩ : BufTy).Contents (Elt F) → (⟨S2x8, .f32⟩ : BufTy).Contents (Elt F) → (⟨S2x8, .f32⟩ : BufTy).Contents (Elt F)) v65 v62
  let cst_15 : (⟨S_, .f32⟩ : BufTy).Contents (Elt F) := constant S_ .f32 0x00000000#32
  let v67 : (⟨S_, .f32⟩ : BufTy).Contents (Elt F) := ((fun x v => Host.reduceAdd x v reducesTo_S2x8_S_d0_1 h_S_) : (⟨S2x8, .f32⟩ : BufTy).Contents (Elt F) → (⟨S_, .f32⟩ : BufTy).Contents (Elt F) → (⟨S_, .f32⟩ : BufTy).Contents (Elt F)) v66 cst_15
  let cst_16 : (⟨S_, .f32⟩ : BufTy).Contents (Elt F) := constant S_ .f32 0x41800000#32
  let v68 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) v67 cst_16
  let cst_17 : (⟨S_, .f32⟩ : BufTy).Contents (Elt F) := constant S_ .f32 0x42800000#32
  let v69 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) v68 cst_17
  let v70 : (⟨S2x2048, .f32⟩ : BufTy).Contents (Elt F) := (sitofp .f32 : (⟨S2x2048, .i32⟩ : BufTy).Contents (Elt F) → (⟨S2x2048, .f32⟩ : BufTy).Contents (Elt F)) v24
  let cst_18 : (⟨S_, .f32⟩ : BufTy).Contents (Elt F) := constant S_ .f32 0x00000000#32
  let v71 : (⟨S_, .f32⟩ : BufTy).Contents (Elt F) := ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)) v70 cst_18
  let cst_19 : (⟨S_, .f32⟩ : BufTy).Contents (Elt F) := constant S_ .f32 0x45800000#32
  let v72 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) v71 cst_19
  let cst_20 : (⟨S_, .f32⟩ : BufTy).Contents (Elt F) := constant S_ .f32 0x00000000#32
  let v73 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) cst_20 v72
  let v74 : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) v69 v73
  let cst_21 : (⟨S_, .f32⟩ : BufTy).Contents (Elt F) := constant S_ .f32 0x3C23D70A#32
  let v79 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) v74 cst_21
  let v80 : (⟨S1x1, .f32⟩ : BufTy).Contents (Elt F) := shapeCast S1x1 v79 shapeCasts_S_S1x1
  v80

set_option maxHeartbeats 4000000 in
theorem loss_v80_after (M : Valuation τ sig (Elt F)) :
    after lossOps M (Proc.devRef .tc main_v80) = loss_v80 (M (Proc.devRef .tc main_v50)) (M (Proc.devRef .tc main_v11)) (M (Proc.devRef .tc main_v24)) := by
  simp only [lossOps, TRef.binary, TRef.nullary, TRef.unary, TRef.ternary, TRef.quaternary, TRef.reshape, TRef.toBuf, TRef.ofBuf, cast_eq]; after_results_simp <;> rfl

theorem softmax_keeps_arg0 (M : Valuation τ sig (Elt F)) : after softmaxOps M (Proc.devRef .tc main_arg0) = M (Proc.devRef .tc main_arg0) := by
  simp only [softmaxOps, TRef.binary, TRef.nullary, TRef.unary, TRef.ternary, TRef.quaternary, TRef.reshape, TRef.toBuf, TRef.ofBuf, cast_eq]; after_results_simp <;> rfl

theorem softmax_keeps_arg1 (M : Valuation τ sig (Elt F)) : after softmaxOps M (Proc.devRef .tc main_arg1) = M (Proc.devRef .tc main_arg1) := by
  simp only [softmaxOps, TRef.binary, TRef.nullary, TRef.unary, TRef.ternary, TRef.quaternary, TRef.reshape, TRef.toBuf, TRef.ofBuf, cast_eq]; after_results_simp <;> rfl

theorem order_keeps_arg0 (M : Valuation τ sig (Elt F)) : after orderOps M (Proc.devRef .tc main_arg0) = M (Proc.devRef .tc main_arg0) := by
  simp only [orderOps, TRef.binary, TRef.nullary, TRef.unary, TRef.ternary, TRef.quaternary, TRef.reshape, TRef.toBuf, TRef.ofBuf, cast_eq]; after_results_simp <;> rfl

theorem order_keeps_arg1 (M : Valuation τ sig (Elt F)) : after orderOps M (Proc.devRef .tc main_arg1) = M (Proc.devRef .tc main_arg1) := by
  simp only [orderOps, TRef.binary, TRef.nullary, TRef.unary, TRef.ternary, TRef.quaternary, TRef.reshape, TRef.toBuf, TRef.ofBuf, cast_eq]; after_results_simp <;> rfl

theorem order_keeps_v11 (M : Valuation τ sig (Elt F)) : after orderOps M (Proc.devRef .tc main_v11) = M (Proc.devRef .tc main_v11) := by
  simp only [orderOps, TRef.binary, TRef.nullary, TRef.unary, TRef.ternary, TRef.quaternary, TRef.reshape, TRef.toBuf, TRef.ofBuf, cast_eq]; after_results_simp <;> rfl

theorem sorted_keeps_arg0 (M : Valuation τ sig (Elt F)) : after sortedOps M (Proc.devRef .tc main_arg0) = M (Proc.devRef .tc main_arg0) := by
  simp only [sortedOps, TRef.binary, TRef.nullary, TRef.unary, TRef.ternary, TRef.quaternary, TRef.reshape, TRef.toBuf, TRef.ofBuf, cast_eq]; after_results_simp <;> rfl

theorem sorted_keeps_arg1 (M : Valuation τ sig (Elt F)) : after sortedOps M (Proc.devRef .tc main_arg1) = M (Proc.devRef .tc main_arg1) := by
  simp only [sortedOps, TRef.binary, TRef.nullary, TRef.unary, TRef.ternary, TRef.quaternary, TRef.reshape, TRef.toBuf, TRef.ofBuf, cast_eq]; after_results_simp <;> rfl

theorem sorted_keeps_v11 (M : Valuation τ sig (Elt F)) : after sortedOps M (Proc.devRef .tc main_v11) = M (Proc.devRef .tc main_v11) := by
  simp only [sortedOps, TRef.binary, TRef.nullary, TRef.unary, TRef.ternary, TRef.quaternary, TRef.reshape, TRef.toBuf, TRef.ofBuf, cast_eq]; after_results_simp <;> rfl

theorem sorted_keeps_v13 (M : Valuation τ sig (Elt F)) : after sortedOps M (Proc.devRef .tc main_v13) = M (Proc.devRef .tc main_v13) := by
  simp only [sortedOps, TRef.binary, TRef.nullary, TRef.unary, TRef.ternary, TRef.quaternary, TRef.reshape, TRef.toBuf, TRef.ofBuf, cast_eq]; after_results_simp <;> rfl

theorem cum_keeps_arg0 (M : Valuation τ sig (Elt F)) : after cumOps M (Proc.devRef .tc main_arg0) = M (Proc.devRef .tc main_arg0) := by
  simp only [cumOps, TRef.binary, TRef.nullary, TRef.unary, TRef.ternary, TRef.quaternary, TRef.reshape, TRef.toBuf, TRef.ofBuf, cast_eq]; after_results_simp <;> rfl

theorem cum_keeps_arg1 (M : Valuation τ sig (Elt F)) : after cumOps M (Proc.devRef .tc main_arg1) = M (Proc.devRef .tc main_arg1) := by
  simp only [cumOps, TRef.binary, TRef.nullary, TRef.unary, TRef.ternary, TRef.quaternary, TRef.reshape, TRef.toBuf, TRef.ofBuf, cast_eq]; after_results_simp <;> rfl

theorem cum_keeps_v11 (M : Valuation τ sig (Elt F)) : after cumOps M (Proc.devRef .tc main_v11) = M (Proc.devRef .tc main_v11) := by
  simp only [cumOps, TRef.binary, TRef.nullary, TRef.unary, TRef.ternary, TRef.quaternary, TRef.reshape, TRef.toBuf, TRef.ofBuf, cast_eq]; after_results_simp <;> rfl

theorem cum_keeps_v13 (M : Valuation τ sig (Elt F)) : after cumOps M (Proc.devRef .tc main_v13) = M (Proc.devRef .tc main_v13) := by
  simp only [cumOps, TRef.binary, TRef.nullary, TRef.unary, TRef.ternary, TRef.quaternary, TRef.reshape, TRef.toBuf, TRef.ofBuf, cast_eq]; after_results_simp <;> rfl

theorem cum_keeps_v14 (M : Valuation τ sig (Elt F)) : after cumOps M (Proc.devRef .tc main_v14) = M (Proc.devRef .tc main_v14) := by
  simp only [cumOps, TRef.binary, TRef.nullary, TRef.unary, TRef.ternary, TRef.quaternary, TRef.reshape, TRef.toBuf, TRef.ofBuf, cast_eq]; after_results_simp <;> rfl

theorem count_keeps_arg0 (M : Valuation τ sig (Elt F)) : after countOps M (Proc.devRef .tc main_arg0) = M (Proc.devRef .tc main_arg0) := by
  simp only [countOps, TRef.binary, TRef.nullary, TRef.unary, TRef.ternary, TRef.quaternary, TRef.reshape, TRef.toBuf, TRef.ofBuf, cast_eq]; after_results_simp <;> rfl

theorem count_keeps_arg1 (M : Valuation τ sig (Elt F)) : after countOps M (Proc.devRef .tc main_arg1) = M (Proc.devRef .tc main_arg1) := by
  simp only [countOps, TRef.binary, TRef.nullary, TRef.unary, TRef.ternary, TRef.quaternary, TRef.reshape, TRef.toBuf, TRef.ofBuf, cast_eq]; after_results_simp <;> rfl

theorem count_keeps_v11 (M : Valuation τ sig (Elt F)) : after countOps M (Proc.devRef .tc main_v11) = M (Proc.devRef .tc main_v11) := by
  simp only [countOps, TRef.binary, TRef.nullary, TRef.unary, TRef.ternary, TRef.quaternary, TRef.reshape, TRef.toBuf, TRef.ofBuf, cast_eq]; after_results_simp <;> rfl

theorem count_keeps_v13 (M : Valuation τ sig (Elt F)) : after countOps M (Proc.devRef .tc main_v13) = M (Proc.devRef .tc main_v13) := by
  simp only [countOps, TRef.binary, TRef.nullary, TRef.unary, TRef.ternary, TRef.quaternary, TRef.reshape, TRef.toBuf, TRef.ofBuf, cast_eq]; after_results_simp <;> rfl

theorem count_keeps_v14 (M : Valuation τ sig (Elt F)) : after countOps M (Proc.devRef .tc main_v14) = M (Proc.devRef .tc main_v14) := by
  simp only [countOps, TRef.binary, TRef.nullary, TRef.unary, TRef.ternary, TRef.quaternary, TRef.reshape, TRef.toBuf, TRef.ofBuf, cast_eq]; after_results_simp <;> rfl

theorem cap_keeps_arg0 (M : Valuation τ sig (Elt F)) : after capOps M (Proc.devRef .tc main_arg0) = M (Proc.devRef .tc main_arg0) := by
  simp only [capOps, TRef.binary, TRef.nullary, TRef.unary, TRef.ternary, TRef.quaternary, TRef.reshape, TRef.toBuf, TRef.ofBuf, cast_eq]; after_results_simp <;> rfl

theorem cap_keeps_arg1 (M : Valuation τ sig (Elt F)) : after capOps M (Proc.devRef .tc main_arg1) = M (Proc.devRef .tc main_arg1) := by
  simp only [capOps, TRef.binary, TRef.nullary, TRef.unary, TRef.ternary, TRef.quaternary, TRef.reshape, TRef.toBuf, TRef.ofBuf, cast_eq]; after_results_simp <;> rfl

theorem cap_keeps_v11 (M : Valuation τ sig (Elt F)) : after capOps M (Proc.devRef .tc main_v11) = M (Proc.devRef .tc main_v11) := by
  simp only [capOps, TRef.binary, TRef.nullary, TRef.unary, TRef.ternary, TRef.quaternary, TRef.reshape, TRef.toBuf, TRef.ofBuf, cast_eq]; after_results_simp <;> rfl

theorem cap_keeps_v13 (M : Valuation τ sig (Elt F)) : after capOps M (Proc.devRef .tc main_v13) = M (Proc.devRef .tc main_v13) := by
  simp only [capOps, TRef.binary, TRef.nullary, TRef.unary, TRef.ternary, TRef.quaternary, TRef.reshape, TRef.toBuf, TRef.ofBuf, cast_eq]; after_results_simp <;> rfl

theorem cap_keeps_v14 (M : Valuation τ sig (Elt F)) : after capOps M (Proc.devRef .tc main_v14) = M (Proc.devRef .tc main_v14) := by
  simp only [capOps, TRef.binary, TRef.nullary, TRef.unary, TRef.ternary, TRef.quaternary, TRef.reshape, TRef.toBuf, TRef.ofBuf, cast_eq]; after_results_simp <;> rfl

theorem cap_keeps_v24 (M : Valuation τ sig (Elt F)) : after capOps M (Proc.devRef .tc main_v24) = M (Proc.devRef .tc main_v24) := by
  simp only [capOps, TRef.binary, TRef.nullary, TRef.unary, TRef.ternary, TRef.quaternary, TRef.reshape, TRef.toBuf, TRef.ofBuf, cast_eq]; after_results_simp <;> rfl

theorem chosen_keeps_arg0 (M : Valuation τ sig (Elt F)) : after chosenOps M (Proc.devRef .tc main_arg0) = M (Proc.devRef .tc main_arg0) := by
  simp only [chosenOps, TRef.binary, TRef.nullary, TRef.unary, TRef.ternary, TRef.quaternary, TRef.reshape, TRef.toBuf, TRef.ofBuf, cast_eq]; after_results_simp <;> rfl

theorem chosen_keeps_arg1 (M : Valuation τ sig (Elt F)) : after chosenOps M (Proc.devRef .tc main_arg1) = M (Proc.devRef .tc main_arg1) := by
  simp only [chosenOps, TRef.binary, TRef.nullary, TRef.unary, TRef.ternary, TRef.quaternary, TRef.reshape, TRef.toBuf, TRef.ofBuf, cast_eq]; after_results_simp <;> rfl

theorem chosen_keeps_v11 (M : Valuation τ sig (Elt F)) : after chosenOps M (Proc.devRef .tc main_v11) = M (Proc.devRef .tc main_v11) := by
  simp only [chosenOps, TRef.binary, TRef.nullary, TRef.unary, TRef.ternary, TRef.quaternary, TRef.reshape, TRef.toBuf, TRef.ofBuf, cast_eq]; after_results_simp <;> rfl

theorem chosen_keeps_v13 (M : Valuation τ sig (Elt F)) : after chosenOps M (Proc.devRef .tc main_v13) = M (Proc.devRef .tc main_v13) := by
  simp only [chosenOps, TRef.binary, TRef.nullary, TRef.unary, TRef.ternary, TRef.quaternary, TRef.reshape, TRef.toBuf, TRef.ofBuf, cast_eq]; after_results_simp <;> rfl

theorem chosen_keeps_v24 (M : Valuation τ sig (Elt F)) : after chosenOps M (Proc.devRef .tc main_v24) = M (Proc.devRef .tc main_v24) := by
  simp only [chosenOps, TRef.binary, TRef.nullary, TRef.unary, TRef.ternary, TRef.quaternary, TRef.reshape, TRef.toBuf, TRef.ofBuf, cast_eq]; after_results_simp <;> rfl

theorem rank_keeps_arg0 (M : Valuation τ sig (Elt F)) : after rankOps M (Proc.devRef .tc main_arg0) = M (Proc.devRef .tc main_arg0) := by
  simp only [rankOps, TRef.binary, TRef.nullary, TRef.unary, TRef.ternary, TRef.quaternary, TRef.reshape, TRef.toBuf, TRef.ofBuf, cast_eq]; after_results_simp <;> rfl

theorem rank_keeps_arg1 (M : Valuation τ sig (Elt F)) : after rankOps M (Proc.devRef .tc main_arg1) = M (Proc.devRef .tc main_arg1) := by
  simp only [rankOps, TRef.binary, TRef.nullary, TRef.unary, TRef.ternary, TRef.quaternary, TRef.reshape, TRef.toBuf, TRef.ofBuf, cast_eq]; after_results_simp <;> rfl

theorem rank_keeps_v11 (M : Valuation τ sig (Elt F)) : after rankOps M (Proc.devRef .tc main_v11) = M (Proc.devRef .tc main_v11) := by
  simp only [rankOps, TRef.binary, TRef.nullary, TRef.unary, TRef.ternary, TRef.quaternary, TRef.reshape, TRef.toBuf, TRef.ofBuf, cast_eq]; after_results_simp <;> rfl

theorem rank_keeps_v24 (M : Valuation τ sig (Elt F)) : after rankOps M (Proc.devRef .tc main_v24) = M (Proc.devRef .tc main_v24) := by
  simp only [rankOps, TRef.binary, TRef.nullary, TRef.unary, TRef.ternary, TRef.quaternary, TRef.reshape, TRef.toBuf, TRef.ofBuf, cast_eq]; after_results_simp <;> rfl

theorem rank_keeps_v35 (M : Valuation τ sig (Elt F)) : after rankOps M (Proc.devRef .tc main_v35) = M (Proc.devRef .tc main_v35) := by
  simp only [rankOps, TRef.binary, TRef.nullary, TRef.unary, TRef.ternary, TRef.quaternary, TRef.reshape, TRef.toBuf, TRef.ofBuf, cast_eq]; after_results_simp <;> rfl

theorem rank_keeps_v40 (M : Valuation τ sig (Elt F)) : after rankOps M (Proc.devRef .tc main_v40) = M (Proc.devRef .tc main_v40) := by
  simp only [rankOps, TRef.binary, TRef.nullary, TRef.unary, TRef.ternary, TRef.quaternary, TRef.reshape, TRef.toBuf, TRef.ofBuf, cast_eq]; after_results_simp <;> rfl

theorem norm_keeps_arg0 (M : Valuation τ sig (Elt F)) : after normOps M (Proc.devRef .tc main_arg0) = M (Proc.devRef .tc main_arg0) := by
  simp only [normOps, TRef.binary, TRef.nullary, TRef.unary, TRef.ternary, TRef.quaternary, TRef.reshape, TRef.toBuf, TRef.ofBuf, cast_eq]; after_results_simp <;> rfl

theorem norm_keeps_arg1 (M : Valuation τ sig (Elt F)) : after normOps M (Proc.devRef .tc main_arg1) = M (Proc.devRef .tc main_arg1) := by
  simp only [normOps, TRef.binary, TRef.nullary, TRef.unary, TRef.ternary, TRef.quaternary, TRef.reshape, TRef.toBuf, TRef.ofBuf, cast_eq]; after_results_simp <;> rfl

theorem norm_keeps_v11 (M : Valuation τ sig (Elt F)) : after normOps M (Proc.devRef .tc main_v11) = M (Proc.devRef .tc main_v11) := by
  simp only [normOps, TRef.binary, TRef.nullary, TRef.unary, TRef.ternary, TRef.quaternary, TRef.reshape, TRef.toBuf, TRef.ofBuf, cast_eq]; after_results_simp <;> rfl

theorem norm_keeps_v24 (M : Valuation τ sig (Elt F)) : after normOps M (Proc.devRef .tc main_v24) = M (Proc.devRef .tc main_v24) := by
  simp only [normOps, TRef.binary, TRef.nullary, TRef.unary, TRef.ternary, TRef.quaternary, TRef.reshape, TRef.toBuf, TRef.ofBuf, cast_eq]; after_results_simp <;> rfl

theorem norm_keeps_v35 (M : Valuation τ sig (Elt F)) : after normOps M (Proc.devRef .tc main_v35) = M (Proc.devRef .tc main_v35) := by
  simp only [normOps, TRef.binary, TRef.nullary, TRef.unary, TRef.ternary, TRef.quaternary, TRef.reshape, TRef.toBuf, TRef.ofBuf, cast_eq]; after_results_simp <;> rfl

theorem norm_keeps_v41 (M : Valuation τ sig (Elt F)) : after normOps M (Proc.devRef .tc main_v41) = M (Proc.devRef .tc main_v41) := by
  simp only [normOps, TRef.binary, TRef.nullary, TRef.unary, TRef.ternary, TRef.quaternary, TRef.reshape, TRef.toBuf, TRef.ofBuf, cast_eq]; after_results_simp <;> rfl

theorem mask_keeps_arg0 (M : Valuation τ sig (Elt F)) : after maskOps M (Proc.devRef .tc main_arg0) = M (Proc.devRef .tc main_arg0) := by
  simp only [maskOps, TRef.binary, TRef.nullary, TRef.unary, TRef.ternary, TRef.quaternary, TRef.reshape, TRef.toBuf, TRef.ofBuf, cast_eq]; after_results_simp <;> rfl

theorem mask_keeps_arg1 (M : Valuation τ sig (Elt F)) : after maskOps M (Proc.devRef .tc main_arg1) = M (Proc.devRef .tc main_arg1) := by
  simp only [maskOps, TRef.binary, TRef.nullary, TRef.unary, TRef.ternary, TRef.quaternary, TRef.reshape, TRef.toBuf, TRef.ofBuf, cast_eq]; after_results_simp <;> rfl

theorem mask_keeps_v11 (M : Valuation τ sig (Elt F)) : after maskOps M (Proc.devRef .tc main_v11) = M (Proc.devRef .tc main_v11) := by
  simp only [maskOps, TRef.binary, TRef.nullary, TRef.unary, TRef.ternary, TRef.quaternary, TRef.reshape, TRef.toBuf, TRef.ofBuf, cast_eq]; after_results_simp <;> rfl

theorem mask_keeps_v24 (M : Valuation τ sig (Elt F)) : after maskOps M (Proc.devRef .tc main_v24) = M (Proc.devRef .tc main_v24) := by
  simp only [maskOps, TRef.binary, TRef.nullary, TRef.unary, TRef.ternary, TRef.quaternary, TRef.reshape, TRef.toBuf, TRef.ofBuf, cast_eq]; after_results_simp <;> rfl

theorem mask_keeps_v42 (M : Valuation τ sig (Elt F)) : after maskOps M (Proc.devRef .tc main_v42) = M (Proc.devRef .tc main_v42) := by
  simp only [maskOps, TRef.binary, TRef.nullary, TRef.unary, TRef.ternary, TRef.quaternary, TRef.reshape, TRef.toBuf, TRef.ofBuf, cast_eq]; after_results_simp <;> rfl

theorem tally_keeps_arg0 (M : Valuation τ sig (Elt F)) : after tallyOps M (Proc.devRef .tc main_arg0) = M (Proc.devRef .tc main_arg0) := by
  simp only [tallyOps, TRef.binary, TRef.nullary, TRef.unary, TRef.ternary, TRef.quaternary, TRef.reshape, TRef.toBuf, TRef.ofBuf, cast_eq]; after_results_simp <;> rfl

theorem tally_keeps_arg1 (M : Valuation τ sig (Elt F)) : after tallyOps M (Proc.devRef .tc main_arg1) = M (Proc.devRef .tc main_arg1) := by
  simp only [tallyOps, TRef.binary, TRef.nullary, TRef.unary, TRef.ternary, TRef.quaternary, TRef.reshape, TRef.toBuf, TRef.ofBuf, cast_eq]; after_results_simp <;> rfl

theorem tally_keeps_v11 (M : Valuation τ sig (Elt F)) : after tallyOps M (Proc.devRef .tc main_v11) = M (Proc.devRef .tc main_v11) := by
  simp only [tallyOps, TRef.binary, TRef.nullary, TRef.unary, TRef.ternary, TRef.quaternary, TRef.reshape, TRef.toBuf, TRef.ofBuf, cast_eq]; after_results_simp <;> rfl

theorem tally_keeps_v24 (M : Valuation τ sig (Elt F)) : after tallyOps M (Proc.devRef .tc main_v24) = M (Proc.devRef .tc main_v24) := by
  simp only [tallyOps, TRef.binary, TRef.nullary, TRef.unary, TRef.ternary, TRef.quaternary, TRef.reshape, TRef.toBuf, TRef.ofBuf, cast_eq]; after_results_simp <;> rfl

theorem tally_keeps_v42 (M : Valuation τ sig (Elt F)) : after tallyOps M (Proc.devRef .tc main_v42) = M (Proc.devRef .tc main_v42) := by
  simp only [tallyOps, TRef.binary, TRef.nullary, TRef.unary, TRef.ternary, TRef.quaternary, TRef.reshape, TRef.toBuf, TRef.ofBuf, cast_eq]; after_results_simp <;> rfl

theorem tally_keeps_v43 (M : Valuation τ sig (Elt F)) : after tallyOps M (Proc.devRef .tc main_v43) = M (Proc.devRef .tc main_v43) := by
  simp only [tallyOps, TRef.binary, TRef.nullary, TRef.unary, TRef.ternary, TRef.quaternary, TRef.reshape, TRef.toBuf, TRef.ofBuf, cast_eq]; after_results_simp <;> rfl

theorem slots_keeps_arg0 (M : Valuation τ sig (Elt F)) : after slotsOps M (Proc.devRef .tc main_arg0) = M (Proc.devRef .tc main_arg0) := by
  simp only [slotsOps, TRef.binary, TRef.nullary, TRef.unary, TRef.ternary, TRef.quaternary, TRef.reshape, TRef.toBuf, TRef.ofBuf, cast_eq]; after_results_simp <;> rfl

theorem slots_keeps_arg1 (M : Valuation τ sig (Elt F)) : after slotsOps M (Proc.devRef .tc main_arg1) = M (Proc.devRef .tc main_arg1) := by
  simp only [slotsOps, TRef.binary, TRef.nullary, TRef.unary, TRef.ternary, TRef.quaternary, TRef.reshape, TRef.toBuf, TRef.ofBuf, cast_eq]; after_results_simp <;> rfl

theorem slots_keeps_v11 (M : Valuation τ sig (Elt F)) : after slotsOps M (Proc.devRef .tc main_v11) = M (Proc.devRef .tc main_v11) := by
  simp only [slotsOps, TRef.binary, TRef.nullary, TRef.unary, TRef.ternary, TRef.quaternary, TRef.reshape, TRef.toBuf, TRef.ofBuf, cast_eq]; after_results_simp <;> rfl

theorem slots_keeps_v24 (M : Valuation τ sig (Elt F)) : after slotsOps M (Proc.devRef .tc main_v24) = M (Proc.devRef .tc main_v24) := by
  simp only [slotsOps, TRef.binary, TRef.nullary, TRef.unary, TRef.ternary, TRef.quaternary, TRef.reshape, TRef.toBuf, TRef.ofBuf, cast_eq]; after_results_simp <;> rfl

theorem slots_keeps_v42 (M : Valuation τ sig (Elt F)) : after slotsOps M (Proc.devRef .tc main_v42) = M (Proc.devRef .tc main_v42) := by
  simp only [slotsOps, TRef.binary, TRef.nullary, TRef.unary, TRef.ternary, TRef.quaternary, TRef.reshape, TRef.toBuf, TRef.ofBuf, cast_eq]; after_results_simp <;> rfl

theorem loss_keeps_arg0 (M : Valuation τ sig (Elt F)) : after lossOps M (Proc.devRef .tc main_arg0) = M (Proc.devRef .tc main_arg0) := by
  simp only [lossOps, TRef.binary, TRef.nullary, TRef.unary, TRef.ternary, TRef.quaternary, TRef.reshape, TRef.toBuf, TRef.ofBuf, cast_eq]; after_results_simp <;> rfl

theorem loss_keeps_arg1 (M : Valuation τ sig (Elt F)) : after lossOps M (Proc.devRef .tc main_arg1) = M (Proc.devRef .tc main_arg1) := by
  simp only [lossOps, TRef.binary, TRef.nullary, TRef.unary, TRef.ternary, TRef.quaternary, TRef.reshape, TRef.toBuf, TRef.ofBuf, cast_eq]; after_results_simp <;> rfl

/-- All operations, in order. -/
def ops : List (HloOp τ sig (Elt F)) :=
  softmaxOps ++ (orderOps ++ (sortedOps ++ (cumOps ++ (countOps ++ (capOps ++ (chosenOps ++ (rankOps ++ (normOps ++ (maskOps ++ (tallyOps ++ (slotsOps ++ (lossOps))))))))))))

variable (x : (⟨S2x2048x1024, .f32⟩ : BufTy).Contents (Elt F)) (w : (⟨S1024x8, .f32⟩ : BufTy).Contents (Elt F))

/-- `%11` of the arguments. -/
def r11 : (⟨S2x2048x8, .f32⟩ : BufTy).Contents (Elt F) := softmax_v11 x w

/-- `%12` of the arguments. -/
def r12 : (⟨S2x2048x8, .f32⟩ : BufTy).Contents (Elt F) := softmax_v12 x w

/-- `%13` of the arguments. -/
def r13 : (⟨S2x2048x8, .i32⟩ : BufTy).Contents (Elt F) := order_v13 (r12 x w)

/-- `%14` of the arguments. -/
def r14 : (⟨S2x2048x8, .f32⟩ : BufTy).Contents (Elt F) := sorted_v14 (r13 x w) (r11 x w)

/-- `%15` of the arguments. -/
def r15 : (⟨S2x2048x8, .f32⟩ : BufTy).Contents (Elt F) := cum_v15 (r14 x w)

/-- `%24` of the arguments. -/
def r24 : (⟨S2x2048, .i32⟩ : BufTy).Contents (Elt F) := count_v24 (r15 x w)

/-- `%28` of the arguments. -/
def r28 : (⟨S2x2048, .i32⟩ : BufTy).Contents (Elt F) := cap_v28 (r24 x w)

/-- `%35` of the arguments. -/
def r35 : (⟨S2x2048x8, .f32⟩ : BufTy).Contents (Elt F) := chosen_v35 (r28 x w)

/-- `%40` of the arguments. -/
def r40 : (⟨S2x2048x8, .f32⟩ : BufTy).Contents (Elt F) := chosen_v40 (r28 x w) (r14 x w)

/-- `%41` of the arguments. -/
def r41 : (⟨S2x2048x8, .i32⟩ : BufTy).Contents (Elt F) := rank_v41 (r13 x w)

/-- `%42` of the arguments. -/
def r42 : (⟨S2x2048x8, .f32⟩ : BufTy).Contents (Elt F) := norm_v42 (r41 x w) (r40 x w)

/-- `%43` of the arguments. -/
def r43 : (⟨S2x2048x8, .f32⟩ : BufTy).Contents (Elt F) := mask_v43 (r41 x w) (r35 x w)

/-- `%44` of the arguments. -/
def r44 : (⟨S2x2048x8, .f32⟩ : BufTy).Contents (Elt F) := tally_v44 (r43 x w)

/-- `%50` of the arguments. -/
def r50 : (⟨S2x2048x8, .f32⟩ : BufTy).Contents (Elt F) := slots_v50 (r44 x w) (r43 x w)

/-- `%52` of the arguments. -/
def r52 : (⟨S2x2048, .f32⟩ : BufTy).Contents (Elt F) := slots_v52 (r44 x w) (r43 x w)

/-- `%59` of the arguments. -/
def r59 : (⟨S2x2048x8, .f32⟩ : BufTy).Contents (Elt F) := slots_v59 (r44 x w) (r43 x w)

/-- `%76` of the arguments. -/
def r76 : (⟨S4096x8, .f32⟩ : BufTy).Contents (Elt F) := loss_v76 (r42 x w) (r59 x w)

/-- `%77` of the arguments. -/
def r77 : (⟨S4096x8, .f32⟩ : BufTy).Contents (Elt F) := loss_v77 (r59 x w)

/-- `%78` of the arguments. -/
def r78 : (⟨S4096x1, .f32⟩ : BufTy).Contents (Elt F) := loss_v78 (r52 x w)

/-- `%80` of the arguments. -/
def r80 : (⟨S1x1, .f32⟩ : BufTy).Contents (Elt F) := loss_v80 (r50 x w) (r11 x w) (r24 x w)

/-- A list run after another starts from what the first leaves. -/
theorem after_append_list (l₁ l₂ : List (HloOp τ sig (Elt F))) (V : Valuation τ sig (Elt F)) :
    after (l₁ ++ l₂) V = after l₂ (after l₁ V) := by
  induction l₁ generalizing V with
  | nil => rfl
  | cons op l ih => exact ih _

end Cert.GateRefIdeal.Value

end
-- ==== Proof.GateRun.lean ====
/- The run of the gating reference: every run ends with the four results at the composed functions of its arguments. -/
module

public import proofs.«01_k».proof.Proof.GateOps
public import Idealize.ShloMosaic.Lib.StableHlo.RunHlo

@[expose] public section

set_option maxRecDepth 65536

noncomputable section

namespace Cert.GateRefIdeal.Value

open Cert.GateRefIdeal Cert.GateRefIdeal.Gen Idealize.ShloMosaic Idealize.ShloMosaic.TcCoe Idealize.SL.Sem Idealize.ShloMosaic.StableHlo

variable {F : FTy → Type} [FloatOps F]

/-- What the operations together leave in `%76`. -/
theorem ops_v76 (M : Valuation τ sig (Elt F)) : after ops M (Proc.devRef .tc main_v76) = r76 (M (Proc.devRef .tc main_arg0)) (M (Proc.devRef .tc main_arg1)) := by
  simp only [ops, after_append_list]
  rw [loss_v76_after, slots_keeps_v42, slots_v59_after, tally_keeps_v42, tally_v44_after, tally_keeps_v43, mask_keeps_v42, mask_v43_after, norm_v42_after, norm_keeps_v41, norm_keeps_v35, rank_v41_after, rank_keeps_v40, rank_keeps_v35, chosen_keeps_v13, chosen_v40_after, chosen_v35_after, cap_keeps_v13, cap_v28_after, cap_keeps_v14, count_keeps_v13, count_v24_after, count_keeps_v14, cum_keeps_v13, cum_v15_after, cum_keeps_v14, sorted_keeps_v13, sorted_v14_after, order_v13_after, order_keeps_v11, softmax_v12_after, softmax_v11_after]
  simp only [r76, r59, r44, r43, r42, r41, r40, r35, r28, r24, r15, r14, r13, r12, r11]

/-- What the operations together leave in `%77`. -/
theorem ops_v77 (M : Valuation τ sig (Elt F)) : after ops M (Proc.devRef .tc main_v77) = r77 (M (Proc.devRef .tc main_arg0)) (M (Proc.devRef .tc main_arg1)) := by
  simp only [ops, after_append_list]
  rw [loss_v77_after, slots_v59_after, tally_v44_after, tally_keeps_v43, mask_v43_after, norm_keeps_v41, norm_keeps_v35, rank_v41_after, rank_keeps_v35, chosen_keeps_v13, chosen_v35_after, cap_keeps_v13, cap_v28_after, count_keeps_v13, count_v24_after, cum_keeps_v13, cum_v15_after, sorted_keeps_v13, sorted_v14_after, order_v13_after, order_keeps_v11, softmax_v12_after, softmax_v11_after]
  simp only [r77, r59, r44, r43, r41, r35, r28, r24, r15, r14, r13, r12, r11]

/-- What the operations together leave in `%78`. -/
theorem ops_v78 (M : Valuation τ sig (Elt F)) : after ops M (Proc.devRef .tc main_v78) = r78 (M (Proc.devRef .tc main_arg0)) (M (Proc.devRef .tc main_arg1)) := by
  simp only [ops, after_append_list]
  rw [loss_v78_after, slots_v52_after, tally_v44_after, tally_keeps_v43, mask_v43_after, norm_keeps_v41, norm_keeps_v35, rank_v41_after, rank_keeps_v35, chosen_keeps_v13, chosen_v35_after, cap_keeps_v13, cap_v28_after, count_keeps_v13, count_v24_after, cum_keeps_v13, cum_v15_after, sorted_keeps_v13, sorted_v14_after, order_v13_after, order_keeps_v11, softmax_v12_after, softmax_v11_after]
  simp only [r78, r52, r44, r43, r41, r35, r28, r24, r15, r14, r13, r12, r11]

/-- What the operations together leave in `%80`. -/
theorem ops_v80 (M : Valuation τ sig (Elt F)) : after ops M (Proc.devRef .tc main_v80) = r80 (M (Proc.devRef .tc main_arg0)) (M (Proc.devRef .tc main_arg1)) := by
  simp only [ops, after_append_list]
  rw [loss_v80_after, slots_v50_after, slots_keeps_v11, slots_keeps_v24, tally_v44_after, tally_keeps_v43, tally_keeps_v11, tally_keeps_v24, mask_v43_after, mask_keeps_v11, mask_keeps_v24, norm_keeps_v41, norm_keeps_v35, norm_keeps_v11, norm_keeps_v24, rank_v41_after, rank_keeps_v35, rank_keeps_v11, rank_keeps_v24, chosen_keeps_v13, chosen_v35_after, chosen_keeps_v11, chosen_keeps_v24, cap_keeps_v13, cap_v28_after, cap_keeps_v11, cap_keeps_v24, count_keeps_v13, count_v24_after, count_keeps_v11, cum_keeps_v13, cum_v15_after, cum_keeps_v11, sorted_keeps_v13, sorted_v14_after, sorted_keeps_v11, order_v13_after, order_keeps_v11, softmax_v12_after, softmax_v11_after]
  simp only [r80, r50, r44, r43, r41, r35, r28, r24, r15, r14, r13, r12, r11]

/-- What the operations together leave in `%rg0`. -/
theorem ops_arg0 (M : Valuation τ sig (Elt F)) : after ops M (Proc.devRef .tc main_arg0) = M (Proc.devRef .tc main_arg0) := by
  simp only [ops, after_append_list]
  rw [loss_keeps_arg0, slots_keeps_arg0, tally_keeps_arg0, mask_keeps_arg0, norm_keeps_arg0, rank_keeps_arg0, chosen_keeps_arg0, cap_keeps_arg0, count_keeps_arg0, cum_keeps_arg0, sorted_keeps_arg0, order_keeps_arg0, softmax_keeps_arg0]

/-- What the operations together leave in `%rg1`. -/
theorem ops_arg1 (M : Valuation τ sig (Elt F)) : after ops M (Proc.devRef .tc main_arg1) = M (Proc.devRef .tc main_arg1) := by
  simp only [ops, after_append_list]
  rw [loss_keeps_arg1, slots_keeps_arg1, tally_keeps_arg1, mask_keeps_arg1, norm_keeps_arg1, rank_keeps_arg1, chosen_keeps_arg1, cap_keeps_arg1, count_keeps_arg1, cum_keeps_arg1, sorted_keeps_arg1, order_keeps_arg1, softmax_keeps_arg1]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩, ⟨nullary_bufs_sub .., binary_bufs_sub .., binary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub ..⟩, ⟨nullary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., binary_bufs_sub .., unary_bufs_sub .., nullary_bufs_sub .., unary_bufs_sub .., unary_bufs_sub .., ternary_bufs_sub ..⟩, ⟨nullary_bufs_sub .., binary_bufs_sub .., nullary_bufs_sub .., binary_bufs_sub .., unary_bufs_sub .., binary_bufs_sub ..⟩, ⟨nullary_bufs_sub .., unary_bufs_sub .., unary_bufs_sub .., unary_bufs_sub .., unary_bufs_sub .., binary_bufs_sub .., unary_bufs_sub .., binary_bufs_sub .., nullary_bufs_sub .., binary_bufs_sub .., unary_bufs_sub .., unary_bufs_sub .., binary_bufs_sub ..⟩, ⟨nullary_bufs_sub .., binary_bufs_sub .., binary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub ..⟩, ⟨binary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., unary_bufs_sub .., binary_bufs_sub ..⟩, ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., binary_bufs_sub .., reshape_bufs_sub .., reshape_bufs_sub .., reshape_bufs_sub .., nullary_bufs_sub .., binary_bufs_sub .., reshape_bufs_sub ..⟩⟩

/-- Every run of the reference ends with its four results the functions above of its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = r76 (m ((c.tc : Thread nD τ).loc main_arg0)) (m ((c.tc : Thread nD τ).loc main_arg1))
      ∧ r.2.mem ((c.tc : Thread nD τ).loc main_v77) = r77 (m ((c.tc : Thread nD τ).loc main_arg0)) (m ((c.tc : Thread nD τ).loc main_arg1))
      ∧ r.2.mem ((c.tc : Thread nD τ).loc main_v78) = r78 (m ((c.tc : Thread nD τ).loc main_arg0)) (m ((c.tc : Thread nD τ).loc main_arg1))
      ∧ r.2.mem ((c.tc : Thread nD τ).loc main_v80) = r80 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v76).trans (ops_v76 _), (h c main_v77).trans (ops_v77 _), (h c main_v78).trans (ops_v78 _),
      (h c main_v80).trans (ops_v80 _), (h c main_arg0).trans (ops_arg0 _), (h c main_arg1).trans (ops_arg1 _)⟩)
    (run_seq scopedRefs_eq scopedSems_eq defs main (fun _ => ops) main_eq (fun _ => ops_sub) m ρ)

end Cert.GateRefIdeal.Value

end
-- ==== Proof.GateSort.lean ====
/- The reference's two sorts along the experts' axis: the first lists the experts from the most probable down, the second
   gives each expert its place in that list. -/
module

public import proofs.«01_k».proof.Proof.GateOps
public import proofs.«01_k».proof.Proof.GateScan
public import Idealize.ShloMosaic.Lib.SortFacts

@[expose] public section

set_option maxRecDepth 65536

noncomputable section

namespace Cert.GateRefIdeal.Value

open Cert.GateRefIdeal Cert.GateRefIdeal.Gen Idealize.ShloMosaic Cert.Moe

/-- The sort's comparison of two numbers is the order's: zeros and undefined values, which it maps to one value each,
    change nothing. -/
theorem before_eq (l r : Ideal .f32 × BitVec 32) :
    comparator_f32_i32_d2 (F := Ideal) l r = BitVec.ofBool (decide ((l.1 : EReal) < r.1)) := by
  have h : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    have hz : Scalar.select (Ideal.cmp .oeq z (Ideal.ofBits .f32 0x00000000#32)) (Ideal.ofBits .f32 0x00000000#32) z = z := by
      by_cases e : z = Ideal.ofBits .f32 0x00000000#32
      · simp [Scalar.select, Ideal.cmp, ← e]
      · have h0 : Ideal.cmp .oeq z (Ideal.ofBits .f32 0x00000000#32) = 0#1 := by
          show BitVec.ofBool (decide (z = _)) = 0#1
          rw [decide_eq_false e]
          rfl
        rw [h0]
        rfl
    rw [hz]
    have h1 : Ideal.cmp .une z z = 0#1 := by simp [Ideal.cmp]
    rw [h1]
    rfl
  have e := congrArg₂ (Ideal.cmp CmpFPredicate.olt) (h l.1) (h r.1)
  exact e

/-- A strictly increasing self-map of a finite initial segment changes nothing. -/
theorem strictMono_fin {N : ℕ} (f : Fin N → Fin N) (hf : StrictMono f) (a : Fin N) : f a = a := by
  have hup : ∀ (d : ℕ) (b : Fin N), b.val = d → d ≤ (f b).val := by
    intro d
    induction d with
    | zero => intro b _; omega
    | succ d ih =>
      intro b hb
      have h1 := ih ⟨d, by omega⟩ rfl
      have h2 := Fin.lt_def.1 (hf (show (⟨d, by omega⟩ : Fin N) < b from Fin.lt_def.2 (by simp only; omega)))
      omega
  have hdn : ∀ (d : ℕ) (b : Fin N), b.val + d + 1 = N → (f b).val ≤ b.val := by
    intro d
    induction d with
    | zero => intro b hb; have := (f b).isLt; omega
    | succ d ih =>
      intro b hb
      have h1 := ih ⟨b.val + 1, by omega⟩ (by simp only; omega)
      have h2 := Fin.lt_def.1 (hf (show b < (⟨b.val + 1, by omega⟩ : Fin N) from Fin.lt_def.2 (by simp only; omega)))
      simp only at h1
      omega
  have h1 := hup a.val a rfl
  have h2 := hdn (N - a.val - 1) a (by have := a.isLt; omega)
  exact Fin.ext (by omega)

/-- A sort along the experts' axis, by its order of each row. -/
theorem sort_apply {α β : Type} (cmp : α × β → α × β → BitVec 1) (x : S2x2048x8.Idx → α) (y : S2x2048x8.Idx → β)
    (i : Fin 2) (n : Fin 2048) (j : Fin 8) : (Host.sort2 S2x2048x8 2 cmp x y).2 (ix3 i n j) =
      y (ix3 i n (sortedFrom (fun k k' : Fin 8 =>
        cmp (x (ix3 i n k), y (ix3 i n k)) (x (ix3 i n k'), y (ix3 i n k')) == 1#1) j)) := by
  have ha : ∀ k : Fin 8, Shape.Idx.along (s := S2x2048x8) (ix3 i n j) (2 : Fin 3) k = ix3 i n k := fun k => by
    funext b
    match b with
    | ⟨0, _⟩ => rfl
    | ⟨1, _⟩ => rfl
    | ⟨2, _⟩ => rfl
  unfold Host.sort2
  rw [dif_pos (by decide)]
  dsimp only
  refine (congrArg y (ha _)).trans ?_
  refine congrArg (fun B : Fin 8 → Fin 8 → Bool => y (ix3 i n (sortedFrom B j))) (funext fun k => funext fun k' => ?_)
  rw [← ha k, ← ha k']
  rfl

/-- The order in which a row's entries are listed. -/
def order (np : FVec Ideal S2x2048x8 .f32) (i : Fin 2) (n : Fin 2048) : Equiv.Perm (Fin 8) :=
  Equiv.ofBijective (sortedFrom fun k k' : Fin 8 => decide ((np (ix3 i n k) : EReal) < np (ix3 i n k')))
    ⟨sortedFrom_injective _, sortedFrom_surjective _⟩

/-- The first sort's second result: the order. -/
theorem order_apply (np : FVec Ideal S2x2048x8 .f32) (i : Fin 2) (n : Fin 2048) (j : Fin 8) :
    (order_v13 (F := Ideal) np : IVec S2x2048x8 32) (ix3 i n j) = BitVec.ofNat 32 (order np i n j).val := by
  have hb : ∀ b : Bool, (BitVec.ofBool b == 1#1) = b := by decide
  unfold order_v13 order
  refine (sort_apply _ _ _ i n j).trans ?_
  simp only [before_eq, hb]
  rfl

/-- The order lists the entries upwards. -/
theorem order_sorted (np : FVec Ideal S2x2048x8 .f32) (i : Fin 2) (n : Fin 2048) {a b : Fin 8} (h : a < b) :
    (np (ix3 i n (order np i n a)) : EReal) ≤ np (ix3 i n (order np i n b)) := by
  have := sortedFrom_noInversion (fun k k' : Fin 8 => decide ((np (ix3 i n k) : EReal) < np (ix3 i n k')))
    (fun k k' : Fin 8 => decide ((np (ix3 i n k) : EReal) < np (ix3 i n k')))
    (fun a b h => by simp only [decide_eq_true_eq, decide_eq_false_iff_not] at *; exact not_lt.2 h.le) (fun a b h => h)
    (fun a b c h1 h2 => by
      simp only [decide_eq_false_iff_not, not_lt] at *; exact h2.trans h1) a b h
  simp only [decide_eq_false_iff_not, not_lt] at this
  exact this

/-- The second sort's second result: the inverse of the order its keys spell. -/
theorem rank_apply (v13 : IVec S2x2048x8 32) (σ : Equiv.Perm (Fin 8)) (i : Fin 2) (n : Fin 2048)
    (h : ∀ j : Fin 8, v13 (ix3 i n j) = BitVec.ofNat 32 (σ j).val) (j : Fin 8) :
    (rank_v41 (F := Ideal) v13 : IVec S2x2048x8 32) (ix3 i n j) = BitVec.ofNat 32 (σ.symm j).val := by
  have hb : ∀ b : Bool, (BitVec.ofBool b == 1#1) = b := by decide
  have hlt : ∀ a b : Fin 8, (IntOp.cmpi .slt (BitVec.ofNat 32 a.val) (BitVec.ofNat 32 b.val) == 1#1) = decide (a < b) := by decide
  have e : (rank_v41 (F := Ideal) v13 : IVec S2x2048x8 32) (ix3 i n j) =
      BitVec.ofNat 32 (sortedFrom (fun k k' : Fin 8 =>
        IntOp.cmpi .slt (v13 (ix3 i n k)) (v13 (ix3 i n k')) == 1#1) j).val := by
    unfold rank_v41
    refine (sort_apply _ _ _ i n j).trans ?_
    rfl
  rw [e]
  simp only [h, hlt]
  congr 2
  set B : Fin 8 → Fin 8 → Bool := fun k k' => decide (σ k < σ k')
  have hmono : StrictMono (σ ∘ sortedFrom B) := by
    intro a b hab
    have := sortedFrom_noInversion B B
      (fun a b h => by simp only [B, decide_eq_true_eq, decide_eq_false_iff_not] at *; exact not_lt.2 h.le) (fun a b h => h)
      (fun a b c h1 h2 => by simp only [B, decide_eq_false_iff_not, not_lt] at *; exact h2.trans h1) a b hab
    simp only [B, decide_eq_false_iff_not, not_lt] at this
    exact lt_of_le_of_ne this fun hc => hab.ne (sortedFrom_injective B (σ.injective hc))
  exact (σ.symm_apply_eq.2 (strictMono_fin _ hmono j).symm).symm

end Cert.GateRefIdeal.Value
-- ==== Proof.GateTake.lean ====
/- The reference's reads along the experts' axis: an entry picked by its number, the sums of a list's first entries, and
   the sums of a column's first entries. -/
module

public import proofs.«01_k».proof.Proof.GateOps
public import proofs.«01_k».proof.Proof.GateScan

@[expose] public section

set_option maxRecDepth 65536

noncomputable section

namespace Cert.GateRefIdeal.Value

open Cert.GateRefIdeal Cert.GateRefIdeal.Gen Idealize.ShloMosaic Cert.Moe

/-- The pick of one entry per place along the last axis. -/
theorem gather_apply (p : FVec Ideal S2x2048x8 .f32) (idx : IVec S2x2048x8x1 32) (i : Fin 2) (n : Fin 2048) (j k : Fin 8)
    (h : idx (ix4 i n j 0) = BitVec.ofNat 32 k.val) :
    Host.gather gather_S2x2048x8_S2x2048x8x1_S2x2048x8_n_2_01_01_2_3_111 p idx (ix3 i n j) = p (ix3 i n k) := by
  have hk : ∀ k : Fin 8, min (BitVec.ofNat 32 k.val).toInt.toNat 7 = k.val := by decide
  unfold Host.gather
  refine congrArg p (funext fun a => Fin.ext ?_)
  match a with
  | ⟨0, _⟩ => exact Nat.zero_add i.val
  | ⟨1, _⟩ => exact Nat.zero_add n.val
  | ⟨2, _⟩ =>
    refine Eq.trans ?_ (hk k)
    rw [← h]
    have e : gather_S2x2048x8_S2x2048x8x1_S2x2048x8_n_2_01_01_2_3_111.siIdx (ix3 i n j) ⟨0, by decide⟩ = ix4 i n j 0 := by
      funext b
      match b with
      | ⟨0, _⟩ => rfl
      | ⟨1, _⟩ => rfl
      | ⟨2, _⟩ => rfl
      | ⟨3, _⟩ => rfl
    rw [← e]
    rfl

/-- A conjunction of ones. -/
theorem fold_one {ι : Type} (s : Finset ι) : s.fold IntOp.andi 1#1 (fun _ => 1#1) = 1#1 := by
  classical
  induction s using Finset.induction_on with
  | empty => rfl
  | insert a s h ih => rw [Finset.fold_insert h, ih]; rfl

/-- A row read at numbered places. -/
theorem take_apply (p : FVec Ideal S2x2048x8 .f32) (v : IVec S2x2048x8 32) (i : Fin 2) (n : Fin 2048) (j k : Fin 8)
    (h : v (ix3 i n j) = BitVec.ofNat 32 k.val) :
    (sorted_v14 (F := Ideal) v p : FVec Ideal S2x2048x8 .f32) (ix3 i n j) = p (ix3 i n k) := by
  have h0 : ∀ k : Fin 8, Scalar.select (IntOp.cmpi .slt (BitVec.ofNat 32 k.val) 0#32)
      (IntOp.addi (BitVec.ofNat 32 k.val) 8#32) (BitVec.ofNat 32 k.val) = BitVec.ofNat 32 k.val := by decide
  have h1 : ∀ k : Fin 8, IntOp.andi (IntOp.cmpi .sge (BitVec.ofNat 32 k.val) 0#32) (IntOp.cmpi .sle (BitVec.ofNat 32 k.val) 7#32) = 1#1 := by
    decide
  pointwise [sorted_v14]
  simp only [h, h0, h1, fold_one]
  show Host.gather _ _ _ _ = _
  refine gather_apply p _ i n j k (Eq.trans (?_ : _ = Scalar.select (IntOp.cmpi .slt (v (ix3 i n j)) 0#32)
    (IntOp.addi (v (ix3 i n j)) 8#32) (v (ix3 i n j))) (by rw [h, h0]))
  pointwise []

/-- The window that ends at place `a`, read from the front of a padded list: the sum of the entries up to `a`. -/
theorem slide {M N : ℕ} (hN : N + 1 = M) (f : Fin M → EReal) (a : Fin M) (g : Fin M → EReal)
    (h1 : ∀ k e : Fin M, a.val + k.val = N + e.val → g k = f e) (h0 : ∀ k : Fin M, a.val + k.val < N → g k = 0) :
    ∑ k, g k = ∑ e, if e ≤ a then f e else 0 := by
  let r : Fin M → Fin M := fun k =>
    if h : N ≤ a.val + k.val then ⟨a.val + k.val - N, by omega⟩ else ⟨a.val + k.val + 1, by omega⟩
  have hr : Function.Injective r := by
    intro k k' e
    have e' := congrArg Fin.val e
    simp only [r] at e'
    split at e' <;> split at e' <;> simp only at e' <;> exact Fin.ext (by omega)
  refine Fintype.sum_bijective r (Finite.injective_iff_bijective.1 hr) _ _ fun k => ?_
  by_cases h : N ≤ a.val + k.val
  · have e : r k = ⟨a.val + k.val - N, by omega⟩ := dif_pos h
    rw [e, if_pos (Fin.le_def.2 (by show a.val + k.val - N ≤ a.val; omega))]
    exact h1 k _ (by show a.val + k.val = N + (a.val + k.val - N); omega)
  · have e : r k = ⟨a.val + k.val + 1, by omega⟩ := dif_neg h
    rw [e, if_neg (fun hc => by have := Fin.le_def.1 hc; simp only at this; omega)]
    exact h0 k (by omega)

/-- A left fold of sums over a shape's places, in any listing, is the sum over the places. -/
theorem foldl_sum (W : Shape) (g : W.Idx → EReal) (b : EReal) (hb : b = 0) :
    (List.finRange W.numel).foldl (fun r n => r + g (W.rowMajor.symm n)) b = ∑ y : W.Idx, g y := by
  subst hb
  rw [← Equiv.sum_comp W.rowMajor.symm g, Fin.sum_univ_def, List.sum_eq_foldl, List.foldl_map]

/-- A sliding sum with nothing in its padding, as a sum over the window's places. -/
theorem window_sum {s t : Shape} (window strides lo hi : Fin s.rank → Nat) (h : s.ReduceWindows window strides lo hi t)
    (x : s.Idx → EReal) (v : EReal) (hv : v = 0) (j : t.Idx) :
    Ideal.hostReduceWindowAdd window strides lo hi h x v j = ∑ y : (⟨s.rank, window⟩ : Shape).Idx,
      if hin : ∀ a, lo a ≤ (j (a.cast h.1.symm)).val * strides a + (y a).val
          ∧ (j (a.cast h.1.symm)).val * strides a + (y a).val - lo a < s.size a then
        x (fun a => ⟨(j (a.cast h.1.symm)).val * strides a + (y a).val - lo a, (hin a).2⟩) else v := by
  unfold Ideal.hostReduceWindowAdd Host.reduceWindow
  refine Eq.trans ?_ (foldl_sum ⟨s.rank, window⟩ _ v hv)
  dsimp only
  congr! 6

/-- The places of a window along a row. -/
theorem row_bijective {N : ℕ} : Function.Bijective (fun k : Fin N => (ix3 0 0 k : (⟨3, ![1, 1, N]⟩ : Shape).Idx)) := by
  refine ⟨fun a b h => congrFun h 2, fun y => ⟨y 2, funext fun a => ?_⟩⟩
  match a with
  | ⟨0, _⟩ => exact (Subsingleton.elim (α := Fin 1) _ _)
  | ⟨1, _⟩ => exact (Subsingleton.elim (α := Fin 1) _ _)
  | ⟨2, _⟩ => rfl

/-- The places of a window along a column. -/
theorem column_bijective {N : ℕ} : Function.Bijective (fun k : Fin N => (ix3 0 k 0 : (⟨3, ![1, N, 1]⟩ : Shape).Idx)) := by
  refine ⟨fun a b h => congrFun h 1, fun y => ⟨y 1, funext fun a => ?_⟩⟩
  match a with
  | ⟨0, _⟩ => exact (Subsingleton.elim (α := Fin 1) _ _)
  | ⟨1, _⟩ => rfl
  | ⟨2, _⟩ => exact (Subsingleton.elim (α := Fin 1) _ _)

/-- The two running sums' initial value. -/
theorem init_eq : (broadcastInDim S_ ![] bcast_S_S_ (constant (F := Ideal) S_ .f32 0x00000000#32) (Shape.Idx.first h_S_) : EReal) = 0 := by
  show Ideal.ofBits .f32 0#32 = 0
  simp [Ideal.ofBits, Ideal.ieee]

/-- A row's running sums. -/
theorem cum_apply (p : FVec Ideal S2x2048x8 .f32) (i : Fin 2) (n : Fin 2048) (j : Fin 8) :
    (cum_v15 (F := Ideal) p : FVec Ideal S2x2048x8 .f32) (ix3 i n j) = cum (fun e => (p (ix3 i n e) : EReal)) j := by
  refine (window_sum ![1, 1, 8] ![1, 1, 1] ![0, 0, 7] ![0, 0, 0]
    reduceWindows_S2x2048x8_S2x2048x8_w1s1p0_0_w1s1p0_0_w8s1p7_0 p _ init_eq (ix3 i n j)).trans ?_
  rw [init_eq]
  refine (Fintype.sum_bijective _ row_bijective _ _ fun k => rfl).symm.trans (slide (N := 7) rfl (fun e => (p (ix3 i n e) : EReal)) j _ ?_ ?_)
  · intro k e he
    have hi := i.isLt
    have hn := n.isLt
    have hee := e.isLt
    refine (dif_pos fun a => ?_).trans (congrArg p (funext fun a => Fin.ext ?_))
    · match a with
      | ⟨0, _⟩ => show 0 ≤ i.val * 1 + 0 ∧ i.val * 1 + 0 - 0 < 2; omega
      | ⟨1, _⟩ => show 0 ≤ n.val * 1 + 0 ∧ n.val * 1 + 0 - 0 < 2048; omega
      | ⟨2, _⟩ => show 7 ≤ j.val * 1 + k.val ∧ j.val * 1 + k.val - 7 < 8; omega
    · match a with
      | ⟨0, _⟩ => show i.val * 1 + 0 - 0 = i.val; omega
      | ⟨1, _⟩ => show n.val * 1 + 0 - 0 = n.val; omega
      | ⟨2, _⟩ => show j.val * 1 + k.val - 7 = e.val; omega
  · intro k hk
    refine dif_neg fun hin => ?_
    have h2 := (hin 2).1
    change 7 ≤ j.val * 1 + k.val at h2
    omega

/-- A column's running sums. -/
theorem tally_apply (p : FVec Ideal S2x2048x8 .f32) (i : Fin 2) (n : Fin 2048) (j : Fin 8) :
    (tally_v44 (F := Ideal) p : FVec Ideal S2x2048x8 .f32) (ix3 i n j) = upto (fun m => (p (ix3 i m j) : EReal)) n := by
  simp only [tally_v44, Host.reduceWindowAdd, Ideal.hostReduceWindowAdd_def]
  rw [window_sum (t := S2x2048x8) _ _ _ _ _ _ _ init_eq, init_eq]
  refine (Fintype.sum_bijective _ column_bijective _ _ fun k => rfl).symm.trans (slide (N := 2047) rfl (fun e => (p (ix3 i e j) : EReal)) n _ ?_ ?_)
  · intro k e he
    have hi := i.isLt
    have hj := j.isLt
    have hee := e.isLt
    refine (dif_pos fun a => ?_).trans (congrArg p (funext fun a => Fin.ext ?_))
    · match a with
      | ⟨0, _⟩ => show 0 ≤ i.val * 1 + 0 ∧ i.val * 1 + 0 - 0 < 2; omega
      | ⟨1, _⟩ => show 2047 ≤ n.val * 1 + k.val ∧ n.val * 1 + k.val - 2047 < 2048; omega
      | ⟨2, _⟩ => show 0 ≤ j.val * 1 + 0 ∧ j.val * 1 + 0 - 0 < 8; omega
    · match a with
      | ⟨0, _⟩ => show i.val * 1 + 0 - 0 = i.val; omega
      | ⟨1, _⟩ => show n.val * 1 + k.val - 2047 = e.val; omega
      | ⟨2, _⟩ => show j.val * 1 + 0 - 0 = j.val; omega
  · intro k hk
    refine dif_neg fun hin => ?_
    have h2 := (hin 1).1
    change 2047 ≤ n.val * 1 + k.val at h2
    omega

end Cert.GateRefIdeal.Value
-- ==== Proof.GateCount.lean ====
/- How many experts a token takes in the reference: the place of the first running sum that reaches the threshold, counted
   from one, or all eight. -/
module

public import proofs.«01_k».proof.Proof.GateOps
public import proofs.«01_k».proof.Proof.GateScan
public import Idealize.ShloMosaic.Lib.SortNet.Extract

@[expose] public section

set_option maxRecDepth 65536

noncomputable section

namespace Cert.GateRefIdeal.Value

open Cert.GateRefIdeal Cert.GateRefIdeal.Gen Idealize.ShloMosaic Cert.Moe

/-- A pair (flag, place) that loses to a raised flag at place `r`: its flag is lower, or equal and further on. -/
def loses (r : BitVec 32) (q : Ideal .f32 × BitVec 32) : Prop := (q.1 : EReal) < 1 ∨ ((q.1 : EReal) = 1 ∧ r.slt q.2 = true)

/-- The choice of the greater flag, the earlier place among equals. -/
theorem argmax_eq (a b : Ideal .f32 × BitVec 32) : reducer_argmax_f32_i32 (F := Ideal) a b =
    if (b.1 : EReal) < a.1 ∨ ((a.1 : EReal) = b.1 ∧ a.2.slt b.2 = true) then a else b := by
  obtain ⟨x, i⟩ := a
  obtain ⟨y, k⟩ := b
  have h1 : FloatOps.cmpf (F := Ideal) .ogt x y = BitVec.ofBool (decide ((y : EReal) < x)) := rfl
  have h2 : FloatOps.cmpf (F := Ideal) .une x x = 0#1 := by
    show BitVec.ofBool (decide ((x : EReal) ≠ x)) = 0#1
    simp
  have h3 : FloatOps.cmpf (F := Ideal) .oeq x y = BitVec.ofBool (decide ((x : EReal) = y)) := rfl
  have h4 : IntOp.cmpi .slt i k = BitVec.ofBool (i.slt k) := rfl
  simp only [reducer_argmax_f32_i32, h1, h2, h3, h4]
  by_cases c1 : (y : EReal) < x
  · simp [c1, c1.ne', Scalar.select, IntOp.ori, IntOp.andi]
  · by_cases c2 : (x : EReal) = y
    · cases c3 : i.slt k
      · simp [c1, c2, Scalar.select, IntOp.ori, IntOp.andi]
      · simp [c1, c2, Scalar.select, IntOp.ori, IntOp.andi]
    · simp [c1, c2, Scalar.select, IntOp.ori, IntOp.andi]

/-- The choice over a list that holds a raised flag at `r`, all else losing to it, is that flag. -/
theorem foldl_argmax (r : BitVec 32) (L : List (Ideal .f32 × BitVec 32)) :
    ∀ a : Ideal .f32 × BitVec 32, (loses r a ∨ a = ((1 : EReal), r)) → (∀ q ∈ L, loses r q ∨ q = ((1 : EReal), r)) →
      (a = ((1 : EReal), r) ∨ ((1 : EReal), r) ∈ L) → L.foldl (reducer_argmax_f32_i32 (F := Ideal)) a = ((1 : EReal), r) := by
  have hir : r.slt r = false := by simp [BitVec.slt]
  induction L with
  | nil => intro a _ _ h; rcases h with h | h; exacts [h, absurd h (by simp)]
  | cons q L ih =>
    intro a ha hL h
    have hq := hL q (by simp)
    have hL' : ∀ q ∈ L, loses r q ∨ q = ((1 : EReal), r) := fun q' hq' => hL q' (by simp [hq'])
    rw [List.foldl_cons]
    by_cases hw : a = ((1 : EReal), r) ∨ q = ((1 : EReal), r)
    · have e : reducer_argmax_f32_i32 (F := Ideal) a q = ((1 : EReal), r) := by
        rw [argmax_eq]
        rcases hw with rfl | rfl
        · rcases hq with hq | rfl
          · rcases hq with hq | ⟨h1, h2⟩
            · rw [if_pos (Or.inl hq)]
            · rw [if_pos (Or.inr ⟨h1.symm, h2⟩)]
          · simp
        · rcases ha with ha | rfl
          · rw [if_neg]
            rcases ha with ha | ⟨h1, h2⟩
            · rintro (h' | ⟨h', -⟩)
              · exact absurd (lt_trans ha h') (lt_irrefl _)
              · exact absurd h' ha.ne
            · rintro (h' | ⟨-, h'⟩)
              · exact absurd h' (by rw [h1]; exact lt_irrefl _)
              · exact absurd (BitVec.slt_iff_toInt_lt.1 h2) (by have := BitVec.slt_iff_toInt_lt.1 h'; simp only at this; omega)
          · simp
      rw [e]
      exact ih _ (Or.inr rfl) hL' (Or.inl rfl)
    · have hw := not_or.1 hw
      refine ih _ (Or.inl ?_) hL' (Or.inr ?_)
      · rw [argmax_eq]
        split
        · exact ha.resolve_right hw.1
        · exact hq.resolve_right hw.2
      · rcases h with h | h
        · exact absurd h hw.1
        · rcases List.mem_cons.1 h with h | h
          · exact absurd h.symm hw.2
          · exact h

/-- The reduction along the experts keeps the token. -/
theorem drop_apply (i : Fin 2) (n : Fin 2048) (j : Fin 8) : reducesTo_S2x2048x8_S2x2048_d2.drop (ix3 i n j) = ix2 i n := by
  funext a
  match a with
  | ⟨0, _⟩ => rfl
  | ⟨1, _⟩ => rfl

/-- The place of the first raised flag of a row. -/
theorem first_apply (x : FVec Ideal S2x2048x8 .f32) (i : Fin 2) (n : Fin 2048) (r : Fin 8) (hr : (x (ix3 i n r) : EReal) = 1)
    (hb : ∀ e : Fin 8, e < r → (x (ix3 i n e) : EReal) < 1) (ha : ∀ e : Fin 8, (x (ix3 i n e) : EReal) ≤ 1) :
    (Host.argReduce reducer_argmax_f32_i32 x (iotaInDim S2x2048x8 32 2) (constant S_ .f32 0xFF800000#32) (constantI S_ 32 0#32)
      reducesTo_S2x2048x8_S2x2048_d2 h_S_ (ix2 i n)).2 = BitVec.ofNat 32 r.val := by
  have hslt : ∀ a b : Fin 8, a < b → (BitVec.ofNat 32 a.val).slt (BitVec.ofNat 32 b.val) = true := by decide
  have hix : ∀ y : S2x2048x8.Idx, reducesTo_S2x2048x8_S2x2048_d2.drop y = ix2 i n → ∃ e : Fin 8, y = ix3 i n e := by
    intro y hy
    have e : y = ix3 (y 0) (y 1) (y 2) := by
      funext a
      match a with
      | ⟨0, _⟩ => rfl
      | ⟨1, _⟩ => rfl
      | ⟨2, _⟩ => rfl
    rw [e] at hy
    have h' := (drop_apply (y 0) (y 1) (y 2)).symm.trans hy
    have h0 : y 0 = i := congrFun h' 0
    have h1 : y 1 = n := congrFun h' 1
    exact ⟨y 2, e.trans (by rw [h0, h1]; rfl)⟩
  rw [Ideal.argReduce_eq_reduce2, Host.reduce2_eq_foldl_fiber]
  refine congrArg Prod.snd (foldl_argmax (BitVec.ofNat 32 r.val) _ _ (Or.inl (Or.inl ?_)) (fun q hq => ?_) (Or.inr ?_))
  · show Ideal.ofBits .f32 0xFF800000#32 < 1
    have e : Ideal.ofBits .f32 0xFF800000#32 = ⊥ := by simp [Ideal.ofBits, Ideal.ieee]
    rw [e]
    exact EReal.bot_lt_coe 1
  · obtain ⟨k, hk, rfl⟩ := List.mem_map.1 hq
    obtain ⟨e, he⟩ := hix _ (of_decide_eq_true (List.mem_filter.1 hk).2)
    rw [he]
    show loses _ (x (ix3 i n e), BitVec.ofNat 32 e.val) ∨ _
    rcases lt_trichotomy e r with h | rfl | h
    · exact Or.inl (Or.inl (hb e h))
    · exact Or.inr (Prod.ext hr rfl)
    · rcases lt_or_eq_of_le (ha e) with h' | h'
      · exact Or.inl (Or.inl h')
      · exact Or.inl (Or.inr ⟨h', hslt r e h⟩)
  · refine List.mem_map.2 ⟨S2x2048x8.rowMajor (ix3 i n r), List.mem_filter.2 ⟨List.mem_finRange _, decide_eq_true ?_⟩, ?_⟩
    · rw [Equiv.symm_apply_apply]
      exact drop_apply i n r
    · rw [Equiv.symm_apply_apply]
      exact Prod.ext hr rfl

/-- A disjunction of bits. -/
theorem fold_or {ι : Type} (s : Finset ι) (f : ι → Prop) [DecidablePred f] :
    s.fold IntOp.ori 0#1 (fun x => BitVec.ofBool (decide (f x))) = BitVec.ofBool (decide (∃ x ∈ s, f x)) := by
  classical
  induction s using Finset.induction_on with
  | empty => simp
  | insert a s h ih =>
    rw [Finset.fold_insert h, ih]
    by_cases h1 : f a <;> by_cases h2 : ∃ x ∈ s, f x <;> simp [h1, h2, IntOp.ori]

/-- The count of a row whose running sums do not decrease. -/
theorem count_apply (v15 : FVec Ideal S2x2048x8 .f32) (i : Fin 2) (n : Fin 2048) (s : Fin 8 → EReal) (hs : ∀ e, 0 ≤ s e)
    (h : ∀ e, (v15 (ix3 i n e) : EReal) = cum s e) :
    (count_v24 (F := Ideal) v15 : IVec S2x2048 32) (ix2 i n) = BitVec.ofNat 32 (cnt s) := by
  have hfl : ∀ e : Fin 8, (uitofp FTy.f32 (cmpf CmpFPredicate.oge v15
      (broadcastInDim S2x2048x8 ![] bcast_S_S2x2048x8 (constant S_ FTy.f32 1061997773#32))) : FVec Ideal S2x2048x8 .f32)
        (ix3 i n e) = flag (thr ≤ cum s e) := fun e => by
    pointwise []
    rw [h]
    exact uitofp_flag (thr ≤ cum s e)
  pointwise [count_v24]
  show Scalar.select (~~~ Finset.fold IntOp.ori 0#1 (fun x : Fin 8 => BitVec.ofBool (decide (thr ≤ (v15 (ix3 i n x) : EReal))))
    Finset.univ) _ _ = _
  rw [fold_or]
  simp only [h, Finset.mem_univ, true_and]
  by_cases hall : ∀ e, cum s e < thr
  · have hne : ¬ ∃ x, thr ≤ cum s x := by
      rintro ⟨x, hx⟩
      exact absurd hx (not_le.2 (hall x))
    rw [decide_eq_false hne, cnt_of_all s hall]
    rfl
  · obtain ⟨r, hr, hmin⟩ := WellFounded.has_min (wellFounded_lt (α := Fin 8)) {e | thr ≤ cum s e}
      (by obtain ⟨e, he⟩ := not_forall.1 hall; exact ⟨e, not_lt.1 he⟩)
    have hr : thr ≤ cum s r := hr
    have hiff : ∀ e, cum s e < thr ↔ e < r := fun e => by
      constructor
      · intro he
        by_contra hc
        exact absurd (hr.trans (cum_mono s hs (not_lt.1 hc))) (not_le.2 he)
      · intro he
        by_contra hc
        exact hmin e (not_lt.1 hc) he
    have hex : ∃ x, thr ≤ cum s x := ⟨r, hr⟩
    rw [decide_eq_true hex, first_apply _ i n r, cnt_of_first s r hiff]
    · clear * - r
      revert r
      decide
    · rw [hfl, flag, if_pos hr]
    · intro e he
      rw [hfl, flag, if_neg (not_le.2 ((hiff e).2 he))]
      exact zero_lt_one
    · intro e
      rw [hfl, flag]
      split
      · exact le_refl _
      · exact zero_le_one

/-- The greatest of several words is no less than any. -/
theorem le_fold_maxsi {ι : Type} (s : Finset ι) (b : BitVec 32) (f : ι → BitVec 32) (x : ι) (hx : x ∈ s) :
    (f x).toInt ≤ (s.fold IntOp.maxsi b f).toInt := by
  classical
  induction s using Finset.induction_on with
  | empty => exact absurd hx (by simp)
  | insert a s h ih =>
    rw [Finset.fold_insert h, SortNet.toInt_maxsi]
    rcases Finset.mem_insert.1 hx with rfl | hx
    · exact le_max_left _ _
    · exact le_max_of_le_right (ih hx)

/-- The greatest count cuts nothing off, and no count passes eight. -/
theorem cap_apply (v24 : IVec S2x2048 32) (k : Fin 2 → Fin 2048 → ℕ) (hk : ∀ i n, k i n ≤ 8)
    (h : ∀ i n, v24 (ix2 i n) = BitVec.ofNat 32 (k i n)) (i : Fin 2) (n : Fin 2048) :
    (cap_v28 (F := Ideal) v24 : IVec S2x2048 32) (ix2 i n) = BitVec.ofNat 32 (k i n) := by
  have h8 : (BitVec.ofNat 32 (k i n)).toInt ≤ (8#32 : BitVec 32).toInt := by
    have := hk i n
    generalize k i n = q at this ⊢
    clear * - this
    interval_cases q <;> decide
  pointwise [cap_v28]
  apply BitVec.eq_of_toInt_eq
  have hm := le_fold_maxsi Finset.univ 2147483648#32 (fun k : Fin 2 × Fin 2048 => v24 (ix2 k.1 k.2)) (i, n) (Finset.mem_univ _)
  rw [SortNet.toInt_minsi, SortNet.toInt_minsi]
  simp only [h] at hm ⊢
  exact min_eq_left (le_min hm h8)

end Cert.GateRefIdeal.Value
-- ==== Proof.GateRef.lean ====
/- The gating reference's results, entry by entry: the same functions of the probabilities as the kernel's, the experts
   listed by the reference's own sort. -/
module

public import proofs.«01_k».proof.Proof.GateSort
public import proofs.«01_k».proof.Proof.GateTake
public import proofs.«01_k».proof.Proof.GateCount
public import Idealize.ShloMosaic.Lib.Pointwise

@[expose] public section

set_option maxRecDepth 65536

noncomputable section

namespace Cert.GateRefIdeal.Value

open Cert.GateRefIdeal Cert.GateRefIdeal.Gen Idealize.ShloMosaic Cert.Moe

/-- A token's batch. -/
theorem tok_batch (i : Fin 2) (n : Fin 2048) (h : (tok i n).val / 2048 < 2) : (⟨(tok i n).val / 2048, h⟩ : Fin 2) = i :=
  Fin.ext (by have := n.isLt; show (i.val * 2048 + n.val) / 2048 = i.val; omega)

/-- A token's place in its batch. -/
theorem tok_place (i : Fin 2) (n : Fin 2048) (h : (tok i n).val % 2048 < 2048) : (⟨(tok i n).val % 2048, h⟩ : Fin 2048) = n :=
  Fin.ext (by have := n.isLt; show (i.val * 2048 + n.val) % 2048 = n.val; omega)

section Values

variable (x : FVec Ideal S2x2048x1024 .f32) (w : FVec Ideal S1024x8 .f32)

/-- The probabilities: the softmax of each token's scores. -/
def prb (i : Fin 2) (n : Fin 2048) : Fin 8 → EReal :=
  soft (Ideal.ofBits .f32 4286578688#32) (fun j => ∑ k : Fin 1024, (x (ix3 i n k) : EReal) * w (ix2 k j))

/-- The reference's listing of a token's experts. -/
def perm (i : Fin 2) (n : Fin 2048) : Equiv.Perm (Fin 8) := order (r12 (F := Ideal) x w) i n

theorem r11_apply (i : Fin 2) (n : Fin 2048) (j : Fin 8) :
    (r11 (F := Ideal) x w : FVec Ideal S2x2048x8 .f32) (ix3 i n j) = prb x w i n j := by
  unfold r11
  pointwise [softmax_v11]
  simp only [max_fold]
  rfl

theorem r12_apply (i : Fin 2) (n : Fin 2048) (j : Fin 8) :
    (r12 (F := Ideal) x w : FVec Ideal S2x2048x8 .f32) (ix3 i n j) = - prb x w i n j := by
  unfold r12
  pointwise [softmax_v12]
  simp only [max_fold]
  rfl

theorem r13_apply (i : Fin 2) (n : Fin 2048) (j : Fin 8) :
    (r13 (F := Ideal) x w : IVec S2x2048x8 32) (ix3 i n j) = BitVec.ofNat 32 (perm x w i n j).val :=
  order_apply _ i n j

theorem r14_apply (i : Fin 2) (n : Fin 2048) (j : Fin 8) :
    (r14 (F := Ideal) x w : FVec Ideal S2x2048x8 .f32) (ix3 i n j) = (prb x w i n ∘ perm x w i n) j :=
  (take_apply _ _ i n j _ (r13_apply x w i n j)).trans (r11_apply x w i n _)

theorem r15_apply (i : Fin 2) (n : Fin 2048) (j : Fin 8) :
    (r15 (F := Ideal) x w : FVec Ideal S2x2048x8 .f32) (ix3 i n j) = cum (prb x w i n ∘ perm x w i n) j :=
  (cum_apply _ i n j).trans (congrArg (fun s => cum s j) (funext fun e => r14_apply x w i n e))

theorem r41_apply (i : Fin 2) (n : Fin 2048) (j : Fin 8) :
    (r41 (F := Ideal) x w : IVec S2x2048x8 32) (ix3 i n j) = BitVec.ofNat 32 ((perm x w i n).symm j).val :=
  rank_apply _ _ i n (r13_apply x w i n) j

variable (hd : ∀ i n, Function.Injective (prb x w i n))
include hd

/-- The reference lists the experts from the most probable down. -/
theorem perm_strictAnti (i : Fin 2) (n : Fin 2048) : StrictAnti (prb x w i n ∘ perm x w i n) := by
  intro a b hab
  have h := order_sorted (r12 (F := Ideal) x w) i n hab
  have h' : - prb x w i n (perm x w i n a) ≤ - prb x w i n (perm x w i n b) := by
    rw [← r12_apply, ← r12_apply]
    exact h
  exact lt_of_le_of_ne (EReal.neg_le_neg_iff.1 h') fun e => hab.ne ((perm x w i n).injective (hd i n e.symm))

theorem r24_apply (i : Fin 2) (n : Fin 2048) :
    (r24 (F := Ideal) x w : IVec S2x2048 32) (ix2 i n) = BitVec.ofNat 32 (cnt (prb x w i n ∘ perm x w i n)) :=
  count_apply _ i n _ (fun e => soft_nonneg _ _ (hd i n) _) (r15_apply x w i n)

theorem r28_apply (i : Fin 2) (n : Fin 2048) :
    (r28 (F := Ideal) x w : IVec S2x2048 32) (ix2 i n) = BitVec.ofNat 32 (cnt (prb x w i n ∘ perm x w i n)) :=
  cap_apply _ (fun i n => cnt (prb x w i n ∘ perm x w i n)) (fun i n => cnt_le _) (r24_apply x w hd) i n

/-- A small count compared with a place. -/
theorem lt_count (j : Fin 8) (c : ℕ) (hc : c ≤ 8) :
    (FloatOps.uitofp FTy.f32 (IntOp.cmpi .slt (BitVec.ofNat 32 j.val) (BitVec.ofNat 32 c)) : Ideal .f32) = flag (j.val < c) := by
  have e : IntOp.cmpi .slt (BitVec.ofNat 32 j.val) (BitVec.ofNat 32 c) = BitVec.ofBool (decide (j.val < c)) := by
    clear * - hc
    interval_cases c <;> revert j <;> decide
  rw [e]
  exact uitofp_flag _

theorem r35_apply (i : Fin 2) (n : Fin 2048) (j : Fin 8) :
    (r35 (F := Ideal) x w : FVec Ideal S2x2048x8 .f32) (ix3 i n j) = flag (j.val < cnt (prb x w i n ∘ perm x w i n)) := by
  have h := r28_apply x w hd i n
  unfold r35
  pointwise [chosen_v35]
  rw [h]
  exact lt_count x w hd j _ (cnt_le _)

theorem r43_apply (i : Fin 2) (n : Fin 2048) (j : Fin 8) :
    (r43 (F := Ideal) x w : FVec Ideal S2x2048x8 .f32) (ix3 i n j) = kept (prb x w) (perm x w) i n j :=
  (take_apply (r35 (F := Ideal) x w) (r41 (F := Ideal) x w) i n j _ (r41_apply x w i n j)).trans (r35_apply x w hd i n _)

theorem r40_apply (i : Fin 2) (n : Fin 2048) (j : Fin 8) :
    (r40 (F := Ideal) x w : FVec Ideal S2x2048x8 .f32) (ix3 i n j) =
      Moe.norm (prb x w i n) (perm x w i n) (perm x w i n j) := by
  have h := r28_apply x w hd i n
  have h14 := r14_apply x w i n
  have hk : ∀ e, flag (e.val < cnt (prb x w i n ∘ perm x w i n)) = keep (prb x w i n) (perm x w i n) (perm x w i n e) := fun e => by
    rw [keep, Equiv.symm_apply_apply]
  unfold r40
  pointwise [chosen_v40]
  simp only [h, h14, lt_count x w hd _ _ (cnt_le _), hk]
  exact congrArg (fun q : EReal => Ideal.div (prb x w i n (perm x w i n j) * keep (prb x w i n) (perm x w i n) (perm x w i n j)) q)
    (Equiv.sum_comp (perm x w i n) (fun e => prb x w i n e * keep (prb x w i n) (perm x w i n) e))

theorem r42_apply (i : Fin 2) (n : Fin 2048) (j : Fin 8) :
    (r42 (F := Ideal) x w : FVec Ideal S2x2048x8 .f32) (ix3 i n j) = Moe.norm (prb x w i n) (perm x w i n) j :=
  (take_apply (r40 (F := Ideal) x w) (r41 (F := Ideal) x w) i n j _ (r41_apply x w i n j)).trans
    ((r40_apply x w hd i n _).trans (by rw [Equiv.apply_symm_apply]))

theorem r44_apply (i : Fin 2) (n : Fin 2048) (j : Fin 8) :
    (r44 (F := Ideal) x w : FVec Ideal S2x2048x8 .f32) (ix3 i n j) = upto (fun m => kept (prb x w) (perm x w) i m j) n :=
  (tally_apply _ i n j).trans (congrArg (fun f => upto f n) (funext fun m => r43_apply x w hd i m j))

theorem r50_apply (i : Fin 2) (n : Fin 2048) (j : Fin 8) :
    (r50 (F := Ideal) x w : FVec Ideal S2x2048x8 .f32) (ix3 i n j) = fits (prb x w) (perm x w) i n j := by
  have h1 := r43_apply x w hd i n
  have h2 := r44_apply x w hd i n
  unfold r50
  pointwise [slots_v50]
  simp only [h1, h2, uitofp_flag]
  rfl

theorem r52_apply (i : Fin 2) (n : Fin 2048) :
    (r52 (F := Ideal) x w : FVec Ideal S2x2048 .f32) (ix2 i n) = place (prb x w) (perm x w) i n := by
  have h1 := r43_apply x w hd i n
  have h2 := r44_apply x w hd i n
  unfold r52
  pointwise [slots_v52]
  simp only [h1, h2, uitofp_flag]
  rfl

theorem r59_apply (i : Fin 2) (n : Fin 2048) (j : Fin 8) :
    (r59 (F := Ideal) x w : FVec Ideal S2x2048x8 .f32) (ix3 i n j) = sent (prb x w) (perm x w) i n j := by
  have h1 := r43_apply x w hd i n
  have h2 := r44_apply x w hd i n
  unfold r59
  pointwise [slots_v59]
  simp only [h1, h2, uitofp_flag]
  exact congrArg₂ (fun a b : EReal => a * b) rfl (lt_places (isNat_place (prb x w) (perm x w) i n))

theorem r77_apply (i : Fin 2) (n : Fin 2048) (j : Fin 8) :
    (r77 (F := Ideal) x w : FVec Ideal S4096x8 .f32) (ix2 (tok i n) j) = sent (prb x w) (perm x w) i n j := by
  have h := r59_apply x w hd
  unfold r77
  pointwise [loss_v77]
  rw [tok_batch, tok_place, h]

theorem r76_apply (i : Fin 2) (n : Fin 2048) (j : Fin 8) :
    (r76 (F := Ideal) x w : FVec Ideal S4096x8 .f32) (ix2 (tok i n) j) = weight (prb x w) (perm x w) i n j := by
  have h := r59_apply x w hd
  unfold r76
  pointwise [loss_v76]
  rw [tok_batch, tok_place, h, r42_apply x w hd]
  rfl

theorem r78_apply (i : Fin 2) (n : Fin 2048) :
    (r78 (F := Ideal) x w : FVec Ideal S4096x1 .f32) (ix2 (tok i n) 0) = place (prb x w) (perm x w) i n := by
  have h := r52_apply x w hd
  unfold r78
  pointwise [loss_v78]
  rw [tok_batch, tok_place, h]

theorem r80_apply : (r80 (F := Ideal) x w : FVec Ideal S1x1 .f32) (ix2 0 0) = balance (prb x w) (perm x w) := by
  have h1 := r50_apply x w hd
  have h2 := r11_apply x w
  unfold r80
  pointwise [loss_v80]
  simp only [h1, h2]
  rw [zero_mul, add_zero]
  unfold balance
  refine congrArg (fun q : EReal => Ideal.div q _ * _ * _) (Finset.sum_congr rfl fun i _ => Finset.sum_congr rfl fun j _ => ?_)
  exact mul_comm _ _

end Values

end Cert.GateRefIdeal.Value
-- ==== Proof.GatePre.lean ====
/- What the precondition says: no token has two experts of one probability. -/
module

public import proofs.«01_k».proof.Defs
public import proofs.«01_k».proof.Proof.Gen.Pre_gates_distinct
public import proofs.«01_k».proof.Proof.GateScan
public import Idealize.ShloMosaic.Lib.Pointwise

@[expose] public section

set_option maxRecDepth 65536

noncomputable section

namespace Cert.Pre_gates_distinct

open Cert.Pre_gates_distinct Cert.Pre_gates_distinct.Gen Idealize.ShloMosaic Cert.Moe

/-- The precondition makes each token's probabilities distinct. -/
theorem distinct (x : FVec Ideal S2x2048x1024 .f32) (w : FVec Ideal S1024x8 .f32)
    (h : Cert.Pre_gates_distinct.fn (F := Ideal) x w = fun _ => 1#1) (i : Fin 2) (n : Fin 2048) :
    Function.Injective (soft (Ideal.ofBits .f32 4286578688#32) (fun j => ∑ k : Fin 1024, (x (ix3 i n k) : EReal) * w (ix2 k j))) := by
  intro a b hab
  by_contra hne
  have h' := congrFun h (ix4 i n a b)
  revert h'
  pointwise [fn, fn_part1]
  simp only [max_fold]
  intro h'
  change IntOp.ori (BitVec.ofBool (decide (soft (Ideal.ofBits .f32 4286578688#32)
    (fun j => ∑ k : Fin 1024, (x (ix3 i n k) : EReal) * w (ix2 k j)) a ≠ soft (Ideal.ofBits .f32 4286578688#32)
    (fun j => ∑ k : Fin 1024, (x (ix3 i n k) : EReal) * w (ix2 k j)) b))) _ = 1#1 at h'
  have hw : ∀ a b : Fin 8, a ≠ b → IntOp.ori (BitVec.ofBool false) (IntOp.cmpi .eq (BitVec.ofNat 32 a.val) (BitVec.ofNat 32 b.val)) ≠ 1#1 := by
    decide
  rw [decide_eq_false (not_not.2 hab)] at h'
  exact hw a b hne h'

end Cert.Pre_gates_distinct
-- ==== Proof.LayerGate.lean ====
/- The whole layer's first kernel call, the gate: what its body leaves in each output, and that the pipeline around it may run the
   body, from whatever the buffers hold when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x1024 := Rect.unit (s := S4096x1024) ![0, 0] S4096x1024.size inb_S4096x1024_S4096x1024_0_0
abbrev r0_1 : Rect S1024x8 := Rect.unit (s := S1024x8) ![0, 0] S1024x8.size inb_S1024x8_S1024x8_0_0
abbrev r0_2 : Rect S4096x8 := Rect.unit (s := S4096x8) ![0, 0] S4096x8.size inb_S4096x8_S4096x8_0_0
abbrev r0_3 : Rect S4096x1 := Rect.unit (s := S4096x1) ![0, 0] S4096x1.size inb_S4096x1_S4096x1_0_0
abbrev r0_4 : Rect S1x1 := Rect.unit (s := S1x1) ![0, 0] S1x1.size inb_S1x1_S1x1_0_0

/-! ## What the body leaves in each output window's buffer -/

/-! ### Values of the body that the stores' payloads, spelt out, would write more than once

    Each is a vector the body binds (often a part call's result), stated over the input windows' blocks and
    numbered on from the skeleton's payload functions (`k0_pay68` …, after `k0_pay67`), so that
    `out0_W` and the values after it name it instead of spelling it out (`unfold_out out0_W` opens a canon
    with them, `unfold_payloads` opens them with the payloads); the comment after each is the printed function's
    name for the value (a count appended where that name is bound again). -/

def k0_pay68 (x0 : Vec F S4096x1024 .f32) (x1 : Vec F S1024x8 .f32) : FVec F S4096x8 .f32 :=
  k0_pay2 (View.ld x0 r0_0) (View.ld x1 r0_1) -- `v12`
def k0_pay69 (x0 : Vec F S4096x1024 .f32) (x1 : Vec F S1024x8 .f32) : FVec F S4096x1 .f32 :=
  k0_pay33 (View.ld x0 r0_0) (View.ld x1 r0_1) -- `v43`
def k0_pay70 (x0 : Vec F S4096x1024 .f32) (x1 : Vec F S1024x8 .f32) : FVec F S4096x1 .f32 :=
  k0_pay36 (View.ld x0 r0_0) (View.ld x1 r0_1) -- `v46`
def k0_pay71 (x0 : Vec F S4096x1024 .f32) (x1 : Vec F S1024x8 .f32) : FVec F S4096x1 .f32 :=
  k0_pay38 (View.ld x0 r0_0) (View.ld x1 r0_1) -- `v48`
def k0_pay72 (x0 : Vec F S4096x1024 .f32) (x1 : Vec F S1024x8 .f32) : FVec F S4096x1 .f32 :=
  k0_pay39 (View.ld x0 r0_0) (View.ld x1 r0_1) -- `v49`
def k0_pay73 (x0 : Vec F S4096x1024 .f32) (x1 : Vec F S1024x8 .f32) : FVec F S4096x1 .f32 :=
  k0_pay40 (View.ld x0 r0_0) (View.ld x1 r0_1) -- `v50`
def k0_pay74 (x0 : Vec F S4096x1024 .f32) (x1 : Vec F S1024x8 .f32) : FVec F S4096x1 .f32 :=
  k0_pay41 (View.ld x0 r0_0) (View.ld x1 r0_1) -- `v51`
def k0_pay75 (x0 : Vec F S4096x1024 .f32) (x1 : Vec F S1024x8 .f32) : FVec F S4096x1 .f32 :=
  k0_pay42 (View.ld x0 r0_0) (View.ld x1 r0_1) -- `v52`
def k0_pay76 (x0 : Vec F S4096x1024 .f32) (x1 : Vec F S1024x8 .f32) : FVec F S4096x1 .f32 :=
  k0_pay49 (k0_pay69 x0 x1) (k0_pay70 x0 x1) (k0_pay71 x0 x1) (k0_pay72 x0 x1) (k0_pay73 x0 x1) (k0_pay74 x0 x1) (k0_pay75 x0 x1) -- `v100`
def k0_pay77 (x0 : Vec F S4096x1024 .f32) (x1 : Vec F S1024x8 .f32) : FVec F S1x1x1 .f32 :=
  k0_pay50 (k0_pay69 x0 x1) (k0_pay70 x0 x1) (k0_pay71 x0 x1) (k0_pay72 x0 x1) (k0_pay73 x0 x1) (k0_pay74 x0 x1) (k0_pay75 x0 x1) -- `v103`
def k0_pay78 (x0 : Vec F S4096x1024 .f32) (x1 : Vec F S1024x8 .f32) : FVec F S4096x1 .f32 :=
  k0_pay52 (k0_pay71 x0 x1) (k0_pay43 (k0_pay69 x0 x1) (k0_pay72 x0 x1)) (k0_pay44 (k0_pay69 x0 x1) (k0_pay72 x0 x1)) (k0_pay45 (k0_pay73 x0 x1) (k0_pay74 x0 x1)) (k0_pay46 (k0_pay73 x0 x1) (k0_pay74 x0 x1)) (k0_pay47 (k0_pay70 x0 x1) (k0_pay75 x0 x1)) (k0_pay48 (k0_pay70 x0 x1) (k0_pay75 x0 x1)) (k0_pay76 x0 x1) (k0_pay77 x0 x1) -- `v149`
def k0_pay79 (x0 : Vec F S4096x1024 .f32) (x1 : Vec F S1024x8 .f32) : FVec F S4096x1 .f32 :=
  k0_pay53 (k0_pay31 (View.ld x0 r0_0) (View.ld x1 r0_1)) (k0_pay76 x0 x1) (k0_pay77 x0 x1) -- `v154`
def k0_pay80 (x0 : Vec F S4096x1024 .f32) (x1 : Vec F S1024x8 .f32) : FVec F S4096x8 .f32 :=
  k0_pay54 (k0_pay68 x0 x1) (k0_pay78 x0 x1) (k0_pay79 x0 x1) -- `v159`
def k0_pay81 (x0 : Vec F S4096x1024 .f32) (x1 : Vec F S1024x8 .f32) : FVec F S2048x8 .f32 :=
  k0_pay59 (k0_pay56 (k0_pay68 x0 x1) (k0_pay78 x0 x1) (k0_pay79 x0 x1)) (k0_pay57 (F := F)) (k0_pay58 (k0_pay68 x0 x1) (k0_pay78 x0 x1) (k0_pay79 x0 x1)) -- `v209`
def k0_pay82 (x0 : Vec F S4096x1024 .f32) (x1 : Vec F S1024x8 .f32) : FVec F S2048x8 .f32 :=
  k0_pay60 (k0_pay80 x0 x1) -- `v250`
def k0_pay83 (x0 : Vec F S4096x1024 .f32) (x1 : Vec F S1024x8 .f32) : FVec F S1024x8 .f32 :=
  k0_pay61 (F := F) -- `v251`

/-- Window 2's staging buffer after the body, from the input windows' blocks: its 1 store as pieces, LAST
    FIRST (Lib/Pipeline/FrameBody.lean `View.canon`; the payloads are the skeleton's and the values stated above). -/
def out0_2 (x0 : Vec F S4096x1024 .f32) (x1 : Vec F S1024x8 .f32) : Vec F S4096x8 .f32 :=
  View.canon [⟨r0_2, k0_pay66 (k0_pay80 x0 x1) (k0_pay55 (k0_pay68 x0 x1) (k0_pay78 x0 x1) (k0_pay79 x0 x1)) (k0_pay81 x0 x1) (k0_pay82 x0 x1) (k0_pay83 x0 x1)⟩]

/-- Its stores tile the buffer (checked by evaluation), so they cover it. -/
theorem cover0_2 (p0 : Vec F S4096x8 .f32) (y : S4096x8.Idx) :
    ∃ pc ∈ ([⟨r0_2, p0⟩] : List (View.Piece (Elt F) S4096x8 .f32)), y ∈ pc.1.set :=
  View.cover_of_tiled [⟨r0_2, p0⟩] S4096x8.size (by rfl) y

/-- Window 3's staging buffer after the body, from the input windows' blocks: its 1 store as pieces, LAST
    FIRST (Lib/Pipeline/FrameBody.lean `View.canon`; the payloads are the skeleton's and the values stated above). -/
def out0_3 (x0 : Vec F S4096x1024 .f32) (x1 : Vec F S1024x8 .f32) : Vec F S4096x8 .f32 :=
  View.canon [⟨r0_2, k0_pay65 (k0_pay80 x0 x1) (k0_pay81 x0 x1) (k0_pay82 x0 x1) (k0_pay83 x0 x1)⟩]

/-- Its stores tile the buffer (checked by evaluation), so they cover it. -/
theorem cover0_3 (p0 : Vec F S4096x8 .f32) (y : S4096x8.Idx) :
    ∃ pc ∈ ([⟨r0_2, p0⟩] : List (View.Piece (Elt F) S4096x8 .f32)), y ∈ pc.1.set :=
  View.cover_of_tiled [⟨r0_2, p0⟩] S4096x8.size (by rfl) y

/-- Window 4's staging buffer after the body, from the input windows' blocks: its 1 store as pieces, LAST
    FIRST (Lib/Pipeline/FrameBody.lean `View.canon`; the payloads are the skeleton's and the values stated above). -/
def out0_4 (x0 : Vec F S4096x1024 .f32) (x1 : Vec F S1024x8 .f32) : Vec F S4096x1 .f32 :=
  View.canon [⟨r0_3, k0_pay64 (k0_pay80 x0 x1) (k0_pay81 x0 x1) (k0_pay82 x0 x1) (k0_pay83 x0 x1)⟩]

/-- Its stores tile the buffer (checked by evaluation), so they cover it. -/
theorem cover0_4 (p0 : Vec F S4096x1 .f32) (y : S4096x1.Idx) :
    ∃ pc ∈ ([⟨r0_3, p0⟩] : List (View.Piece (Elt F) S4096x1 .f32)), y ∈ pc.1.set :=
  View.cover_of_tiled [⟨r0_3, p0⟩] S4096x1.size (by rfl) y

/-- Window 5's staging buffer after the body, from the input windows' blocks: its 1 store as pieces, LAST
    FIRST (Lib/Pipeline/FrameBody.lean `View.canon`; the payloads are the skeleton's and the values stated above). -/
def out0_5 (x0 : Vec F S4096x1024 .f32) (x1 : Vec F S1024x8 .f32) : Vec F S1x1 .f32 :=
  View.canon [⟨r0_4, k0_pay1 (k0_pay67 (k0_pay68 x0 x1) (k0_pay80 x0 x1) (k0_pay81 x0 x1) (k0_pay82 x0 x1) (k0_pay83 x0 x1))⟩]

/-- Its stores tile the buffer (checked by evaluation), so they cover it. -/
theorem cover0_5 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-! ## The body's triple -/

set_option maxHeartbeats 1855750 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S4096x1024 .f32) (harg0 : arg0.IsWhole) (arg1 : Memref sig .tc .vmem S1024x8 .f32) (harg1 : arg1.IsWhole) (arg2 : Memref sig .tc .vmem S4096x8 .f32) (harg2 : arg2.IsWhole) (arg3 : Memref sig .tc .vmem S4096x8 .f32) (harg3 : arg3.IsWhole) (arg4 : Memref sig .tc .vmem S4096x1 .f32) (harg4 : arg4.IsWhole) (arg5 : Memref sig .tc .vmem S1x1 .f32) (harg5 : arg5.IsWhole)
    (x0 : Vec F S4096x1024 .f32) (x1 : Vec F S1024x8 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1)) -∗ K ⟨⟩))
      ⊢ wp frame (wpE (defs₀ (F := F)) Variants.none c none) E (cc0__gating_body arg0 harg0 arg1 harg1 arg2 harg2 arg3 harg3 arg4 harg4 arg5 harg5) K := by
  simp only [cc0__gating_body_eq_skeleton]; unfold cc0__gating_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  iexists _; isplitr
  swap; · iexact H5
  ipureintro
  refine (View.read_writes_eq_canon _ _ _ (cover0_5 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Layer

end
-- ==== Proof.LayerBody.lean ====
/- The whole layer's second kernel call, the experts: what its body does at each kind of grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, in terms of the grid point -/

abbrev cond0 (i : grid1.Coords) : Prop := (Scalar.cmpi .ne (Scalar.extui (Scalar.cmpi .eq (BitVec.ofNat 32 (i 2).val) 0#32)) 0#32) = 1#1
abbrev cond2 (i : grid1.Coords) : Prop := (Scalar.cmpi .ne (Scalar.extui (Scalar.cmpi .sgt (BitVec.ofNat 32 (i 2).val) 0#32)) 0#32) = 1#1
/-- The first block of an expert, -/
theorem hcond0 : ∀ t : Fin cfg1.N, cond0 (grid1.coords t) ↔ t.val % 4 = 0 :=
  (by decide +kernel : ∀ t : Fin grid1.N, cond0 (grid1.coords t) ↔ t.val % 4 = 0)
/-- a later one, -/
theorem hcond2 : ∀ t : Fin cfg1.N, cond2 (grid1.coords t) ↔ ¬t.val % 4 = 0 :=
  (by decide +kernel : ∀ t : Fin grid1.N, cond2 (grid1.coords t) ↔ ¬t.val % 4 = 0)
/-- the last one, -/
theorem hcond3 : ∀ t : Fin cfg1.N, k1_cond4 (grid1.coords t) = 1#1 ↔ t.val % 4 = 3 :=
  (by decide +kernel : ∀ t : Fin grid1.N, k1_cond4 (grid1.coords t) = 1#1 ↔ t.val % 4 = 3)
/-- the first expert -/
theorem hcond4 : ∀ t : Fin cfg1.N, k1_cond5 (grid1.coords t) = 1#1 ↔ t.val / 4 % 8 = 0 :=
  (by decide +kernel : ∀ t : Fin grid1.N, k1_cond5 (grid1.coords t) = 1#1 ↔ t.val / 4 % 8 = 0)
/-- and a later one. -/
theorem hcond5 : ∀ t : Fin cfg1.N, k1_cond6 (grid1.coords t) = 1#1 ↔ ¬t.val / 4 % 8 = 0 :=
  (by decide +kernel : ∀ t : Fin grid1.N, k1_cond6 (grid1.coords t) = 1#1 ↔ ¬t.val / 4 % 8 = 0)

/-! ## The body, per kind of grid point -/

section Body

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

variable (c : Dev nD) (i : grid1.Coords) (arg3 : Memref sig .tc .vmem S1x2048x1024 .bf16) (harg3 : arg3.IsWhole)
  (arg4 : Memref sig .tc .vmem S1x1x2048 .f32) (harg4 : arg4.IsWhole) (arg5 : Memref sig .tc .vmem S1x2048x1 .f32) (harg5 : arg5.IsWhole)
  (arg6 : Memref sig .tc .vmem S1x1x1x2048 .f32) (harg6 : arg6.IsWhole) (arg7 : Memref sig .tc .vmem S1x1x2048x1 .f32) (harg7 : arg7.IsWhole)
  (arg8 : Memref sig .tc .vmem S1x1024x1024 .bf16) (harg8 : arg8.IsWhole) (arg9 : Memref sig .tc .vmem S1x1024x1024 .bf16) (harg9 : arg9.IsWhole)
  (arg10 : Memref sig .tc .vmem S1x2048x1024 .f32) (harg10 : arg10.IsWhole) (arg11 : Memref sig .tc .vmem S512x1024 .f32) (harg11 : arg11.IsWhole)
  (arg12 : Memref sig .tc .vmem S512x1024 .f32) (harg12 : arg12.IsWhole)
  (x0 : Vec F S1x2048x1024 .bf16) (x1 : Vec F S1x1x2048 .f32) (x2 : Vec F S1x2048x1 .f32) (x3 : Vec F S1x1x1x2048 .f32)
  (x4 : Vec F S1x1x2048x1 .f32) (x5 : Vec F S1x1024x1024 .bf16) (x6 : Vec F S1x1024x1024 .bf16)
  (o : Vec F S1x2048x1024 .f32) (a b : Vec F S512x1024 .f32)

/-- A whole buffer at the one contents that reads as given is held at them. -/
theorem owns_back {s : Shape} {e : EltTy} (m : Memref sig .tc .vmem s e) (hm : m.IsWhole) (x : Vec F s e) :
    iprop(m.view.loc (c : Thread nD τ) ↦[m.view.set]{fullShare} hm.unread x) ⊢ (owns (c : Thread nD τ) m fullShare x : sProp 𝕄) := by
  unfold owns
  iintro H
  iexists _; isplitr; swap; · iexact H
  ipureintro; exact hm.read_unread _
/-- The seven input blocks, held at the given contents. -/
def ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6)

/-- The seven input blocks back from their buffers. -/
theorem ins_back :
    iprop((arg3.view.loc (c : Thread nD τ) ↦[arg3.view.set]{fullShare} harg3.unread x0) ∗ (arg4.view.loc (c : Thread nD τ) ↦[arg4.view.set]{fullShare} harg4.unread x1)
      ∗ (arg5.view.loc (c : Thread nD τ) ↦[arg5.view.set]{fullShare} harg5.unread x2) ∗ (arg6.view.loc (c : Thread nD τ) ↦[arg6.view.set]{fullShare} harg6.unread x3)
      ∗ (arg7.view.loc (c : Thread nD τ) ↦[arg7.view.set]{fullShare} harg7.unread x4) ∗ (arg8.view.loc (c : Thread nD τ) ↦[arg8.view.set]{fullShare} harg8.unread x5)
      ∗ (arg9.view.loc (c : Thread nD τ) ↦[arg9.view.set]{fullShare} harg9.unread x6))
      ⊢ (ins c arg3 arg4 arg5 arg6 arg7 arg8 arg9 x0 x1 x2 x3 x4 x5 x6 : sProp 𝕄) := by
  unfold ins
  iintro ⟨G3, G4, G5, G6, G7, G8, G9⟩
  isplitl [G3]; · iapply owns_back c arg3 harg3; iexact G3
  isplitl [G4]; · iapply owns_back c arg4 harg4; iexact G4
  isplitl [G5]; · iapply owns_back c arg5 harg5; iexact G5
  isplitl [G6]; · iapply owns_back c arg6 harg6; iexact G6
  isplitl [G7]; · iapply owns_back c arg7 harg7; iexact G7
  isplitl [G8]; · iapply owns_back c arg8 harg8; iexact G8
  iapply owns_back c arg9 harg9; iexact G9

set_option maxHeartbeats 4000000 in
/-- At the first block of an expert: the dispatched block and the first share are stored. -/
theorem body_A (hc0 : cond0 i) (hc2 : ¬cond2 i) (hc3 : ¬k1_cond4 i = 1#1) (E : Set ℕ) (K : PUnit → sProp 𝕄) :
    iprop(ins c arg3 arg4 arg5 arg6 arg7 arg8 arg9 x0 x1 x2 x3 x4 x5 x6 ∗ owns (c : Thread nD τ) arg10 fullShare o ∗ (∃ d, owns (c : Thread nD τ) arg11 fullShare d) ∗ (∃ d, owns (c : Thread nD τ) arg12 fullShare d)
        ∗ (iprop(ins c arg3 arg4 arg5 arg6 arg7 arg8 arg9 x0 x1 x2 x3 x4 x5 x6 ∗ owns (c : Thread nD τ) arg10 fullShare o ∗ owns (c : Thread nD τ) arg11 fullShare (k1_pay1 x1 x3 x0) ∗ owns (c : Thread nD τ) arg12 fullShare (k1_pay3 (k1_pay1 x1 x3 x0) x5 x6)) -∗ K ⟨⟩))
      ⊢ wp frame (wpE (defs₀ (F := F)) Variants.none c none) E (cc1__ffn_body i arg3 harg3 arg4 harg4 arg5 harg5 arg6 harg6 arg7 harg7 arg8 harg8 arg9 harg9 arg10 harg10 arg11 harg11 arg12 harg12) K := by
  have hback := ins_back c arg3 harg3 arg4 harg4 arg5 harg5 arg6 harg6 arg7 harg7 arg8 harg8 arg9 harg9 x0 x1 x2 x3 x4 x5 x6
  simp only [cc1__ffn_body_eq_skeleton]; unfold cc1__ffn_body_skel
  unfold ins owns at *
  iintro ⟨⟨⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩⟩, ⟨%f10, %hf10, G10⟩, ⟨%d11, %f11, -, G11⟩, ⟨%d12, %f12, -, G12⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact hc0 | sl_exact hc2 | sl_exact hc3)
  sl_step
  iapply Hk
  isplitl [G3 G4 G5 G6 G7 G8 G9]
  · iapply hback
    isplitl [G3]; · iexact G3
    isplitl [G4]; · iexact G4
    isplitl [G5]; · iexact G5
    isplitl [G6]; · iexact G6
    isplitl [G7]; · iexact G7
    isplitl [G8]; · iexact G8
    iexact G9
  isplitl [G10]
  · iexists _; isplitr; swap; · iexact G10
    ipureintro; exact harg10.read_unread _
  isplitl [G11]
  · iexists _; isplitr; swap; · iexact G11
    ipureintro
    refine (View.read_writes_eq_canon _ _ _ ?_).trans ?_
    · exact fun y => View.cover_of_tiled _ S512x1024.size (by rfl) y
    sl_unfold_words
    rw [View.canon_unit_zero zero2]
    simp only [View.readAt_eq_ld, harg3.read_unread, harg4.read_unread, harg5.read_unread, harg6.read_unread, harg7.read_unread, harg8.read_unread, harg9.read_unread, harg10.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]
  iexists _; isplitr; swap; · iexact G12
  ipureintro
  refine (View.read_writes_eq_canon _ _ _ ?_).trans ?_
  · exact fun y => View.cover_of_tiled _ S512x1024.size (by rfl) y
  sl_unfold_words
  rw [View.canon_unit_zero zero2]
  simp only [View.readAt_eq_ld, harg3.read_unread, harg4.read_unread, harg5.read_unread, harg6.read_unread, harg7.read_unread, harg8.read_unread, harg9.read_unread, harg10.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]

set_option maxHeartbeats 4000000 in
/-- At a middle block of an expert: a share is added. -/
theorem body_B (hc0 : ¬cond0 i) (hc2 : cond2 i) (hc3 : ¬k1_cond4 i = 1#1) (E : Set ℕ) (K : PUnit → sProp 𝕄) :
    iprop(ins c arg3 arg4 arg5 arg6 arg7 arg8 arg9 x0 x1 x2 x3 x4 x5 x6 ∗ owns (c : Thread nD τ) arg10 fullShare o ∗ owns (c : Thread nD τ) arg11 fullShare a ∗ owns (c : Thread nD τ) arg12 fullShare b
        ∗ (iprop(ins c arg3 arg4 arg5 arg6 arg7 arg8 arg9 x0 x1 x2 x3 x4 x5 x6 ∗ owns (c : Thread nD τ) arg10 fullShare o ∗ owns (c : Thread nD τ) arg11 fullShare a ∗ owns (c : Thread nD τ) arg12 fullShare (k1_pay4 a x5 x6 b)) -∗ K ⟨⟩))
      ⊢ wp frame (wpE (defs₀ (F := F)) Variants.none c none) E (cc1__ffn_body i arg3 harg3 arg4 harg4 arg5 harg5 arg6 harg6 arg7 harg7 arg8 harg8 arg9 harg9 arg10 harg10 arg11 harg11 arg12 harg12) K := by
  have hback := ins_back c arg3 harg3 arg4 harg4 arg5 harg5 arg6 harg6 arg7 harg7 arg8 harg8 arg9 harg9 x0 x1 x2 x3 x4 x5 x6
  simp only [cc1__ffn_body_eq_skeleton]; unfold cc1__ffn_body_skel
  unfold ins owns at *
  iintro ⟨⟨⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩⟩, ⟨%f10, %hf10, G10⟩, ⟨%f11, %hf11, G11⟩, ⟨%f12, %hf12, G12⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc2 | sl_exact hc3)
  sl_step
  iapply Hk
  isplitl [G3 G4 G5 G6 G7 G8 G9]
  · iapply hback
    isplitl [G3]; · iexact G3
    isplitl [G4]; · iexact G4
    isplitl [G5]; · iexact G5
    isplitl [G6]; · iexact G6
    isplitl [G7]; · iexact G7
    isplitl [G8]; · iexact G8
    iexact G9
  isplitl [G10]
  · iexists _; isplitr; swap; · iexact G10
    ipureintro; exact harg10.read_unread _
  isplitl [G11]
  · iexists _; isplitr; swap; · iexact G11
    ipureintro; exact harg11.read_unread _
  iexists _; isplitr; swap; · iexact G12
  ipureintro
  refine (View.read_writes_eq_canon _ _ _ ?_).trans ?_
  · exact fun y => View.cover_of_tiled _ S512x1024.size (by rfl) y
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread, harg12.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]

set_option maxHeartbeats 4000000 in
/-- At the last block of the first expert: the last share is added and the output block is the expert's combined rows. -/
theorem body_C (hc0 : ¬cond0 i) (hc2 : cond2 i) (hc3 : k1_cond4 i = 1#1) (hc4 : k1_cond5 i = 1#1) (hc5 : ¬k1_cond6 i = 1#1) (E : Set ℕ) (K : PUnit → sProp 𝕄) :
    iprop(ins c arg3 arg4 arg5 arg6 arg7 arg8 arg9 x0 x1 x2 x3 x4 x5 x6 ∗ owns (c : Thread nD τ) arg10 fullShare o ∗ owns (c : Thread nD τ) arg11 fullShare a ∗ owns (c : Thread nD τ) arg12 fullShare b
        ∗ (iprop(ins c arg3 arg4 arg5 arg6 arg7 arg8 arg9 x0 x1 x2 x3 x4 x5 x6 ∗ owns (c : Thread nD τ) arg10 fullShare (k1_pay6 x2 x4 (k1_pay4 a x5 x6 b)) ∗ owns (c : Thread nD τ) arg11 fullShare a ∗ owns (c : Thread nD τ) arg12 fullShare (k1_pay4 a x5 x6 b)) -∗ K ⟨⟩))
      ⊢ wp frame (wpE (defs₀ (F := F)) Variants.none c none) E (cc1__ffn_body i arg3 harg3 arg4 harg4 arg5 harg5 arg6 harg6 arg7 harg7 arg8 harg8 arg9 harg9 arg10 harg10 arg11 harg11 arg12 harg12) K := by
  have hback := ins_back c arg3 harg3 arg4 harg4 arg5 harg5 arg6 harg6 arg7 harg7 arg8 harg8 arg9 harg9 x0 x1 x2 x3 x4 x5 x6
  simp only [cc1__ffn_body_eq_skeleton]; unfold cc1__ffn_body_skel
  unfold ins owns at *
  iintro ⟨⟨⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩⟩, ⟨%f10, -, G10⟩, ⟨%f11, %hf11, G11⟩, ⟨%f12, %hf12, G12⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg11.eq_unread hf11; obtain rfl := harg12.eq_unread hf12
  sl_exec (disch := first | sl_exact hc0 | sl_exact hc2 | sl_exact hc3 | sl_exact hc4 | sl_exact hc5)
  sl_step
  iapply Hk
  isplitl [G3 G4 G5 G6 G7 G8 G9]
  · iapply hback
    isplitl [G3]; · iexact G3
    isplitl [G4]; · iexact G4
    isplitl [G5]; · iexact G5
    isplitl [G6]; · iexact G6
    isplitl [G7]; · iexact G7
    isplitl [G8]; · iexact G8
    iexact G9
  isplitl [G10]
  · iexists _; isplitr; swap; · iexact G10
    ipureintro
    refine (View.read_writes_eq_canon _ _ _ ?_).trans ?_
    · exact fun y => View.cover_of_tiled _ S1x2048x1024.size (by rfl) y
    sl_unfold_words
    rw [View.canon_unit_zero zero3]
    simp only [View.readAt_eq_ld, harg3.read_unread, harg4.read_unread, harg5.read_unread, harg6.read_unread, harg7.read_unread, harg8.read_unread, harg9.read_unread, harg11.read_unread, harg12.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]
  isplitl [G11]
  · iexists _; isplitr; swap; · iexact G11
    ipureintro; exact harg11.read_unread _
  iexists _; isplitr; swap; · iexact G12
  ipureintro
  refine (View.read_writes_eq_canon _ _ _ ?_).trans ?_
  · exact fun y => View.cover_of_tiled _ S512x1024.size (by rfl) y
  sl_unfold_words
  rw [View.canon_unit_zero zero2]
  simp only [View.readAt_eq_ld, harg3.read_unread, harg4.read_unread, harg5.read_unread, harg6.read_unread, harg7.read_unread, harg8.read_unread, harg9.read_unread, harg11.read_unread, harg12.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]

set_option maxHeartbeats 4000000 in
/-- At the last block of a later expert: the last share is added and the output block gains the expert's combined rows. -/
theorem body_D (hc0 : ¬cond0 i) (hc2 : cond2 i) (hc3 : k1_cond4 i = 1#1) (hc4 : ¬k1_cond5 i = 1#1) (hc5 : k1_cond6 i = 1#1) (E : Set ℕ) (K : PUnit → sProp 𝕄) :
    iprop(ins c arg3 arg4 arg5 arg6 arg7 arg8 arg9 x0 x1 x2 x3 x4 x5 x6 ∗ owns (c : Thread nD τ) arg10 fullShare o ∗ owns (c : Thread nD τ) arg11 fullShare a ∗ owns (c : Thread nD τ) arg12 fullShare b
        ∗ (iprop(ins c arg3 arg4 arg5 arg6 arg7 arg8 arg9 x0 x1 x2 x3 x4 x5 x6 ∗ owns (c : Thread nD τ) arg10 fullShare (k1_pay7 x2 x4 (k1_pay4 a x5 x6 b) o) ∗ owns (c : Thread nD τ) arg11 fullShare a ∗ owns (c : Thread nD τ) arg12 fullShare (k1_pay4 a x5 x6 b)) -∗ K ⟨⟩))
      ⊢ wp frame (wpE (defs₀ (F := F)) Variants.none c none) E (cc1__ffn_body i arg3 harg3 arg4 harg4 arg5 harg5 arg6 harg6 arg7 harg7 arg8 harg8 arg9 harg9 arg10 harg10 arg11 harg11 arg12 harg12) K := by
  have hback := ins_back c arg3 harg3 arg4 harg4 arg5 harg5 arg6 harg6 arg7 harg7 arg8 harg8 arg9 harg9 x0 x1 x2 x3 x4 x5 x6
  simp only [cc1__ffn_body_eq_skeleton]; unfold cc1__ffn_body_skel
  unfold ins owns at *
  iintro ⟨⟨⟨%f3, %hf3, G3⟩, ⟨%f4, %hf4, G4⟩, ⟨%f5, %hf5, G5⟩, ⟨%f6, %hf6, G6⟩, ⟨%f7, %hf7, G7⟩, ⟨%f8, %hf8, G8⟩, ⟨%f9, %hf9, G9⟩⟩, ⟨%f10, %hf10, G10⟩, ⟨%f11, %hf11, G11⟩, ⟨%f12, %hf12, G12⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc2 | sl_exact hc3 | sl_exact hc4 | sl_exact hc5)
  sl_step
  iapply Hk
  isplitl [G3 G4 G5 G6 G7 G8 G9]
  · iapply hback
    isplitl [G3]; · iexact G3
    isplitl [G4]; · iexact G4
    isplitl [G5]; · iexact G5
    isplitl [G6]; · iexact G6
    isplitl [G7]; · iexact G7
    isplitl [G8]; · iexact G8
    iexact G9
  isplitl [G10]
  · iexists _; isplitr; swap; · iexact G10
    ipureintro
    refine (View.read_writes_eq_canon _ _ _ ?_).trans ?_
    · exact fun y => View.cover_of_tiled _ S1x2048x1024.size (by rfl) y
    sl_unfold_words
    rw [View.canon_unit_zero zero3]
    simp only [View.readAt_eq_ld, harg3.read_unread, harg4.read_unread, harg5.read_unread, harg6.read_unread, harg7.read_unread, harg8.read_unread, harg9.read_unread, harg10.read_unread, harg11.read_unread, harg12.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]
  isplitl [G11]
  · iexists _; isplitr; swap; · iexact G11
    ipureintro; exact harg11.read_unread _
  iexists _; isplitr; swap; · iexact G12
  ipureintro
  refine (View.read_writes_eq_canon _ _ _ ?_).trans ?_
  · exact fun y => View.cover_of_tiled _ S512x1024.size (by rfl) y
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread, harg12.read_unread,
    View.readCov_unit_zero (S := S512x1024) _ zero2, View.ld_unit_zero (S := S512x1024) zero2, View.ld_unit_zero (S := S1x1024x1024) zero3,
    View.ld_unit_zero (S := S1x1x2048) zero3, View.ld_unit_zero (S := S1x1x1x2048) zero4, View.ld_unit_zero (S := S1x2048x1024) zero3,
    View.ld_unit_zero (S := S1x2048x1) zero3, View.ld_unit_zero (S := S1x1x2048x1) zero4]

end Body

end Cert.KernelIdeal.Layer

end
-- ==== Proof.LayerExperts.lean ====
/- The whole layer's second kernel call, the experts: what is held between its grid points, and its obligation at each. -/
module

public import proofs.«01_k».proof.Proof.LayerBody

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the output block and the two scratches hold between grid points -/

/-- The output block, the dispatched block and the accumulator. -/
abbrev St (F : FTy → Type) : Type := Vec F S1x2048x1024 .f32 × Vec F S512x1024 .f32 × Vec F S512x1024 .f32

/-- The accumulator after a point that adds a share. -/
def acc (c : Dev nD) (t : Fin cfg1.N) (s : St F) : Vec F S512x1024 .f32 := k1_pay4 s.2.1 (iblk1 V c 5 t) (iblk1 V c 6 t) s.2.2

/-- What a point leaves, over what it finds. -/
def step (c : Dev nD) (t : Fin cfg1.N) (s : St F) : St F :=
  if t.val % 4 = 0 then
    (s.1, k1_pay1 (iblk1 V c 1 t) (iblk1 V c 3 t) (iblk1 V c 0 t), k1_pay3 (k1_pay1 (iblk1 V c 1 t) (iblk1 V c 3 t) (iblk1 V c 0 t)) (iblk1 V c 5 t) (iblk1 V c 6 t))
  else if t.val % 4 = 3 then
    if t.val / 4 % 8 = 0 then (k1_pay6 (iblk1 V c 2 t) (iblk1 V c 4 t) (acc V c t s), s.2.1, acc V c t s)
    else (k1_pay7 (iblk1 V c 2 t) (iblk1 V c 4 t) (acc V c t s) s.1, s.2.1, acc V c t s)
  else (s.1, s.2.1, acc V c t s)

/-- What is held before point `n`; before the first point, anything. -/
def st (c : Dev nD) : ℕ → St F
  | 0 => ((Memref.whole cc1_stg7_0 : Memref sig .tc .vmem S1x2048x1024 .f32).view.read (Elt F) (View.junk _),
      (Memref.whole cc1_scratch0 : Memref sig .tc .vmem S512x1024 .f32).view.read (Elt F) (View.junk _),
      (Memref.whole cc1_scratch1 : Memref sig .tc .vmem S512x1024 .f32).view.read (Elt F) (View.junk _))
  | n + 1 => if h : n < cfg1.N then step V c ⟨n, h⟩ (st c n) else st c n

theorem st_succ (c : Dev nD) (t : Fin cfg1.N) : st V c (t.val + 1) = step V c t (st V c t.val) := by
  rw [st, dif_pos t.isLt]

/-! ## What is held between grid points -/

abbrev sc0 : Memref sig .tc .vmem S512x1024 .f32 := Memref.whole cc1_scratch0
abbrev sc1 : Memref sig .tc .vmem S512x1024 .f32 := Memref.whole cc1_scratch1

/-- A staging buffer of the first call, at anything. -/
def idle (c : Dev nD) (b : Ref sig .tc) : sProp 𝕄 := iprop(∃ f : Buf (Elt F) ((c : Thread nD τ).loc b), ((c : Thread nD τ).loc b) ↦{fullShare} f)

/-- What the body does not touch: the first call's staging buffers and the generator register. -/
def side (c : Dev nD) : sProp 𝕄 :=
  iprop((idle c cc0_stg0_0 ∗ idle c cc0_stg1_0 ∗ idle c cc0_stg2_0 ∗ idle c cc0_stg3_0 ∗ idle c cc0_stg4_0 ∗ idle c cc0_stg5_0) ∗ ∃ r, prngReg c r)

theorem PhiA_eq (c : Dev nD) :
    (Pipeline.ΦA spec1 c : sProp 𝕄)
      = iprop((idle c cc0_stg0_0 ∗ idle c cc0_stg1_0 ∗ idle c cc0_stg2_0 ∗ idle c cc0_stg3_0 ∗ idle c cc0_stg4_0 ∗ idle c cc0_stg5_0
          ∗ (∃ d, owns (c : Thread nD τ) sc0 fullShare d) ∗ (∃ d, owns (c : Thread nD τ) sc1 fullShare d)) ∗ (∃ r, prngReg c r)) := by
  unfold Pipeline.ΦA; rw [scopedRest1_eq]; simp only [sc0, sc1, owns_whole]; rfl

/-- The two scratches before point `n`: at anything before the first. -/
def scr (c : Dev nD) (n : ℕ) : sProp 𝕄 :=
  if n = 0 then iprop((∃ d, owns (c : Thread nD τ) sc0 fullShare d) ∗ (∃ d, owns (c : Thread nD τ) sc1 fullShare d))
  else iprop(owns (c : Thread nD τ) sc0 fullShare (st V c n).2.1 ∗ owns (c : Thread nD τ) sc1 fullShare (st V c n).2.2)

theorem scr_pos (c : Dev nD) (n : ℕ) (h : n ≠ 0) :
    scr V c n = iprop(owns (c : Thread nD τ) sc0 fullShare (st V c n).2.1 ∗ owns (c : Thread nD τ) sc1 fullShare (st V c n).2.2) := by
  unfold scr; rw [if_neg h]

/-- Their contents may be forgotten. -/
theorem scr_any (c : Dev nD) (n : ℕ) :
    scr V c n ⊢ iprop((∃ d, owns (c : Thread nD τ) sc0 fullShare d) ∗ (∃ d, owns (c : Thread nD τ) sc1 fullShare d)) := by
  by_cases h : n = 0
  · unfold scr; rw [if_pos h]
  · rw [scr_pos V c n h]
    iintro ⟨H0, H1⟩
    isplitl [H0]
    · iexists _; iexact H0
    iexists _; iexact H1

/-- The proof data: each input's buffer at its block, the output's at the state's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (st V c (t.val + 1)).1
  Φ t := iprop(side c ∗ scr V c t.val)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (st V c (t.val + 1)).1 := by dsimp only [dat1]

/-! Each input's buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The output window is idle except at an expert's last block -/

theorem idle1_7 : ∀ t : Fin cfg1.N, cfg1.idle 7 (grid1.coords t) = !decide (t.val % 4 = 3) :=
  (by decide +kernel : ∀ t : Fin cfg1.N, cfg1.idle 7 (grid1.coords t) = !decide (t.val % 4 = 3))

/-- Whether nothing has been stored into the output block since it was last written back. -/
def fresh7 : ℕ → Bool
  | 0 => true
  | n + 1 => (0x8000000780000007 : ℕ).testBit n
theorem fresh7_step : ∀ t : Fin cfg1.N,
    fresh7 (t.val + 1) = ((cfg1.win 7).flush t || (cfg1.idle 7 (cfg1.grid.coords t) && fresh7 t.val)) := by decide +kernel
theorem fresh7_eq (t : Fin cfg1.N) : cfg1.fresh 7 t.val = fresh7 t.val :=
  Pipeline.Cfg.fresh_tab cfg1 7 fresh7 rfl fresh7_step t.val (Nat.le_of_lt t.isLt)
theorem not_fresh7 : ∀ t : Fin cfg1.N, t.val % 4 = 3 ∧ ¬t.val / 4 % 8 = 0 → cfg1.fresh 7 t.val = false := by
  intro t; rw [fresh7_eq t]; revert t; decide +kernel

/-- At the last block of a later expert the output block is what the point before left. -/
theorem before1_7 (c : Dev nD) (t : Fin cfg1.N) (h3 : t.val % 4 = 3) (h4 : ¬t.val / 4 % 8 = 0) (d) :
    (dat1 V c).before 7 t d = (st V c t.val).1 := by
  rw [Dat.before_out_traj _ 7 rfl (fun _ _ => rfl) (fun t h0 hi _ => by
      rw [after1_7, after1_7, st_succ]
      rw [idle1_7] at hi
      have h3 : ¬t.val % 4 = 3 := by simpa using hi
      show (step V c t (st V c t.val)).1 = (st V c (t.val - 1 + 1)).1
      rw [Nat.sub_add_cancel (Nat.pos_of_ne_zero h0)]
      unfold step
      split
      · rfl
      · rfl) t.val t rfl d, not_fresh7 t ⟨h3, h4⟩, if_neg Bool.false_ne_true, after1_7]
  show (st V c (t.val - 1 + 1)).1 = _
  rw [Nat.sub_add_cancel (by omega)]

/-! ## The body obligation -/

abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)
abbrev ms1_7 (t : Fin cfg1.N) := win1_7.stage (cfg1.slots t 7)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The inputs' blocks at point `t`. -/
abbrev insAt (c : Dev nD) (t : Fin cfg1.N) : sProp 𝕄 :=
  ins c (ms1_0 t) (ms1_1 t) (ms1_2 t) (ms1_3 t) (ms1_4 t) (ms1_5 t) (ms1_6 t) (iblk1 V c 0 t) (iblk1 V c 1 t) (iblk1 V c 2 t) (iblk1 V c 3 t) (iblk1 V c 4 t) (iblk1 V c 5 t) (iblk1 V c 6 t)

/-- A run of the body on the blocks a point is given, whose scratches come out of the state before and go into the state
    after, is the obligation at that point. -/
theorem around (c : Dev nD) (t : Fin cfg1.N) (P0 P1 Q0 Q1 : sProp 𝕄) (o : Vec F S1x2048x1024 .f32 → Vec F S1x2048x1024 .f32)
    (hrun : ∀ d (K : PUnit → sProp 𝕄), iprop(insAt V c t ∗ owns (c : Thread nD τ) (ms1_7 t) fullShare ((dat1 V c).before 7 t d) ∗ P0 ∗ P1
        ∗ (iprop(insAt V c t ∗ owns (c : Thread nD τ) (ms1_7 t) fullShare (o d) ∗ Q0 ∗ Q1) -∗ K ⟨⟩))
      ⊢ wp frame (wpE (defs₀ (F := F)) Variants.none c none) Set.univ (bodyAt1 t) K)
    (hP : scr V c t.val ⊢ iprop(P0 ∗ P1)) (hQ : iprop(Q0 ∗ Q1) ⊢ scr V c (t.val + 1))
    (h7 : ∀ d, owns (c : Thread nD τ) (ms1_7 t) fullShare (o d) ⊢ (dat1 V c).leavesExact 7 t) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5, before1_6]
  rw [show (dat1 V c).owesAt () t.succ = (dat1 V c).owesAt () t.castSucc from rfl,
    show (dat1 V c).Φ t.castSucc = iprop(side c ∗ scr V c t.val) from rfl, show (dat1 V c).Φ t.succ = iprop(side c ∗ scr V c (t.val + 1)) from rfl]
  rw [show (dat1 V c).leavesExact 0 t = owns (c : Thread nD τ) (ms1_0 t) fullShare (iblk1 V c 0 t) from by
    unfold Dat.leavesExact; rw [show cfg1.idle 0 (cfg1.grid.coords t) = false from rfl, after1_0]]
  rw [show (dat1 V c).leavesExact 1 t = owns (c : Thread nD τ) (ms1_1 t) fullShare (iblk1 V c 1 t) from by
    unfold Dat.leavesExact; rw [show cfg1.idle 1 (cfg1.grid.coords t) = false from rfl, after1_1]]
  rw [show (dat1 V c).leavesExact 2 t = owns (c : Thread nD τ) (ms1_2 t) fullShare (iblk1 V c 2 t) from by
    unfold Dat.leavesExact; rw [show cfg1.idle 2 (cfg1.grid.coords t) = false from rfl, after1_2]]
  rw [show (dat1 V c).leavesExact 3 t = owns (c : Thread nD τ) (ms1_3 t) fullShare (iblk1 V c 3 t) from by
    unfold Dat.leavesExact; rw [show cfg1.idle 3 (cfg1.grid.coords t) = false from rfl, after1_3]]
  rw [show (dat1 V c).leavesExact 4 t = owns (c : Thread nD τ) (ms1_4 t) fullShare (iblk1 V c 4 t) from by
    unfold Dat.leavesExact; rw [show cfg1.idle 4 (cfg1.grid.coords t) = false from rfl, after1_4]]
  rw [show (dat1 V c).leavesExact 5 t = owns (c : Thread nD τ) (ms1_5 t) fullShare (iblk1 V c 5 t) from by
    unfold Dat.leavesExact; rw [show cfg1.idle 5 (cfg1.grid.coords t) = false from rfl, after1_5]]
  rw [show (dat1 V c).leavesExact 6 t = owns (c : Thread nD τ) (ms1_6 t) fullShare (iblk1 V c 6 t) from by
    unfold Dat.leavesExact; rw [show cfg1.idle 6 (cfg1.grid.coords t) = false from rfl, after1_6]]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := hP $$ HP
  icases HP with ⟨HP0, HP1⟩
  iapply (hrun d7 _)
  isplitl [H0 H1 H2 H3 H4 H5 H6]
  · unfold insAt ins
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [HP0]; · iexact HP0
  isplitl [HP1]; · iexact HP1
  unfold insAt ins
  iintro ⟨⟨H0, H1, H2, H3, H4, H5, H6⟩, H7, HQ0, HQ1⟩
  isplitl [HS HQ0 HQ1]
  · isplitl [HS]; · iexact HS
    iapply hQ
    isplitl [HQ0]; · iexact HQ0
    iexact HQ1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (h7 d7)
  iexact H7

theorem sound_body1 (c : Dev nD) (t : Fin cfg1.N) :
    bodyPre1 V c t ⊢ wp frame (wpE (defs₀ (F := F)) Variants.none c none) Set.univ (bodyAt1 t) (fun _ => bodyPost1 V c t) := by
  have hlive : t.val % 4 = 3 → (dat1 V c).leavesExact 7 t = owns (c : Thread nD τ) (ms1_7 t) fullShare ((dat1 V c).after 7 t) := fun h3 => by
    unfold Dat.leavesExact; rw [show cfg1.idle 7 (cfg1.grid.coords t) = false from (idle1_7 t).trans (by rw [decide_eq_true h3]; rfl)]
  have hidle : ¬t.val % 4 = 3 → ∀ d, owns (c : Thread nD τ) (ms1_7 t) fullShare ((dat1 V c).before 7 t d) ⊢ (dat1 V c).leavesExact 7 t := fun h3 d => by
    rw [(dat1 V c).leavesExact_idle 7 t ((idle1_7 t).trans (by rw [decide_eq_false h3]; rfl))
      (Bool.eq_false_iff.mpr fun h => h3 (by have := (flush1_7 t).mp h; omega))]
    iintro H; iexists d; iexact H
  by_cases h0 : t.val % 4 = 0
  · refine around V c t _ _ _ _ _ (fun d K => body_A c (grid1.coords t) _ _ _ _ _ _ _ _ _ _ _ _ _ _ _ _ _ _ _ _ _ _ _ _ _ _ _ _
      ((hcond0 t).mpr h0) (fun h => (hcond2 t).mp h h0) (fun h => by have := (hcond3 t).mp h; omega) _ K) (scr_any V c _) ?_ (hidle (by omega))
    rw [scr_pos V c _ (Nat.succ_ne_zero _), st_succ]; unfold step; rw [if_pos h0]
  have hz : t.val ≠ 0 := fun h => h0 (by rw [h])
  by_cases h3 : t.val % 4 = 3
  · by_cases h4 : t.val / 4 % 8 = 0
    · refine around V c t _ _ _ _ _ (fun d K => body_C c (grid1.coords t) _ _ _ _ _ _ _ _ _ _ _ _ _ _ _ _ _ _ _ _ _ _ _ _ _ _ _ _ _ _
        (fun h => h0 ((hcond0 t).mp h)) ((hcond2 t).mpr h0) ((hcond3 t).mpr h3) ((hcond4 t).mpr h4) (fun h => (hcond5 t).mp h h4) _ K)
        (by rw [scr_pos V c _ hz]) ?_ (fun d => ?_)
      · rw [scr_pos V c _ (Nat.succ_ne_zero _), st_succ]; unfold step; rw [if_neg h0, if_pos h3, if_pos h4]; exact .rfl
      · rw [hlive h3, after1_7, st_succ]; unfold step; rw [if_neg h0, if_pos h3, if_pos h4]; exact .rfl
    · refine around V c t _ _ _ _ (fun _ => k1_pay7 (iblk1 V c 2 t) (iblk1 V c 4 t) (acc V c t (st V c t.val)) (st V c t.val).1) (fun d K => by
        rw [before1_7 V c t h3 h4]
        exact body_D c (grid1.coords t) _ _ _ _ _ _ _ _ _ _ _ _ _ _ _ _ _ _ _ _ _ _ _ _ _ _ _ _ _ _
          (fun h => h0 ((hcond0 t).mp h)) ((hcond2 t).mpr h0) ((hcond3 t).mpr h3) (fun h => h4 ((hcond4 t).mp h)) ((hcond5 t).mpr h4) _ K)
        (by rw [scr_pos V c _ hz]) ?_ (fun d => ?_)
      · rw [scr_pos V c _ (Nat.succ_ne_zero _), st_succ]; unfold step; rw [if_neg h0, if_pos h3, if_neg h4]; exact .rfl
      · rw [hlive h3, after1_7, st_succ]; unfold step; rw [if_neg h0, if_pos h3, if_neg h4]
  · refine around V c t _ _ _ _ _ (fun d K => body_B c (grid1.coords t) _ _ _ _ _ _ _ _ _ _ _ _ _ _ _ _ _ _ _ _ _ _ _ _ _ _ _ _ _ _
      (fun h => h0 ((hcond0 t).mp h)) ((hcond2 t).mpr h0) (fun h => h3 ((hcond3 t).mp h)) _ K)
      (by rw [scr_pos V c _ hz]) ?_ (hidle h3)
    rw [scr_pos V c _ (Nat.succ_ne_zero _), st_succ]; unfold step; rw [if_neg h0, if_neg h3]; exact .rfl

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the call is what is held before the first point, -/
theorem hin1 (c : Dev nD) : Pipeline.ΦA spec1 c ⊢ (dat1 V c).Φ 0 := by
  rw [show (dat1 V c).Φ 0 = iprop(side c ∗ scr V c 0) from rfl, PhiA_eq]
  unfold side scr
  rw [if_pos rfl]
  iintro ⟨⟨H0, H1, H2, H3, H4, H5, HA, HB⟩, Hg⟩
  isplitl [H0 H1 H2 H3 H4 H5 Hg]
  · isplitl [H0 H1 H2 H3 H4 H5]
    · isplitl [H0]; · iexact H0
      isplitl [H1]; · iexact H1
      isplitl [H2]; · iexact H2
      isplitl [H3]; · iexact H3
      isplitl [H4]; · iexact H4
      iexact H5
    iexact Hg
  isplitl [HA]; · iexact HA
  iexact HB
/-- and what is held after the last is what it takes back. -/
theorem hout1 (c : Dev nD) : (dat1 V c).Φ (Fin.last cfg1.N) ⊢ Pipeline.ΦA spec1 c := by
  rw [show (dat1 V c).Φ (Fin.last cfg1.N) = iprop(side c ∗ scr V c cfg1.N) from rfl, PhiA_eq]
  unfold side
  iintro ⟨⟨⟨H0, H1, H2, H3, H4, H5⟩, Hg⟩, HS⟩
  ihave HS := scr_any V c cfg1.N $$ HS
  icases HS with ⟨HA, HB⟩
  isplitl [H0 H1 H2 H3 H4 H5 HA HB]
  · isplitl [H0]; · iexact H0
    isplitl [H1]; · iexact H1
    isplitl [H2]; · iexact H2
    isplitl [H3]; · iexact H3
    isplitl [H4]; · iexact H4
    isplitl [H5]; · iexact H5
    isplitl [HA]; · iexact HA
    iexact HB
  iexact Hg

end Cert.KernelIdeal.Layer

end
-- ==== Proof.LayerRun.lean ====
/- The whole layer's run: the host operations before, between and after the two kernel calls, and the calls. -/
module

public import proofs.«01_k».proof.Proof.LayerGate
public import proofs.«01_k».proof.Proof.LayerExperts

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5, main_v6, main_v7, main_v8, main_v9, main_v10, main_v11, main_v12]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v14]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The launch: from any memory with zero counters every weakly fair execution terminates, nothing faulting, and every final
    state has each unscoped buffer at the last boundary's contents and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W5_args m ρ c main_arg0 (by decide)),
     (h.1 c _ (mem_uc main_arg1 (by decide))).trans (W5_args m ρ c main_arg1 (by decide)),
     (h.1 c _ (mem_uc main_arg2 (by decide))).trans (W5_args m ρ c main_arg2 (by decide)),
     (h.1 c _ (mem_uc main_arg3 (by decide))).trans (W5_args m ρ c main_arg3 (by decide))⟩, h.2⟩) (run m ρ)

end Cert.KernelIdeal.Layer

end
-- ==== Proof.LayerFloat.lean ====
/- The whole layer's frame in floating point: the program is the idealized one's text, at another carrier. -/
module

public import proofs.«01_k».proof.Proof.Gen.Kernel.Launch
public import proofs.«01_k».proof.Proof.LayerRun

@[expose] public section

set_option maxRecDepth 16384

noncomputable section

namespace Cert.Kernel.Layer

open Cert.Kernel Cert.Kernel.Gen Idealize.ShloMosaic Idealize.ShloMosaic.TcCoe Idealize.SL.Sem

variable {F : FTy → Type} [FloatOps F]

set_option maxHeartbeats 4000000 in
/-- One body table: each label's body is the same text at the same carrier. -/
theorem defs0_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨1, _⟩, (t, s) => rfl
  | ⟨_ + 2, h⟩, _ => exact absurd h (Nat.not_lt.2 (Nat.le_add_left _ _))

/-- So the whole programs have one table. -/
theorem defs_eq : Cert.Kernel.defs (F := F) = Cert.KernelIdeal.defs (F := F) :=
  congrArg (Pipeline.defs Cert.KernelIdeal.pcfgs) defs0_eq

variable (m : (ℓ : Loc nD τ sig) → Buf (Elt F) ℓ) (ρ : Dev nD → PrngReg)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Layer.frame (F := F) m ρ

end Cert.Kernel.Layer

end
-- ==== Proof.LayerRefOps.lean ====
/- The whole reference's host operations, in fifteen groups: the gating reference's thirteen, whose results are the same
   functions of what the group reads, the expert layers', and the loss as a scalar. -/
module

public import proofs.«01_k».proof.Proof.Gen.ReferenceIdeal
public import proofs.«01_k».proof.Proof.Gen.FfnRefIdeal.Read
public import proofs.«01_k».proof.Proof.GateOps

@[expose] public section

set_option maxRecDepth 65536

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- Operations 1 to 16: the softmax and its negation, -/
def softmaxOps : List (HloOp τ sig (Elt F)) :=
  [ binary main_arg0 main_arg1 main_v0 ((fun l r => Host.dotGeneral dot_S2x2048x1024_S1024x8_S2x2048x8_2_0_01_1_n_n none l r) : (⟨S2x2048x1024, .f32⟩ : BufTy).Contents (Elt F) → (⟨S1024x8, .f32⟩ : BufTy).Contents (Elt F) → (⟨S2x2048x8, .f32⟩ : BufTy).Contents (Elt F)),
    nullary main_cst (constant S_ .f32 0xFF800000#32),
    binary main_v0 main_cst main_v1 ((fun x v => Host.reduce FloatOps.maximumf x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    nullary main_cst_0 (constant S_ .f32 0xFF800000#32),
    unary main_cst_0 main_v2 (broadcastInDim S2x2048 ![] bcast_S_S2x2048 : (⟨S_, .f32⟩ : BufTy).Contents (Elt F) → (⟨S2x2048, .f32⟩ : BufTy).Contents (Elt F)),
    binary main_v2 main_v1 main_v3 (maximumf : (⟨S2x2048, .f32⟩ : BufTy).Contents (Elt F) → (⟨S2x2048, .f32⟩ : BufTy).Contents (Elt F) → (⟨S2x2048, .f32⟩ : BufTy).Contents (Elt F)),
    unary main_v3 main_v4 (broadcastInDim S2x2048x1 ![0, 1] bcast_S2x2048_S2x2048x1_0_1 : (⟨S2x2048, .f32⟩ : BufTy).Contents (Elt F) → (⟨S2x2048x1, .f32⟩ : BufTy).Contents (Elt F)),
    unary main_v4 main_v5 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v0 main_v5 main_v6 (subf : (⟨S2x2048x8, .f32⟩ : BufTy).Contents (Elt F) → (⟨S2x2048x8, .f32⟩ : BufTy).Contents (Elt F) → (⟨S2x2048x8, .f32⟩ : BufTy).Contents (Elt F)),
    unary main_v6 main_v7 (Host.exp : (⟨S2x2048x8, .f32⟩ : BufTy).Contents (Elt F) → (⟨S2x2048x8, .f32⟩ : BufTy).Contents (Elt F)),
    nullary main_cst_1 (constant S_ .f32 0x00000000#32),
    binary main_v7 main_cst_1 main_v8 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v8 main_v9 (broadcastInDim S2x2048x1 ![0, 1] bcast_S2x2048_S2x2048x1_0_1 : (⟨S2x2048, .f32⟩ : BufTy).Contents (Elt F) → (⟨S2x2048x1, .f32⟩ : BufTy).Contents (Elt F)),
    unary main_v9 main_v10 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v7 main_v10 main_v11 (Host.divf : (⟨S2x2048x8, .f32⟩ : BufTy).Contents (Elt F) → (⟨S2x2048x8, .f32⟩ : BufTy).Contents (Elt F) → (⟨S2x2048x8, .f32⟩ : BufTy).Contents (Elt F)),
    unary main_v11 main_v12 (Host.negf : (⟨S2x2048x8, .f32⟩ : BufTy).Contents (Elt F) → (⟨S2x2048x8, .f32⟩ : BufTy).Contents (Elt F)) ]

/-- which write these. -/
def softmaxRefs : List (Ref sig .tc) :=
  [main_v0, main_cst, main_v1, main_cst_0, main_v2, main_v3, main_v4, main_v5, main_v6, main_v7, main_cst_1, main_v8, main_v9, main_v10, main_v11, main_v12]

/-- Everything else is kept. -/
theorem softmax_keeps (r : Ref sig .tc) (h : r ∉ softmaxRefs) (M : Valuation τ sig (Elt F)) :
    after softmaxOps M (Proc.devRef .tc r) = M (Proc.devRef .tc r) :=
  after_of_writes_sub softmaxOps M (forall_writes_sub_of_map rfl) h

set_option maxHeartbeats 4000000 in
theorem softmax_v11_after (M : Valuation τ sig (Elt F)) :
    after softmaxOps M (Proc.devRef .tc main_v11) = Cert.GateRefIdeal.Value.softmax_v11 (F := F) (M (Proc.devRef .tc main_arg0)) (M (Proc.devRef .tc main_arg1)) := by
  simp only [softmaxOps, TRef.binary, TRef.nullary, TRef.unary, TRef.ternary, TRef.quaternary, TRef.reshape, TRef.toBuf, TRef.ofBuf, cast_eq]; after_results_simp <;> rfl

set_option maxHeartbeats 4000000 in
theorem softmax_v12_after (M : Valuation τ sig (Elt F)) :
    after softmaxOps M (Proc.devRef .tc main_v12) = Cert.GateRefIdeal.Value.softmax_v12 (F := F) (M (Proc.devRef .tc main_arg0)) (M (Proc.devRef .tc main_arg1)) := by
  simp only [softmaxOps, TRef.binary, TRef.nullary, TRef.unary, TRef.ternary, TRef.quaternary, TRef.reshape, TRef.toBuf, TRef.ofBuf, cast_eq]; after_results_simp <;> rfl

/-- Operations 17 to 19: the order of a row's probabilities, greatest first, -/
def orderOps : List (HloOp τ sig (Elt F)) :=
  [ TRef.nullary (TRef.of (T := ⟨S2x2048x8, .i32⟩) main_call0_v0) (iotaInDim S2x2048x8 32 2),
    TRef.binary (TRef.of (T := ⟨S2x2048x8, .f32⟩) main_v12) (TRef.of (T := ⟨S2x2048x8, .i32⟩) main_call0_v0) (TRef.of (T := ⟨S2x2048x8, .f32⟩) main_call0_v1_0) (fun x y => (Host.sort2 S2x2048x8 2 comparator_f32_i32_d2 x y).1),
    TRef.binary (TRef.of (T := ⟨S2x2048x8, .f32⟩) main_v12) (TRef.of (T := ⟨S2x2048x8, .i32⟩) main_call0_v0) (TRef.of (T := ⟨S2x2048x8, .i32⟩) main_v13) (fun x y => (Host.sort2 S2x2048x8 2 comparator_f32_i32_d2 x y).2) ]

/-- which write these. -/
def orderRefs : List (Ref sig .tc) :=
  [main_call0_v0, main_call0_v1_0, main_v13]

/-- Everything else is kept. -/
theorem order_keeps (r : Ref sig .tc) (h : r ∉ orderRefs) (M : Valuation τ sig (Elt F)) :
    after orderOps M (Proc.devRef .tc r) = M (Proc.devRef .tc r) :=
  after_of_writes_sub orderOps M (forall_writes_sub_of_map rfl) h

set_option maxHeartbeats 4000000 in
theorem order_v13_after (M : Valuation τ sig (Elt F)) :
    after orderOps M (Proc.devRef .tc main_v13) = Cert.GateRefIdeal.Value.order_v13 (F := F) (M (Proc.devRef .tc main_v12)) := by
  simp only [orderOps, TRef.binary, TRef.nullary, TRef.unary, TRef.ternary, TRef.quaternary, TRef.reshape, TRef.toBuf, TRef.ofBuf, cast_eq]; after_results_simp <;> rfl

/-- Operations 20 to 41: the probabilities in that order, -/
def sortedOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2x2048x8, .i32⟩) main_call1_v0) (broadcastInDim S2x2048x8 ![] bcast_S_S2x2048x8),
    TRef.binary (TRef.of (T := ⟨S2x2048x8, .i32⟩) main_v13) (TRef.of (T := ⟨S2x2048x8, .i32⟩) main_call1_v0) (TRef.of (T := ⟨S2x2048x8, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S2x2048x8, .i32⟩) main_call1_v2) (broadcastInDim S2x2048x8 ![] bcast_S_S2x2048x8),
    TRef.binary (TRef.of (T := ⟨S2x2048x8, .i32⟩) main_v13) (TRef.of (T := ⟨S2x2048x8, .i32⟩) main_call1_v2) (TRef.of (T := ⟨S2x2048x8, .i32⟩) main_call1_v3) addi,
    TRef.ternary (TRef.of (T := ⟨S2x2048x8, .i1⟩) main_call1_v1) (TRef.of (T := ⟨S2x2048x8, .i32⟩) main_call1_v3) (TRef.of (T := ⟨S2x2048x8, .i32⟩) main_v13) (TRef.of (T := ⟨S2x2048x8, .i32⟩) main_call1_v4) select,
    TRef.reshape (TRef.of (T := ⟨S2x2048x8, .i32⟩) main_call1_v4) (TRef.of (T := ⟨S2x2048x8x1, .i32⟩) main_call1_v5) (rfl : (.i32 : EltTy) = .i32) shapeCasts_S2x2048x8_S2x2048x8x1,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S2x2048x8x1, .i32⟩) main_call1_v6) (broadcastInDim S2x2048x8x1 ![] bcast_S_S2x2048x8x1),
    TRef.binary (TRef.of (T := ⟨S2x2048x8x1, .i32⟩) main_call1_v5) (TRef.of (T := ⟨S2x2048x8x1, .i32⟩) main_call1_v6) (TRef.of (T := ⟨S2x2048x8x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S2x2048x8x1, .i32⟩) main_call1_v9) (broadcastInDim S2x2048x8x1 ![0, 1, 2, 3] bcast_S1x1x1x1_S2x2048x8x1_0_1_2_3),
    TRef.binary (TRef.of (T := ⟨S2x2048x8x1, .i32⟩) main_call1_v5) (TRef.of (T := ⟨S2x2048x8x1, .i32⟩) main_call1_v9) (TRef.of (T := ⟨S2x2048x8x1, .i1⟩) main_call1_v10) (cmpi .sle),
    TRef.binary (TRef.of (T := ⟨S2x2048x8x1, .i1⟩) main_call1_v7) (TRef.of (T := ⟨S2x2048x8x1, .i1⟩) main_call1_v10) (TRef.of (T := ⟨S2x2048x8x1, .i1⟩) main_call1_v11) andi,
    TRef.nullary (TRef.of (T := ⟨S_, .i1⟩) main_call1_c_3) (constantI S_ 1 1#1),
    TRef.binary (TRef.of (T := ⟨S2x2048x8x1, .i1⟩) main_call1_v11) (TRef.of (T := ⟨S_, .i1⟩) main_call1_c_3) (TRef.of (T := ⟨S2x2048x8, .i1⟩) main_call1_v12) (fun x v => Host.reduce IntOp.andi x v reducesTo_S2x2048x8x1_S2x2048x8_d3 h_S_),
    TRef.binary (TRef.of (T := ⟨S2x2048x8, .f32⟩) main_v11) (TRef.of (T := ⟨S2x2048x8x1, .i32⟩) main_call1_v5) (TRef.of (T := ⟨S2x2048x8, .f32⟩) main_call1_v13) (fun x i => Host.gather gather_S2x2048x8_S2x2048x8x1_S2x2048x8_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S2x2048x8, .f32⟩) main_call1_v14) (broadcastInDim S2x2048x8 ![] bcast_S_S2x2048x8),
    TRef.ternary (TRef.of (T := ⟨S2x2048x8, .i1⟩) main_call1_v12) (TRef.of (T := ⟨S2x2048x8, .f32⟩) main_call1_v13) (TRef.of (T := ⟨S2x2048x8, .f32⟩) main_call1_v14) (TRef.of (T := ⟨S2x2048x8, .f32⟩) main_v14) select ]

/-- which write these. -/
def sortedRefs : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v14]

/-- Everything else is kept. -/
theorem sorted_keeps (r : Ref sig .tc) (h : r ∉ sortedRefs) (M : Valuation τ sig (Elt F)) :
    after sortedOps M (Proc.devRef .tc r) = M (Proc.devRef .tc r) :=
  after_of_writes_sub sortedOps M (forall_writes_sub_of_map rfl) h

set_option maxHeartbeats 4000000 in
theorem sorted_v14_after (M : Valuation τ sig (Elt F)) :
    after sortedOps M (Proc.devRef .tc main_v14) = Cert.GateRefIdeal.Value.sorted_v14 (F := F) (M (Proc.devRef .tc main_v13)) (M (Proc.devRef .tc main_v11)) := by
  simp only [sortedOps, TRef.binary, TRef.nullary, TRef.unary, TRef.ternary, TRef.quaternary, TRef.reshape, TRef.toBuf, TRef.ofBuf, cast_eq]; after_results_simp <;> rfl

/-- Operations 42 to 44: their running sums, -/
def cumOps : List (HloOp τ sig (Elt F)) :=
  [ TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S2x2048x8, .f32⟩) main_v14) (TRef.of (T := ⟨S_, .f32⟩) main_call2_call0_v0) (TRef.of (T := ⟨S2x2048x8, .f32⟩) main_v15) (fun x v => Host.reduceWindowAdd ![1, 1, 8] ![1, 1, 1] ![0, 0, 7] ![0, 0, 0] x v reduceWindows_S2x2048x8_S2x2048x8_w1s1p0_0_w1s1p0_0_w8s1p7_0 h_S_) ]

/-- which write these. -/
def cumRefs : List (Ref sig .tc) :=
  [main_call2_call0_cst, main_call2_call0_v0, main_v15]

/-- Everything else is kept. -/
theorem cum_keeps (r : Ref sig .tc) (h : r ∉ cumRefs) (M : Valuation τ sig (Elt F)) :
    after cumOps M (Proc.devRef .tc r) = M (Proc.devRef .tc r) :=
  after_of_writes_sub cumOps M (forall_writes_sub_of_map rfl) h

set_option maxHeartbeats 4000000 in
theorem cum_v15_after (M : Valuation τ sig (Elt F)) :
    after cumOps M (Proc.devRef .tc main_v15) = Cert.GateRefIdeal.Value.cum_v15 (F := F) (M (Proc.devRef .tc main_v14)) := by
  simp only [cumOps, TRef.binary, TRef.nullary, TRef.unary, TRef.ternary, TRef.quaternary, TRef.reshape, TRef.toBuf, TRef.ofBuf, cast_eq]; after_results_simp <;> rfl

/-- Operations 45 to 63: how many experts a token takes, -/
def countOps : List (HloOp τ sig (Elt F)) :=
  [ nullary main_cst_2 (constant S_ .f32 0x3F4CCCCD#32),
    unary main_cst_2 main_v16 (broadcastInDim S2x2048x8 ![] bcast_S_S2x2048x8 : (⟨S_, .f32⟩ : BufTy).Contents (Elt F) → (⟨S2x2048x8, .f32⟩ : BufTy).Contents (Elt F)),
    binary main_v15 main_v16 main_v17 (cmpf .oge : (⟨S2x2048x8, .f32⟩ : BufTy).Contents (Elt F) → (⟨S2x2048x8, .f32⟩ : BufTy).Contents (Elt F) → (⟨S2x2048x8, .i1⟩ : BufTy).Contents (Elt F)),
    unary main_v17 main_v18 (uitofp .f32 : (⟨S2x2048x8, .i1⟩ : BufTy).Contents (Elt F) → (⟨S2x2048x8, .f32⟩ : BufTy).Contents (Elt F)),
    TRef.nullary (TRef.of (T := ⟨S2x2048x8, .i32⟩) main_call3_v0) (iotaInDim S2x2048x8 32 2),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S2x2048x8, .f32⟩) main_v18) (TRef.of (T := ⟨S2x2048x8, .i32⟩) main_call3_v0) (TRef.of (T := ⟨S_, .f32⟩) main_call3_cst) (TRef.of (T := ⟨S_, .i32⟩) main_call3_c) (TRef.of (T := ⟨S2x2048, .f32⟩) main_call3_v1_0) (fun x y u v j => (Host.argReduce reducer_argmax_f32_i32 x y u v reducesTo_S2x2048x8_S2x2048_d2 h_S_ j).1),
    TRef.quaternary (TRef.of (T := ⟨S2x2048x8, .f32⟩) main_v18) (TRef.of (T := ⟨S2x2048x8, .i32⟩) main_call3_v0) (TRef.of (T := ⟨S_, .f32⟩) main_call3_cst) (TRef.of (T := ⟨S_, .i32⟩) main_call3_c) (TRef.of (T := ⟨S2x2048, .i32⟩) main_v19) (fun x y u v j => (Host.argReduce reducer_argmax_f32_i32 x y u v reducesTo_S2x2048x8_S2x2048_d2 h_S_ j).2),
    nullary main_c (constantI S_ 32 1#32),
    unary main_c main_v20 (broadcastInDim S2x2048 ![] bcast_S_S2x2048 : (⟨S_, .i32⟩ : BufTy).Contents (Elt F) → (⟨S2x2048, .i32⟩ : BufTy).Contents (Elt F)),
    binary main_v19 main_v20 main_v21 (addi : (⟨S2x2048, .i32⟩ : BufTy).Contents (Elt F) → (⟨S2x2048, .i32⟩ : BufTy).Contents (Elt F) → (⟨S2x2048, .i32⟩ : BufTy).Contents (Elt F)),
    nullary main_c_3 (constantI S_ 1 0#1),
    binary main_v17 main_c_3 main_v22 ((fun x v => Host.reduce IntOp.ori x v reducesTo_S2x2048x8_S2x2048_d2 h_S_) : (⟨S2x2048x8, .i1⟩ : BufTy).Contents (Elt F) → (⟨S_, .i1⟩ : BufTy).Contents (Elt F) → (⟨S2x2048, .i1⟩ : BufTy).Contents (Elt F)),
    unary main_v22 main_v23 (noti : (⟨S2x2048, .i1⟩ : BufTy).Contents (Elt F) → (⟨S2x2048, .i1⟩ : BufTy).Contents (Elt F)),
    nullary main_c_4 (constantI S_ 32 8#32),
    TRef.unary (TRef.of (T := ⟨S_, .i32⟩) main_c_4) (TRef.of (T := ⟨S_, .i32⟩) main_call4_v0) id,
    TRef.unary (TRef.of (T := ⟨S_, .i32⟩) main_call4_v0) (TRef.of (T := ⟨S2x2048, .i32⟩) main_call4_v1) (broadcastInDim S2x2048 ![] bcast_S_S2x2048),
    TRef.ternary (TRef.of (T := ⟨S2x2048, .i1⟩) main_v23) (TRef.of (T := ⟨S2x2048, .i32⟩) main_call4_v1) (TRef.of (T := ⟨S2x2048, .i32⟩) main_v21) (TRef.of (T := ⟨S2x2048, .i32⟩) main_v24) select ]

/-- which write these. -/
def countRefs : List (Ref sig .tc) :=
  [main_cst_2, main_v16, main_v17, main_v18, main_call3_v0, main_call3_cst, main_call3_c, main_call3_v1_0, main_v19, main_c, main_v20, main_v21, main_c_3, main_v22, main_v23, main_c_4, main_call4_v0, main_call4_v1, main_v24]

/-- Everything else is kept. -/
theorem count_keeps (r : Ref sig .tc) (h : r ∉ countRefs) (M : Valuation τ sig (Elt F)) :
    after countOps M (Proc.devRef .tc r) = M (Proc.devRef .tc r) :=
  after_of_writes_sub countOps M (forall_writes_sub_of_map rfl) h

set_option maxHeartbeats 4000000 in
theorem count_v24_after (M : Valuation τ sig (Elt F)) :
    after countOps M (Proc.devRef .tc main_v24) = Cert.GateRefIdeal.Value.count_v24 (F := F) (M (Proc.devRef .tc main_v15)) := by
  simp only [countOps, TRef.binary, TRef.nullary, TRef.unary, TRef.ternary, TRef.quaternary, TRef.reshape, TRef.toBuf, TRef.ofBuf, cast_eq]; after_results_simp <;> rfl

/-- Operations 64 to 69: that number against the greatest of all tokens, -/
def capOps : List (HloOp τ sig (Elt F)) :=
  [ nullary main_c_5 (constantI S_ 32 2147483648#32),
    binary main_v24 main_c_5 main_v25 ((fun x v => Host.reduce IntOp.maxsi x v reducesTo_S2x2048_S_d0_1 h_S_) : (⟨S2x2048, .i32⟩ : BufTy).Contents (Elt F) → (⟨S_, .i32⟩ : BufTy).Contents (Elt F) → (⟨S_, .i32⟩ : BufTy).Contents (Elt F)),
    nullary main_c_6 (constantI S_ 32 8#32),
    binary main_v25 main_c_6 main_v26 (minsi : (⟨S_, .i32⟩ : BufTy).Contents (Elt F) → (⟨S_, .i32⟩ : BufTy).Contents (Elt F) → (⟨S_, .i32⟩ : BufTy).Contents (Elt F)),
    unary main_v26 main_v27 (broadcastInDim S2x2048 ![] bcast_S_S2x2048 : (⟨S_, .i32⟩ : BufTy).Contents (Elt F) → (⟨S2x2048, .i32⟩ : BufTy).Contents (Elt F)),
    binary main_v24 main_v27 main_v28 (minsi : (⟨S2x2048, .i32⟩ : BufTy).Contents (Elt F) → (⟨S2x2048, .i32⟩ : BufTy).Contents (Elt F) → (⟨S2x2048, .i32⟩ : BufTy).Contents (Elt F)) ]

/-- which write these. -/
def capRefs : List (Ref sig .tc) :=
  [main_c_5, main_v25, main_c_6, main_v26, main_v27, main_v28]

/-- Everything else is kept. -/
theorem cap_keeps (r : Ref sig .tc) (h : r ∉ capRefs) (M : Valuation τ sig (Elt F)) :
    after capOps M (Proc.devRef .tc r) = M (Proc.devRef .tc r) :=
  after_of_writes_sub capOps M (forall_writes_sub_of_map rfl) h

set_option maxHeartbeats 4000000 in
theorem cap_v28_after (M : Valuation τ sig (Elt F)) :
    after capOps M (Proc.devRef .tc main_v28) = Cert.GateRefIdeal.Value.cap_v28 (F := F) (M (Proc.devRef .tc main_v24)) := by
  simp only [capOps, TRef.binary, TRef.nullary, TRef.unary, TRef.ternary, TRef.quaternary, TRef.reshape, TRef.toBuf, TRef.ofBuf, cast_eq]; after_results_simp <;> rfl

/-- Operations 70 to 82: the ranks taken and their normalized probabilities, -/
def chosenOps : List (HloOp τ sig (Elt F)) :=
  [ nullary main_v29 (iotaInDim S8 32 0),
    unary main_v29 main_v30 (broadcastInDim S1x1x8 ![2] bcast_S8_S1x1x8_2 : (⟨S8, .i32⟩ : BufTy).Contents (Elt F) → (⟨S1x1x8, .i32⟩ : BufTy).Contents (Elt F)),
    unary main_v28 main_v31 (broadcastInDim S2x2048x1 ![0, 1] bcast_S2x2048_S2x2048x1_0_1 : (⟨S2x2048, .i32⟩ : BufTy).Contents (Elt F) → (⟨S2x2048x1, .i32⟩ : BufTy).Contents (Elt F)),
    unary main_v30 main_v32 (broadcastInDim S2x2048x8 ![0, 1, 2] bcast_S1x1x8_S2x2048x8_0_1_2 : (⟨S1x1x8, .i32⟩ : BufTy).Contents (Elt F) → (⟨S2x2048x8, .i32⟩ : BufTy).Contents (Elt F)),
    unary main_v31 main_v33 (broadcastInDim S2x2048x8 ![0, 1, 2] bcast_S2x2048x1_S2x2048x8_0_1_2 : (⟨S2x2048x1, .i32⟩ : BufTy).Contents (Elt F) → (⟨S2x2048x8, .i32⟩ : BufTy).Contents (Elt F)),
    binary main_v32 main_v33 main_v34 (cmpi .slt : (⟨S2x2048x8, .i32⟩ : BufTy).Contents (Elt F) → (⟨S2x2048x8, .i32⟩ : BufTy).Contents (Elt F) → (⟨S2x2048x8, .i1⟩ : BufTy).Contents (Elt F)),
    unary main_v34 main_v35 (uitofp .f32 : (⟨S2x2048x8, .i1⟩ : BufTy).Contents (Elt F) → (⟨S2x2048x8, .f32⟩ : BufTy).Contents (Elt F)),
    binary main_v14 main_v35 main_v36 (mulf : (⟨S2x2048x8, .f32⟩ : BufTy).Contents (Elt F) → (⟨S2x2048x8, .f32⟩ : BufTy).Contents (Elt F) → (⟨S2x2048x8, .f32⟩ : BufTy).Contents (Elt F)),
    nullary main_cst_7 (constant S_ .f32 0x00000000#32),
    binary main_v36 main_cst_7 main_v37 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v37 main_v38 (broadcastInDim S2x2048x1 ![0, 1] bcast_S2x2048_S2x2048x1_0_1 : (⟨S2x2048, .f32⟩ : BufTy).Contents (Elt F) → (⟨S2x2048x1, .f32⟩ : BufTy).Contents (Elt F)),
    unary main_v38 main_v39 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v36 main_v39 main_v40 (Host.divf : (⟨S2x2048x8, .f32⟩ : BufTy).Contents (Elt F) → (⟨S2x2048x8, .f32⟩ : BufTy).Contents (Elt F) → (⟨S2x2048x8, .f32⟩ : BufTy).Contents (Elt F)) ]

/-- which write these. -/
def chosenRefs : List (Ref sig .tc) :=
  [main_v29, main_v30, main_v31, main_v32, main_v33, main_v34, main_v35, main_v36, main_cst_7, main_v37, main_v38, main_v39, main_v40]

/-- Everything else is kept. -/
theorem chosen_keeps (r : Ref sig .tc) (h : r ∉ chosenRefs) (M : Valuation τ sig (Elt F)) :
    after chosenOps M (Proc.devRef .tc r) = M (Proc.devRef .tc r) :=
  after_of_writes_sub chosenOps M (forall_writes_sub_of_map rfl) h

set_option maxHeartbeats 4000000 in
theorem chosen_v35_after (M : Valuation τ sig (Elt F)) :
    after chosenOps M (Proc.devRef .tc main_v35) = Cert.GateRefIdeal.Value.chosen_v35 (F := F) (M (Proc.devRef .tc main_v28)) := by
  simp only [chosenOps, TRef.binary, TRef.nullary, TRef.unary, TRef.ternary, TRef.quaternary, TRef.reshape, TRef.toBuf, TRef.ofBuf, cast_eq]; after_results_simp <;> rfl

set_option maxHeartbeats 4000000 in
theorem chosen_v40_after (M : Valuation τ sig (Elt F)) :
    after chosenOps M (Proc.devRef .tc main_v40) = Cert.GateRefIdeal.Value.chosen_v40 (F := F) (M (Proc.devRef .tc main_v28)) (M (Proc.devRef .tc main_v14)) := by
  simp only [chosenOps, TRef.binary, TRef.nullary, TRef.unary, TRef.ternary, TRef.quaternary, TRef.reshape, TRef.toBuf, TRef.ofBuf, cast_eq]; after_results_simp <;> rfl

/-- Operations 83 to 85: each expert's rank, -/
def rankOps : List (HloOp τ sig (Elt F)) :=
  [ TRef.nullary (TRef.of (T := ⟨S2x2048x8, .i32⟩) main_call5_v0) (iotaInDim S2x2048x8 32 2),
    TRef.binary (TRef.of (T := ⟨S2x2048x8, .i32⟩) main_v13) (TRef.of (T := ⟨S2x2048x8, .i32⟩) main_call5_v0) (TRef.of (T := ⟨S2x2048x8, .i32⟩) main_call5_v1_0) (fun x y => (Host.sort2 S2x2048x8 2 comparator_i32_i32_d2 x y).1),
    TRef.binary (TRef.of (T := ⟨S2x2048x8, .i32⟩) main_v13) (TRef.of (T := ⟨S2x2048x8, .i32⟩) main_call5_v0) (TRef.of (T := ⟨S2x2048x8, .i32⟩) main_v41) (fun x y => (Host.sort2 S2x2048x8 2 comparator_i32_i32_d2 x y).2) ]

/-- which write these. -/
def rankRefs : List (Ref sig .tc) :=
  [main_call5_v0, main_call5_v1_0, main_v41]

/-- Everything else is kept. -/
theorem rank_keeps (r : Ref sig .tc) (h : r ∉ rankRefs) (M : Valuation τ sig (Elt F)) :
    after rankOps M (Proc.devRef .tc r) = M (Proc.devRef .tc r) :=
  after_of_writes_sub rankOps M (forall_writes_sub_of_map rfl) h

set_option maxHeartbeats 4000000 in
theorem rank_v41_after (M : Valuation τ sig (Elt F)) :
    after rankOps M (Proc.devRef .tc main_v41) = Cert.GateRefIdeal.Value.rank_v41 (F := F) (M (Proc.devRef .tc main_v13)) := by
  simp only [rankOps, TRef.binary, TRef.nullary, TRef.unary, TRef.ternary, TRef.quaternary, TRef.reshape, TRef.toBuf, TRef.ofBuf, cast_eq]; after_results_simp <;> rfl

/-- Operations 86 to 107: the normalized probabilities by expert, -/
def normOps : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S2x2048x8, .i32⟩) main_call6_v0) (broadcastInDim S2x2048x8 ![] bcast_S_S2x2048x8),
    TRef.binary (TRef.of (T := ⟨S2x2048x8, .i32⟩) main_v41) (TRef.of (T := ⟨S2x2048x8, .i32⟩) main_call6_v0) (TRef.of (T := ⟨S2x2048x8, .i1⟩) main_call6_v1) (cmpi .slt),
    TRef.nullary (TRef.of (T := ⟨S_, .i32⟩) main_call6_c_0) (constantI S_ 32 8#32),
    TRef.unary (TRef.of (T := ⟨S_, .i32⟩) main_call6_c_0) (TRef.of (T := ⟨S2x2048x8, .i32⟩) main_call6_v2) (broadcastInDim S2x2048x8 ![] bcast_S_S2x2048x8),
    TRef.binary (TRef.of (T := ⟨S2x2048x8, .i32⟩) main_v41) (TRef.of (T := ⟨S2x2048x8, .i32⟩) main_call6_v2) (TRef.of (T := ⟨S2x2048x8, .i32⟩) main_call6_v3) addi,
    TRef.ternary (TRef.of (T := ⟨S2x2048x8, .i1⟩) main_call6_v1) (TRef.of (T := ⟨S2x2048x8, .i32⟩) main_call6_v3) (TRef.of (T := ⟨S2x2048x8, .i32⟩) main_v41) (TRef.of (T := ⟨S2x2048x8, .i32⟩) main_call6_v4) select,
    TRef.reshape (TRef.of (T := ⟨S2x2048x8, .i32⟩) main_call6_v4) (TRef.of (T := ⟨S2x2048x8x1, .i32⟩) main_call6_v5) (rfl : (.i32 : EltTy) = .i32) shapeCasts_S2x2048x8_S2x2048x8x1,
    TRef.nullary (TRef.of (T := ⟨S1, .i32⟩) main_call6_c_1) (constantI S1 32 7#32),
    TRef.nullary (TRef.of (T := ⟨S_, .i32⟩) main_call6_c_2) (constantI S_ 32 0#32),
    TRef.unary (TRef.of (T := ⟨S_, .i32⟩) main_call6_c_2) (TRef.of (T := ⟨S2x2048x8x1, .i32⟩) main_call6_v6) (broadcastInDim S2x2048x8x1 ![] bcast_S_S2x2048x8x1),
    TRef.binary (TRef.of (T := ⟨S2x2048x8x1, .i32⟩) main_call6_v5) (TRef.of (T := ⟨S2x2048x8x1, .i32⟩) main_call6_v6) (TRef.of (T := ⟨S2x2048x8x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S2x2048x8x1, .i32⟩) main_call6_v9) (broadcastInDim S2x2048x8x1 ![0, 1, 2, 3] bcast_S1x1x1x1_S2x2048x8x1_0_1_2_3),
    TRef.binary (TRef.of (T := ⟨S2x2048x8x1, .i32⟩) main_call6_v5) (TRef.of (T := ⟨S2x2048x8x1, .i32⟩) main_call6_v9) (TRef.of (T := ⟨S2x2048x8x1, .i1⟩) main_call6_v10) (cmpi .sle),
    TRef.binary (TRef.of (T := ⟨S2x2048x8x1, .i1⟩) main_call6_v7) (TRef.of (T := ⟨S2x2048x8x1, .i1⟩) main_call6_v10) (TRef.of (T := ⟨S2x2048x8x1, .i1⟩) main_call6_v11) andi,
    TRef.nullary (TRef.of (T := ⟨S_, .i1⟩) main_call6_c_3) (constantI S_ 1 1#1),
    TRef.binary (TRef.of (T := ⟨S2x2048x8x1, .i1⟩) main_call6_v11) (TRef.of (T := ⟨S_, .i1⟩) main_call6_c_3) (TRef.of (T := ⟨S2x2048x8, .i1⟩) main_call6_v12) (fun x v => Host.reduce IntOp.andi x v reducesTo_S2x2048x8x1_S2x2048x8_d3 h_S_),
    TRef.binary (TRef.of (T := ⟨S2x2048x8, .f32⟩) main_v40) (TRef.of (T := ⟨S2x2048x8x1, .i32⟩) main_call6_v5) (TRef.of (T := ⟨S2x2048x8, .f32⟩) main_call6_v13) (fun x i => Host.gather gather_S2x2048x8_S2x2048x8x1_S2x2048x8_n_2_01_01_2_3_111 x i),
    TRef.nullary (TRef.of (T := ⟨S_, .f32⟩) main_call6_cst) (constant S_ .f32 0x7FC00000#32),
    TRef.unary (TRef.of (T := ⟨S_, .f32⟩) main_call6_cst) (TRef.of (T := ⟨S2x2048x8, .f32⟩) main_call6_v14) (broadcastInDim S2x2048x8 ![] bcast_S_S2x2048x8),
    TRef.ternary (TRef.of (T := ⟨S2x2048x8, .i1⟩) main_call6_v12) (TRef.of (T := ⟨S2x2048x8, .f32⟩) main_call6_v13) (TRef.of (T := ⟨S2x2048x8, .f32⟩) main_call6_v14) (TRef.of (T := ⟨S2x2048x8, .f32⟩) main_v42) select ]

/-- which write these. -/
def normRefs : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v42]

/-- Everything else is kept. -/
theorem norm_keeps (r : Ref sig .tc) (h : r ∉ normRefs) (M : Valuation τ sig (Elt F)) :
    after normOps M (Proc.devRef .tc r) = M (Proc.devRef .tc r) :=
  after_of_writes_sub normOps M (forall_writes_sub_of_map rfl) h

set_option maxHeartbeats 4000000 in
theorem norm_v42_after (M : Valuation τ sig (Elt F)) :
    after normOps M (Proc.devRef .tc main_v42) = Cert.GateRefIdeal.Value.norm_v42 (F := F) (M (Proc.devRef .tc main_v41)) (M (Proc.devRef .tc main_v40)) := by
  simp only [normOps, TRef.binary, TRef.nullary, TRef.unary, TRef.ternary, TRef.quaternary, TRef.reshape, TRef.toBuf, TRef.ofBuf, cast_eq]; after_results_simp <;> rfl

/-- Operations 108 to 129: the experts taken, -/
def maskOps : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S2x2048x8, .i32⟩) main_call7_v0) (broadcastInDim S2x2048x8 ![] bcast_S_S2x2048x8),
    TRef.binary (TRef.of (T := ⟨S2x2048x8, .i32⟩) main_v41) (TRef.of (T := ⟨S2x2048x8, .i32⟩) main_call7_v0) (TRef.of (T := ⟨S2x2048x8, .i1⟩) main_call7_v1) (cmpi .slt),
    TRef.nullary (TRef.of (T := ⟨S_, .i32⟩) main_call7_c_0) (constantI S_ 32 8#32),
    TRef.unary (TRef.of (T := ⟨S_, .i32⟩) main_call7_c_0) (TRef.of (T := ⟨S2x2048x8, .i32⟩) main_call7_v2) (broadcastInDim S2x2048x8 ![] bcast_S_S2x2048x8),
    TRef.binary (TRef.of (T := ⟨S2x2048x8, .i32⟩) main_v41) (TRef.of (T := ⟨S2x2048x8, .i32⟩) main_call7_v2) (TRef.of (T := ⟨S2x2048x8, .i32⟩) main_call7_v3) addi,
    TRef.ternary (TRef.of (T := ⟨S2x2048x8, .i1⟩) main_call7_v1) (TRef.of (T := ⟨S2x2048x8, .i32⟩) main_call7_v3) (TRef.of (T := ⟨S2x2048x8, .i32⟩) main_v41) (TRef.of (T := ⟨S2x2048x8, .i32⟩) main_call7_v4) select,
    TRef.reshape (TRef.of (T := ⟨S2x2048x8, .i32⟩) main_call7_v4) (TRef.of (T := ⟨S2x2048x8x1, .i32⟩) main_call7_v5) (rfl : (.i32 : EltTy) = .i32) shapeCasts_S2x2048x8_S2x2048x8x1,
    TRef.nullary (TRef.of (T := ⟨S1, .i32⟩) main_call7_c_1) (constantI S1 32 7#32),
    TRef.nullary (TRef.of (T := ⟨S_, .i32⟩) main_call7_c_2) (constantI S_ 32 0#32),
    TRef.unary (TRef.of (T := ⟨S_, .i32⟩) main_call7_c_2) (TRef.of (T := ⟨S2x2048x8x1, .i32⟩) main_call7_v6) (broadcastInDim S2x2048x8x1 ![] bcast_S_S2x2048x8x1),
    TRef.binary (TRef.of (T := ⟨S2x2048x8x1, .i32⟩) main_call7_v5) (TRef.of (T := ⟨S2x2048x8x1, .i32⟩) main_call7_v6) (TRef.of (T := ⟨S2x2048x8x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S2x2048x8x1, .i32⟩) main_call7_v9) (broadcastInDim S2x2048x8x1 ![0, 1, 2, 3] bcast_S1x1x1x1_S2x2048x8x1_0_1_2_3),
    TRef.binary (TRef.of (T := ⟨S2x2048x8x1, .i32⟩) main_call7_v5) (TRef.of (T := ⟨S2x2048x8x1, .i32⟩) main_call7_v9) (TRef.of (T := ⟨S2x2048x8x1, .i1⟩) main_call7_v10) (cmpi .sle),
    TRef.binary (TRef.of (T := ⟨S2x2048x8x1, .i1⟩) main_call7_v7) (TRef.of (T := ⟨S2x2048x8x1, .i1⟩) main_call7_v10) (TRef.of (T := ⟨S2x2048x8x1, .i1⟩) main_call7_v11) andi,
    TRef.nullary (TRef.of (T := ⟨S_, .i1⟩) main_call7_c_3) (constantI S_ 1 1#1),
    TRef.binary (TRef.of (T := ⟨S2x2048x8x1, .i1⟩) main_call7_v11) (TRef.of (T := ⟨S_, .i1⟩) main_call7_c_3) (TRef.of (T := ⟨S2x2048x8, .i1⟩) main_call7_v12) (fun x v => Host.reduce IntOp.andi x v reducesTo_S2x2048x8x1_S2x2048x8_d3 h_S_),
    TRef.binary (TRef.of (T := ⟨S2x2048x8, .f32⟩) main_v35) (TRef.of (T := ⟨S2x2048x8x1, .i32⟩) main_call7_v5) (TRef.of (T := ⟨S2x2048x8, .f32⟩) main_call7_v13) (fun x i => Host.gather gather_S2x2048x8_S2x2048x8x1_S2x2048x8_n_2_01_01_2_3_111 x i),
    TRef.nullary (TRef.of (T := ⟨S_, .f32⟩) main_call7_cst) (constant S_ .f32 0x7FC00000#32),
    TRef.unary (TRef.of (T := ⟨S_, .f32⟩) main_call7_cst) (TRef.of (T := ⟨S2x2048x8, .f32⟩) main_call7_v14) (broadcastInDim S2x2048x8 ![] bcast_S_S2x2048x8),
    TRef.ternary (TRef.of (T := ⟨S2x2048x8, .i1⟩) main_call7_v12) (TRef.of (T := ⟨S2x2048x8, .f32⟩) main_call7_v13) (TRef.of (T := ⟨S2x2048x8, .f32⟩) main_call7_v14) (TRef.of (T := ⟨S2x2048x8, .f32⟩) main_v43) select ]

/-- which write these. -/
def maskRefs : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v43]

/-- Everything else is kept. -/
theorem mask_keeps (r : Ref sig .tc) (h : r ∉ maskRefs) (M : Valuation τ sig (Elt F)) :
    after maskOps M (Proc.devRef .tc r) = M (Proc.devRef .tc r) :=
  after_of_writes_sub maskOps M (forall_writes_sub_of_map rfl) h

set_option maxHeartbeats 4000000 in
theorem mask_v43_after (M : Valuation τ sig (Elt F)) :
    after maskOps M (Proc.devRef .tc main_v43) = Cert.GateRefIdeal.Value.mask_v43 (F := F) (M (Proc.devRef .tc main_v41)) (M (Proc.devRef .tc main_v35)) := by
  simp only [maskOps, TRef.binary, TRef.nullary, TRef.unary, TRef.ternary, TRef.quaternary, TRef.reshape, TRef.toBuf, TRef.ofBuf, cast_eq]; after_results_simp <;> rfl

/-- Operations 130 to 132: how many tokens have taken an expert so far, -/
def tallyOps : List (HloOp τ sig (Elt F)) :=
  [ TRef.nullary (TRef.of (T := ⟨S_, .f32⟩) main_call8_call0_cst) (constant S_ .f32 0x00000000#32),
    TRef.unary (TRef.of (T := ⟨S_, .f32⟩) main_call8_call0_cst) (TRef.of (T := ⟨S_, .f32⟩) main_call8_call0_v0) (broadcastInDim S_ ![] bcast_S_S_),
    TRef.binary (TRef.of (T := ⟨S2x2048x8, .f32⟩) main_v43) (TRef.of (T := ⟨S_, .f32⟩) main_call8_call0_v0) (TRef.of (T := ⟨S2x2048x8, .f32⟩) main_v44) (fun x v => Host.reduceWindowAdd ![1, 2048, 1] ![1, 1, 1] ![0, 2047, 0] ![0, 0, 0] x v reduceWindows_S2x2048x8_S2x2048x8_w1s1p0_0_w2048s1p2047_0_w1s1p0_0 h_S_) ]

/-- which write these. -/
def tallyRefs : List (Ref sig .tc) :=
  [main_call8_call0_cst, main_call8_call0_v0, main_v44]

/-- Everything else is kept. -/
theorem tally_keeps (r : Ref sig .tc) (h : r ∉ tallyRefs) (M : Valuation τ sig (Elt F)) :
    after tallyOps M (Proc.devRef .tc r) = M (Proc.devRef .tc r) :=
  after_of_writes_sub tallyOps M (forall_writes_sub_of_map rfl) h

set_option maxHeartbeats 4000000 in
theorem tally_v44_after (M : Valuation τ sig (Elt F)) :
    after tallyOps M (Proc.devRef .tc main_v44) = Cert.GateRefIdeal.Value.tally_v44 (F := F) (M (Proc.devRef .tc main_v43)) := by
  simp only [tallyOps, TRef.binary, TRef.nullary, TRef.unary, TRef.ternary, TRef.quaternary, TRef.reshape, TRef.toBuf, TRef.ofBuf, cast_eq]; after_results_simp <;> rfl

/-- Operations 133 to 150: what the capacity leaves: density mask, position, validity, -/
def slotsOps : List (HloOp τ sig (Elt F)) :=
  [ binary main_v44 main_v43 main_v45 (subf : (⟨S2x2048x8, .f32⟩ : BufTy).Contents (Elt F) → (⟨S2x2048x8, .f32⟩ : BufTy).Contents (Elt F) → (⟨S2x2048x8, .f32⟩ : BufTy).Contents (Elt F)),
    binary main_v45 main_v43 main_v46 (mulf : (⟨S2x2048x8, .f32⟩ : BufTy).Contents (Elt F) → (⟨S2x2048x8, .f32⟩ : BufTy).Contents (Elt F) → (⟨S2x2048x8, .f32⟩ : BufTy).Contents (Elt F)),
    nullary main_cst_8 (constant S_ .f32 0x44000000#32),
    unary main_cst_8 main_v47 (broadcastInDim S2x2048x8 ![] bcast_S_S2x2048x8 : (⟨S_, .f32⟩ : BufTy).Contents (Elt F) → (⟨S2x2048x8, .f32⟩ : BufTy).Contents (Elt F)),
    binary main_v46 main_v47 main_v48 (cmpf .olt : (⟨S2x2048x8, .f32⟩ : BufTy).Contents (Elt F) → (⟨S2x2048x8, .f32⟩ : BufTy).Contents (Elt F) → (⟨S2x2048x8, .i1⟩ : BufTy).Contents (Elt F)),
    unary main_v48 main_v49 (uitofp .f32 : (⟨S2x2048x8, .i1⟩ : BufTy).Contents (Elt F) → (⟨S2x2048x8, .f32⟩ : BufTy).Contents (Elt F)),
    binary main_v43 main_v49 main_v50 (mulf : (⟨S2x2048x8, .f32⟩ : BufTy).Contents (Elt F) → (⟨S2x2048x8, .f32⟩ : BufTy).Contents (Elt F) → (⟨S2x2048x8, .f32⟩ : BufTy).Contents (Elt F)),
    binary main_v46 main_v50 main_v51 (mulf : (⟨S2x2048x8, .f32⟩ : BufTy).Contents (Elt F) → (⟨S2x2048x8, .f32⟩ : BufTy).Contents (Elt F) → (⟨S2x2048x8, .f32⟩ : BufTy).Contents (Elt F)),
    nullary main_cst_9 (constant S_ .f32 0x00000000#32),
    binary main_v51 main_cst_9 main_v52 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v52 main_v53 (fptosi 32 : (⟨S2x2048, .f32⟩ : BufTy).Contents (Elt F) → (⟨S2x2048, .i32⟩ : BufTy).Contents (Elt F)),
    unary main_v53 main_v54 (broadcastInDim S2x2048x1 ![0, 1] bcast_S2x2048_S2x2048x1_0_1 : (⟨S2x2048, .i32⟩ : BufTy).Contents (Elt F) → (⟨S2x2048x1, .i32⟩ : BufTy).Contents (Elt F)),
    nullary main_c_10 (constantI S_ 32 512#32),
    unary main_c_10 main_v55 (broadcastInDim S2x2048x1 ![] bcast_S_S2x2048x1 : (⟨S_, .i32⟩ : BufTy).Contents (Elt F) → (⟨S2x2048x1, .i32⟩ : BufTy).Contents (Elt F)),
    binary main_v54 main_v55 main_v56 (cmpi .slt : (⟨S2x2048x1, .i32⟩ : BufTy).Contents (Elt F) → (⟨S2x2048x1, .i32⟩ : BufTy).Contents (Elt F) → (⟨S2x2048x1, .i1⟩ : BufTy).Contents (Elt F)),
    unary main_v56 main_v57 (uitofp .f32 : (⟨S2x2048x1, .i1⟩ : BufTy).Contents (Elt F) → (⟨S2x2048x1, .f32⟩ : BufTy).Contents (Elt F)),
    unary main_v57 main_v58 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v50 main_v58 main_v59 (mulf : (⟨S2x2048x8, .f32⟩ : BufTy).Contents (Elt F) → (⟨S2x2048x8, .f32⟩ : BufTy).Contents (Elt F) → (⟨S2x2048x8, .f32⟩ : BufTy).Contents (Elt F)) ]

/-- which write these. -/
def slotsRefs : List (Ref sig .tc) :=
  [main_v45, main_v46, main_cst_8, main_v47, main_v48, main_v49, main_v50, main_v51, main_cst_9, main_v52, main_v53, main_v54, main_c_10, main_v55, main_v56, main_v57, main_v58, main_v59]

/-- Everything else is kept. -/
theorem slots_keeps (r : Ref sig .tc) (h : r ∉ slotsRefs) (M : Valuation τ sig (Elt F)) :
    after slotsOps M (Proc.devRef .tc r) = M (Proc.devRef .tc r) :=
  after_of_writes_sub slotsOps M (forall_writes_sub_of_map rfl) h

set_option maxHeartbeats 4000000 in
theorem slots_v50_after (M : Valuation τ sig (Elt F)) :
    after slotsOps M (Proc.devRef .tc main_v50) = Cert.GateRefIdeal.Value.slots_v50 (F := F) (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

set_option maxHeartbeats 4000000 in
theorem slots_v52_after (M : Valuation τ sig (Elt F)) :
    after slotsOps M (Proc.devRef .tc main_v52) = Cert.GateRefIdeal.Value.slots_v52 (F := F) (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

set_option maxHeartbeats 4000000 in
theorem slots_v59_after (M : Valuation τ sig (Elt F)) :
    after slotsOps M (Proc.devRef .tc main_v59) = Cert.GateRefIdeal.Value.slots_v59 (F := F) (M (Proc.devRef .tc main_v44)) (M (Proc.devRef .tc main_v43)) := by
  simp only [slotsOps, TRef.binary, TRef.nullary, TRef.unary, TRef.ternary, TRef.quaternary, TRef.reshape, TRef.toBuf, TRef.ofBuf, cast_eq]; after_results_simp <;> rfl

/-- Operations 151 to 182: the four results, -/
def lossOps : List (HloOp τ sig (Elt F)) :=
  [ nullary main_cst_11 (constant S_ .f32 0x00000000#32),
    binary main_v50 main_cst_11 main_v60 ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)),
    nullary main_cst_12 (constant S_ .f32 0x45000000#32),
    unary main_cst_12 main_v61 (broadcastInDim S2x8 ![] bcast_S_S2x8 : (⟨S_, .f32⟩ : BufTy).Contents (Elt F) → (⟨S2x8, .f32⟩ : BufTy).Contents (Elt F)),
    binary main_v60 main_v61 main_v62 (Host.divf : (⟨S2x8, .f32⟩ : BufTy).Contents (Elt F) → (⟨S2x8, .f32⟩ : BufTy).Contents (Elt F) → (⟨S2x8, .f32⟩ : BufTy).Contents (Elt F)),
    nullary main_cst_13 (constant S_ .f32 0x00000000#32),
    binary main_v11 main_cst_13 main_v63 ((fun x v => Host.reduceAdd x v reducesTo_S2x2048x8_S2x8_d1 h_S_) : (⟨S2x2048x8, .f32⟩ : BufTy).Contents (Elt F) → (⟨S_, .f32⟩ : BufTy).Contents (Elt F) → (⟨S2x8, .f32⟩ : BufTy).Contents (Elt F)),
    nullary main_cst_14 (constant S_ .f32 0x45000000#32),
    unary main_cst_14 main_v64 (broadcastInDim S2x8 ![] bcast_S_S2x8 : (⟨S_, .f32⟩ : BufTy).Contents (Elt F) → (⟨S2x8, .f32⟩ : BufTy).Contents (Elt F)),
    binary main_v63 main_v64 main_v65 (Host.divf : (⟨S2x8, .f32⟩ : BufTy).Contents (Elt F) → (⟨S2x8, .f32⟩ : BufTy).Contents (Elt F) → (⟨S2x8, .f32⟩ : BufTy).Contents (Elt F)),
    binary main_v65 main_v62 main_v66 (mulf : (⟨S2x8, .f32⟩ : BufTy).Contents (Elt F) → (⟨S2x8, .f32⟩ : BufTy).Contents (Elt F) → (⟨S2x8, .f32⟩ : BufTy).Contents (Elt F)),
    nullary main_cst_15 (constant S_ .f32 0x00000000#32),
    binary main_v66 main_cst_15 main_v67 ((fun x v => Host.reduceAdd x v reducesTo_S2x8_S_d0_1 h_S_) : (⟨S2x8, .f32⟩ : BufTy).Contents (Elt F) → (⟨S_, .f32⟩ : BufTy).Contents (Elt F) → (⟨S_, .f32⟩ : BufTy).Contents (Elt F)),
    nullary main_cst_16 (constant S_ .f32 0x41800000#32),
    binary main_v67 main_cst_16 main_v68 (Host.divf : (⟨S_, .f32⟩ : BufTy).Contents (Elt F) → (⟨S_, .f32⟩ : BufTy).Contents (Elt F) → (⟨S_, .f32⟩ : BufTy).Contents (Elt F)),
    nullary main_cst_17 (constant S_ .f32 0x42800000#32),
    binary main_v68 main_cst_17 main_v69 (mulf : (⟨S_, .f32⟩ : BufTy).Contents (Elt F) → (⟨S_, .f32⟩ : BufTy).Contents (Elt F) → (⟨S_, .f32⟩ : BufTy).Contents (Elt F)),
    unary main_v24 main_v70 (sitofp .f32 : (⟨S2x2048, .i32⟩ : BufTy).Contents (Elt F) → (⟨S2x2048, .f32⟩ : BufTy).Contents (Elt F)),
    nullary main_cst_18 (constant S_ .f32 0x00000000#32),
    binary main_v70 main_cst_18 main_v71 ((fun x v => Host.reduceAdd x v reducesTo_S2x2048_S_d0_1 h_S_) : (⟨S2x2048, .f32⟩ : BufTy).Contents (Elt F) → (⟨S_, .f32⟩ : BufTy).Contents (Elt F) → (⟨S_, .f32⟩ : BufTy).Contents (Elt F)),
    nullary main_cst_19 (constant S_ .f32 0x45800000#32),
    binary main_v71 main_cst_19 main_v72 (Host.divf : (⟨S_, .f32⟩ : BufTy).Contents (Elt F) → (⟨S_, .f32⟩ : BufTy).Contents (Elt F) → (⟨S_, .f32⟩ : BufTy).Contents (Elt F)),
    nullary main_cst_20 (constant S_ .f32 0x00000000#32),
    binary main_cst_20 main_v72 main_v73 (mulf : (⟨S_, .f32⟩ : BufTy).Contents (Elt F) → (⟨S_, .f32⟩ : BufTy).Contents (Elt F) → (⟨S_, .f32⟩ : BufTy).Contents (Elt F)),
    binary main_v69 main_v73 main_v74 (addf : (⟨S_, .f32⟩ : BufTy).Contents (Elt F) → (⟨S_, .f32⟩ : BufTy).Contents (Elt F) → (⟨S_, .f32⟩ : BufTy).Contents (Elt F)),
    binary main_v42 main_v59 main_v75 (mulf : (⟨S2x2048x8, .f32⟩ : BufTy).Contents (Elt F) → (⟨S2x2048x8, .f32⟩ : BufTy).Contents (Elt F) → (⟨S2x2048x8, .f32⟩ : BufTy).Contents (Elt F)),
    reshape main_v75 main_v76 (rfl : (.f32 : EltTy) = .f32) shapeCasts_S2x2048x8_S4096x8,
    reshape main_v59 main_v77 (rfl : (.f32 : EltTy) = .f32) shapeCasts_S2x2048x8_S4096x8,
    reshape main_v52 main_v78 (rfl : (.f32 : EltTy) = .f32) shapeCasts_S2x2048_S4096x1,
    nullary main_cst_21 (constant S_ .f32 0x3C23D70A#32),
    binary main_v74 main_cst_21 main_v79 (mulf : (⟨S_, .f32⟩ : BufTy).Contents (Elt F) → (⟨S_, .f32⟩ : BufTy).Contents (Elt F) → (⟨S_, .f32⟩ : BufTy).Contents (Elt F)),
    reshape main_v79 main_v80 (rfl : (.f32 : EltTy) = .f32) shapeCasts_S_S1x1 ]

/-- which write these. -/
def lossRefs : List (Ref sig .tc) :=
  [main_cst_11, main_v60, main_cst_12, main_v61, main_v62, main_cst_13, main_v63, main_cst_14, main_v64, main_v65, main_v66, main_cst_15, main_v67, main_cst_16, main_v68, main_cst_17, main_v69, main_v70, main_cst_18, main_v71, main_cst_19, main_v72, main_cst_20, main_v73, main_v74, main_v75, main_v76, main_v77, main_v78, main_cst_21, main_v79, main_v80]

/-- Everything else is kept. -/
theorem loss_keeps (r : Ref sig .tc) (h : r ∉ lossRefs) (M : Valuation τ sig (Elt F)) :
    after lossOps M (Proc.devRef .tc r) = M (Proc.devRef .tc r) :=
  after_of_writes_sub lossOps M (forall_writes_sub_of_map rfl) h

set_option maxHeartbeats 4000000 in
theorem loss_v76_after (M : Valuation τ sig (Elt F)) :
    after lossOps M (Proc.devRef .tc main_v76) = Cert.GateRefIdeal.Value.loss_v76 (F := F) (M (Proc.devRef .tc main_v42)) (M (Proc.devRef .tc main_v59)) := by
  simp only [lossOps, TRef.binary, TRef.nullary, TRef.unary, TRef.ternary, TRef.quaternary, TRef.reshape, TRef.toBuf, TRef.ofBuf, cast_eq]; after_results_simp <;> rfl

set_option maxHeartbeats 4000000 in
theorem loss_v77_after (M : Valuation τ sig (Elt F)) :
    after lossOps M (Proc.devRef .tc main_v77) = Cert.GateRefIdeal.Value.loss_v77 (F := F) (M (Proc.devRef .tc main_v59)) := by
  simp only [lossOps, TRef.binary, TRef.nullary, TRef.unary, TRef.ternary, TRef.quaternary, TRef.reshape, TRef.toBuf, TRef.ofBuf, cast_eq]; after_results_simp <;> rfl

set_option maxHeartbeats 4000000 in
theorem loss_v78_after (M : Valuation τ sig (Elt F)) :
    after lossOps M (Proc.devRef .tc main_v78) = Cert.GateRefIdeal.Value.loss_v78 (F := F) (M (Proc.devRef .tc main_v52)) := by
  simp only [lossOps, TRef.binary, TRef.nullary, TRef.unary, TRef.ternary, TRef.quaternary, TRef.reshape, TRef.toBuf, TRef.ofBuf, cast_eq]; after_results_simp <;> rfl

set_option maxHeartbeats 4000000 in
theorem loss_v80_after (M : Valuation τ sig (Elt F)) :
    after lossOps M (Proc.devRef .tc main_v80) = Cert.GateRefIdeal.Value.loss_v80 (F := F) (M (Proc.devRef .tc main_v50)) (M (Proc.devRef .tc main_v11)) (M (Proc.devRef .tc main_v24)) := by
  simp only [lossOps, TRef.binary, TRef.nullary, TRef.unary, TRef.ternary, TRef.quaternary, TRef.reshape, TRef.toBuf, TRef.ofBuf, cast_eq]; after_results_simp <;> rfl

/-- Operations 183 to 218: the expert layers, -/
def expertsOps : List (HloOp τ sig (Elt F)) :=
  [ reshape main_v76 main_v81 (rfl : (.f32 : EltTy) = .f32) shapeCasts_S4096x8_S2x2048x8,
    reshape main_v77 main_v82 (rfl : (.f32 : EltTy) = .f32) shapeCasts_S4096x8_S2x2048x8,
    reshape main_v78 main_v83 (rfl : (.f32 : EltTy) = .f32) shapeCasts_S4096x1_S2x2048,
    unary main_v83 main_v84 (fptosi 32 : (⟨S2x2048, .f32⟩ : BufTy).Contents (Elt F) → (⟨S2x2048, .i32⟩ : BufTy).Contents (Elt F)),
    TRef.unary (TRef.of (T := ⟨S2x2048, .i32⟩) main_v84) (TRef.of (T := ⟨S2x2048x1, .i32⟩) main_call9_v0) (broadcastInDim S2x2048x1 ![0, 1] bcast_S2x2048_S2x2048x1_0_1),
    TRef.nullary (TRef.of (T := ⟨S1x1x512, .i32⟩) main_call9_v1) (iotaInDim S1x1x512 32 2),
    TRef.unary (TRef.of (T := ⟨S2x2048x1, .i32⟩) main_call9_v0) (TRef.of (T := ⟨S2x2048x512, .i32⟩) main_call9_v2) (broadcastInDim S2x2048x512 ![0, 1, 2] bcast_S2x2048x1_S2x2048x512_0_1_2),
    TRef.unary (TRef.of (T := ⟨S1x1x512, .i32⟩) main_call9_v1) (TRef.of (T := ⟨S2x2048x512, .i32⟩) main_call9_v3) (broadcastInDim S2x2048x512 ![0, 1, 2] bcast_S1x1x512_S2x2048x512_0_1_2),
    TRef.binary (TRef.of (T := ⟨S2x2048x512, .i32⟩) main_call9_v2) (TRef.of (T := ⟨S2x2048x512, .i32⟩) main_call9_v3) (TRef.of (T := ⟨S2x2048x512, .i1⟩) main_call9_v4) (cmpi .eq),
    TRef.unary (TRef.of (T := ⟨S2x2048x512, .i1⟩) main_call9_v4) (TRef.of (T := ⟨S2x2048x512, .f32⟩) main_v85) (uitofp .f32),
    unary main_v82 main_v86 (broadcastInDim S2x2048x8x1 ![0, 1, 2] bcast_S2x2048x8_S2x2048x8x1_0_1_2 : (⟨S2x2048x8, .f32⟩ : BufTy).Contents (Elt F) → (⟨S2x2048x8x1, .f32⟩ : BufTy).Contents (Elt F)),
    unary main_v85 main_v87 (broadcastInDim S2x2048x1x512 ![0, 1, 3] bcast_S2x2048x512_S2x2048x1x512_0_1_3 : (⟨S2x2048x512, .f32⟩ : BufTy).Contents (Elt F) → (⟨S2x2048x1x512, .f32⟩ : BufTy).Contents (Elt F)),
    unary main_v86 main_v88 (broadcastInDim S2x2048x8x512 ![0, 1, 2, 3] bcast_S2x2048x8x1_S2x2048x8x512_0_1_2_3 : (⟨S2x2048x8x1, .f32⟩ : BufTy).Contents (Elt F) → (⟨S2x2048x8x512, .f32⟩ : BufTy).Contents (Elt F)),
    unary main_v87 main_v89 (broadcastInDim S2x2048x8x512 ![0, 1, 2, 3] bcast_S2x2048x1x512_S2x2048x8x512_0_1_2_3 : (⟨S2x2048x1x512, .f32⟩ : BufTy).Contents (Elt F) → (⟨S2x2048x8x512, .f32⟩ : BufTy).Contents (Elt F)),
    binary main_v88 main_v89 main_v90 (mulf : (⟨S2x2048x8x512, .f32⟩ : BufTy).Contents (Elt F) → (⟨S2x2048x8x512, .f32⟩ : BufTy).Contents (Elt F) → (⟨S2x2048x8x512, .f32⟩ : BufTy).Contents (Elt F)),
    unary main_v81 main_v91 (broadcastInDim S2x2048x8x1 ![0, 1, 2] bcast_S2x2048x8_S2x2048x8x1_0_1_2 : (⟨S2x2048x8, .f32⟩ : BufTy).Contents (Elt F) → (⟨S2x2048x8x1, .f32⟩ : BufTy).Contents (Elt F)),
    unary main_v85 main_v92 (broadcastInDim S2x2048x1x512 ![0, 1, 3] bcast_S2x2048x512_S2x2048x1x512_0_1_3 : (⟨S2x2048x512, .f32⟩ : BufTy).Contents (Elt F) → (⟨S2x2048x1x512, .f32⟩ : BufTy).Contents (Elt F)),
    unary main_v91 main_v93 (broadcastInDim S2x2048x8x512 ![0, 1, 2, 3] bcast_S2x2048x8x1_S2x2048x8x512_0_1_2_3 : (⟨S2x2048x8x1, .f32⟩ : BufTy).Contents (Elt F) → (⟨S2x2048x8x512, .f32⟩ : BufTy).Contents (Elt F)),
    unary main_v92 main_v94 (broadcastInDim S2x2048x8x512 ![0, 1, 2, 3] bcast_S2x2048x1x512_S2x2048x8x512_0_1_2_3 : (⟨S2x2048x1x512, .f32⟩ : BufTy).Contents (Elt F) → (⟨S2x2048x8x512, .f32⟩ : BufTy).Contents (Elt F)),
    binary main_v93 main_v94 main_v95 (mulf : (⟨S2x2048x8x512, .f32⟩ : BufTy).Contents (Elt F) → (⟨S2x2048x8x512, .f32⟩ : BufTy).Contents (Elt F) → (⟨S2x2048x8x512, .f32⟩ : BufTy).Contents (Elt F)),
    binary main_v90 main_arg0 main_v96 ((fun l r => Host.dotGeneral dot_S2x2048x8x512_S2x2048x1024_S2x8x512x1024_1_1_23_2_0_0 none l r) : (⟨S2x2048x8x512, .f32⟩ : BufTy).Contents (Elt F) → (⟨S2x2048x1024, .f32⟩ : BufTy).Contents (Elt F) → (⟨S2x8x512x1024, .f32⟩ : BufTy).Contents (Elt F)),
    unary main_v96 main_v97 ((transpose S8x2x512x1024 [1, 0, 2, 3] · transposes_S2x8x512x1024_S8x2x512x1024_1_0_2_3) : (⟨S2x8x512x1024, .f32⟩ : BufTy).Contents (Elt F) → (⟨S8x2x512x1024, .f32⟩ : BufTy).Contents (Elt F)),
    reshape main_v97 main_v98 (rfl : (.f32 : EltTy) = .f32) shapeCasts_S8x2x512x1024_S8x1024x1024,
    binary main_v98 main_arg2 main_v99 ((fun l r => Host.dotGeneral dot_S8x1024x1024_S8x1024x4096_S8x1024x4096_2_1_1_2_0_0 none l r) : (⟨S8x1024x1024, .f32⟩ : BufTy).Contents (Elt F) → (⟨S8x1024x4096, .f32⟩ : BufTy).Contents (Elt F) → (⟨S8x1024x4096, .f32⟩ : BufTy).Contents (Elt F)),
    nullary main_cst_22 (constant S_ .f32 0x3F000000#32),
    unary main_cst_22 main_v100 (broadcastInDim S8x1024x4096 ![] bcast_S_S8x1024x4096 : (⟨S_, .f32⟩ : BufTy).Contents (Elt F) → (⟨S8x1024x4096, .f32⟩ : BufTy).Contents (Elt F)),
    binary main_v100 main_v99 main_v101 (mulf : (⟨S8x1024x4096, .f32⟩ : BufTy).Contents (Elt F) → (⟨S8x1024x4096, .f32⟩ : BufTy).Contents (Elt F) → (⟨S8x1024x4096, .f32⟩ : BufTy).Contents (Elt F)),
    unary main_v99 main_v102 (Host.negf : (⟨S8x1024x4096, .f32⟩ : BufTy).Contents (Elt F) → (⟨S8x1024x4096, .f32⟩ : BufTy).Contents (Elt F)),
    nullary main_cst_23 (constant S_ .f32 0x3F3504F3#32),
    unary main_cst_23 main_v103 (broadcastInDim S8x1024x4096 ![] bcast_S_S8x1024x4096 : (⟨S_, .f32⟩ : BufTy).Contents (Elt F) → (⟨S8x1024x4096, .f32⟩ : BufTy).Contents (Elt F)),
    binary main_v102 main_v103 main_v104 (mulf : (⟨S8x1024x4096, .f32⟩ : BufTy).Contents (Elt F) → (⟨S8x1024x4096, .f32⟩ : BufTy).Contents (Elt F) → (⟨S8x1024x4096, .f32⟩ : BufTy).Contents (Elt F)),
    unary main_v104 main_v105 (Host.erfc : (⟨S8x1024x4096, .f32⟩ : BufTy).Contents (Elt F) → (⟨S8x1024x4096, .f32⟩ : BufTy).Contents (Elt F)),
    binary main_v101 main_v105 main_v106 (mulf : (⟨S8x1024x4096, .f32⟩ : BufTy).Contents (Elt F) → (⟨S8x1024x4096, .f32⟩ : BufTy).Contents (Elt F) → (⟨S8x1024x4096, .f32⟩ : BufTy).Contents (Elt F)),
    binary main_v106 main_arg3 main_v107 ((fun l r => Host.dotGeneral dot_S8x1024x4096_S8x4096x1024_S8x1024x1024_2_1_1_2_0_0 none l r) : (⟨S8x1024x4096, .f32⟩ : BufTy).Contents (Elt F) → (⟨S8x4096x1024, .f32⟩ : BufTy).Contents (Elt F) → (⟨S8x1024x1024, .f32⟩ : BufTy).Contents (Elt F)),
    reshape main_v107 main_v108 (rfl : (.f32 : EltTy) = .f32) shapeCasts_S8x1024x1024_S8x2x512x1024,
    binary main_v95 main_v108 main_v109 ((fun l r => Host.dotGeneral dot_S2x2048x8x512_S8x2x512x1024_S2x2048x1024_32_20_1_3_0_1 none l r) : (⟨S2x2048x8x512, .f32⟩ : BufTy).Contents (Elt F) → (⟨S8x2x512x1024, .f32⟩ : BufTy).Contents (Elt F) → (⟨S2x2048x1024, .f32⟩ : BufTy).Contents (Elt F)) ]

/-- which write these. -/
def expertsRefs : List (Ref sig .tc) :=
  [main_v81, main_v82, main_v83, main_v84, main_call9_v0, main_call9_v1, main_call9_v2, main_call9_v3, main_call9_v4, main_v85, main_v86, main_v87, main_v88, main_v89, main_v90, main_v91, main_v92, main_v93, main_v94, main_v95, main_v96, main_v97, main_v98, main_v99, main_cst_22, main_v100, main_v101, main_v102, main_cst_23, main_v103, main_v104, main_v105, main_v106, main_v107, main_v108, main_v109]

/-- Everything else is kept. -/
theorem experts_keeps (r : Ref sig .tc) (h : r ∉ expertsRefs) (M : Valuation τ sig (Elt F)) :
    after expertsOps M (Proc.devRef .tc r) = M (Proc.devRef .tc r) :=
  after_of_writes_sub expertsOps M (forall_writes_sub_of_map rfl) h

set_option maxHeartbeats 4000000 in
theorem experts_v109_after (M : Valuation τ sig (Elt F)) :
    after expertsOps M (Proc.devRef .tc main_v109) = Cert.FfnRefIdeal.Read.val_main_v28 (F := F) (M (Proc.devRef .tc main_arg0)) (M (Proc.devRef .tc main_v76)) (M (Proc.devRef .tc main_v77)) (M (Proc.devRef .tc main_v78)) (M (Proc.devRef .tc main_arg2)) (M (Proc.devRef .tc main_arg3)) := by
  simp only [expertsOps, TRef.binary, TRef.nullary, TRef.unary, TRef.ternary, TRef.quaternary, TRef.reshape, TRef.toBuf, TRef.ofBuf, cast_eq]; after_results_simp <;> rfl

/-- Operations 219 to 219: the loss as a scalar, -/
def finOps : List (HloOp τ sig (Elt F)) :=
  [ reshape main_v80 main_v110 (rfl : (.f32 : EltTy) = .f32) shapeCasts_S1x1_S_ ]

/-- which write these. -/
def finRefs : List (Ref sig .tc) :=
  [main_v110]

/-- Everything else is kept. -/
theorem fin_keeps (r : Ref sig .tc) (h : r ∉ finRefs) (M : Valuation τ sig (Elt F)) :
    after finOps M (Proc.devRef .tc r) = M (Proc.devRef .tc r) :=
  after_of_writes_sub finOps M (forall_writes_sub_of_map rfl) h

set_option maxHeartbeats 4000000 in
theorem fin_v110_after (M : Valuation τ sig (Elt F)) :
    after finOps M (Proc.devRef .tc main_v110) = shapeCast S_ (M (Proc.devRef .tc main_v80) : (⟨S1x1, .f32⟩ : BufTy).Contents (Elt F)) shapeCasts_S1x1_S_ := by
  simp only [finOps, TRef.binary, TRef.nullary, TRef.unary, TRef.ternary, TRef.quaternary, TRef.reshape, TRef.toBuf, TRef.ofBuf, cast_eq]; after_results_simp <;> rfl

/-- All operations, in order. -/
def ops : List (HloOp τ sig (Elt F)) :=
  softmaxOps ++ (orderOps ++ (sortedOps ++ (cumOps ++ (countOps ++ (capOps ++ (chosenOps ++ (rankOps ++ (normOps ++ (maskOps ++ (tallyOps ++ (slotsOps ++ (lossOps ++ (expertsOps ++ (finOps))))))))))))))

end Cert.ReferenceIdeal.Layer

end
-- ==== Proof.LayerRef.lean ====
/- The whole reference's run: its two results as the gating reference's four results through the expert layers and the
   reshape of the loss, its arguments unchanged. -/
module

public import proofs.«01_k».proof.Proof.LayerRefOps
public import proofs.«01_k».proof.Proof.GateRun

@[expose] public section

set_option maxRecDepth 65536

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- A list run after another starts from what the first leaves. -/
theorem after_append_list (l₁ l₂ : List (HloOp τ sig (Elt F))) (M : Valuation τ sig (Elt F)) :
    after (l₁ ++ l₂) M = after l₂ (after l₁ M) := by
  induction l₁ generalizing M with
  | nil => rfl
  | cons op l ih => exact ih _

/-- The gate's operations, in order. -/
def gateOps : List (HloOp τ sig (Elt F)) :=
  softmaxOps ++ (orderOps ++ (sortedOps ++ (cumOps ++ (countOps ++ (capOps ++ (chosenOps ++ (rankOps ++ (normOps ++ (maskOps ++ (tallyOps ++ (slotsOps ++ (lossOps))))))))))))

theorem ops_eq : (ops : List (HloOp τ sig (Elt F))) = gateOps ++ (expertsOps ++ finOps) := by
  simp only [ops, gateOps, List.append_assoc]

/-- The gate's operations leave the gating reference's result in `%76`. -/
theorem gate_v76 (M : Valuation τ sig (Elt F)) : after gateOps M (Proc.devRef .tc main_v76) = Cert.GateRefIdeal.Value.r76 (F := F) (M (Proc.devRef .tc main_arg0)) (M (Proc.devRef .tc main_arg1)) := by
  simp only [gateOps, after_append_list]
  rw [loss_v76_after,
    slots_keeps main_v42 (by decide),
    slots_v59_after,
    tally_keeps main_v42 (by decide),
    tally_v44_after,
    tally_keeps main_v43 (by decide),
    mask_keeps main_v42 (by decide),
    mask_v43_after,
    norm_v42_after,
    norm_keeps main_v41 (by decide),
    norm_keeps main_v35 (by decide),
    rank_v41_after,
    rank_keeps main_v40 (by decide),
    rank_keeps main_v35 (by decide),
    chosen_keeps main_v13 (by decide),
    chosen_v40_after,
    chosen_v35_after,
    cap_keeps main_v13 (by decide),
    cap_v28_after,
    cap_keeps main_v14 (by decide),
    count_keeps main_v13 (by decide),
    count_v24_after,
    count_keeps main_v14 (by decide),
    cum_keeps main_v13 (by decide),
    cum_v15_after,
    cum_keeps main_v14 (by decide),
    sorted_keeps main_v13 (by decide),
    sorted_v14_after,
    order_v13_after,
    order_keeps main_v11 (by decide),
    softmax_v12_after,
    softmax_v11_after]
  simp only [Cert.GateRefIdeal.Value.r76, Cert.GateRefIdeal.Value.r59, Cert.GateRefIdeal.Value.r44, Cert.GateRefIdeal.Value.r43, Cert.GateRefIdeal.Value.r42, Cert.GateRefIdeal.Value.r41, Cert.GateRefIdeal.Value.r40, Cert.GateRefIdeal.Value.r35, Cert.GateRefIdeal.Value.r28, Cert.GateRefIdeal.Value.r24, Cert.GateRefIdeal.Value.r15, Cert.GateRefIdeal.Value.r14, Cert.GateRefIdeal.Value.r13, Cert.GateRefIdeal.Value.r12, Cert.GateRefIdeal.Value.r11]

/-- The gate's operations leave the gating reference's result in `%77`. -/
theorem gate_v77 (M : Valuation τ sig (Elt F)) : after gateOps M (Proc.devRef .tc main_v77) = Cert.GateRefIdeal.Value.r77 (F := F) (M (Proc.devRef .tc main_arg0)) (M (Proc.devRef .tc main_arg1)) := by
  simp only [gateOps, after_append_list]
  rw [loss_v77_after,
    slots_v59_after,
    tally_v44_after,
    tally_keeps main_v43 (by decide),
    mask_v43_after,
    norm_keeps main_v41 (by decide),
    norm_keeps main_v35 (by decide),
    rank_v41_after,
    rank_keeps main_v35 (by decide),
    chosen_keeps main_v13 (by decide),
    chosen_v35_after,
    cap_keeps main_v13 (by decide),
    cap_v28_after,
    count_keeps main_v13 (by decide),
    count_v24_after,
    cum_keeps main_v13 (by decide),
    cum_v15_after,
    sorted_keeps main_v13 (by decide),
    sorted_v14_after,
    order_v13_after,
    order_keeps main_v11 (by decide),
    softmax_v12_after,
    softmax_v11_after]
  simp only [Cert.GateRefIdeal.Value.r77, Cert.GateRefIdeal.Value.r59, Cert.GateRefIdeal.Value.r44, Cert.GateRefIdeal.Value.r43, Cert.GateRefIdeal.Value.r41, Cert.GateRefIdeal.Value.r35, Cert.GateRefIdeal.Value.r28, Cert.GateRefIdeal.Value.r24, Cert.GateRefIdeal.Value.r15, Cert.GateRefIdeal.Value.r14, Cert.GateRefIdeal.Value.r13, Cert.GateRefIdeal.Value.r12, Cert.GateRefIdeal.Value.r11]

/-- The gate's operations leave the gating reference's result in `%78`. -/
theorem gate_v78 (M : Valuation τ sig (Elt F)) : after gateOps M (Proc.devRef .tc main_v78) = Cert.GateRefIdeal.Value.r78 (F := F) (M (Proc.devRef .tc main_arg0)) (M (Proc.devRef .tc main_arg1)) := by
  simp only [gateOps, after_append_list]
  rw [loss_v78_after,
    slots_v52_after,
    tally_v44_after,
    tally_keeps main_v43 (by decide),
    mask_v43_after,
    norm_keeps main_v41 (by decide),
    norm_keeps main_v35 (by decide),
    rank_v41_after,
    rank_keeps main_v35 (by decide),
    chosen_keeps main_v13 (by decide),
    chosen_v35_after,
    cap_keeps main_v13 (by decide),
    cap_v28_after,
    count_keeps main_v13 (by decide),
    count_v24_after,
    cum_keeps main_v13 (by decide),
    cum_v15_after,
    sorted_keeps main_v13 (by decide),
    sorted_v14_after,
    order_v13_after,
    order_keeps main_v11 (by decide),
    softmax_v12_after,
    softmax_v11_after]
  simp only [Cert.GateRefIdeal.Value.r78, Cert.GateRefIdeal.Value.r52, Cert.GateRefIdeal.Value.r44, Cert.GateRefIdeal.Value.r43, Cert.GateRefIdeal.Value.r41, Cert.GateRefIdeal.Value.r35, Cert.GateRefIdeal.Value.r28, Cert.GateRefIdeal.Value.r24, Cert.GateRefIdeal.Value.r15, Cert.GateRefIdeal.Value.r14, Cert.GateRefIdeal.Value.r13, Cert.GateRefIdeal.Value.r12, Cert.GateRefIdeal.Value.r11]

/-- The gate's operations leave the gating reference's result in `%80`. -/
theorem gate_v80 (M : Valuation τ sig (Elt F)) : after gateOps M (Proc.devRef .tc main_v80) = Cert.GateRefIdeal.Value.r80 (F := F) (M (Proc.devRef .tc main_arg0)) (M (Proc.devRef .tc main_arg1)) := by
  simp only [gateOps, after_append_list]
  rw [loss_v80_after,
    slots_v50_after,
    slots_keeps main_v11 (by decide),
    slots_keeps main_v24 (by decide),
    tally_v44_after,
    tally_keeps main_v43 (by decide),
    tally_keeps main_v11 (by decide),
    tally_keeps main_v24 (by decide),
    mask_v43_after,
    mask_keeps main_v11 (by decide),
    mask_keeps main_v24 (by decide),
    norm_keeps main_v41 (by decide),
    norm_keeps main_v35 (by decide),
    norm_keeps main_v11 (by decide),
    norm_keeps main_v24 (by decide),
    rank_v41_after,
    rank_keeps main_v35 (by decide),
    rank_keeps main_v11 (by decide),
    rank_keeps main_v24 (by decide),
    chosen_keeps main_v13 (by decide),
    chosen_v35_after,
    chosen_keeps main_v11 (by decide),
    chosen_keeps main_v24 (by decide),
    cap_keeps main_v13 (by decide),
    cap_v28_after,
    cap_keeps main_v11 (by decide),
    cap_keeps main_v24 (by decide),
    count_keeps main_v13 (by decide),
    count_v24_after,
    count_keeps main_v11 (by decide),
    cum_keeps main_v13 (by decide),
    cum_v15_after,
    cum_keeps main_v11 (by decide),
    sorted_keeps main_v13 (by decide),
    sorted_v14_after,
    sorted_keeps main_v11 (by decide),
    order_v13_after,
    order_keeps main_v11 (by decide),
    softmax_v12_after,
    softmax_v11_after]
  simp only [Cert.GateRefIdeal.Value.r80, Cert.GateRefIdeal.Value.r50, Cert.GateRefIdeal.Value.r44, Cert.GateRefIdeal.Value.r43, Cert.GateRefIdeal.Value.r41, Cert.GateRefIdeal.Value.r35, Cert.GateRefIdeal.Value.r28, Cert.GateRefIdeal.Value.r24, Cert.GateRefIdeal.Value.r15, Cert.GateRefIdeal.Value.r14, Cert.GateRefIdeal.Value.r13, Cert.GateRefIdeal.Value.r12, Cert.GateRefIdeal.Value.r11]

/-- The gate's operations keep the arguments. -/
theorem gate_keeps (r : Ref sig .tc) (h : r = main_arg0 ∨ r = main_arg1 ∨ r = main_arg2 ∨ r = main_arg3) (M : Valuation τ sig (Elt F)) :
    after gateOps M (Proc.devRef .tc r) = M (Proc.devRef .tc r) := by
  simp only [gateOps, after_append_list]
  rcases h with rfl | rfl | rfl | rfl <;>
    rw [loss_keeps _ (by decide),
      slots_keeps _ (by decide),
      tally_keeps _ (by decide),
      mask_keeps _ (by decide),
      norm_keeps _ (by decide),
      rank_keeps _ (by decide),
      chosen_keeps _ (by decide),
      cap_keeps _ (by decide),
      count_keeps _ (by decide),
      cum_keeps _ (by decide),
      sorted_keeps _ (by decide),
      order_keeps _ (by decide),
      softmax_keeps _ (by decide)]

/-- All the operations keep the arguments. -/
theorem ops_keeps (r : Ref sig .tc) (h : r = main_arg0 ∨ r = main_arg1 ∨ r = main_arg2 ∨ r = main_arg3) (M : Valuation τ sig (Elt F)) :
    after ops M (Proc.devRef .tc r) = M (Proc.devRef .tc r) := by
  rw [ops_eq, after_append_list, after_append_list]
  refine Eq.trans ?_ (gate_keeps r h M)
  rcases h with rfl | rfl | rfl | rfl <;> rw [fin_keeps _ (by decide), experts_keeps _ (by decide)]

/-- The first result, of the arguments. -/
def y (x : (⟨S2x2048x1024, .f32⟩ : BufTy).Contents (Elt F)) (w : (⟨S1024x8, .f32⟩ : BufTy).Contents (Elt F))
    (a : (⟨S8x1024x4096, .f32⟩ : BufTy).Contents (Elt F)) (b : (⟨S8x4096x1024, .f32⟩ : BufTy).Contents (Elt F)) :
    (⟨S2x2048x1024, .f32⟩ : BufTy).Contents (Elt F) :=
  Cert.FfnRefIdeal.Read.val_main_v28 (F := F) x (Cert.GateRefIdeal.Value.r76 (F := F) x w) (Cert.GateRefIdeal.Value.r77 (F := F) x w) (Cert.GateRefIdeal.Value.r78 (F := F) x w) a b

theorem ops_v109 (M : Valuation τ sig (Elt F)) : after ops M (Proc.devRef .tc main_v109)
    = y (F := F) (M (Proc.devRef .tc main_arg0)) (M (Proc.devRef .tc main_arg1)) (M (Proc.devRef .tc main_arg2)) (M (Proc.devRef .tc main_arg3)) := by
  rw [ops_eq, after_append_list, after_append_list, fin_keeps main_v109 (by decide), experts_v109_after,
    gate_v76, gate_v77, gate_v78, gate_keeps main_arg0 (by simp), gate_keeps main_arg2 (by simp), gate_keeps main_arg3 (by simp)]
  rfl

theorem ops_v110 (M : Valuation τ sig (Elt F)) : after ops M (Proc.devRef .tc main_v110)
    = shapeCast S_ (Cert.GateRefIdeal.Value.r80 (F := F) (M (Proc.devRef .tc main_arg0)) (M (Proc.devRef .tc main_arg1))) shapeCasts_S1x1_S_ := by
  rw [ops_eq, after_append_list, after_append_list, fin_v110_after, experts_keeps main_v80 (by decide), gate_v80]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩, ⟨nullary_bufs_sub .., binary_bufs_sub .., binary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub ..⟩, ⟨nullary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., binary_bufs_sub .., unary_bufs_sub .., nullary_bufs_sub .., unary_bufs_sub .., unary_bufs_sub .., ternary_bufs_sub ..⟩, ⟨nullary_bufs_sub .., binary_bufs_sub .., nullary_bufs_sub .., binary_bufs_sub .., unary_bufs_sub .., binary_bufs_sub ..⟩, ⟨nullary_bufs_sub .., unary_bufs_sub .., unary_bufs_sub .., unary_bufs_sub .., unary_bufs_sub .., binary_bufs_sub .., unary_bufs_sub .., binary_bufs_sub .., nullary_bufs_sub .., binary_bufs_sub .., unary_bufs_sub .., unary_bufs_sub .., binary_bufs_sub ..⟩, ⟨nullary_bufs_sub .., binary_bufs_sub .., binary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩, ⟨nullary_bufs_sub .., unary_bufs_sub .., binary_bufs_sub ..⟩, ⟨binary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., unary_bufs_sub .., binary_bufs_sub ..⟩, ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., binary_bufs_sub .., reshape_bufs_sub .., reshape_bufs_sub .., reshape_bufs_sub .., nullary_bufs_sub .., binary_bufs_sub .., reshape_bufs_sub ..⟩, ⟨reshape_bufs_sub .., reshape_bufs_sub .., reshape_bufs_sub .., unary_bufs_sub .., unary_bufs_sub .., nullary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., reshape_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., reshape_bufs_sub .., binary_bufs_sub ..⟩, reshape_bufs_sub ..⟩

/-- Every run of the reference ends with its two results the functions above of its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = y (F := F) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v110) = shapeCast S_ (Cert.GateRefIdeal.Value.r80 (F := F) (m ((c.tc : Thread nD τ).loc main_arg0))
        (m ((c.tc : Thread nD τ).loc main_arg1))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v109).trans (ops_v109 _), (h c main_v110).trans (ops_v110 _),
      (h c main_arg0).trans (ops_keeps _ (by simp) _), (h c main_arg1).trans (ops_keeps _ (by simp) _),
      (h c main_arg2).trans (ops_keeps _ (by simp) _), (h c main_arg3).trans (ops_keeps _ (by simp) _)⟩)
    (run_seq scopedRefs_eq scopedSems_eq defs main (fun _ => ops) main_eq (fun _ => ops_sub) m ρ)

end Cert.ReferenceIdeal.Layer

end
-- ==== Proof.LayerRouting.lean ====
/- The whole layer's first kernel call, read: its four arrays are the gate kernel's of the launch's tokens, hence, where no
   token has two experts of one probability, the gating reference's four results. -/
module

public import proofs.«01_k».proof.Proof.LayerRun
public import proofs.«01_k».proof.Proof.GateArray
public import proofs.«01_k».proof.Proof.GateRef

@[expose] public section

set_option maxRecDepth 16384

noncomputable section

namespace Cert.KernelIdeal.Layer

open Cert.KernelIdeal Cert.KernelIdeal.Gen Idealize.ShloMosaic Idealize.ShloMosaic.TcCoe Idealize.SL.Sem Cert.Moe

section Arrays

variable (V : (c : Dev nD) → (b : Ref sig .tc) → Buf (Elt Ideal) ((c : Thread nD τ).loc b))

/-- The first window's block is its array. -/
theorem tokens0 (c : Dev nD) (t : Fin cfg0.N) : iblk0 V c 0 t = V c main_v0 := by
  funext (y : S4096x1024.Idx)
  unfold iblk0
  rw [View.read_apply]
  show V c main_v0 _ = V c main_v0 y
  refine congrArg (V c main_v0 : Vec Ideal S4096x1024 .f32) (funext fun a => Fin.ext ?_)
  match a with
  | ⟨0, _⟩ => show 0 * 4096 + 1 * (y 0).val = (y 0).val; omega
  | ⟨1, _⟩ => show 0 * 1024 + 1 * (y 1).val = (y 1).val; omega

/-- The second window's block is its array. -/
theorem weights0 (c : Dev nD) (t : Fin cfg0.N) : iblk0 V c 1 t = V c main_arg1 := by
  funext (y : S1024x8.Idx)
  unfold iblk0
  rw [View.read_apply]
  show V c main_arg1 _ = V c main_arg1 y
  refine congrArg (V c main_arg1 : Vec Ideal S1024x8 .f32) (funext fun a => Fin.ext ?_)
  match a with
  | ⟨0, _⟩ => show 0 * 1024 + 1 * (y 0).val = (y 0).val; omega
  | ⟨1, _⟩ => show 0 * 8 + 1 * (y 1).val = (y 1).val; omega

/-- Output window 2's array after the call. -/
theorem array0_2 (c : Dev nD) : (dat0 V c).arrAt 2 cfg0.N = out0_2 (V c main_v0) (V c main_arg1) := by
  refine (dat0 V c).arrAt_eq_of_cover 2 _ (fun t hf => ?_) (fun i => ⟨t0_0, rfl, ?_⟩)
  · show (cfg0.win 2).cut (grid0.coords t) ((dat0 V c).after 2 t) = _
    rw [after0_2, tokens0, weights0]
    generalize out0_2 (V c main_v0) (V c main_arg1) = f
    funext (y : S4096x8.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 8 + 1 * (y 1).val; omega
  · show i ∈ ((View.whole main_v1_0).slice (win0_2.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 3's array after the call. -/
theorem array0_3 (c : Dev nD) : (dat0 V c).arrAt 3 cfg0.N = out0_3 (V c main_v0) (V c main_arg1) := by
  refine (dat0 V c).arrAt_eq_of_cover 3 _ (fun t hf => ?_) (fun i => ⟨t0_0, rfl, ?_⟩)
  · show (cfg0.win 3).cut (grid0.coords t) ((dat0 V c).after 3 t) = _
    rw [after0_3, tokens0, weights0]
    generalize out0_3 (V c main_v0) (V c main_arg1) = f
    funext (y : S4096x8.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 8 + 1 * (y 1).val; omega
  · show i ∈ ((View.whole main_v1_1).slice (win0_3.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 4's array after the call. -/
theorem array0_4 (c : Dev nD) : (dat0 V c).arrAt 4 cfg0.N = out0_4 (V c main_v0) (V c main_arg1) := by
  refine (dat0 V c).arrAt_eq_of_cover 4 _ (fun t hf => ?_) (fun i => ⟨t0_0, rfl, ?_⟩)
  · show (cfg0.win 4).cut (grid0.coords t) ((dat0 V c).after 4 t) = _
    rw [after0_4, tokens0, weights0]
    generalize out0_4 (V c main_v0) (V c main_arg1) = f
    funext (y : S4096x1.Idx)
    rw [View.read_apply]
    show f _ = f _
    refine congrArg f (funext fun a => Fin.ext ?_)
    match a with
    | ⟨0, _⟩ => show (y 0).val = 0 * 4096 + 1 * (y 0).val; omega
    | ⟨1, _⟩ => show (y 1).val = 0 * 1 + 1 * (y 1).val; omega
  · show i ∈ ((View.whole main_v1_2).slice (win0_4.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

/-- Output window 5's array after the call. -/
theorem array0_5 (c : Dev nD) : (dat0 V c).arrAt 5 cfg0.N = out0_5 (V c main_v0) (V c main_arg1) := by
  refine (dat0 V c).arrAt_eq_of_cover 5 _ (fun t hf => ?_) (fun i => ⟨t0_0, rfl, ?_⟩)
  · show (cfg0.win 5).cut (grid0.coords t) ((dat0 V c).after 5 t) = _
    rw [after0_5, tokens0, weights0]
    generalize out0_5 (V c main_v0) (V c main_arg1) = f
    funext (y : S1x1.Idx)
    rw [View.read_apply]
    show f _ = f _
    refine congrArg f (funext fun a => Fin.ext ?_)
    match a with
    | ⟨0, _⟩ => show (y 0).val = 0 * 1 + 1 * (y 0).val; omega
    | ⟨1, _⟩ => show (y 1).val = 0 * 1 + 1 * (y 1).val; omega
  · show i ∈ ((View.whole main_v1_3).slice (win0_5.rect t0_0)).set
    rw [View.set_slice_whole, Rect.mem_set_unit]
    intro a
    match a with
    | ⟨0, _⟩ => exact ⟨Nat.zero_le _, lt_of_lt_of_eq (i 0).isLt (by rfl)⟩
    | ⟨1, _⟩ => exact ⟨Nat.zero_le _, lt_of_lt_of_eq (i 1).isLt (by rfl)⟩

end Arrays

/-! ## The gate kernel's own blocks are the same functions -/

theorem same2 (x : Vec Ideal S4096x1024 .f32) (w : Vec Ideal S1024x8 .f32) : out0_2 x w = Cert.GateIdeal.Gen.out0_2 x w := rfl
theorem same3 (x : Vec Ideal S4096x1024 .f32) (w : Vec Ideal S1024x8 .f32) : out0_3 x w = Cert.GateIdeal.Gen.out0_3 x w := rfl
theorem same4 (x : Vec Ideal S4096x1024 .f32) (w : Vec Ideal S1024x8 .f32) : out0_4 x w = Cert.GateIdeal.Gen.out0_4 x w := rfl
theorem same5 (x : Vec Ideal S4096x1024 .f32) (w : Vec Ideal S1024x8 .f32) : out0_5 x w = Cert.GateIdeal.Gen.out0_5 x w := rfl

/-! ## Indices -/

/-- Every index of a `[4096, 8]` array is a token of a batch and an expert. -/
theorem idx_wide (y : (⟨2, ![4096, 8]⟩ : Shape).Idx) : ∃ (i : Fin 2) (n : Fin 2048) (j : Fin 8), y = ix2 (tok i n) j := by
  have h : (y 0).val < 4096 := (y 0).isLt
  refine ⟨⟨(y 0).val / 2048, by omega⟩, ⟨(y 0).val % 2048, by omega⟩, y 1, funext fun a => ?_⟩
  match a with
  | ⟨0, _⟩ => exact Fin.ext (by show (y 0).val = (y 0).val / 2048 * 2048 + (y 0).val % 2048; omega)
  | ⟨1, _⟩ => rfl

/-- Every index of a `[4096, 1]` array is a token of a batch. -/
theorem idx_column (y : (⟨2, ![4096, 1]⟩ : Shape).Idx) : ∃ (i : Fin 2) (n : Fin 2048), y = ix2 (tok i n) 0 := by
  have h : (y 0).val < 4096 := (y 0).isLt
  refine ⟨⟨(y 0).val / 2048, by omega⟩, ⟨(y 0).val % 2048, by omega⟩, funext fun a => ?_⟩
  match a with
  | ⟨0, _⟩ => exact Fin.ext (by show (y 0).val = (y 0).val / 2048 * 2048 + (y 0).val % 2048; omega)
  | ⟨1, _⟩ => exact Subsingleton.elim (α := Fin 1) _ _

/-- A `[1, 1]` array has one index. -/
theorem idx_one (y : (⟨2, ![1, 1]⟩ : Shape).Idx) : y = ix2 0 0 := funext fun a => by
  match a with
  | ⟨0, _⟩ => exact Subsingleton.elim (α := Fin 1) _ _
  | ⟨1, _⟩ => exact Subsingleton.elim (α := Fin 1) _ _

/-! ## The first call's results are the gating reference's -/

variable (m : (ℓ : Loc nD τ sig) → Buf (Elt Ideal) ℓ) (ρ : Dev nD → PrngReg)

/-- The launch's tokens -/
abbrev aX (c : Dev nD) : FVec Ideal S2x2048x1024 .f32 := m ((c : Thread nD τ).loc main_arg0)
/-- and gating weights. -/
abbrev aG (c : Dev nD) : FVec Ideal S1024x8 .f32 := m ((c : Thread nD τ).loc main_arg1)

/-- The list of tokens the first call reads is the batches one after the other. -/
theorem list_apply (c : Dev nD) (i : Fin 2) (n : Fin 2048) (d : Fin 1024) :
    (V1 m ρ c main_v0 : FVec Ideal S4096x1024 .f32) (ix2 (tok i n) d) = aX m c (ix3 i n d) := by
  have h : (V1 m ρ c main_v0 : FVec Ideal S4096x1024 .f32) = shapeCast S4096x1024 (aX m c) shapeCasts_S2x2048x1024_S4096x1024 := rfl
  rw [h]
  pointwise
  exact congrArg₂ (fun a b => aX m c (ix3 a b d))
    (Fin.ext (by show (i.val * 2048 + n.val) / 2048 = i.val; omega))
    (Fin.ext (by show (i.val * 2048 + n.val) % 2048 = n.val; omega))

/-- The gating weights it reads are the launch's. -/
theorem gating_eq (c : Dev nD) : V1 m ρ c main_arg1 = aG m c := W1_args m ρ c main_arg1 (by decide)

/-- Its probabilities are the reference's. -/
theorem prob_eq (c : Dev nD) : Cert.GateIdeal.Gate.prob (V1 m ρ c main_v0) (V1 m ρ c main_arg1) = Cert.GateRefIdeal.Value.prb (aX m c) (aG m c) := by
  funext i n
  rw [gating_eq]
  unfold Cert.GateIdeal.Gate.prob
  rw [Cert.GateIdeal.Gate.probs_eq]
  exact congrArg (soft _) (funext fun j => Finset.sum_congr rfl fun k _ =>
    congrArg₂ (fun a b : EReal => a * b) (list_apply m ρ c i n k) rfl)

section Distinct

variable (c : Dev nD) (hd : ∀ i n, Function.Injective (Cert.GateRefIdeal.Value.prb (aX m c) (aG m c) i n))
include hd

theorem sorts : ∀ i n, StrictAnti (Cert.GateIdeal.Gate.prob (V1 m ρ c main_v0) (V1 m ρ c main_arg1) i n ∘
    Cert.GateRefIdeal.Value.perm (aX m c) (aG m c) i n) := by
  rw [prob_eq]
  exact Cert.GateRefIdeal.Value.perm_strictAnti _ _ hd

/-- The gates. -/
theorem gates_eq : (W2 m ρ c (Proc.devRef .tc main_v1_0) : FVec Ideal S4096x8 .f32) = Cert.GateRefIdeal.Value.r76 (F := Ideal) (aX m c) (aG m c) := by
  refine ((W2_arr m ρ c 2).trans ((array0_2 _ c).trans (same2 _ _))).trans (funext fun y => ?_)
  obtain ⟨i, n, j, rfl⟩ := idx_wide y
  refine (Cert.GateIdeal.Gate.out2_apply _ _ _ (sorts m ρ c hd) i n j).trans (Eq.trans ?_ (Cert.GateRefIdeal.Value.r76_apply _ _ hd i n j).symm)
  rw [prob_eq]

/-- The validities. -/
theorem valid_eq : (W2 m ρ c (Proc.devRef .tc main_v1_1) : FVec Ideal S4096x8 .f32) = Cert.GateRefIdeal.Value.r77 (F := Ideal) (aX m c) (aG m c) := by
  refine ((W2_arr m ρ c 3).trans ((array0_3 _ c).trans (same3 _ _))).trans (funext fun y => ?_)
  obtain ⟨i, n, j, rfl⟩ := idx_wide y
  refine (Cert.GateIdeal.Gate.out3_apply _ _ _ (sorts m ρ c hd) i n j).trans (Eq.trans ?_ (Cert.GateRefIdeal.Value.r77_apply _ _ hd i n j).symm)
  rw [prob_eq]

/-- The positions. -/
theorem places_eq : (W2 m ρ c (Proc.devRef .tc main_v1_2) : FVec Ideal S4096x1 .f32) = Cert.GateRefIdeal.Value.r78 (F := Ideal) (aX m c) (aG m c) := by
  refine ((W2_arr m ρ c 4).trans ((array0_4 _ c).trans (same4 _ _))).trans (funext fun y => ?_)
  obtain ⟨i, n, rfl⟩ := idx_column y
  refine (Cert.GateIdeal.Gate.out4_apply _ _ _ (sorts m ρ c hd) i n).trans (Eq.trans ?_ (Cert.GateRefIdeal.Value.r78_apply _ _ hd i n).symm)
  rw [prob_eq]

/-- The balance loss. -/
theorem loss_eq : (W2 m ρ c (Proc.devRef .tc main_v1_3) : FVec Ideal S1x1 .f32) = Cert.GateRefIdeal.Value.r80 (F := Ideal) (aX m c) (aG m c) := by
  refine ((W2_arr m ρ c 5).trans ((array0_5 _ c).trans (same5 _ _))).trans (funext fun y => ?_)
  obtain rfl := idx_one y
  refine (Cert.GateIdeal.Gate.out5_apply _ _ _ (sorts m ρ c hd)).trans (Eq.trans ?_ (Cert.GateRefIdeal.Value.r80_apply _ _ hd).symm)
  rw [prob_eq]

end Distinct

end Cert.KernelIdeal.Layer

end
-- ==== Proof.LayerArray.lean ====
/- The whole layer's second kernel call, read: with the first call's results on the host's way to it, its array is the expert
   layers of the launch's tokens and weights and of the first call's gates, validities and positions. -/
module

public import proofs.«01_k».proof.Proof.LayerRun
public import proofs.«01_k».proof.Proof.FfnInv
public import Idealize.ShloMosaic.Lib.Claim
public import Idealize.ShloMosaic.Lib.Pipeline.Value

@[expose] public section

set_option maxRecDepth 16384

noncomputable section

namespace Cert.KernelIdeal.Layer

open Cert.KernelIdeal Cert.KernelIdeal.Gen Idealize.ShloMosaic Idealize.ShloMosaic.TcCoe Idealize.SL.Sem Cert.Moe
open Cert.FfnIdeal.Block (bi bj ej done Blocks Inv)

variable (m : (ℓ : Loc nD τ sig) → Buf (Elt Ideal) ℓ) (ρ : Dev nD → PrngReg)

/-! ## What the second call works on -/

/-- The tokens, -/
abbrev xs (c : Dev nD) : Fin 2 → Fin 2048 → Fin 1024 → EReal :=
  fun i n d => (W2 m ρ c (Proc.devRef .tc main_arg0) : Vec Ideal S2x2048x1024 .f32) (ix3 i n d)
/-- the gates, -/
abbrev ws (c : Dev nD) : Fin 2 → Fin 2048 → Fin 8 → EReal :=
  fun i n j => (W2 m ρ c (Proc.devRef .tc main_v1_0) : Vec Ideal S4096x8 .f32) (ix2 (tok i n) j)
/-- the validities, -/
abbrev vs (c : Dev nD) : Fin 2 → Fin 2048 → Fin 8 → EReal :=
  fun i n j => (W2 m ρ c (Proc.devRef .tc main_v1_1) : Vec Ideal S4096x8 .f32) (ix2 (tok i n) j)
/-- the positions, -/
abbrev ps (c : Dev nD) : Fin 2 → Fin 2048 → EReal :=
  fun i n => (W2 m ρ c (Proc.devRef .tc main_v1_2) : Vec Ideal S4096x1 .f32) (ix2 (tok i n) 0)
/-- the first weights -/
abbrev m1 (c : Dev nD) : Fin 8 → Fin 1024 → Fin 4096 → EReal :=
  fun j d h => (W2 m ρ c (Proc.devRef .tc main_arg2) : Vec Ideal S8x1024x4096 .f32) (ix3 j d h)
/-- and the second, as functions of coordinates. -/
abbrev m2 (c : Dev nD) : Fin 8 → Fin 4096 → Fin 1024 → EReal :=
  fun j h l => (W2 m ρ c (Proc.devRef .tc main_arg3) : Vec Ideal S8x4096x1024 .f32) (ix3 j h l)

/-- The block each window reads, decided over the grid. -/
theorem idx_facts1 : ∀ t : Fin cfg1.N,
    (win1_0.index t 0 = t.val / 32 ∧ win1_0.index t 1 = 0 ∧ win1_0.index t 2 = 0)
    ∧ (win1_1.index t 0 = t.val / 32 ∧ win1_1.index t 1 = 0 ∧ win1_1.index t 2 = 0)
    ∧ (win1_2.index t 0 = t.val / 32 ∧ win1_2.index t 1 = 0 ∧ win1_2.index t 2 = 0)
    ∧ (win1_3.index t 0 = t.val / 32 ∧ win1_3.index t 1 = t.val / 4 % 8 ∧ win1_3.index t 2 = 0 ∧ win1_3.index t 3 = 0)
    ∧ (win1_4.index t 0 = t.val / 32 ∧ win1_4.index t 1 = t.val / 4 % 8 ∧ win1_4.index t 2 = 0 ∧ win1_4.index t 3 = 0)
    ∧ (win1_5.index t 0 = t.val / 4 % 8 ∧ win1_5.index t 1 = 0 ∧ win1_5.index t 2 = t.val % 4)
    ∧ (win1_6.index t 0 = t.val / 4 % 8 ∧ win1_6.index t 1 = t.val % 4 ∧ win1_6.index t 2 = 0) :=
  (by decide +kernel : ∀ t : Fin grid1.N, _)

/-! ## The arrays the call finds -/

/-- Window 0's array: the tokens. -/
theorem arr1_0 (c : Dev nD) (i : Fin 2) (n : Fin 2048) (d : Fin 1024) : (V3 m ρ c main_v2 : FVec Ideal S2x2048x1024 .bf16) (ix3 i n d) = xs m ρ c i n d := by
  have e : (V3 m ρ c main_v2 : FVec Ideal S2x2048x1024 .bf16) = truncf (F := Ideal) (φ := .f32) .bf16 (W2 m ρ c (Proc.devRef .tc main_arg0) : FVec Ideal S2x2048x1024 .f32) bitsLt_bf16_f32 := rfl
  rw [e]
  pointwise
  try rfl

/-- Window 1's array: the positions, as a row. -/
theorem arr1_1 (c : Dev nD) (i : Fin 2) (n : Fin 2048) : (V3 m ρ c main_v5 : FVec Ideal S2x1x2048 .f32) (ix3 i 0 n) = ps m ρ c i n := by
  have e : (V3 m ρ c main_v5 : FVec Ideal S2x1x2048 .f32) = shapeCast S2x1x2048 (W2 m ρ c (Proc.devRef .tc main_v1_2) : FVec Ideal S4096x1 .f32) shapeCasts_S4096x1_S2x1x2048 := rfl
  rw [e]
  pointwise
  try rfl

/-- Window 2's array: the positions, as a column. -/
theorem arr1_2 (c : Dev nD) (i : Fin 2) (n : Fin 2048) : (V3 m ρ c main_v6 : FVec Ideal S2x2048x1 .f32) (ix3 i n 0) = ps m ρ c i n := by
  have e : (V3 m ρ c main_v6 : FVec Ideal S2x2048x1 .f32) = shapeCast S2x2048x1 (W2 m ρ c (Proc.devRef .tc main_v1_2) : FVec Ideal S4096x1 .f32) shapeCasts_S4096x1_S2x2048x1 := rfl
  rw [e]
  pointwise
  try rfl

/-- Window 3's array: the validities, expert by expert. -/
theorem arr1_3 (c : Dev nD) (i : Fin 2) (j : Fin 8) (n : Fin 2048) : (V3 m ρ c main_v9 : FVec Ideal S2x8x1x2048 .f32) (ix4 i j 0 n) = vs m ρ c i n j := by
  have e : (V3 m ρ c main_v9 : FVec Ideal S2x8x1x2048 .f32) = shapeCast S2x8x1x2048 (transpose S2x8x2048 [0, 2, 1] (shapeCast S2x2048x8 (W2 m ρ c (Proc.devRef .tc main_v1_1) : FVec Ideal S4096x8 .f32) shapeCasts_S4096x8_S2x2048x8) transposes_S2x2048x8_S2x8x2048_0_2_1) shapeCasts_S2x8x2048_S2x8x1x2048 := rfl
  rw [e]
  pointwise
  try rfl

/-- Window 4's array: the gates, expert by expert. -/
theorem arr1_4 (c : Dev nD) (i : Fin 2) (j : Fin 8) (n : Fin 2048) : (V3 m ρ c main_v12 : FVec Ideal S2x8x2048x1 .f32) (ix4 i j n 0) = ws m ρ c i n j := by
  have e : (V3 m ρ c main_v12 : FVec Ideal S2x8x2048x1 .f32) = shapeCast S2x8x2048x1 (transpose S2x8x2048 [0, 2, 1] (shapeCast S2x2048x8 (W2 m ρ c (Proc.devRef .tc main_v1_0) : FVec Ideal S4096x8 .f32) shapeCasts_S4096x8_S2x2048x8) transposes_S2x2048x8_S2x8x2048_0_2_1) shapeCasts_S2x8x2048_S2x8x2048x1 := rfl
  rw [e]
  pointwise
  try rfl

/-- Window 5's array: the first weights. -/
theorem arr1_5 (c : Dev nD) (j : Fin 8) (d : Fin 1024) (h : Fin 4096) : (V3 m ρ c main_v3 : FVec Ideal S8x1024x4096 .bf16) (ix3 j d h) = m1 m ρ c j d h := by
  have e : (V3 m ρ c main_v3 : FVec Ideal S8x1024x4096 .bf16) = truncf (F := Ideal) (φ := .f32) .bf16 (W2 m ρ c (Proc.devRef .tc main_arg2) : FVec Ideal S8x1024x4096 .f32) bitsLt_bf16_f32 := rfl
  rw [e]
  pointwise
  try rfl

/-- Window 6's array: the second weights. -/
theorem arr1_6 (c : Dev nD) (j : Fin 8) (h : Fin 4096) (l : Fin 1024) : (V3 m ρ c main_v4 : FVec Ideal S8x4096x1024 .bf16) (ix3 j h l) = m2 m ρ c j h l := by
  have e : (V3 m ρ c main_v4 : FVec Ideal S8x4096x1024 .bf16) = truncf (F := Ideal) (φ := .f32) .bf16 (W2 m ρ c (Proc.devRef .tc main_arg3) : FVec Ideal S8x4096x1024 .f32) bitsLt_bf16_f32 := rfl
  rw [e]
  pointwise
  try rfl

/-! ## The blocks it reads -/

/-- Window 0's block. -/
theorem blk1_0 (c : Dev nD) (t : Fin cfg1.N) (n : Fin 2048) (d : Fin 1024) : (iblk1 (V3 m ρ) c 0 t : Vec Ideal S1x2048x1024 .bf16) (ix3 0 n d) = xs m ρ c (bi t) n d := by
  rw [← arr1_0 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v2 _ = _
  refine congrArg (V3 m ρ c main_v2 : Vec Ideal S2x2048x1024 .bf16) (funext fun a => Fin.ext ?_)
  match a with
  | ⟨0, _⟩ => show win1_0.index t 0 * 1 + 1 * 0 = t.val / 32 % 2; omega
  | ⟨1, _⟩ => show win1_0.index t 1 * 2048 + 1 * n.val = n.val; omega
  | ⟨2, _⟩ => show win1_0.index t 2 * 1024 + 1 * d.val = d.val; omega

/-- Window 1's block. -/
theorem blk1_1 (c : Dev nD) (t : Fin cfg1.N) (n : Fin 2048) : (iblk1 (V3 m ρ) c 1 t : Vec Ideal S1x1x2048 .f32) (ix3 0 0 n) = ps m ρ c (bi t) n := by
  rw [← arr1_1 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v5 _ = _
  refine congrArg (V3 m ρ c main_v5 : Vec Ideal S2x1x2048 .f32) (funext fun a => Fin.ext ?_)
  match a with
  | ⟨0, _⟩ => show win1_1.index t 0 * 1 + 1 * 0 = t.val / 32 % 2; omega
  | ⟨1, _⟩ => show win1_1.index t 1 * 1 + 1 * 0 = 0; omega
  | ⟨2, _⟩ => show win1_1.index t 2 * 2048 + 1 * n.val = n.val; omega

/-- Window 2's block. -/
theorem blk1_2 (c : Dev nD) (t : Fin cfg1.N) (n : Fin 2048) : (iblk1 (V3 m ρ) c 2 t : Vec Ideal S1x2048x1 .f32) (ix3 0 n 0) = ps m ρ c (bi t) n := by
  rw [← arr1_2 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v6 _ = _
  refine congrArg (V3 m ρ c main_v6 : Vec Ideal S2x2048x1 .f32) (funext fun a => Fin.ext ?_)
  match a with
  | ⟨0, _⟩ => show win1_2.index t 0 * 1 + 1 * 0 = t.val / 32 % 2; omega
  | ⟨1, _⟩ => show win1_2.index t 1 * 2048 + 1 * n.val = n.val; omega
  | ⟨2, _⟩ => show win1_2.index t 2 * 1 + 1 * 0 = 0; omega

/-- Window 3's block. -/
theorem blk1_3 (c : Dev nD) (t : Fin cfg1.N) (n : Fin 2048) : (iblk1 (V3 m ρ) c 3 t : Vec Ideal S1x1x1x2048 .f32) (ix4 0 0 0 n) = vs m ρ c (bi t) n (bj t) := by
  rw [← arr1_3 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v9 _ = _
  refine congrArg (V3 m ρ c main_v9 : Vec Ideal S2x8x1x2048 .f32) (funext fun a => Fin.ext ?_)
  match a with
  | ⟨0, _⟩ => show win1_3.index t 0 * 1 + 1 * 0 = t.val / 32 % 2; omega
  | ⟨1, _⟩ => show win1_3.index t 1 * 1 + 1 * 0 = t.val / 4 % 8; omega
  | ⟨2, _⟩ => show win1_3.index t 2 * 1 + 1 * 0 = 0; omega
  | ⟨3, _⟩ => show win1_3.index t 3 * 2048 + 1 * n.val = n.val; omega

/-- Window 4's block. -/
theorem blk1_4 (c : Dev nD) (t : Fin cfg1.N) (n : Fin 2048) : (iblk1 (V3 m ρ) c 4 t : Vec Ideal S1x1x2048x1 .f32) (ix4 0 0 n 0) = ws m ρ c (bi t) n (bj t) := by
  rw [← arr1_4 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v12 _ = _
  refine congrArg (V3 m ρ c main_v12 : Vec Ideal S2x8x2048x1 .f32) (funext fun a => Fin.ext ?_)
  match a with
  | ⟨0, _⟩ => show win1_4.index t 0 * 1 + 1 * 0 = t.val / 32 % 2; omega
  | ⟨1, _⟩ => show win1_4.index t 1 * 1 + 1 * 0 = t.val / 4 % 8; omega
  | ⟨2, _⟩ => show win1_4.index t 2 * 2048 + 1 * n.val = n.val; omega
  | ⟨3, _⟩ => show win1_4.index t 3 * 1 + 1 * 0 = 0; omega

/-- Window 5's block. -/
theorem blk1_5 (c : Dev nD) (t : Fin cfg1.N) (d : Fin 1024) (q : Fin 1024) : (iblk1 (V3 m ρ) c 5 t : Vec Ideal S1x1024x1024 .bf16) (ix3 0 d q) = m1 m ρ c (bj t) d (hid (t.val % 4) q) := by
  rw [← arr1_5 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v3 _ = _
  refine congrArg (V3 m ρ c main_v3 : Vec Ideal S8x1024x4096 .bf16) (funext fun a => Fin.ext ?_)
  match a with
  | ⟨0, _⟩ => show win1_5.index t 0 * 1 + 1 * 0 = t.val / 4 % 8; omega
  | ⟨1, _⟩ => show win1_5.index t 1 * 1024 + 1 * d.val = d.val; omega
  | ⟨2, _⟩ => show win1_5.index t 2 * 1024 + 1 * q.val = (q.val + 1024 * (t.val % 4)) % 4096; omega

/-- Window 6's block. -/
theorem blk1_6 (c : Dev nD) (t : Fin cfg1.N) (q : Fin 1024) (l : Fin 1024) : (iblk1 (V3 m ρ) c 6 t : Vec Ideal S1x1024x1024 .bf16) (ix3 0 q l) = m2 m ρ c (bj t) (hid (t.val % 4) q) l := by
  rw [← arr1_6 m ρ c]
  obtain ⟨h0, h1, h2, h3, h4, h5, h6⟩ := idx_facts1 t
  have hN : t.val < 64 := lt_of_lt_of_eq t.isLt (show cfg1.N = 64 from N_1)
  unfold iblk1
  rw [View.read_apply]
  show V3 m ρ c main_v4 _ = _
  refine congrArg (V3 m ρ c main_v4 : Vec Ideal S8x4096x1024 .bf16) (funext fun a => Fin.ext ?_)
  match a with
  | ⟨0, _⟩ => show win1_6.index t 0 * 1 + 1 * 0 = t.val / 4 % 8; omega
  | ⟨1, _⟩ => show win1_6.index t 1 * 1024 + 1 * q.val = (q.val + 1024 * (t.val % 4)) % 4096; omega
  | ⟨2, _⟩ => show win1_6.index t 2 * 1024 + 1 * l.val = l.val; omega

/-- All seven. -/
theorem blocks (c : Dev nD) (t : Fin cfg1.N) : Blocks (xs m ρ c) (ps m ρ c) (vs m ρ c) (ws m ρ c) (m1 m ρ c) (m2 m ρ c) t.val
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) where
  tokens := blk1_0 m ρ c t
  row := blk1_1 m ρ c t
  col := blk1_2 m ρ c t
  valid := blk1_3 m ρ c t
  gates := blk1_4 m ρ c t
  first := blk1_5 m ρ c t
  second := blk1_6 m ρ c t

/-- After every grid point the output block and the two scratches hold what `Inv` says. -/
theorem inv_st (c : Dev nD) : ∀ (n : ℕ) (hn : n < cfg1.N),
    Inv (xs m ρ c) (ps m ρ c) (vs m ρ c) (ws m ρ c) (m1 m ρ c) (m2 m ρ c) n (st (V3 m ρ) c (n + 1)) := by
  have one : ∀ (t : Fin cfg1.N) (s : St Ideal),
      (t.val ≠ 0 → Inv (xs m ρ c) (ps m ρ c) (vs m ρ c) (ws m ρ c) (m1 m ρ c) (m2 m ρ c) (t.val - 1) s) →
      Inv (xs m ρ c) (ps m ρ c) (vs m ρ c) (ws m ρ c) (m1 m ρ c) (m2 m ρ c) t.val (step (V3 m ρ) c t s) := by
    intro t s hp
    have hb := blocks m ρ c t
    unfold step acc
    by_cases h0 : t.val % 4 = 0
    · rw [if_pos h0]
      exact hb.step_A h0 fun hd => hp (by unfold done at hd; omega)
    · rw [if_neg h0]
      by_cases h3 : t.val % 4 = 3
      · rw [if_pos h3]
        by_cases h4 : t.val / 4 % 8 = 0
        · rw [if_pos h4]
          exact hb.step_C h3 h4 (hp (by omega))
        · rw [if_neg h4]
          exact hb.step_D h3 h4 (hp (by omega))
      · rw [if_neg h3]
        exact hb.step_B h0 h3 (hp (by omega))
  intro n
  induction n with
  | zero =>
    intro hn
    rw [show st (V3 m ρ) c (0 + 1) = step (V3 m ρ) c ⟨0, hn⟩ (st (V3 m ρ) c 0) from st_succ (V3 m ρ) c ⟨0, hn⟩]
    exact one ⟨0, hn⟩ _ fun h => absurd rfl h
  | succ n ih =>
    intro hn
    rw [show st (V3 m ρ) c (n + 1 + 1) = step (V3 m ρ) c ⟨n + 1, hn⟩ (st (V3 m ρ) c (n + 1)) from st_succ (V3 m ρ) c ⟨n + 1, hn⟩]
    exact one ⟨n + 1, hn⟩ _ fun _ => ih (by omega)

/-! ## The array -/

/-- The expert layers, as an array. -/
def layers (c : Dev nD) : Vec Ideal S2x2048x1024 .f32 :=
  fun i => layer (xs m ρ c) (ps m ρ c) (vs m ρ c) (ws m ρ c) (m1 m ρ c) (m2 m ρ c) (i 0) (i 1) (i 2)

/-- The output window's block, decided over the grid. -/
theorem idx7 : ∀ t : Fin cfg1.N, win1_7.index t 0 = t.val / 32 ∧ win1_7.index t 1 = 0 ∧ win1_7.index t 2 = 0 :=
  (by decide +kernel : ∀ t : Fin grid1.N, _)

/-- The call's array is the expert layers. -/
theorem array1_7 (c : Dev nD) : (dat1 (V3 m ρ) c).arrAt 7 cfg1.N = layers m ρ c := by
  refine (dat1 (V3 m ρ) c).arrAt_eq_of_cover 7 _ (fun t hf => ?_) (fun i => ?_)
  · show (cfg1.win 7).cut (grid1.coords t) ((dat1 (V3 m ρ) c).after 7 t) = _
    rw [after1_7]
    have h31 : t.val % 32 = 31 := (flush1_7 t).mp hf
    have hN : t.val < 64 := lt_of_lt_of_eq t.isLt (show cfg1.N = 64 from N_1)
    obtain ⟨e0, e1, e2⟩ := idx7 t
    funext (y : S1x2048x1024.Idx)
    rw [View.read_apply]
    have hy : y = ix3 0 (y 1) (y 2) := funext fun a => by
      match a with
      | ⟨0, _⟩ => exact Subsingleton.elim (α := Fin 1) _ _
      | ⟨1, _⟩ => rfl
      | ⟨2, _⟩ => rfl
    have hl := (inv_st m ρ c t.val t.isLt).layer_eq h31 (y 1) (y 2)
    show (st (V3 m ρ) c (t.val + 1)).1 y = _
    refine (congrArg (st (V3 m ρ) c (t.val + 1)).1 hy).trans (hl.trans ?_)
    show layer _ _ _ _ _ _ (bi t.val) (y 1) (y 2) = layer _ _ _ _ _ _ _ _ _
    have k0 : bi t.val = ((cfg1.win 7).blk t).view.emb y 0 := Fin.ext (by
      have hy0 : (y 0).val < 1 := (y 0).isLt
      show t.val / 32 % 2 = win1_7.index t 0 * 1 + 1 * (y 0).val
      omega)
    have k1 : y 1 = ((cfg1.win 7).blk t).view.emb y 1 := Fin.ext (by
      show (y 1).val = win1_7.index t 1 * 2048 + 1 * (y 1).val
      omega)
    have k2 : y 2 = ((cfg1.win 7).blk t).view.emb y 2 := Fin.ext (by
      show (y 2).val = win1_7.index t 2 * 1024 + 1 * (y 2).val
      omega)
    exact congr (congr (congrArg _ k0) k1) k2
  · have h0 : (i 0).val < 2 := (i 0).isLt
    have h1 : (i 1).val < 2048 := (i 1).isLt
    have h2 : (i 2).val < 1024 := (i 2).isLt
    have hN : 32 * (i 0).val + 31 < cfg1.N := by rw [show cfg1.N = 64 from N_1]; omega
    refine ⟨⟨32 * (i 0).val + 31, hN⟩, (flush1_7 _).mpr (by show (32 * (i 0).val + 31) % 32 = 31; omega), ?_⟩
    obtain ⟨e0, e1, e2⟩ := idx7 ⟨32 * (i 0).val + 31, hN⟩
    have e0' : win1_7.index ⟨32 * (i 0).val + 31, hN⟩ 0 = (i 0).val := by rw [e0]; show (32 * (i 0).val + 31) / 32 = _; omega
    show i ∈ ((View.whole main_v13).slice (win1_7.rect ⟨32 * (i 0).val + 31, hN⟩)).set
    rw [View.set_slice_whole, Rect.mem_set_unit]
    intro a
    match a with
    | ⟨0, _⟩ => show win1_7.index _ 0 * 1 ≤ (i 0).val ∧ (i 0).val < win1_7.index _ 0 * 1 + 1; omega
    | ⟨1, _⟩ => show win1_7.index _ 1 * 2048 ≤ (i 1).val ∧ (i 1).val < win1_7.index _ 1 * 2048 + 2048; omega
    | ⟨2, _⟩ => show win1_7.index _ 2 * 1024 ≤ (i 2).val ∧ (i 2).val < win1_7.index _ 2 * 1024 + 1024; omega

end Cert.KernelIdeal.Layer

end
-- ==== Proof.LayerValue.lean ====
/- The whole layer's two results, as the reference's functions of the arguments: the second call works on the first call's
   results, which are the gating reference's. -/
module

public import proofs.«01_k».proof.Proof.LayerRouting
public import proofs.«01_k».proof.Proof.LayerArray
public import proofs.«01_k».proof.Proof.LayerRef
public import proofs.«01_k».proof.Proof.FfnRef

@[expose] public section

set_option maxRecDepth 16384

noncomputable section

namespace Cert.KernelIdeal.Layer

open Cert.KernelIdeal Cert.KernelIdeal.Gen Idealize.ShloMosaic Idealize.ShloMosaic.TcCoe Idealize.SL.Sem Cert.Moe

variable (m : (ℓ : Loc nD τ sig) → Buf (Elt Ideal) ℓ) (ρ : Dev nD → PrngReg)

/-- The launch's first weights -/
abbrev aFst (c : Dev nD) : FVec Ideal S8x1024x4096 .f32 := m ((c : Thread nD τ).loc main_arg2)
/-- and second weights. -/
abbrev aSnd (c : Dev nD) : FVec Ideal S8x4096x1024 .f32 := m ((c : Thread nD τ).loc main_arg3)

/-- The first result is the expert layers of what the first call leaves. -/
theorem out_layers (c : Dev nD) : (W5 m ρ c (Proc.devRef .tc main_v13) : FVec Ideal S2x2048x1024 .f32) = layers m ρ c :=
  (W5_of m ρ c main_v13 (by decide)).trans ((W4_arr m ρ c 7).trans (array1_7 m ρ c))

/-- The second result is the loss the first call leaves, as a scalar. -/
theorem loss_scalar (c : Dev nD) : (W5 m ρ c (Proc.devRef .tc main_v14) : FVec Ideal S_ .f32)
    = shapeCast S_ (W2 m ρ c (Proc.devRef .tc main_v1_3) : FVec Ideal S1x1 .f32) shapeCasts_S1x1_S_ := by
  have h : W4 m ρ c (Proc.devRef .tc main_v1_3) = W2 m ρ c (Proc.devRef .tc main_v1_3) :=
    (W4_of m ρ c main_v1_3 (by decide)).trans (W3_of m ρ c main_v1_3 (by decide))
  rw [← h]
  rfl

section Distinct

variable (c : Dev nD) (hd : ∀ i n, Function.Injective (Cert.GateRefIdeal.Value.prb (aX m c) (aG m c) i n))
include hd

/-- The first result is the reference's. -/
theorem out_eq : (W5 m ρ c (Proc.devRef .tc main_v13) : FVec Ideal S2x2048x1024 .f32)
    = Cert.ReferenceIdeal.Layer.y (F := Ideal) (aX m c) (aG m c) (aFst m c) (aSnd m c) := by
  refine (out_layers m ρ c).trans (funext fun z => ?_)
  idx_vars z
  unfold Cert.ReferenceIdeal.Layer.y
  refine Eq.trans ?_ (Cert.FfnRefIdeal.Value.v28_apply _ _ _ _ _ _ _ _ _).symm
  rw [← gates_eq m ρ c hd, ← valid_eq m ρ c hd, ← places_eq m ρ c hd]
  have e0 := W2_args m ρ c main_arg0 (by decide)
  have e2 := W2_args m ρ c main_arg2 (by decide)
  have e3 := W2_args m ρ c main_arg3 (by decide)
  unfold layers xs m1 m2
  rw [e0, e2, e3]
  rfl

/-- The second result is the reference's. -/
theorem loss_val : (W5 m ρ c (Proc.devRef .tc main_v14) : FVec Ideal S_ .f32)
    = shapeCast S_ (Cert.GateRefIdeal.Value.r80 (F := Ideal) (aX m c) (aG m c)) shapeCasts_S1x1_S_ := by
  rw [loss_scalar, loss_eq m ρ c hd]

end Distinct

end Cert.KernelIdeal.Layer

end
-- ==== Proof.LayerPre.lean ====
/- The whole layer's precondition is the gating call's: it reads the tokens and the gating weights only. -/
module

public import proofs.«01_k».proof.Pre_layer_distinct
public import proofs.«01_k».proof.Proof.Gen.Pre_layer_distinct
public import proofs.«01_k».proof.Proof.GatePre

@[expose] public section

set_option maxRecDepth 65536

noncomputable section

namespace Cert.Pre_layer_distinct

open Cert.Pre_layer_distinct Cert.Pre_layer_distinct.Gen Idealize.ShloMosaic

/-- The two preconditions are one function. -/
theorem fn_eq (x : FVec Ideal S2x2048x1024 .f32) (w : FVec Ideal S1024x8 .f32) (a : FVec Ideal S8x1024x4096 .f32) (b : FVec Ideal S8x4096x1024 .f32) :
    Cert.Pre_layer_distinct.fn (F := Ideal) x w a b = Cert.Pre_gates_distinct.fn (F := Ideal) x w := rfl

end Cert.Pre_layer_distinct

end
-- ==== Proof.lean ====
/- The claims, assembled. The experts' two programs both compute the layer of Proof/Math.lean; the gate's two programs both
   compute the functions of Proof/GateScan.lean, the experts of a token listed by the reference's sort. The whole layer's two programs are those, one after the other. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Gate.Frame
public import proofs.«01_k».proof.Proof.Gen.GateIdeal.Frame
public import proofs.«01_k».proof.Proof.Gen.GateRefIdeal
public import proofs.«01_k».proof.Proof.Gen.Pre_gates_distinct
public import proofs.«01_k».proof.Proof.Gen.Kernel.Launch
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.ReferenceIdeal
public import proofs.«01_k».proof.Proof.Gen.Pre_layer_distinct
public import proofs.«01_k».proof.Proof.FfnArray
public import proofs.«01_k».proof.Proof.FfnRef
public import proofs.«01_k».proof.Proof.GateArray
public import proofs.«01_k».proof.Proof.GateRun
public import proofs.«01_k».proof.Proof.GateRef
public import proofs.«01_k».proof.Proof.GatePre
public import proofs.«01_k».proof.Proof.LayerRun
public import proofs.«01_k».proof.Proof.LayerFloat
public import proofs.«01_k».proof.Proof.LayerRef
public import proofs.«01_k».proof.Proof.LayerRouting
public import proofs.«01_k».proof.Proof.LayerArray
public import proofs.«01_k».proof.Proof.LayerValue
public import proofs.«01_k».proof.Proof.LayerPre
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  refine (h c).1.trans ((Cert.FfnRefIdeal.Read.val_main_v28_eq _ _ _ _ _ _).trans ?_)
  obtain ⟨e0, e1, e2, e3, e4, e5⟩ := hagree c
  funext y
  idx_vars y
  refine Eq.trans ?_ (Cert.FfnIdeal.Block.array_eq m c _ _ _).symm
  rw [e0, e1, e2, e3, e4, e5]
  exact Cert.FfnRefIdeal.Value.v28_apply _ _ _ _ _ _ _ _ _

/-- The gating reference runs and leaves its arguments. -/
theorem frame_GateRefIdeal (m : (ℓ : Loc Cert.GateRefIdeal.nD Cert.GateRefIdeal.τ Cert.GateRefIdeal.sig) → Buf (Elt Ideal) ℓ)
    (ρ : Dev Cert.GateRefIdeal.nD → PrngReg) :
    θ_run (Cert.GateRefIdeal.defs (F := Ideal)) (onTc (τ := Cert.GateRefIdeal.τ) (Cert.GateRefIdeal.main (F := Ideal))) ⟨m, fun _ => 0, ρ⟩
      (fun r => (∀ c : Dev Cert.GateRefIdeal.nD,
        r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
        ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
        ∧ r.2.sem = fun _ => 0) :=
  (θ_run Cert.GateRefIdeal.defs _ _).mono (fun r h => ⟨fun c => (h c).2.2.2.2, sem_eq_zero_of_no_sems (by decide) r.2⟩)
    (Cert.GateRefIdeal.Value.run (F := Ideal) m ρ)

/-- Where no token has two experts of one probability, the gate's four results are the reference's. -/
theorem algebraic_GateIdeal_GateRefIdeal : algebraic_GateIdeal_GateRefIdeal_pre_gates_distinct := by
  intro m ρ m' ρ' hpre hagree
  refine ⟨_, _, _, _, Cert.GateIdeal.Gate.run m ρ, ?_⟩
  refine (θ_run Cert.GateRefIdeal.defs _ _).mono (fun _ h c => ?_) (Cert.GateRefIdeal.Value.run (F := Ideal) m' ρ')
  obtain ⟨h0, h1, h2, h3, ha⟩ := h c
  obtain ⟨e0, e1⟩ := hagree c
  rw [e0, e1] at h0 h1 h2 h3
  have hp : Cert.GateIdeal.Gate.prob (Cert.GateIdeal.Gate.toks m c) (Cert.GateIdeal.Gate.gate m c) =
      Cert.GateRefIdeal.Value.prb (m ((c.tc : Thread Cert.GateIdeal.nD Cert.GateIdeal.τ).loc Cert.GateIdeal.main_arg0))
        (m ((c.tc : Thread Cert.GateIdeal.nD Cert.GateIdeal.τ).loc Cert.GateIdeal.main_arg1)) :=
    funext fun i => funext fun n => Cert.GateIdeal.Gate.prob_eq m c i n
  have hd : ∀ i n, Function.Injective (Cert.GateRefIdeal.Value.prb
      (m ((c.tc : Thread Cert.GateIdeal.nD Cert.GateIdeal.τ).loc Cert.GateIdeal.main_arg0))
      (m ((c.tc : Thread Cert.GateIdeal.nD Cert.GateIdeal.τ).loc Cert.GateIdeal.main_arg1)) i n) :=
    fun i n => Cert.Pre_gates_distinct.distinct _ _ (hpre c) i n
  have hσ := Cert.GateRefIdeal.Value.perm_strictAnti _ _ hd
  rw [← hp] at hσ
  refine ⟨h0.trans (funext fun y => ?_), h1.trans (funext fun y => ?_), h2.trans (funext fun y => ?_), h3.trans (funext fun y => ?_), ha⟩
  · obtain ⟨i, n, j, rfl⟩ := Cert.KernelIdeal.Layer.idx_wide y
    refine (Cert.GateRefIdeal.Value.r76_apply _ _ hd i n j).trans (Eq.trans ?_ (Cert.GateIdeal.Gate.out2_apply _ _ _ hσ i n j).symm)
    rw [hp]
  · obtain ⟨i, n, j, rfl⟩ := Cert.KernelIdeal.Layer.idx_wide y
    refine (Cert.GateRefIdeal.Value.r77_apply _ _ hd i n j).trans (Eq.trans ?_ (Cert.GateIdeal.Gate.out3_apply _ _ _ hσ i n j).symm)
    rw [hp]
  · obtain ⟨i, n, rfl⟩ := Cert.KernelIdeal.Layer.idx_column y
    refine (Cert.GateRefIdeal.Value.r78_apply _ _ hd i n).trans (Eq.trans ?_ (Cert.GateIdeal.Gate.out4_apply _ _ _ hσ i n).symm)
    rw [hp]
  · obtain rfl := Cert.KernelIdeal.Layer.idx_one y
    refine (Cert.GateRefIdeal.Value.r80_apply _ _ hd).trans (Eq.trans ?_ (Cert.GateIdeal.Gate.out5_apply _ _ _ hσ).symm)
    rw [hp]

/-- The layer's reference runs and leaves its arguments. -/
theorem frame_ReferenceIdeal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2, sem_eq_zero_of_no_sems (by decide) r.2⟩)
    (Cert.ReferenceIdeal.Layer.run (F := Ideal) m ρ)

/-- Where no token has two experts of one probability, the layer's two results are the reference's. -/
theorem algebraic_KernelIdeal_ReferenceIdeal : algebraic_KernelIdeal_ReferenceIdeal_pre_layer_distinct := by
  intro m ρ m' ρ' hpre hagree
  refine ⟨fun c => Cert.KernelIdeal.Layer.W5 m ρ c (Proc.devRef .tc Cert.KernelIdeal.main_v13), fun c => Cert.KernelIdeal.Layer.W5 m ρ c (Proc.devRef .tc Cert.KernelIdeal.main_v14), ?_, ?_⟩
  · refine (θ_run Cert.KernelIdeal.defs _ _).mono (fun r h c => ?_) (Cert.KernelIdeal.Layer.run (F := Ideal) m ρ)
    exact ⟨h.1 c _ (Cert.KernelIdeal.Layer.mem_uc Cert.KernelIdeal.main_v13 (by decide)), h.1 c _ (Cert.KernelIdeal.Layer.mem_uc Cert.KernelIdeal.main_v14 (by decide)),
      (h.1 c _ (Cert.KernelIdeal.Layer.mem_uc Cert.KernelIdeal.main_arg0 (by decide))).trans (Cert.KernelIdeal.Layer.W5_args m ρ c Cert.KernelIdeal.main_arg0 (by decide)),
      (h.1 c _ (Cert.KernelIdeal.Layer.mem_uc Cert.KernelIdeal.main_arg1 (by decide))).trans (Cert.KernelIdeal.Layer.W5_args m ρ c Cert.KernelIdeal.main_arg1 (by decide)),
      (h.1 c _ (Cert.KernelIdeal.Layer.mem_uc Cert.KernelIdeal.main_arg2 (by decide))).trans (Cert.KernelIdeal.Layer.W5_args m ρ c Cert.KernelIdeal.main_arg2 (by decide)),
      (h.1 c _ (Cert.KernelIdeal.Layer.mem_uc Cert.KernelIdeal.main_arg3 (by decide))).trans (Cert.KernelIdeal.Layer.W5_args m ρ c Cert.KernelIdeal.main_arg3 (by decide))⟩
  · refine (θ_run Cert.ReferenceIdeal.defs _ _).mono (fun r h c => ?_) (Cert.ReferenceIdeal.Layer.run (F := Ideal) m' ρ')
    obtain ⟨h0, h1, ha⟩ := h c
    obtain ⟨e0, e1, e2, e3⟩ := hagree c
    rw [e0, e1, e2, e3] at h0
    rw [e0, e1] at h1
    have hd : ∀ i n, Function.Injective (Cert.GateRefIdeal.Value.prb (Cert.KernelIdeal.Layer.aX m c) (Cert.KernelIdeal.Layer.aG m c) i n) :=
      fun i n => Cert.Pre_gates_distinct.distinct _ _ ((Cert.Pre_layer_distinct.fn_eq _ _ _ _).symm.trans (hpre c)) i n
    exact ⟨h0.trans (Cert.KernelIdeal.Layer.out_eq m ρ c hd).symm, h1.trans (Cert.KernelIdeal.Layer.loss_val m ρ c hd).symm, ha⟩

theorem claim : Cert.Claim := ⟨Cert.Ffn.Gen.facts, Cert.FfnIdeal.Gen.facts, Cert.FfnRefIdeal.Gen.facts, Cert.Gate.Gen.facts, Cert.GateIdeal.Gen.facts,
  Cert.GateRefIdeal.Gen.facts, Cert.Kernel.Gen.facts, Cert.KernelIdeal.Gen.facts, Cert.ReferenceIdeal.Gen.facts, Cert.Pre_gates_distinct.Gen.facts,
  Cert.Pre_layer_distinct.Gen.facts,
  fun m ρ _ => Cert.Ffn.Gen.frame m ρ, fun m ρ _ => Cert.FfnIdeal.Gen.frame m ρ, quiescent_FfnRefIdeal, fun m ρ _ => Cert.Gate.Gen.frame m ρ,
  fun m ρ _ => Cert.GateIdeal.Gen.frame m ρ, fun m ρ _ => Cert.GateIdeal.Gen.frame m ρ, fun m ρ _ => frame_GateRefIdeal m ρ,
  fun m ρ _ => frame_GateRefIdeal m ρ, fun m ρ _ => Cert.Kernel.Layer.frame m ρ, fun m ρ _ => Cert.KernelIdeal.Layer.frame m ρ,
  fun m ρ _ => Cert.KernelIdeal.Layer.frame m ρ, fun m ρ _ => frame_ReferenceIdeal m ρ, fun m ρ _ => frame_ReferenceIdeal m ρ,
  (trivial : preserves_Ffn_FfnIdeal), algebraic_FfnIdeal_FfnRefIdeal, (trivial : preserves_Gate_GateIdeal), algebraic_GateIdeal_GateRefIdeal,
  (trivial : preserves_Kernel_KernelIdeal), algebraic_KernelIdeal_ReferenceIdeal⟩

end Cert.Proof

end
